-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_OutS (m : (ℓ : Loc Cert.OutS.nD Cert.OutS.τ Cert.OutS.sig) → Buf (Elt Bits) ℓ) : Prop :=
  True

def Pre_OutSIdeal (m : (ℓ : Loc Cert.OutSIdeal.nD Cert.OutSIdeal.τ Cert.OutSIdeal.sig) → Buf (Elt Ideal) ℓ) : Prop :=
  True

def Pre_OutSRefIdeal (m : (ℓ : Loc Cert.OutSRefIdeal.nD Cert.OutSRefIdeal.τ Cert.OutSRefIdeal.sig) → Buf (Elt Ideal) ℓ) : Prop :=
  True

def Pre_ProjS (m : (ℓ : Loc Cert.ProjS.nD Cert.ProjS.τ Cert.ProjS.sig) → Buf (Elt Bits) ℓ) : Prop :=
  True

def Pre_ProjSIdeal (m : (ℓ : Loc Cert.ProjSIdeal.nD Cert.ProjSIdeal.τ Cert.ProjSIdeal.sig) → Buf (Elt Ideal) ℓ) : Prop :=
  True

def Pre_ProjSRefIdeal (m : (ℓ : Loc Cert.ProjSRefIdeal.nD Cert.ProjSRefIdeal.τ Cert.ProjSRefIdeal.sig) → Buf (Elt Ideal) ℓ) : Prop :=
  True

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4))
      ∧ r.2.sem = fun _ => 0)

def quiescent_OutS [hOutS : Cert.OutS.Facts] : Prop :=
  ∀ (m : (ℓ : Loc Cert.OutS.nD Cert.OutS.τ Cert.OutS.sig) → Buf (Elt Bits) ℓ) (g : Dev Cert.OutS.nD → PrngReg), Pre_OutS m →
    θ_run (Cert.OutS.defs (F := Bits)) (onTc (τ := Cert.OutS.τ) (Cert.OutS.main (F := Bits))) ⟨m, fun _ => 0, g⟩ (fun r => (∀ c : Dev Cert.OutS.nD,
      r.2.mem ((c.tc : Thread Cert.OutS.nD Cert.OutS.τ).loc Cert.OutS.main_arg0) = m ((c.tc : Thread Cert.OutS.nD Cert.OutS.τ).loc Cert.OutS.main_arg0)
      ∧ r.2.mem ((c.tc : Thread Cert.OutS.nD Cert.OutS.τ).loc Cert.OutS.main_arg1) = m ((c.tc : Thread Cert.OutS.nD Cert.OutS.τ).loc Cert.OutS.main_arg1)
      ∧ r.2.mem ((c.tc : Thread Cert.OutS.nD Cert.OutS.τ).loc Cert.OutS.main_arg2) = m ((c.tc : Thread Cert.OutS.nD Cert.OutS.τ).loc Cert.OutS.main_arg2)
      ∧ r.2.mem ((c.tc : Thread Cert.OutS.nD Cert.OutS.τ).loc Cert.OutS.main_arg3) = m ((c.tc : Thread Cert.OutS.nD Cert.OutS.τ).loc Cert.OutS.main_arg3)
      ∧ r.2.mem ((c.tc : Thread Cert.OutS.nD Cert.OutS.τ).loc Cert.OutS.main_arg4) = m ((c.tc : Thread Cert.OutS.nD Cert.OutS.τ).loc Cert.OutS.main_arg4)
      ∧ r.2.mem ((c.tc : Thread Cert.OutS.nD Cert.OutS.τ).loc Cert.OutS.main_arg5) = m ((c.tc : Thread Cert.OutS.nD Cert.OutS.τ).loc Cert.OutS.main_arg5))
      ∧ r.2.sem = fun _ => 0)

def quiescent_OutSIdeal [hOutSIdeal : Cert.OutSIdeal.Facts] : Prop :=
  ∀ (m : (ℓ : Loc Cert.OutSIdeal.nD Cert.OutSIdeal.τ Cert.OutSIdeal.sig) → Buf (Elt Ideal) ℓ) (g : Dev Cert.OutSIdeal.nD → PrngReg), Pre_OutSIdeal m →
    θ_run (Cert.OutSIdeal.defs (F := Ideal)) (onTc (τ := Cert.OutSIdeal.τ) (Cert.OutSIdeal.main (F := Ideal))) ⟨m, fun _ => 0, g⟩ (fun r => (∀ c : Dev Cert.OutSIdeal.nD,
      r.2.mem ((c.tc : Thread Cert.OutSIdeal.nD Cert.OutSIdeal.τ).loc Cert.OutSIdeal.main_arg0) = m ((c.tc : Thread Cert.OutSIdeal.nD Cert.OutSIdeal.τ).loc Cert.OutSIdeal.main_arg0)
      ∧ r.2.mem ((c.tc : Thread Cert.OutSIdeal.nD Cert.OutSIdeal.τ).loc Cert.OutSIdeal.main_arg1) = m ((c.tc : Thread Cert.OutSIdeal.nD Cert.OutSIdeal.τ).loc Cert.OutSIdeal.main_arg1)
      ∧ r.2.mem ((c.tc : Thread Cert.OutSIdeal.nD Cert.OutSIdeal.τ).loc Cert.OutSIdeal.main_arg2) = m ((c.tc : Thread Cert.OutSIdeal.nD Cert.OutSIdeal.τ).loc Cert.OutSIdeal.main_arg2)
      ∧ r.2.mem ((c.tc : Thread Cert.OutSIdeal.nD Cert.OutSIdeal.τ).loc Cert.OutSIdeal.main_arg3) = m ((c.tc : Thread Cert.OutSIdeal.nD Cert.OutSIdeal.τ).loc Cert.OutSIdeal.main_arg3)
      ∧ r.2.mem ((c.tc : Thread Cert.OutSIdeal.nD Cert.OutSIdeal.τ).loc Cert.OutSIdeal.main_arg4) = m ((c.tc : Thread Cert.OutSIdeal.nD Cert.OutSIdeal.τ).loc Cert.OutSIdeal.main_arg4)
      ∧ r.2.mem ((c.tc : Thread Cert.OutSIdeal.nD Cert.OutSIdeal.τ).loc Cert.OutSIdeal.main_arg5) = m ((c.tc : Thread Cert.OutSIdeal.nD Cert.OutSIdeal.τ).loc Cert.OutSIdeal.main_arg5))
      ∧ r.2.sem = fun _ => 0)

def quiescent_OutSRefIdeal [hOutSRefIdeal : Cert.OutSRefIdeal.Facts] : Prop :=
  ∀ (m : (ℓ : Loc Cert.OutSRefIdeal.nD Cert.OutSRefIdeal.τ Cert.OutSRefIdeal.sig) → Buf (Elt Ideal) ℓ) (g : Dev Cert.OutSRefIdeal.nD → PrngReg), Pre_OutSRefIdeal m →
    θ_run (Cert.OutSRefIdeal.defs (F := Ideal)) (onTc (τ := Cert.OutSRefIdeal.τ) (Cert.OutSRefIdeal.main (F := Ideal))) ⟨m, fun _ => 0, g⟩ (fun r => (∀ c : Dev Cert.OutSRefIdeal.nD,
      r.2.mem ((c.tc : Thread Cert.OutSRefIdeal.nD Cert.OutSRefIdeal.τ).loc Cert.OutSRefIdeal.main_arg0) = m ((c.tc : Thread Cert.OutSRefIdeal.nD Cert.OutSRefIdeal.τ).loc Cert.OutSRefIdeal.main_arg0)
      ∧ r.2.mem ((c.tc : Thread Cert.OutSRefIdeal.nD Cert.OutSRefIdeal.τ).loc Cert.OutSRefIdeal.main_arg1) = m ((c.tc : Thread Cert.OutSRefIdeal.nD Cert.OutSRefIdeal.τ).loc Cert.OutSRefIdeal.main_arg1)
      ∧ r.2.mem ((c.tc : Thread Cert.OutSRefIdeal.nD Cert.OutSRefIdeal.τ).loc Cert.OutSRefIdeal.main_arg2) = m ((c.tc : Thread Cert.OutSRefIdeal.nD Cert.OutSRefIdeal.τ).loc Cert.OutSRefIdeal.main_arg2)
      ∧ r.2.mem ((c.tc : Thread Cert.OutSRefIdeal.nD Cert.OutSRefIdeal.τ).loc Cert.OutSRefIdeal.main_arg3) = m ((c.tc : Thread Cert.OutSRefIdeal.nD Cert.OutSRefIdeal.τ).loc Cert.OutSRefIdeal.main_arg3)
      ∧ r.2.mem ((c.tc : Thread Cert.OutSRefIdeal.nD Cert.OutSRefIdeal.τ).loc Cert.OutSRefIdeal.main_arg4) = m ((c.tc : Thread Cert.OutSRefIdeal.nD Cert.OutSRefIdeal.τ).loc Cert.OutSRefIdeal.main_arg4)
      ∧ r.2.mem ((c.tc : Thread Cert.OutSRefIdeal.nD Cert.OutSRefIdeal.τ).loc Cert.OutSRefIdeal.main_arg5) = m ((c.tc : Thread Cert.OutSRefIdeal.nD Cert.OutSRefIdeal.τ).loc Cert.OutSRefIdeal.main_arg5))
      ∧ r.2.sem = fun _ => 0)

def quiescent_ProjS [hProjS : Cert.ProjS.Facts] : Prop :=
  ∀ (m : (ℓ : Loc Cert.ProjS.nD Cert.ProjS.τ Cert.ProjS.sig) → Buf (Elt Bits) ℓ) (g : Dev Cert.ProjS.nD → PrngReg), Pre_ProjS m →
    θ_run (Cert.ProjS.defs (F := Bits)) (onTc (τ := Cert.ProjS.τ) (Cert.ProjS.main (F := Bits))) ⟨m, fun _ => 0, g⟩ (fun r => (∀ c : Dev Cert.ProjS.nD,
      r.2.mem ((c.tc : Thread Cert.ProjS.nD Cert.ProjS.τ).loc Cert.ProjS.main_arg0) = m ((c.tc : Thread Cert.ProjS.nD Cert.ProjS.τ).loc Cert.ProjS.main_arg0)
      ∧ r.2.mem ((c.tc : Thread Cert.ProjS.nD Cert.ProjS.τ).loc Cert.ProjS.main_arg1) = m ((c.tc : Thread Cert.ProjS.nD Cert.ProjS.τ).loc Cert.ProjS.main_arg1)
      ∧ r.2.mem ((c.tc : Thread Cert.ProjS.nD Cert.ProjS.τ).loc Cert.ProjS.main_arg2) = m ((c.tc : Thread Cert.ProjS.nD Cert.ProjS.τ).loc Cert.ProjS.main_arg2)
      ∧ r.2.mem ((c.tc : Thread Cert.ProjS.nD Cert.ProjS.τ).loc Cert.ProjS.main_arg3) = m ((c.tc : Thread Cert.ProjS.nD Cert.ProjS.τ).loc Cert.ProjS.main_arg3)
      ∧ r.2.mem ((c.tc : Thread Cert.ProjS.nD Cert.ProjS.τ).loc Cert.ProjS.main_arg4) = m ((c.tc : Thread Cert.ProjS.nD Cert.ProjS.τ).loc Cert.ProjS.main_arg4)
      ∧ r.2.mem ((c.tc : Thread Cert.ProjS.nD Cert.ProjS.τ).loc Cert.ProjS.main_arg5) = m ((c.tc : Thread Cert.ProjS.nD Cert.ProjS.τ).loc Cert.ProjS.main_arg5)
      ∧ r.2.mem ((c.tc : Thread Cert.ProjS.nD Cert.ProjS.τ).loc Cert.ProjS.main_arg6) = m ((c.tc : Thread Cert.ProjS.nD Cert.ProjS.τ).loc Cert.ProjS.main_arg6)
      ∧ r.2.mem ((c.tc : Thread Cert.ProjS.nD Cert.ProjS.τ).loc Cert.ProjS.main_arg7) = m ((c.tc : Thread Cert.ProjS.nD Cert.ProjS.τ).loc Cert.ProjS.main_arg7)
      ∧ r.2.mem ((c.tc : Thread Cert.ProjS.nD Cert.ProjS.τ).loc Cert.ProjS.main_arg8) = m ((c.tc : Thread Cert.ProjS.nD Cert.ProjS.τ).loc Cert.ProjS.main_arg8))
      ∧ r.2.sem = fun _ => 0)

def quiescent_ProjSIdeal [hProjSIdeal : Cert.ProjSIdeal.Facts] : Prop :=
  ∀ (m : (ℓ : Loc Cert.ProjSIdeal.nD Cert.ProjSIdeal.τ Cert.ProjSIdeal.sig) → Buf (Elt Ideal) ℓ) (g : Dev Cert.ProjSIdeal.nD → PrngReg), Pre_ProjSIdeal m →
    θ_run (Cert.ProjSIdeal.defs (F := Ideal)) (onTc (τ := Cert.ProjSIdeal.τ) (Cert.ProjSIdeal.main (F := Ideal))) ⟨m, fun _ => 0, g⟩ (fun r => (∀ c : Dev Cert.ProjSIdeal.nD,
      r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
      ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1)
      ∧ r.2.mem ((c.tc : Thread Cert.ProjSIdeal.nD Cert.ProjSIdeal.τ).loc Cert.ProjSIdeal.main_arg2) = m ((c.tc : Thread Cert.ProjSIdeal.nD Cert.ProjSIdeal.τ).loc Cert.ProjSIdeal.main_arg2)
      ∧ r.2.mem ((c.tc : Thread Cert.ProjSIdeal.nD Cert.ProjSIdeal.τ).loc Cert.ProjSIdeal.main_arg3) = m ((c.tc : Thread Cert.ProjSIdeal.nD Cert.ProjSIdeal.τ).loc Cert.ProjSIdeal.main_arg3)
      ∧ r.2.mem ((c.tc : Thread Cert.ProjSIdeal.nD Cert.ProjSIdeal.τ).loc Cert.ProjSIdeal.main_arg4) = m ((c.tc : Thread Cert.ProjSIdeal.nD Cert.ProjSIdeal.τ).loc Cert.ProjSIdeal.main_arg4)
      ∧ r.2.mem ((c.tc : Thread Cert.ProjSIdeal.nD Cert.ProjSIdeal.τ).loc Cert.ProjSIdeal.main_arg5) = m ((c.tc : Thread Cert.ProjSIdeal.nD Cert.ProjSIdeal.τ).loc Cert.ProjSIdeal.main_arg5)
      ∧ r.2.mem ((c.tc : Thread Cert.ProjSIdeal.nD Cert.ProjSIdeal.τ).loc Cert.ProjSIdeal.main_arg6) = m ((c.tc : Thread Cert.ProjSIdeal.nD Cert.ProjSIdeal.τ).loc Cert.ProjSIdeal.main_arg6)
      ∧ r.2.mem ((c.tc : Thread Cert.ProjSIdeal.nD Cert.ProjSIdeal.τ).loc Cert.ProjSIdeal.main_arg7) = m ((c.tc : Thread Cert.ProjSIdeal.nD Cert.ProjSIdeal.τ).loc Cert.ProjSIdeal.main_arg7)
      ∧ r.2.mem ((c.tc : Thread Cert.ProjSIdeal.nD Cert.ProjSIdeal.τ).loc Cert.ProjSIdeal.main_arg8) = m ((c.tc : Thread Cert.ProjSIdeal.nD Cert.ProjSIdeal.τ).loc Cert.ProjSIdeal.main_arg8))
      ∧ r.2.sem = fun _ => 0)

def quiescent_ProjSRefIdeal [hProjSRefIdeal : Cert.ProjSRefIdeal.Facts] : Prop :=
  ∀ (m : (ℓ : Loc Cert.ProjSRefIdeal.nD Cert.ProjSRefIdeal.τ Cert.ProjSRefIdeal.sig) → Buf (Elt Ideal) ℓ) (g : Dev Cert.ProjSRefIdeal.nD → PrngReg), Pre_ProjSRefIdeal m →
    θ_run (Cert.ProjSRefIdeal.defs (F := Ideal)) (onTc (τ := Cert.ProjSRefIdeal.τ) (Cert.ProjSRefIdeal.main (F := Ideal))) ⟨m, fun _ => 0, g⟩ (fun r => (∀ c : Dev Cert.ProjSRefIdeal.nD,
      r.2.mem ((c.tc : Thread Cert.ProjSRefIdeal.nD Cert.ProjSRefIdeal.τ).loc Cert.ProjSRefIdeal.main_arg0) = m ((c.tc : Thread Cert.ProjSRefIdeal.nD Cert.ProjSRefIdeal.τ).loc Cert.ProjSRefIdeal.main_arg0)
      ∧ r.2.mem ((c.tc : Thread Cert.ProjSRefIdeal.nD Cert.ProjSRefIdeal.τ).loc Cert.ProjSRefIdeal.main_arg1) = m ((c.tc : Thread Cert.ProjSRefIdeal.nD Cert.ProjSRefIdeal.τ).loc Cert.ProjSRefIdeal.main_arg1)
      ∧ r.2.mem ((c.tc : Thread Cert.ProjSRefIdeal.nD Cert.ProjSRefIdeal.τ).loc Cert.ProjSRefIdeal.main_arg2) = m ((c.tc : Thread Cert.ProjSRefIdeal.nD Cert.ProjSRefIdeal.τ).loc Cert.ProjSRefIdeal.main_arg2)
      ∧ r.2.mem ((c.tc : Thread Cert.ProjSRefIdeal.nD Cert.ProjSRefIdeal.τ).loc Cert.ProjSRefIdeal.main_arg3) = m ((c.tc : Thread Cert.ProjSRefIdeal.nD Cert.ProjSRefIdeal.τ).loc Cert.ProjSRefIdeal.main_arg3)
      ∧ r.2.mem ((c.tc : Thread Cert.ProjSRefIdeal.nD Cert.ProjSRefIdeal.τ).loc Cert.ProjSRefIdeal.main_arg4) = m ((c.tc : Thread Cert.ProjSRefIdeal.nD Cert.ProjSRefIdeal.τ).loc Cert.ProjSRefIdeal.main_arg4)
      ∧ r.2.mem ((c.tc : Thread Cert.ProjSRefIdeal.nD Cert.ProjSRefIdeal.τ).loc Cert.ProjSRefIdeal.main_arg5) = m ((c.tc : Thread Cert.ProjSRefIdeal.nD Cert.ProjSRefIdeal.τ).loc Cert.ProjSRefIdeal.main_arg5)
      ∧ r.2.mem ((c.tc : Thread Cert.ProjSRefIdeal.nD Cert.ProjSRefIdeal.τ).loc Cert.ProjSRefIdeal.main_arg6) = m ((c.tc : Thread Cert.ProjSRefIdeal.nD Cert.ProjSRefIdeal.τ).loc Cert.ProjSRefIdeal.main_arg6)
      ∧ r.2.mem ((c.tc : Thread Cert.ProjSRefIdeal.nD Cert.ProjSRefIdeal.τ).loc Cert.ProjSRefIdeal.main_arg7) = m ((c.tc : Thread Cert.ProjSRefIdeal.nD Cert.ProjSRefIdeal.τ).loc Cert.ProjSRefIdeal.main_arg7)
      ∧ r.2.mem ((c.tc : Thread Cert.ProjSRefIdeal.nD Cert.ProjSRefIdeal.τ).loc Cert.ProjSRefIdeal.main_arg8) = m ((c.tc : Thread Cert.ProjSRefIdeal.nD Cert.ProjSRefIdeal.τ).loc Cert.ProjSRefIdeal.main_arg8))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2)
      ∧ r.2.mem ((c.tc : Thread Cert.Ada.nD Cert.Ada.τ).loc Cert.Ada.main_arg3) = m ((c.tc : Thread Cert.Ada.nD Cert.Ada.τ).loc Cert.Ada.main_arg3))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
      ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2)
      ∧ r.2.mem ((c.tc : Thread Cert.AdaRefIdeal.nD Cert.AdaRefIdeal.τ).loc Cert.AdaRefIdeal.main_arg3) = m ((c.tc : Thread Cert.AdaRefIdeal.nD Cert.AdaRefIdeal.τ).loc Cert.AdaRefIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v34_0)) (v1 : (c : Dev Cert.KernelIdeal.nD) → Buf (Elt Ideal) ((c.tc : Thread Cert.KernelIdeal.nD Cert.KernelIdeal.τ).loc Cert.KernelIdeal.main_v34_1)) (v2 : (c : Dev Cert.KernelIdeal.nD) → Buf (Elt Ideal) ((c.tc : Thread Cert.KernelIdeal.nD Cert.KernelIdeal.τ).loc Cert.KernelIdeal.main_v34_3)) (v3 : (c : Dev Cert.KernelIdeal.nD) → Buf (Elt Ideal) ((c.tc : Thread Cert.KernelIdeal.nD Cert.KernelIdeal.τ).loc Cert.KernelIdeal.main_v34_5)) (v4 : (c : Dev Cert.KernelIdeal.nD) → Buf (Elt Ideal) ((c.tc : Thread Cert.KernelIdeal.nD Cert.KernelIdeal.τ).loc Cert.KernelIdeal.main_v34_6)) (v5 : (c : Dev Cert.KernelIdeal.nD) → Buf (Elt Ideal) ((c.tc : Thread Cert.KernelIdeal.nD Cert.KernelIdeal.τ).loc Cert.KernelIdeal.main_v34_8)) (v6 : (c : Dev Cert.KernelIdeal.nD) → Buf (Elt Ideal) ((c.tc : Thread Cert.KernelIdeal.nD Cert.KernelIdeal.τ).loc Cert.KernelIdeal.main_v34_9)) (v7 : (c : Dev Cert.KernelIdeal.nD) → Buf (Elt Ideal) ((c.tc : Thread Cert.KernelIdeal.nD Cert.KernelIdeal.τ).loc Cert.KernelIdeal.main_v34_10)) (v8 : (c : Dev Cert.KernelIdeal.nD) → Buf (Elt Ideal) ((c.tc : Thread Cert.KernelIdeal.nD Cert.KernelIdeal.τ).loc Cert.KernelIdeal.main_v34_11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34_0) = v0 c
          ∧ r.2.mem ((c.tc : Thread Cert.KernelIdeal.nD Cert.KernelIdeal.τ).loc Cert.KernelIdeal.main_v34_1) = v1 c
          ∧ r.2.mem ((c.tc : Thread Cert.KernelIdeal.nD Cert.KernelIdeal.τ).loc Cert.KernelIdeal.main_v34_3) = v2 c
          ∧ r.2.mem ((c.tc : Thread Cert.KernelIdeal.nD Cert.KernelIdeal.τ).loc Cert.KernelIdeal.main_v34_5) = v3 c
          ∧ r.2.mem ((c.tc : Thread Cert.KernelIdeal.nD Cert.KernelIdeal.τ).loc Cert.KernelIdeal.main_v34_6) = v4 c
          ∧ r.2.mem ((c.tc : Thread Cert.KernelIdeal.nD Cert.KernelIdeal.τ).loc Cert.KernelIdeal.main_v34_8) = v5 c
          ∧ r.2.mem ((c.tc : Thread Cert.KernelIdeal.nD Cert.KernelIdeal.τ).loc Cert.KernelIdeal.main_v34_9) = v6 c
          ∧ r.2.mem ((c.tc : Thread Cert.KernelIdeal.nD Cert.KernelIdeal.τ).loc Cert.KernelIdeal.main_v34_10) = v7 c
          ∧ r.2.mem ((c.tc : Thread Cert.KernelIdeal.nD Cert.KernelIdeal.τ).loc Cert.KernelIdeal.main_v34_11) = v8 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v189) = v0 c
          ∧ r.2.mem ((c.tc : Thread Cert.ReferenceIdeal.nD Cert.ReferenceIdeal.τ).loc Cert.ReferenceIdeal.main_v191) = v1 c
          ∧ r.2.mem ((c.tc : Thread Cert.ReferenceIdeal.nD Cert.ReferenceIdeal.τ).loc Cert.ReferenceIdeal.main_v192) = v2 c
          ∧ r.2.mem ((c.tc : Thread Cert.ReferenceIdeal.nD Cert.ReferenceIdeal.τ).loc Cert.ReferenceIdeal.main_v194) = v3 c
          ∧ r.2.mem ((c.tc : Thread Cert.ReferenceIdeal.nD Cert.ReferenceIdeal.τ).loc Cert.ReferenceIdeal.main_v195) = v4 c
          ∧ r.2.mem ((c.tc : Thread Cert.ReferenceIdeal.nD Cert.ReferenceIdeal.τ).loc Cert.ReferenceIdeal.main_v197) = v5 c
          ∧ r.2.mem ((c.tc : Thread Cert.ReferenceIdeal.nD Cert.ReferenceIdeal.τ).loc Cert.ReferenceIdeal.main_v200) = v6 c
          ∧ r.2.mem ((c.tc : Thread Cert.ReferenceIdeal.nD Cert.ReferenceIdeal.τ).loc Cert.ReferenceIdeal.main_v202) = v7 c
          ∧ r.2.mem ((c.tc : Thread Cert.ReferenceIdeal.nD Cert.ReferenceIdeal.τ).loc Cert.ReferenceIdeal.main_v203) = v8 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v3)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v3) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v13) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4))

def preserves_OutS_OutSIdeal : Prop :=
  True

def algebraic_OutSIdeal_OutSRefIdeal [hOutSIdeal : Cert.OutSIdeal.Facts] [hOutSRefIdeal : Cert.OutSRefIdeal.Facts] : Prop :=
  ∀ (m : (ℓ : Loc Cert.OutSIdeal.nD Cert.OutSIdeal.τ Cert.OutSIdeal.sig) → Buf (Elt Ideal) ℓ) (g : Dev Cert.OutSIdeal.nD → PrngReg)
    (m' : (ℓ : Loc Cert.OutSRefIdeal.nD Cert.OutSRefIdeal.τ Cert.OutSRefIdeal.sig) → Buf (Elt Ideal) ℓ) (g' : Dev Cert.OutSRefIdeal.nD → PrngReg), Pre_OutSIdeal m →
    (∀ c : Dev Cert.OutSIdeal.nD,
      m' ((c.tc : Thread Cert.OutSRefIdeal.nD Cert.OutSRefIdeal.τ).loc Cert.OutSRefIdeal.main_arg0) = m ((c.tc : Thread Cert.OutSIdeal.nD Cert.OutSIdeal.τ).loc Cert.OutSIdeal.main_arg0)
      ∧ m' ((c.tc : Thread Cert.OutSRefIdeal.nD Cert.OutSRefIdeal.τ).loc Cert.OutSRefIdeal.main_arg1) = m ((c.tc : Thread Cert.OutSIdeal.nD Cert.OutSIdeal.τ).loc Cert.OutSIdeal.main_arg1)
      ∧ m' ((c.tc : Thread Cert.OutSRefIdeal.nD Cert.OutSRefIdeal.τ).loc Cert.OutSRefIdeal.main_arg2) = m ((c.tc : Thread Cert.OutSIdeal.nD Cert.OutSIdeal.τ).loc Cert.OutSIdeal.main_arg2)
      ∧ m' ((c.tc : Thread Cert.OutSRefIdeal.nD Cert.OutSRefIdeal.τ).loc Cert.OutSRefIdeal.main_arg3) = m ((c.tc : Thread Cert.OutSIdeal.nD Cert.OutSIdeal.τ).loc Cert.OutSIdeal.main_arg3)
      ∧ m' ((c.tc : Thread Cert.OutSRefIdeal.nD Cert.OutSRefIdeal.τ).loc Cert.OutSRefIdeal.main_arg4) = m ((c.tc : Thread Cert.OutSIdeal.nD Cert.OutSIdeal.τ).loc Cert.OutSIdeal.main_arg4)
      ∧ m' ((c.tc : Thread Cert.OutSRefIdeal.nD Cert.OutSRefIdeal.τ).loc Cert.OutSRefIdeal.main_arg5) = m ((c.tc : Thread Cert.OutSIdeal.nD Cert.OutSIdeal.τ).loc Cert.OutSIdeal.main_arg5)) →
    ∃ (v0 : (c : Dev Cert.OutSIdeal.nD) → Buf (Elt Ideal) ((c.tc : Thread Cert.OutSIdeal.nD Cert.OutSIdeal.τ).loc Cert.OutSIdeal.main_v3)),
      θ_run (Cert.OutSIdeal.defs (F := Ideal)) (onTc (τ := Cert.OutSIdeal.τ) (Cert.OutSIdeal.main (F := Ideal))) ⟨m, fun _ => 0, g⟩ (fun r => ∀ c : Dev Cert.OutSIdeal.nD,
          r.2.mem ((c.tc : Thread Cert.OutSIdeal.nD Cert.OutSIdeal.τ).loc Cert.OutSIdeal.main_v3) = v0 c
          ∧ r.2.mem ((c.tc : Thread Cert.OutSIdeal.nD Cert.OutSIdeal.τ).loc Cert.OutSIdeal.main_arg0) = m ((c.tc : Thread Cert.OutSIdeal.nD Cert.OutSIdeal.τ).loc Cert.OutSIdeal.main_arg0)
          ∧ r.2.mem ((c.tc : Thread Cert.OutSIdeal.nD Cert.OutSIdeal.τ).loc Cert.OutSIdeal.main_arg1) = m ((c.tc : Thread Cert.OutSIdeal.nD Cert.OutSIdeal.τ).loc Cert.OutSIdeal.main_arg1)
          ∧ r.2.mem ((c.tc : Thread Cert.OutSIdeal.nD Cert.OutSIdeal.τ).loc Cert.OutSIdeal.main_arg2) = m ((c.tc : Thread Cert.OutSIdeal.nD Cert.OutSIdeal.τ).loc Cert.OutSIdeal.main_arg2)
          ∧ r.2.mem ((c.tc : Thread Cert.OutSIdeal.nD Cert.OutSIdeal.τ).loc Cert.OutSIdeal.main_arg3) = m ((c.tc : Thread Cert.OutSIdeal.nD Cert.OutSIdeal.τ).loc Cert.OutSIdeal.main_arg3)
          ∧ r.2.mem ((c.tc : Thread Cert.OutSIdeal.nD Cert.OutSIdeal.τ).loc Cert.OutSIdeal.main_arg4) = m ((c.tc : Thread Cert.OutSIdeal.nD Cert.OutSIdeal.τ).loc Cert.OutSIdeal.main_arg4)
          ∧ r.2.mem ((c.tc : Thread Cert.OutSIdeal.nD Cert.OutSIdeal.τ).loc Cert.OutSIdeal.main_arg5) = m ((c.tc : Thread Cert.OutSIdeal.nD Cert.OutSIdeal.τ).loc Cert.OutSIdeal.main_arg5))
      ∧ θ_run (Cert.OutSRefIdeal.defs (F := Ideal)) (onTc (τ := Cert.OutSRefIdeal.τ) (Cert.OutSRefIdeal.main (F := Ideal))) ⟨m', fun _ => 0, g'⟩ (fun r => ∀ c : Dev Cert.OutSRefIdeal.nD,
          r.2.mem ((c.tc : Thread Cert.OutSRefIdeal.nD Cert.OutSRefIdeal.τ).loc Cert.OutSRefIdeal.main_v20) = v0 c
          ∧ r.2.mem ((c.tc : Thread Cert.OutSRefIdeal.nD Cert.OutSRefIdeal.τ).loc Cert.OutSRefIdeal.main_arg0) = m' ((c.tc : Thread Cert.OutSRefIdeal.nD Cert.OutSRefIdeal.τ).loc Cert.OutSRefIdeal.main_arg0)
          ∧ r.2.mem ((c.tc : Thread Cert.OutSRefIdeal.nD Cert.OutSRefIdeal.τ).loc Cert.OutSRefIdeal.main_arg1) = m' ((c.tc : Thread Cert.OutSRefIdeal.nD Cert.OutSRefIdeal.τ).loc Cert.OutSRefIdeal.main_arg1)
          ∧ r.2.mem ((c.tc : Thread Cert.OutSRefIdeal.nD Cert.OutSRefIdeal.τ).loc Cert.OutSRefIdeal.main_arg2) = m' ((c.tc : Thread Cert.OutSRefIdeal.nD Cert.OutSRefIdeal.τ).loc Cert.OutSRefIdeal.main_arg2)
          ∧ r.2.mem ((c.tc : Thread Cert.OutSRefIdeal.nD Cert.OutSRefIdeal.τ).loc Cert.OutSRefIdeal.main_arg3) = m' ((c.tc : Thread Cert.OutSRefIdeal.nD Cert.OutSRefIdeal.τ).loc Cert.OutSRefIdeal.main_arg3)
          ∧ r.2.mem ((c.tc : Thread Cert.OutSRefIdeal.nD Cert.OutSRefIdeal.τ).loc Cert.OutSRefIdeal.main_arg4) = m' ((c.tc : Thread Cert.OutSRefIdeal.nD Cert.OutSRefIdeal.τ).loc Cert.OutSRefIdeal.main_arg4)
          ∧ r.2.mem ((c.tc : Thread Cert.OutSRefIdeal.nD Cert.OutSRefIdeal.τ).loc Cert.OutSRefIdeal.main_arg5) = m' ((c.tc : Thread Cert.OutSRefIdeal.nD Cert.OutSRefIdeal.τ).loc Cert.OutSRefIdeal.main_arg5))

def preserves_ProjS_ProjSIdeal : Prop :=
  True

def algebraic_ProjSIdeal_ProjSRefIdeal [hProjSIdeal : Cert.ProjSIdeal.Facts] [hProjSRefIdeal : Cert.ProjSRefIdeal.Facts] : Prop :=
  ∀ (m : (ℓ : Loc Cert.ProjSIdeal.nD Cert.ProjSIdeal.τ Cert.ProjSIdeal.sig) → Buf (Elt Ideal) ℓ) (g : Dev Cert.ProjSIdeal.nD → PrngReg)
    (m' : (ℓ : Loc Cert.ProjSRefIdeal.nD Cert.ProjSRefIdeal.τ Cert.ProjSRefIdeal.sig) → Buf (Elt Ideal) ℓ) (g' : Dev Cert.ProjSRefIdeal.nD → PrngReg), Pre_ProjSIdeal m →
    (∀ c : Dev Cert.ProjSIdeal.nD,
      m' ((c.tc : Thread Cert.ProjSRefIdeal.nD Cert.ProjSRefIdeal.τ).loc Cert.ProjSRefIdeal.main_arg0) = m ((c.tc : Thread Cert.ProjSIdeal.nD Cert.ProjSIdeal.τ).loc Cert.ProjSIdeal.main_arg0)
      ∧ m' ((c.tc : Thread Cert.ProjSRefIdeal.nD Cert.ProjSRefIdeal.τ).loc Cert.ProjSRefIdeal.main_arg1) = m ((c.tc : Thread Cert.ProjSIdeal.nD Cert.ProjSIdeal.τ).loc Cert.ProjSIdeal.main_arg1)
      ∧ m' ((c.tc : Thread Cert.ProjSRefIdeal.nD Cert.ProjSRefIdeal.τ).loc Cert.ProjSRefIdeal.main_arg2) = m ((c.tc : Thread Cert.ProjSIdeal.nD Cert.ProjSIdeal.τ).loc Cert.ProjSIdeal.main_arg2)
      ∧ m' ((c.tc : Thread Cert.ProjSRefIdeal.nD Cert.ProjSRefIdeal.τ).loc Cert.ProjSRefIdeal.main_arg3) = m ((c.tc : Thread Cert.ProjSIdeal.nD Cert.ProjSIdeal.τ).loc Cert.ProjSIdeal.main_arg3)
      ∧ m' ((c.tc : Thread Cert.ProjSRefIdeal.nD Cert.ProjSRefIdeal.τ).loc Cert.ProjSRefIdeal.main_arg4) = m ((c.tc : Thread Cert.ProjSIdeal.nD Cert.ProjSIdeal.τ).loc Cert.ProjSIdeal.main_arg4)
      ∧ m' ((c.tc : Thread Cert.ProjSRefIdeal.nD Cert.ProjSRefIdeal.τ).loc Cert.ProjSRefIdeal.main_arg5) = m ((c.tc : Thread Cert.ProjSIdeal.nD Cert.ProjSIdeal.τ).loc Cert.ProjSIdeal.main_arg5)
      ∧ m' ((c.tc : Thread Cert.ProjSRefIdeal.nD Cert.ProjSRefIdeal.τ).loc Cert.ProjSRefIdeal.main_arg6) = m ((c.tc : Thread Cert.ProjSIdeal.nD Cert.ProjSIdeal.τ).loc Cert.ProjSIdeal.main_arg6)
      ∧ m' ((c.tc : Thread Cert.ProjSRefIdeal.nD Cert.ProjSRefIdeal.τ).loc Cert.ProjSRefIdeal.main_arg7) = m ((c.tc : Thread Cert.ProjSIdeal.nD Cert.ProjSIdeal.τ).loc Cert.ProjSIdeal.main_arg7)
      ∧ m' ((c.tc : Thread Cert.ProjSRefIdeal.nD Cert.ProjSRefIdeal.τ).loc Cert.ProjSRefIdeal.main_arg8) = m ((c.tc : Thread Cert.ProjSIdeal.nD Cert.ProjSIdeal.τ).loc Cert.ProjSIdeal.main_arg8)) →
    ∃ (v0 : (c : Dev Cert.ProjSIdeal.nD) → Buf (Elt Ideal) ((c.tc : Thread Cert.ProjSIdeal.nD Cert.ProjSIdeal.τ).loc Cert.ProjSIdeal.main_v34_1)) (v1 : (c : Dev Cert.ProjSIdeal.nD) → Buf (Elt Ideal) ((c.tc : Thread Cert.ProjSIdeal.nD Cert.ProjSIdeal.τ).loc Cert.ProjSIdeal.main_v34_2)) (v2 : (c : Dev Cert.ProjSIdeal.nD) → Buf (Elt Ideal) ((c.tc : Thread Cert.ProjSIdeal.nD Cert.ProjSIdeal.τ).loc Cert.ProjSIdeal.main_v34_3)) (v3 : (c : Dev Cert.ProjSIdeal.nD) → Buf (Elt Ideal) ((c.tc : Thread Cert.ProjSIdeal.nD Cert.ProjSIdeal.τ).loc Cert.ProjSIdeal.main_v34_4)) (v4 : (c : Dev Cert.ProjSIdeal.nD) → Buf (Elt Ideal) ((c.tc : Thread Cert.ProjSIdeal.nD Cert.ProjSIdeal.τ).loc Cert.ProjSIdeal.main_v34_5)) (v5 : (c : Dev Cert.ProjSIdeal.nD) → Buf (Elt Ideal) ((c.tc : Thread Cert.ProjSIdeal.nD Cert.ProjSIdeal.τ).loc Cert.ProjSIdeal.main_v34_8)) (v6 : (c : Dev Cert.ProjSIdeal.nD) → Buf (Elt Ideal) ((c.tc : Thread Cert.ProjSIdeal.nD Cert.ProjSIdeal.τ).loc Cert.ProjSIdeal.main_v34_9)) (v7 : (c : Dev Cert.ProjSIdeal.nD) → Buf (Elt Ideal) ((c.tc : Thread Cert.ProjSIdeal.nD Cert.ProjSIdeal.τ).loc Cert.ProjSIdeal.main_v34_10)),
      θ_run (Cert.ProjSIdeal.defs (F := Ideal)) (onTc (τ := Cert.ProjSIdeal.τ) (Cert.ProjSIdeal.main (F := Ideal))) ⟨m, fun _ => 0, g⟩ (fun r => ∀ c : Dev Cert.ProjSIdeal.nD,
          r.2.mem ((c.tc : Thread Cert.ProjSIdeal.nD Cert.ProjSIdeal.τ).loc Cert.ProjSIdeal.main_v34_1) = v0 c
          ∧ r.2.mem ((c.tc : Thread Cert.ProjSIdeal.nD Cert.ProjSIdeal.τ).loc Cert.ProjSIdeal.main_v34_2) = v1 c
          ∧ r.2.mem ((c.tc : Thread Cert.ProjSIdeal.nD Cert.ProjSIdeal.τ).loc Cert.ProjSIdeal.main_v34_3) = v2 c
          ∧ r.2.mem ((c.tc : Thread Cert.ProjSIdeal.nD Cert.ProjSIdeal.τ).loc Cert.ProjSIdeal.main_v34_4) = v3 c
          ∧ r.2.mem ((c.tc : Thread Cert.ProjSIdeal.nD Cert.ProjSIdeal.τ).loc Cert.ProjSIdeal.main_v34_5) = v4 c
          ∧ r.2.mem ((c.tc : Thread Cert.ProjSIdeal.nD Cert.ProjSIdeal.τ).loc Cert.ProjSIdeal.main_v34_8) = v5 c
          ∧ r.2.mem ((c.tc : Thread Cert.ProjSIdeal.nD Cert.ProjSIdeal.τ).loc Cert.ProjSIdeal.main_v34_9) = v6 c
          ∧ r.2.mem ((c.tc : Thread Cert.ProjSIdeal.nD Cert.ProjSIdeal.τ).loc Cert.ProjSIdeal.main_v34_10) = v7 c
          ∧ r.2.mem ((c.tc : Thread Cert.ProjSIdeal.nD Cert.ProjSIdeal.τ).loc Cert.ProjSIdeal.main_arg0) = m ((c.tc : Thread Cert.ProjSIdeal.nD Cert.ProjSIdeal.τ).loc Cert.ProjSIdeal.main_arg0)
          ∧ r.2.mem ((c.tc : Thread Cert.ProjSIdeal.nD Cert.ProjSIdeal.τ).loc Cert.ProjSIdeal.main_arg1) = m ((c.tc : Thread Cert.ProjSIdeal.nD Cert.ProjSIdeal.τ).loc Cert.ProjSIdeal.main_arg1)
          ∧ r.2.mem ((c.tc : Thread Cert.ProjSIdeal.nD Cert.ProjSIdeal.τ).loc Cert.ProjSIdeal.main_arg2) = m ((c.tc : Thread Cert.ProjSIdeal.nD Cert.ProjSIdeal.τ).loc Cert.ProjSIdeal.main_arg2)
          ∧ r.2.mem ((c.tc : Thread Cert.ProjSIdeal.nD Cert.ProjSIdeal.τ).loc Cert.ProjSIdeal.main_arg3) = m ((c.tc : Thread Cert.ProjSIdeal.nD Cert.ProjSIdeal.τ).loc Cert.ProjSIdeal.main_arg3)
          ∧ r.2.mem ((c.tc : Thread Cert.ProjSIdeal.nD Cert.ProjSIdeal.τ).loc Cert.ProjSIdeal.main_arg4) = m ((c.tc : Thread Cert.ProjSIdeal.nD Cert.ProjSIdeal.τ).loc Cert.ProjSIdeal.main_arg4)
          ∧ r.2.mem ((c.tc : Thread Cert.ProjSIdeal.nD Cert.ProjSIdeal.τ).loc Cert.ProjSIdeal.main_arg5) = m ((c.tc : Thread Cert.ProjSIdeal.nD Cert.ProjSIdeal.τ).loc Cert.ProjSIdeal.main_arg5)
          ∧ r.2.mem ((c.tc : Thread Cert.ProjSIdeal.nD Cert.ProjSIdeal.τ).loc Cert.ProjSIdeal.main_arg6) = m ((c.tc : Thread Cert.ProjSIdeal.nD Cert.ProjSIdeal.τ).loc Cert.ProjSIdeal.main_arg6)
          ∧ r.2.mem ((c.tc : Thread Cert.ProjSIdeal.nD Cert.ProjSIdeal.τ).loc Cert.ProjSIdeal.main_arg7) = m ((c.tc : Thread Cert.ProjSIdeal.nD Cert.ProjSIdeal.τ).loc Cert.ProjSIdeal.main_arg7)
          ∧ r.2.mem ((c.tc : Thread Cert.ProjSIdeal.nD Cert.ProjSIdeal.τ).loc Cert.ProjSIdeal.main_arg8) = m ((c.tc : Thread Cert.ProjSIdeal.nD Cert.ProjSIdeal.τ).loc Cert.ProjSIdeal.main_arg8))
      ∧ θ_run (Cert.ProjSRefIdeal.defs (F := Ideal)) (onTc (τ := Cert.ProjSRefIdeal.τ) (Cert.ProjSRefIdeal.main (F := Ideal))) ⟨m', fun _ => 0, g'⟩ (fun r => ∀ c : Dev Cert.ProjSRefIdeal.nD,
          r.2.mem ((c.tc : Thread Cert.ProjSRefIdeal.nD Cert.ProjSRefIdeal.τ).loc Cert.ProjSRefIdeal.main_v49) = v0 c
          ∧ r.2.mem ((c.tc : Thread Cert.ProjSRefIdeal.nD Cert.ProjSRefIdeal.τ).loc Cert.ProjSRefIdeal.main_v26) = v1 c
          ∧ r.2.mem ((c.tc : Thread Cert.ProjSRefIdeal.nD Cert.ProjSRefIdeal.τ).loc Cert.ProjSRefIdeal.main_v28) = v2 c
          ∧ r.2.mem ((c.tc : Thread Cert.ProjSRefIdeal.nD Cert.ProjSRefIdeal.τ).loc Cert.ProjSRefIdeal.main_v99) = v3 c
          ∧ r.2.mem ((c.tc : Thread Cert.ProjSRefIdeal.nD Cert.ProjSRefIdeal.τ).loc Cert.ProjSRefIdeal.main_v51) = v4 c
          ∧ r.2.mem ((c.tc : Thread Cert.ProjSRefIdeal.nD Cert.ProjSRefIdeal.τ).loc Cert.ProjSRefIdeal.main_v101) = v5 c
          ∧ r.2.mem ((c.tc : Thread Cert.ProjSRefIdeal.nD Cert.ProjSRefIdeal.τ).loc Cert.ProjSRefIdeal.main_v104) = v6 c
          ∧ r.2.mem ((c.tc : Thread Cert.ProjSRefIdeal.nD Cert.ProjSRefIdeal.τ).loc Cert.ProjSRefIdeal.main_v106) = v7 c
          ∧ r.2.mem ((c.tc : Thread Cert.ProjSRefIdeal.nD Cert.ProjSRefIdeal.τ).loc Cert.ProjSRefIdeal.main_arg0) = m' ((c.tc : Thread Cert.ProjSRefIdeal.nD Cert.ProjSRefIdeal.τ).loc Cert.ProjSRefIdeal.main_arg0)
          ∧ r.2.mem ((c.tc : Thread Cert.ProjSRefIdeal.nD Cert.ProjSRefIdeal.τ).loc Cert.ProjSRefIdeal.main_arg1) = m' ((c.tc : Thread Cert.ProjSRefIdeal.nD Cert.ProjSRefIdeal.τ).loc Cert.ProjSRefIdeal.main_arg1)
          ∧ r.2.mem ((c.tc : Thread Cert.ProjSRefIdeal.nD Cert.ProjSRefIdeal.τ).loc Cert.ProjSRefIdeal.main_arg2) = m' ((c.tc : Thread Cert.ProjSRefIdeal.nD Cert.ProjSRefIdeal.τ).loc Cert.ProjSRefIdeal.main_arg2)
          ∧ r.2.mem ((c.tc : Thread Cert.ProjSRefIdeal.nD Cert.ProjSRefIdeal.τ).loc Cert.ProjSRefIdeal.main_arg3) = m' ((c.tc : Thread Cert.ProjSRefIdeal.nD Cert.ProjSRefIdeal.τ).loc Cert.ProjSRefIdeal.main_arg3)
          ∧ r.2.mem ((c.tc : Thread Cert.ProjSRefIdeal.nD Cert.ProjSRefIdeal.τ).loc Cert.ProjSRefIdeal.main_arg4) = m' ((c.tc : Thread Cert.ProjSRefIdeal.nD Cert.ProjSRefIdeal.τ).loc Cert.ProjSRefIdeal.main_arg4)
          ∧ r.2.mem ((c.tc : Thread Cert.ProjSRefIdeal.nD Cert.ProjSRefIdeal.τ).loc Cert.ProjSRefIdeal.main_arg5) = m' ((c.tc : Thread Cert.ProjSRefIdeal.nD Cert.ProjSRefIdeal.τ).loc Cert.ProjSRefIdeal.main_arg5)
          ∧ r.2.mem ((c.tc : Thread Cert.ProjSRefIdeal.nD Cert.ProjSRefIdeal.τ).loc Cert.ProjSRefIdeal.main_arg6) = m' ((c.tc : Thread Cert.ProjSRefIdeal.nD Cert.ProjSRefIdeal.τ).loc Cert.ProjSRefIdeal.main_arg6)
          ∧ r.2.mem ((c.tc : Thread Cert.ProjSRefIdeal.nD Cert.ProjSRefIdeal.τ).loc Cert.ProjSRefIdeal.main_arg7) = m' ((c.tc : Thread Cert.ProjSRefIdeal.nD Cert.ProjSRefIdeal.τ).loc Cert.ProjSRefIdeal.main_arg7)
          ∧ r.2.mem ((c.tc : Thread Cert.ProjSRefIdeal.nD Cert.ProjSRefIdeal.τ).loc Cert.ProjSRefIdeal.main_arg8) = m' ((c.tc : Thread Cert.ProjSRefIdeal.nD Cert.ProjSRefIdeal.τ).loc Cert.ProjSRefIdeal.main_arg8))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)
      ∧ m' ((c.tc : Thread Cert.AdaRefIdeal.nD Cert.AdaRefIdeal.τ).loc Cert.AdaRefIdeal.main_arg3) = m ((c.tc : Thread Cert.AdaIdeal.nD Cert.AdaIdeal.τ).loc Cert.AdaIdeal.main_arg3)) →
    ∃ (v0 : (c : Dev Cert.AdaIdeal.nD) → Buf (Elt Ideal) ((c.tc : Thread Cert.AdaIdeal.nD Cert.AdaIdeal.τ).loc Cert.AdaIdeal.main_v0_0)) (v1 : (c : Dev Cert.AdaIdeal.nD) → Buf (Elt Ideal) ((c.tc : Thread Cert.AdaIdeal.nD Cert.AdaIdeal.τ).loc Cert.AdaIdeal.main_v0_1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v0_0) = v0 c
          ∧ r.2.mem ((c.tc : Thread Cert.AdaIdeal.nD Cert.AdaIdeal.τ).loc Cert.AdaIdeal.main_v0_1) = v1 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
          ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v6) = v0 c
          ∧ r.2.mem ((c.tc : Thread Cert.AdaRefIdeal.nD Cert.AdaRefIdeal.τ).loc Cert.AdaRefIdeal.main_v13) = v1 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2)
          ∧ r.2.mem ((c.tc : Thread Cert.AdaRefIdeal.nD Cert.AdaRefIdeal.τ).loc Cert.AdaRefIdeal.main_arg3) = m' ((c.tc : Thread Cert.AdaRefIdeal.nD Cert.AdaRefIdeal.τ).loc Cert.AdaRefIdeal.main_arg3))

def Claim : Prop :=
  ∃ (hKernel : Cert.Kernel.Facts) (hKernelIdeal : Cert.KernelIdeal.Facts) (hReferenceIdeal : Cert.ReferenceIdeal.Facts) (hOut : Cert.Out.Facts) (hOutIdeal : Cert.OutIdeal.Facts) (hOutRefIdeal : Cert.OutRefIdeal.Facts) (hOutS : Cert.OutS.Facts) (hOutSIdeal : Cert.OutSIdeal.Facts) (hOutSRefIdeal : Cert.OutSRefIdeal.Facts) (hProjS : Cert.ProjS.Facts) (hProjSIdeal : Cert.ProjSIdeal.Facts) (hProjSRefIdeal : Cert.ProjSRefIdeal.Facts) (hAda : Cert.Ada.Facts) (hAdaIdeal : Cert.AdaIdeal.Facts) (hAdaRefIdeal : Cert.AdaRefIdeal.Facts),
    quiescent_Kernel (hKernel := hKernel)
    ∧ quiescent_KernelIdeal (hKernelIdeal := hKernelIdeal)
    ∧ quiescent_ReferenceIdeal (hReferenceIdeal := hReferenceIdeal)
    ∧ quiescent_Out (hOut := hOut)
    ∧ quiescent_OutIdeal (hOutIdeal := hOutIdeal)
    ∧ quiescent_OutRefIdeal (hOutRefIdeal := hOutRefIdeal)
    ∧ quiescent_OutS (hOutS := hOutS)
    ∧ quiescent_OutSIdeal (hOutSIdeal := hOutSIdeal)
    ∧ quiescent_OutSRefIdeal (hOutSRefIdeal := hOutSRefIdeal)
    ∧ quiescent_ProjS (hProjS := hProjS)
    ∧ quiescent_ProjSIdeal (hProjSIdeal := hProjSIdeal)
    ∧ quiescent_ProjSRefIdeal (hProjSRefIdeal := hProjSRefIdeal)
    ∧ quiescent_Ada (hAda := hAda)
    ∧ quiescent_AdaIdeal (hAdaIdeal := hAdaIdeal)
    ∧ quiescent_AdaRefIdeal (hAdaRefIdeal := hAdaRefIdeal)
    ∧ preserves_Kernel_KernelIdeal
    ∧ algebraic_KernelIdeal_ReferenceIdeal (hKernelIdeal := hKernelIdeal) (hReferenceIdeal := hReferenceIdeal)
    ∧ preserves_Out_OutIdeal
    ∧ algebraic_OutIdeal_OutRefIdeal (hOutIdeal := hOutIdeal) (hOutRefIdeal := hOutRefIdeal)
    ∧ preserves_OutS_OutSIdeal
    ∧ algebraic_OutSIdeal_OutSRefIdeal (hOutSIdeal := hOutSIdeal) (hOutSRefIdeal := hOutSRefIdeal)
    ∧ preserves_ProjS_ProjSIdeal
    ∧ algebraic_ProjSIdeal_ProjSRefIdeal (hProjSIdeal := hProjSIdeal) (hProjSRefIdeal := hProjSRefIdeal)
    ∧ preserves_Ada_AdaIdeal
    ∧ algebraic_AdaIdeal_AdaRefIdeal (hAdaIdeal := hAdaIdeal) (hAdaRefIdeal := hAdaRefIdeal)
-- ==== Kernel.lean ====
abbrev S8x2048x1024 : Shape := ⟨3, ![8, 2048, 1024]⟩
abbrev S8x3072 : Shape := ⟨2, ![8, 3072]⟩
abbrev S1x1024 : Shape := ⟨2, ![1, 1024]⟩
abbrev S1x1024x2888 : Shape := ⟨3, ![1, 1024, 2888]⟩
abbrev S1x64 : Shape := ⟨2, ![1, 64]⟩
abbrev S1x4x128x128 : Shape := ⟨4, ![1, 4, 128, 128]⟩
abbrev S1x512 : Shape := ⟨2, ![1, 512]⟩
abbrev S1024x2888 : Shape := ⟨2, ![1024, 2888]⟩
abbrev S2888x1024 : Shape := ⟨2, ![2888, 1024]⟩
abbrev S_ : Shape := ⟨0, ![]⟩
abbrev S128x128 : Shape := ⟨2, ![128, 128]⟩
abbrev S1x1x128x128 : Shape := ⟨4, ![1, 1, 128, 128]⟩
abbrev S128x256 : Shape := ⟨2, ![128, 256]⟩
abbrev S256x256 : Shape := ⟨2, ![256, 256]⟩
abbrev S1x256x256 : Shape := ⟨3, ![1, 256, 256]⟩
abbrev S2x256x256 : Shape := ⟨3, ![2, 256, 256]⟩
abbrev S64 : Shape := ⟨1, ![64]⟩
abbrev S8x64 : Shape := ⟨2, ![8, 64]⟩
abbrev S512 : Shape := ⟨1, ![512]⟩
abbrev S2x64 : Shape := ⟨2, ![2, 64]⟩
abbrev S128 : Shape := ⟨1, ![128]⟩
abbrev S1x128 : Shape := ⟨2, ![1, 128]⟩
abbrev S1024 : Shape := ⟨1, ![1024]⟩
abbrev S8x1x3072 : Shape := ⟨3, ![8, 1, 3072]⟩
abbrev S16384x512 : Shape := ⟨2, ![16384, 512]⟩
abbrev S8x128x2048 : Shape := ⟨3, ![8, 128, 2048]⟩
abbrev S2x16384x128 : Shape := ⟨3, ![2, 16384, 128]⟩
abbrev S8x2x8x80x256 : Shape := ⟨5, ![8, 2, 8, 80, 256]⟩
abbrev S8x64x2048 : Shape := ⟨3, ![8, 64, 2048]⟩
abbrev S16384x128 : Shape := ⟨2, ![16384, 128]⟩
abbrev S128x8x128 : Shape := ⟨3, ![128, 8, 128]⟩
abbrev S8x16x512 : Shape := ⟨3, ![8, 16, 512]⟩
abbrev S1024x2944 : Shape := ⟨2, ![1024, 2944]⟩
abbrev S1x512x1024 : Shape := ⟨3, ![1, 512, 1024]⟩
abbrev S1x1x3072 : Shape := ⟨3, ![1, 1, 3072]⟩
abbrev S512x512 : Shape := ⟨2, ![512, 512]⟩
abbrev S1x128x512 : Shape := ⟨3, ![1, 128, 512]⟩
abbrev S2x512x128 : Shape := ⟨3, ![2, 512, 128]⟩
abbrev S1x2x2x80x256 : Shape := ⟨5, ![1, 2, 2, 80, 256]⟩
abbrev S1x64x512 : Shape := ⟨3, ![1, 64, 512]⟩
abbrev S512x128 : Shape := ⟨2, ![512, 128]⟩
abbrev S4x8x128 : Shape := ⟨3, ![4, 8, 128]⟩
abbrev S1x16x512 : Shape := ⟨3, ![1, 16, 512]⟩
abbrev S528x512 : Shape := ⟨2, ![528, 512]⟩
abbrev S128x1024 : Shape := ⟨2, ![128, 1024]⟩
abbrev S1024x128 : Shape := ⟨2, ![1024, 128]⟩
abbrev S72x1024 : Shape := ⟨2, ![72, 1024]⟩
abbrev S56x1024 : Shape := ⟨2, ![56, 1024]⟩
abbrev S1x3072 : Shape := ⟨2, ![1, 3072]⟩
abbrev S256x128 : Shape := ⟨2, ![256, 128]⟩
abbrev S16x256 : Shape := ⟨2, ![16, 256]⟩
abbrev S16x512 : Shape := ⟨2, ![16, 512]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩
abbrev S1024x256 : Shape := ⟨2, ![1024, 256]⟩
abbrev S1x128x256 : Shape := ⟨3, ![1, 128, 256]⟩
abbrev S1x256x128 : Shape := ⟨3, ![1, 256, 128]⟩
abbrev S64x256 : Shape := ⟨2, ![64, 256]⟩
abbrev S1x1x1x64x256 : Shape := ⟨5, ![1, 1, 1, 64, 256]⟩
abbrev S1x1x1x16x256 : Shape := ⟨5, ![1, 1, 1, 16, 256]⟩
abbrev S1x64x256 : Shape := ⟨3, ![1, 64, 256]⟩
abbrev S8x256 : Shape := ⟨2, ![8, 256]⟩
abbrev S8x128 : Shape := ⟨2, ![8, 128]⟩
abbrev S1x8x128 : Shape := ⟨3, ![1, 8, 128]⟩
abbrev S272x128 : Shape := ⟨2, ![272, 128]⟩

abbrev nBuf : Space → Nat
  | .hbm => 61
  | .vmem => 36
  | .smem => 0
  | _ => 0

abbrev bufTy : (tb : Table) → Fin (tcTables nBuf tb) → BufTy
  | .hbm, ⟨0, _⟩ => ⟨S8x2048x1024, .f32⟩
  | .hbm, ⟨1, _⟩ => ⟨S8x3072, .f32⟩
  | .hbm, ⟨2, _⟩ => ⟨S1x1024, .f32⟩
  | .hbm, ⟨3, _⟩ => ⟨S1x1024x2888, .f32⟩
  | .hbm, ⟨4, _⟩ => ⟨S1x64, .f32⟩
  | .hbm, ⟨5, _⟩ => ⟨S1x64, .f32⟩
  | .hbm, ⟨6, _⟩ => ⟨S1x4x128x128, .f32⟩
  | .hbm, ⟨7, _⟩ => ⟨S1x512, .f32⟩
  | .hbm, ⟨8, _⟩ => ⟨S1024x2888, .f32⟩
  | .hbm, ⟨9, _⟩ => ⟨S2888x1024, .f32⟩
  | .hbm, ⟨10, _⟩ => ⟨S_, .f32⟩
  | .hbm, ⟨11, _⟩ => ⟨S128x128, .f32⟩
  | .hbm, ⟨12, _⟩ => ⟨S1x1x128x128, .f32⟩
  | .hbm, ⟨13, _⟩ => ⟨S128x128, .f32⟩
  | .hbm, ⟨14, _⟩ => ⟨S1x1x128x128, .f32⟩
  | .hbm, ⟨15, _⟩ => ⟨S128x128, .f32⟩
  | .hbm, ⟨16, _⟩ => ⟨S128x256, .f32⟩
  | .hbm, ⟨17, _⟩ => ⟨S128x256, .f32⟩
  | .hbm, ⟨18, _⟩ => ⟨S256x256, .f32⟩
  | .hbm, ⟨19, _⟩ => ⟨S1x1x128x128, .f32⟩
  | .hbm, ⟨20, _⟩ => ⟨S128x128, .f32⟩
  | .hbm, ⟨21, _⟩ => ⟨S1x1x128x128, .f32⟩
  | .hbm, ⟨22, _⟩ => ⟨S128x128, .f32⟩
  | .hbm, ⟨23, _⟩ => ⟨S128x256, .f32⟩
  | .hbm, ⟨24, _⟩ => ⟨S128x256, .f32⟩
  | .hbm, ⟨25, _⟩ => ⟨S256x256, .f32⟩
  | .hbm, ⟨26, _⟩ => ⟨S1x256x256, .f32⟩
  | .hbm, ⟨27, _⟩ => ⟨S1x256x256, .f32⟩
  | .hbm, ⟨28, _⟩ => ⟨S2x256x256, .f32⟩
  | .hbm, ⟨29, _⟩ => ⟨S2x256x256, .bf16⟩
  | .hbm, ⟨30, _⟩ => ⟨S64, .f32⟩
  | .hbm, ⟨31, _⟩ => ⟨S1x64, .f32⟩
  | .hbm, ⟨32, _⟩ => ⟨S8x64, .f32⟩
  | .hbm, ⟨33, _⟩ => ⟨S512, .f32⟩
  | .hbm, ⟨34, _⟩ => ⟨S1x512, .f32⟩
  | .hbm, ⟨35, _⟩ => ⟨S_, .f32⟩
  | .hbm, ⟨36, _⟩ => ⟨S1x512, .f32⟩
  | .hbm, ⟨37, _⟩ => ⟨S1x512, .f32⟩
  | .hbm, ⟨38, _⟩ => ⟨S64, .f32⟩
  | .hbm, ⟨39, _⟩ => ⟨S1x64, .f32⟩
  | .hbm, ⟨40, _⟩ => ⟨S2x64, .f32⟩
  | .hbm, ⟨41, _⟩ => ⟨S128, .f32⟩
  | .hbm, ⟨42, _⟩ => ⟨S1x128, .f32⟩
  | .hbm, ⟨43, _⟩ => ⟨S1024, .f32⟩
  | .hbm, ⟨44, _⟩ => ⟨S1x1024, .f32⟩
  | .hbm, ⟨45, _⟩ => ⟨S512, .f32⟩
  | .hbm, ⟨46, _⟩ => ⟨S1x512, .f32⟩
  | .hbm, ⟨47, _⟩ => ⟨S8x1x3072, .f32⟩
  | .hbm, ⟨48, _⟩ => ⟨S16384x512, .bf16⟩
  | .hbm, ⟨49, _⟩ => ⟨S8x128x2048, .f32⟩
  | .hbm, ⟨50, _⟩ => ⟨S2x16384x128, .bf16⟩
  | .hbm, ⟨51, _⟩ => ⟨S8x128x2048, .f32⟩
  | .hbm, ⟨52, _⟩ => ⟨S8x2x8x80x256, .bf16⟩
  | .hbm, ⟨53, _⟩ => ⟨S16384x512, .bf16⟩
  | .hbm, ⟨54, _⟩ => ⟨S8x64x2048, .f32⟩
  | .hbm, ⟨55, _⟩ => ⟨S16384x128, .bf16⟩
  | .hbm, ⟨56, _⟩ => ⟨S128x8x128, .f32⟩
  | .hbm, ⟨57, _⟩ => ⟨S16384x512, .bf16⟩
  | .hbm, ⟨58, _⟩ => ⟨S16384x512, .bf16⟩
  | .hbm, ⟨59, _⟩ => ⟨S8x16x512, .f32⟩
  | .hbm, ⟨60, _⟩ => ⟨S1024x2944, .bf16⟩
  | .local _ .vmem, ⟨0, _⟩ => ⟨S1x512x1024, .f32⟩
  | .local _ .vmem, ⟨1, _⟩ => ⟨S1x512x1024, .f32⟩
  | .local _ .vmem, ⟨2, _⟩ => ⟨S1x1x3072, .f32⟩
  | .local _ .vmem, ⟨3, _⟩ => ⟨S1x1x3072, .f32⟩
  | .local _ .vmem, ⟨4, _⟩ => ⟨S1x1024, .f32⟩
  | .local _ .vmem, ⟨5, _⟩ => ⟨S2888x1024, .f32⟩
  | .local _ .vmem, ⟨6, _⟩ => ⟨S1x512, .f32⟩
  | .local _ .vmem, ⟨7, _⟩ => ⟨S1x128, .f32⟩
  | .local _ .vmem, ⟨8, _⟩ => ⟨S2x256x256, .bf16⟩
  | .local _ .vmem, ⟨9, _⟩ => ⟨S1x512, .f32⟩
  | .local _ .vmem, ⟨10, _⟩ => ⟨S512x512, .bf16⟩
  | .local _ .vmem, ⟨11, _⟩ => ⟨S512x512, .bf16⟩
  | .local _ .vmem, ⟨12, _⟩ => ⟨S1x128x512, .f32⟩
  | .local _ .vmem, ⟨13, _⟩ => ⟨S1x128x512, .f32⟩
  | .local _ .vmem, ⟨14, _⟩ => ⟨S2x512x128, .bf16⟩
  | .local _ .vmem, ⟨15, _⟩ => ⟨S2x512x128, .bf16⟩
  | .local _ .vmem, ⟨16, _⟩ => ⟨S1x128x512, .f32⟩
  | .local _ .vmem, ⟨17, _⟩ => ⟨S1x128x512, .f32⟩
  | .local _ .vmem, ⟨18, _⟩ => ⟨S1x2x2x80x256, .bf16⟩
  | .local _ .vmem, ⟨19, _⟩ => ⟨S1x2x2x80x256, .bf16⟩
  | .local _ .vmem, ⟨20, _⟩ => ⟨S512x512, .bf16⟩
  | .local _ .vmem, ⟨21, _⟩ => ⟨S512x512, .bf16⟩
  | .local _ .vmem, ⟨22, _⟩ => ⟨S1x64x512, .f32⟩
  | .local _ .vmem, ⟨23, _⟩ => ⟨S1x64x512, .f32⟩
  | .local _ .vmem, ⟨24, _⟩ => ⟨S512x128, .bf16⟩
  | .local _ .vmem, ⟨25, _⟩ => ⟨S512x128, .bf16⟩
  | .local _ .vmem, ⟨26, _⟩ => ⟨S4x8x128, .f32⟩
  | .local _ .vmem, ⟨27, _⟩ => ⟨S4x8x128, .f32⟩
  | .local _ .vmem, ⟨28, _⟩ => ⟨S512x512, .bf16⟩
  | .local _ .vmem, ⟨29, _⟩ => ⟨S512x512, .bf16⟩
  | .local _ .vmem, ⟨30, _⟩ => ⟨S512x512, .bf16⟩
  | .local _ .vmem, ⟨31, _⟩ => ⟨S512x512, .bf16⟩
  | .local _ .vmem, ⟨32, _⟩ => ⟨S1x16x512, .f32⟩
  | .local _ .vmem, ⟨33, _⟩ => ⟨S1x16x512, .f32⟩
  | .local _ .vmem, ⟨34, _⟩ => ⟨S1024x2944, .bf16⟩
  | .local _ .vmem, ⟨35, _⟩ => ⟨S528x512, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_call0_v0 : Ref sig .tc := ⟨.hbm, 16, rfl⟩
abbrev main_call0_v1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_call1_v0 : Ref sig .tc := ⟨.hbm, 23, rfl⟩
abbrev main_call1_v1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_0 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34_0 : Ref sig .tc := ⟨.hbm, 48, rfl⟩
abbrev main_v34_1 : Ref sig .tc := ⟨.hbm, 49, rfl⟩
abbrev main_v34_2 : Ref sig .tc := ⟨.hbm, 50, rfl⟩
abbrev main_v34_3 : Ref sig .tc := ⟨.hbm, 51, rfl⟩
abbrev main_v34_4 : Ref sig .tc := ⟨.hbm, 52, rfl⟩
abbrev main_v34_5 : Ref sig .tc := ⟨.hbm, 53, rfl⟩
abbrev main_v34_6 : Ref sig .tc := ⟨.hbm, 54, rfl⟩
abbrev main_v34_7 : Ref sig .tc := ⟨.hbm, 55, rfl⟩
abbrev main_v34_8 : Ref sig .tc := ⟨.hbm, 56, rfl⟩
abbrev main_v34_9 : Ref sig .tc := ⟨.hbm, 57, rfl⟩
abbrev main_v34_10 : Ref sig .tc := ⟨.hbm, 58, rfl⟩
abbrev main_v34_11 : Ref sig .tc := ⟨.hbm, 59, rfl⟩
abbrev main_v34_12 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_scratch0 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_13 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_15 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_18 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S2888x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x128x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x2x2x80x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x64x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S512x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S4x8x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S512x512 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x16x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]

abbrev stage0_20 : Fin 1 → Memref sig .tc .vmem S1024x2944 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]
-- ==== ReferenceIdeal.lean ====
abbrev S8x2048x1024 : Shape := ⟨3, ![8, 2048, 1024]⟩
abbrev S8x3072 : Shape := ⟨2, ![8, 3072]⟩
abbrev S1x1024 : Shape := ⟨2, ![1, 1024]⟩
abbrev S1x1024x2888 : Shape := ⟨3, ![1, 1024, 2888]⟩
abbrev S1x64 : Shape := ⟨2, ![1, 64]⟩
abbrev S1x4x128x128 : Shape := ⟨4, ![1, 4, 128, 128]⟩
abbrev S1x512 : Shape := ⟨2, ![1, 512]⟩
abbrev S8x1024 : Shape := ⟨2, ![8, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x1x1024 : Shape := ⟨3, ![8, 1, 1024]⟩
abbrev S1024x2888 : Shape := ⟨2, ![1024, 2888]⟩
abbrev S8x2048x2888 : Shape := ⟨3, ![8, 2048, 2888]⟩
abbrev S8x2048x512 : Shape := ⟨3, ![8, 2048, 512]⟩
abbrev S8x2048x128 : Shape := ⟨3, ![8, 2048, 128]⟩
abbrev S8x2048x64 : Shape := ⟨3, ![8, 2048, 64]⟩
abbrev S8x2048x8 : Shape := ⟨3, ![8, 2048, 8]⟩
abbrev S8x2048x8x64 : Shape := ⟨4, ![8, 2048, 8, 64]⟩
abbrev S64 : Shape := ⟨1, ![64]⟩
abbrev S8x2048x8x1 : Shape := ⟨4, ![8, 2048, 8, 1]⟩
abbrev S1x1x1x64 : Shape := ⟨4, ![1, 1, 1, 64]⟩
abbrev S8x2048x2x64 : Shape := ⟨4, ![8, 2048, 2, 64]⟩
abbrev S8x2048x2 : Shape := ⟨3, ![8, 2048, 2]⟩
abbrev S8x2048x2x1 : Shape := ⟨4, ![8, 2048, 2, 1]⟩
abbrev S8x15x512 : Shape := ⟨3, ![8, 15, 512]⟩
abbrev S8x2063x512 : Shape := ⟨3, ![8, 2063, 512]⟩
abbrev S4x128x128 : Shape := ⟨3, ![4, 128, 128]⟩
abbrev S512 : Shape := ⟨1, ![512]⟩
abbrev S2048 : Shape := ⟨1, ![2048]⟩
abbrev S8x2063x128 : Shape := ⟨3, ![8, 2063, 128]⟩
abbrev S1x2048x1 : Shape := ⟨3, ![1, 2048, 1]⟩
abbrev S8x2048x1x128 : Shape := ⟨4, ![8, 2048, 1, 128]⟩
abbrev S8x2048x4x128 : Shape := ⟨4, ![8, 2048, 4, 128]⟩
abbrev S4x128x8x2048 : Shape := ⟨4, ![4, 128, 8, 2048]⟩
abbrev S1x1x512 : Shape := ⟨3, ![1, 1, 512]⟩
abbrev S16384x512 : Shape := ⟨2, ![16384, 512]⟩
abbrev S8x128x2048 : Shape := ⟨3, ![8, 128, 2048]⟩
abbrev S8x64x2048 : Shape := ⟨3, ![8, 64, 2048]⟩
abbrev S128x128x8 : Shape := ⟨3, ![128, 128, 8]⟩
abbrev S128x8x128 : Shape := ⟨3, ![128, 8, 128]⟩
abbrev S8x16x512 : Shape := ⟨3, ![8, 16, 512]⟩

abbrev nBuf : Space → Nat
  | .hbm => 249
  | .vmem => 0
  | .smem => 0
  | _ => 0

abbrev hbmTy0_0 (i : Nat) : BufTy := match i % 128 with
  | 0 => ⟨S8x2048x1024, .f32⟩
  | 1 => ⟨S8x3072, .f32⟩
  | 2 => ⟨S1x1024, .f32⟩
  | 3 => ⟨S1x1024x2888, .f32⟩
  | 4 => ⟨S1x64, .f32⟩
  | 5 => ⟨S1x64, .f32⟩
  | 6 => ⟨S1x4x128x128, .f32⟩
  | 7 => ⟨S1x512, .f32⟩
  | 8 => ⟨S8x1024, .f32⟩
  | 9 => ⟨S8x1024, .f32⟩
  | 10 => ⟨S8x1024, .f32⟩
  | 11 => ⟨S1024, .f32⟩
  | 12 => ⟨S8x2048x1024, .f32⟩
  | 13 => ⟨S_, .f32⟩
  | 14 => ⟨S8x2048, .f32⟩
  | 15 => ⟨S8x2048x1, .f32⟩
  | 16 => ⟨S_, .f32⟩
  | 17 => ⟨S8x2048x1, .f32⟩
  | 18 => ⟨S8x2048x1, .f32⟩
  | 19 => ⟨S_, .f32⟩
  | 20 => ⟨S8x2048x1, .f32⟩
  | 21 => ⟨S8x2048x1, .f32⟩
  | 22 => ⟨S8x2048x1, .f32⟩
  | 23 => ⟨S8x2048x1024, .f32⟩
  | 24 => ⟨S8x2048x1024, .f32⟩
  | 25 => ⟨S1x1x1024, .f32⟩
  | 26 => ⟨S8x2048x1024, .f32⟩
  | 27 => ⟨S8x2048x1024, .f32⟩
  | 28 => ⟨S8x1x1024, .f32⟩
  | 29 => ⟨S_, .f32⟩
  | 30 => ⟨S8x1x1024, .f32⟩
  | 31 => ⟨S8x1x1024, .f32⟩
  | 32 => ⟨S8x2048x1024, .f32⟩
  | 33 => ⟨S8x2048x1024, .f32⟩
  | 34 => ⟨S8x1x1024, .f32⟩
  | 35 => ⟨S8x2048x1024, .f32⟩
  | 36 => ⟨S8x2048x1024, .f32⟩
  | 37 => ⟨S1024x2888, .f32⟩
  | 38 => ⟨S8x2048x2888, .f32⟩
  | 39 => ⟨S8x2048x512, .f32⟩
  | 40 => ⟨S8x2048x128, .f32⟩
  | 41 => ⟨S8x2048x128, .f32⟩
  | 42 => ⟨S8x2048x512, .f32⟩
  | 43 => ⟨S8x2048x64, .f32⟩
  | 44 => ⟨S8x2048x8, .f32⟩
  | 45 => ⟨S8x2048x512, .f32⟩
  | 46 => ⟨S8x2048x512, .f32⟩
  | 47 => ⟨S8x2048x512, .f32⟩
  | 48 => ⟨S8x2048x8x64, .f32⟩
  | 49 => ⟨S64, .f32⟩
  | 50 => ⟨S8x2048x8x64, .f32⟩
  | 51 => ⟨S_, .f32⟩
  | 52 => ⟨S8x2048x8, .f32⟩
  | 53 => ⟨S8x2048x8x1, .f32⟩
  | 54 => ⟨S_, .f32⟩
  | 55 => ⟨S8x2048x8x1, .f32⟩
  | 56 => ⟨S8x2048x8x1, .f32⟩
  | 57 => ⟨S_, .f32⟩
  | 58 => ⟨S8x2048x8x1, .f32⟩
  | 59 => ⟨S8x2048x8x1, .f32⟩
  | 60 => ⟨S8x2048x8x1, .f32⟩
  | 61 => ⟨S8x2048x8x64, .f32⟩
  | 62 => ⟨S8x2048x8x64, .f32⟩
  | 63 => ⟨S1x1x1x64, .f32⟩
  | 64 => ⟨S8x2048x8x64, .f32⟩
  | 65 => ⟨S8x2048x8x64, .f32⟩
  | 66 => ⟨S_, .f32⟩
  | 67 => ⟨S8x2048x8x64, .f32⟩
  | 68 => ⟨S8x2048x8x64, .f32⟩
  | 69 => ⟨S8x2048x2x64, .f32⟩
  | 70 => ⟨S64, .f32⟩
  | 71 => ⟨S8x2048x2x64, .f32⟩
  | 72 => ⟨S_, .f32⟩
  | 73 => ⟨S8x2048x2, .f32⟩
  | 74 => ⟨S8x2048x2x1, .f32⟩
  | 75 => ⟨S_, .f32⟩
  | 76 => ⟨S8x2048x2x1, .f32⟩
  | 77 => ⟨S8x2048x2x1, .f32⟩
  | 78 => ⟨S_, .f32⟩
  | 79 => ⟨S8x2048x2x1, .f32⟩
  | 80 => ⟨S8x2048x2x1, .f32⟩
  | 81 => ⟨S8x2048x2x1, .f32⟩
  | 82 => ⟨S8x2048x2x64, .f32⟩
  | 83 => ⟨S8x2048x2x64, .f32⟩
  | 84 => ⟨S1x1x1x64, .f32⟩
  | 85 => ⟨S8x2048x2x64, .f32⟩
  | 86 => ⟨S8x2048x2x64, .f32⟩
  | 87 => ⟨S_, .f32⟩
  | 88 => ⟨S8x2048x8, .f32⟩
  | 89 => ⟨S8x2048x8, .f32⟩
  | 90 => ⟨S_, .f32⟩
  | 91 => ⟨S8x15x512, .f32⟩
  | 92 => ⟨S8x2063x512, .f32⟩
  | 93 => ⟨S4x128x128, .f32⟩
  | 94 => ⟨S512, .f32⟩
  | 95 => ⟨S2048, .i32⟩
  | 96 => ⟨S8x2063x128, .f32⟩
  | 97 => ⟨S8x2048x128, .f32⟩
  | 98 => ⟨S8x2048x128, .f32⟩
  | 99 => ⟨S8x2048x128, .f32⟩
  | 100 => ⟨S_, .i32⟩
  | 101 => ⟨S2048, .i32⟩
  | 102 => ⟨S2048, .i32⟩
  | 103 => ⟨S_, .i32⟩
  | 104 => ⟨S2048, .i32⟩
  | 105 => ⟨S2048, .i32⟩
  | 106 => ⟨S2048, .f32⟩
  | 107 => ⟨S1x2048x1, .f32⟩
  | 108 => ⟨S8x2048x128, .f32⟩
  | 109 => ⟨S8x2048x128, .f32⟩
  | 110 => ⟨S8x2048x128, .f32⟩
  | 111 => ⟨S8x2048x128, .f32⟩
  | 112 => ⟨S8x2063x128, .f32⟩
  | 113 => ⟨S8x2048x128, .f32⟩
  | 114 => ⟨S8x2048x128, .f32⟩
  | 115 => ⟨S8x2048x128, .f32⟩
  | 116 => ⟨S8x2048x128, .f32⟩
  | 117 => ⟨S8x2048x128, .f32⟩
  | 118 => ⟨S8x2048x128, .f32⟩
  | 119 => ⟨S8x2048x128, .f32⟩
  | 120 => ⟨S_, .i32⟩
  | 121 => ⟨S2048, .i32⟩
  | 122 => ⟨S2048, .i32⟩
  | 123 => ⟨S_, .i32⟩
  | 124 => ⟨S2048, .i32⟩
  | 125 => ⟨S2048, .i32⟩
  | 126 => ⟨S2048, .f32⟩
  | 127 => ⟨S1x2048x1, .f32⟩
  | _ => ⟨S8x2048x1024, .f32⟩

abbrev hbmTy0_1 (i : Nat) : BufTy := match i % 128 with
  | 0 => ⟨S8x2048x128, .f32⟩
  | 1 => ⟨S8x2048x128, .f32⟩
  | 2 => ⟨S8x2048x128, .f32⟩
  | 3 => ⟨S8x2048x128, .f32⟩
  | 4 => ⟨S8x2063x128, .f32⟩
  | 5 => ⟨S8x2048x128, .f32⟩
  | 6 => ⟨S8x2048x128, .f32⟩
  | 7 => ⟨S8x2048x128, .f32⟩
  | 8 => ⟨S8x2048x128, .f32⟩
  | 9 => ⟨S8x2048x128, .f32⟩
  | 10 => ⟨S8x2048x128, .f32⟩
  | 11 => ⟨S8x2048x128, .f32⟩
  | 12 => ⟨S8x2048x128, .f32⟩
  | 13 => ⟨S8x2048x128, .f32⟩
  | 14 => ⟨S8x2048x128, .f32⟩
  | 15 => ⟨S8x2048x128, .f32⟩
  | 16 => ⟨S8x2048x128, .f32⟩
  | 17 => ⟨S8x2048x128, .f32⟩
  | 18 => ⟨S8x2048x128, .f32⟩
  | 19 => ⟨S8x2048x128, .f32⟩
  | 20 => ⟨S_, .i32⟩
  | 21 => ⟨S2048, .i32⟩
  | 22 => ⟨S2048, .i32⟩
  | 23 => ⟨S_, .i32⟩
  | 24 => ⟨S2048, .i32⟩
  | 25 => ⟨S2048, .i32⟩
  | 26 => ⟨S2048, .f32⟩
  | 27 => ⟨S1x2048x1, .f32⟩
  | 28 => ⟨S8x2048x128, .f32⟩
  | 29 => ⟨S8x2048x128, .f32⟩
  | 30 => ⟨S8x2048x128, .f32⟩
  | 31 => ⟨S8x2048x128, .f32⟩
  | 32 => ⟨S8x2063x128, .f32⟩
  | 33 => ⟨S8x2048x128, .f32⟩
  | 34 => ⟨S8x2048x128, .f32⟩
  | 35 => ⟨S8x2048x128, .f32⟩
  | 36 => ⟨S8x2048x128, .f32⟩
  | 37 => ⟨S8x2048x128, .f32⟩
  | 38 => ⟨S8x2048x128, .f32⟩
  | 39 => ⟨S8x2048x128, .f32⟩
  | 40 => ⟨S8x2048x128, .f32⟩
  | 41 => ⟨S8x2048x128, .f32⟩
  | 42 => ⟨S8x2048x128, .f32⟩
  | 43 => ⟨S8x2048x128, .f32⟩
  | 44 => ⟨S8x2048x128, .f32⟩
  | 45 => ⟨S8x2048x128, .f32⟩
  | 46 => ⟨S8x2048x128, .f32⟩
  | 47 => ⟨S8x2048x128, .f32⟩
  | 48 => ⟨S8x2048x128, .f32⟩
  | 49 => ⟨S8x2048x128, .f32⟩
  | 50 => ⟨S8x2048x128, .f32⟩
  | 51 => ⟨S8x2048x128, .f32⟩
  | 52 => ⟨S8x2048x128, .f32⟩
  | 53 => ⟨S8x2048x128, .f32⟩
  | 54 => ⟨S8x2048x128, .f32⟩
  | 55 => ⟨S8x2048x128, .f32⟩
  | 56 => ⟨S8x2048x128, .f32⟩
  | 57 => ⟨S8x2048x128, .f32⟩
  | 58 => ⟨S8x2048x128, .f32⟩
  | 59 => ⟨S8x2048x128, .f32⟩
  | 60 => ⟨S8x2048x128, .f32⟩
  | 61 => ⟨S8x2048x128, .f32⟩
  | 62 => ⟨S8x2048x128, .f32⟩
  | 63 => ⟨S8x2048x128, .f32⟩
  | 64 => ⟨S_, .i32⟩
  | 65 => ⟨S2048, .i32⟩
  | 66 => ⟨S2048, .i32⟩
  | 67 => ⟨S_, .i32⟩
  | 68 => ⟨S2048, .i32⟩
  | 69 => ⟨S2048, .i32⟩
  | 70 => ⟨S2048, .f32⟩
  | 71 => ⟨S1x2048x1, .f32⟩
  | 72 => ⟨S8x2048x128, .f32⟩
  | 73 => ⟨S8x2048x128, .f32⟩
  | 74 => ⟨S8x2048x128, .f32⟩
  | 75 => ⟨S8x2048x128, .f32⟩
  | 76 => ⟨S8x2048x1x128, .f32⟩
  | 77 => ⟨S8x2048x1x128, .f32⟩
  | 78 => ⟨S8x2048x1x128, .f32⟩
  | 79 => ⟨S8x2048x1x128, .f32⟩
  | 80 => ⟨S8x2048x4x128, .f32⟩
  | 81 => ⟨S4x128x8x2048, .f32⟩
  | 82 => ⟨S8x2048x4x128, .f32⟩
  | 83 => ⟨S8x2048x512, .f32⟩
  | 84 => ⟨S1x1x512, .f32⟩
  | 85 => ⟨S8x2048x512, .f32⟩
  | 86 => ⟨S8x2048x512, .f32⟩
  | 87 => ⟨S8x2048x512, .f32⟩
  | 88 => ⟨S8x2048x512, .f32⟩
  | 89 => ⟨S_, .f32⟩
  | 90 => ⟨S8x2048x512, .f32⟩
  | 91 => ⟨S8x2048x512, .f32⟩
  | 92 => ⟨S_, .f32⟩
  | 93 => ⟨S8x2048x512, .f32⟩
  | 94 => ⟨S8x2048x512, .f32⟩
  | 95 => ⟨S8x2048x512, .f32⟩
  | 96 => ⟨S8x2048x512, .f32⟩
  | 97 => ⟨S16384x512, .f32⟩
  | 98 => ⟨S16384x512, .bf16⟩
  | 99 => ⟨S8x2048x128, .f32⟩
  | 100 => ⟨S8x128x2048, .f32⟩
  | 101 => ⟨S8x128x2048, .f32⟩
  | 102 => ⟨S16384x512, .f32⟩
  | 103 => ⟨S16384x512, .bf16⟩
  | 104 => ⟨S8x64x2048, .f32⟩
  | 105 => ⟨S128x128x8, .f32⟩
  | 106 => ⟨S128x8x128, .f32⟩
  | 107 => ⟨S8x2048x512, .f32⟩
  | 108 => ⟨S8x2048x512, .f32⟩
  | 109 => ⟨S_, .f32⟩
  | 110 => ⟨S8x2048x512, .f32⟩
  | 111 => ⟨S8x2048x512, .f32⟩
  | 112 => ⟨S_, .f32⟩
  | 113 => ⟨S8x2048x512, .f32⟩
  | 114 => ⟨S8x2048x512, .f32⟩
  | 115 => ⟨S8x2048x512, .f32⟩
  | 116 => ⟨S16384x512, .f32⟩
  | 117 => ⟨S16384x512, .bf16⟩
  | 118 => ⟨S16384x512, .f32⟩
  | 119 => ⟨S16384x512, .bf16⟩
  | 120 => ⟨S8x16x512, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_3 : Ref sig .tc := ⟨.hbm, 51, rfl⟩
abbrev main_v39 : Ref sig .tc := ⟨.hbm, 52, rfl⟩
abbrev main_v40 : Ref sig .tc := ⟨.hbm, 53, rfl⟩
abbrev main_cst_4 : Ref sig .tc := ⟨.hbm, 54, rfl⟩
abbrev main_v41 : Ref sig .tc := ⟨.hbm, 55, rfl⟩
abbrev main_v42 : Ref sig .tc := ⟨.hbm, 56, rfl⟩
abbrev main_cst_5 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_6 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_7 : Ref sig .tc := ⟨.hbm, 72, rfl⟩
abbrev main_v56 : Ref sig .tc := ⟨.hbm, 73, rfl⟩
abbrev main_v57 : Ref sig .tc := ⟨.hbm, 74, rfl⟩
abbrev main_cst_8 : Ref sig .tc := ⟨.hbm, 75, rfl⟩
abbrev main_v58 : Ref sig .tc := ⟨.hbm, 76, rfl⟩
abbrev main_v59 : Ref sig .tc := ⟨.hbm, 77, rfl⟩
abbrev main_cst_9 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_10 : Ref sig .tc := ⟨.hbm, 87, rfl⟩
abbrev main_v68 : Ref sig .tc := ⟨.hbm, 88, rfl⟩
abbrev main_v69 : Ref sig .tc := ⟨.hbm, 89, rfl⟩
abbrev main_cst_11 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_c : Ref sig .tc := ⟨.hbm, 100, rfl⟩
abbrev main_v79 : Ref sig .tc := ⟨.hbm, 101, rfl⟩
abbrev main_v80 : Ref sig .tc := ⟨.hbm, 102, rfl⟩
abbrev main_c_12 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_c_13 : Ref sig .tc := ⟨.hbm, 120, rfl⟩
abbrev main_v97 : Ref sig .tc := ⟨.hbm, 121, rfl⟩
abbrev main_v98 : Ref sig .tc := ⟨.hbm, 122, rfl⟩
abbrev main_c_14 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_c_15 : Ref sig .tc := ⟨.hbm, 148, rfl⟩
abbrev main_v123 : Ref sig .tc := ⟨.hbm, 149, rfl⟩
abbrev main_v124 : Ref sig .tc := ⟨.hbm, 150, rfl⟩
abbrev main_c_16 : Ref sig .tc := ⟨.hbm, 151, rfl⟩
abbrev main_v125 : Ref sig .tc := ⟨.hbm, 152, rfl⟩
abbrev main_v126 : Ref sig .tc := ⟨.hbm, 153, rfl⟩
abbrev main_v127 : Ref sig .tc := ⟨.hbm, 154, rfl⟩
abbrev main_v128 : Ref sig .tc := ⟨.hbm, 155, rfl⟩
abbrev main_v129 : Ref sig .tc := ⟨.hbm, 156, rfl⟩
abbrev main_v130 : Ref sig .tc := ⟨.hbm, 157, rfl⟩
abbrev main_v131 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩
abbrev main_v137 : Ref sig .tc := ⟨.hbm, 164, rfl⟩
abbrev main_v138 : Ref sig .tc := ⟨.hbm, 165, rfl⟩
abbrev main_v139 : Ref sig .tc := ⟨.hbm, 166, rfl⟩
abbrev main_v140 : Ref sig .tc := ⟨.hbm, 167, rfl⟩
abbrev main_v141 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩
abbrev main_v149 : Ref sig .tc := ⟨.hbm, 176, rfl⟩
abbrev main_v150 : Ref sig .tc := ⟨.hbm, 177, rfl⟩
abbrev main_v151 : Ref sig .tc := ⟨.hbm, 178, rfl⟩
abbrev main_v152 : Ref sig .tc := ⟨.hbm, 179, rfl⟩
abbrev main_v153 : Ref sig .tc := ⟨.hbm, 180, rfl⟩
abbrev main_v154 : Ref sig .tc := ⟨.hbm, 181, rfl⟩
abbrev main_v155 : Ref sig .tc := ⟨.hbm, 182, rfl⟩
abbrev main_v156 : Ref sig .tc := ⟨.hbm, 183, rfl⟩
abbrev main_v157 : Ref sig .tc := ⟨.hbm, 184, rfl⟩
abbrev main_v158 : Ref sig .tc := ⟨.hbm, 185, rfl⟩
abbrev main_v159 : Ref sig .tc := ⟨.hbm, 186, rfl⟩
abbrev main_v160 : Ref sig .tc := ⟨.hbm, 187, rfl⟩
abbrev main_v161 : Ref sig .tc := ⟨.hbm, 188, rfl⟩
abbrev main_v162 : Ref sig .tc := ⟨.hbm, 189, rfl⟩
abbrev main_v163 : Ref sig .tc := ⟨.hbm, 190, rfl⟩
abbrev main_v164 : Ref sig .tc := ⟨.hbm, 191, rfl⟩
abbrev main_c_17 : Ref sig .tc := ⟨.hbm, 192, rfl⟩
abbrev main_v165 : Ref sig .tc := ⟨.hbm, 193, rfl⟩
abbrev main_v166 : Ref sig .tc := ⟨.hbm, 194, rfl⟩
abbrev main_c_18 : Ref sig .tc := ⟨.hbm, 195, rfl⟩
abbrev main_v167 : Ref sig .tc := ⟨.hbm, 196, rfl⟩
abbrev main_v168 : Ref sig .tc := ⟨.hbm, 197, rfl⟩
abbrev main_v169 : Ref sig .tc := ⟨.hbm, 198, rfl⟩
abbrev main_v170 : Ref sig .tc := ⟨.hbm, 199, rfl⟩
abbrev main_v171 : Ref sig .tc := ⟨.hbm, 200, rfl⟩
abbrev main_v172 : Ref sig .tc := ⟨.hbm, 201, rfl⟩
abbrev main_v173 : Ref sig .tc := ⟨.hbm, 202, rfl⟩
abbrev main_v174 : Ref sig .tc := ⟨.hbm, 203, rfl⟩
abbrev main_v175 : Ref sig .tc := ⟨.hbm, 204, rfl⟩
abbrev main_v176 : Ref sig .tc := ⟨.hbm, 205, rfl⟩
abbrev main_v177 : Ref sig .tc := ⟨.hbm, 206, rfl⟩
abbrev main_v178 : Ref sig .tc := ⟨.hbm, 207, rfl⟩
abbrev main_v179 : Ref sig .tc := ⟨.hbm, 208, rfl⟩
abbrev main_v180 : Ref sig .tc := ⟨.hbm, 209, rfl⟩
abbrev main_v181 : Ref sig .tc := ⟨.hbm, 210, rfl⟩
abbrev main_v182 : Ref sig .tc := ⟨.hbm, 211, rfl⟩
abbrev main_v183 : Ref sig .tc := ⟨.hbm, 212, rfl⟩
abbrev main_v184 : Ref sig .tc := ⟨.hbm, 213, rfl⟩
abbrev main_v185 : Ref sig .tc := ⟨.hbm, 214, rfl⟩
abbrev main_call0_v0 : Ref sig .tc := ⟨.hbm, 215, rfl⟩
abbrev main_call0_v1 : Ref sig .tc := ⟨.hbm, 216, rfl⟩
abbrev main_call0_cst : Ref sig .tc := ⟨.hbm, 217, rfl⟩
abbrev main_call0_v2 : Ref sig .tc := ⟨.hbm, 218, rfl⟩
abbrev main_call0_v3 : Ref sig .tc := ⟨.hbm, 219, rfl⟩
abbrev main_call0_cst_0 : Ref sig .tc := ⟨.hbm, 220, rfl⟩
abbrev main_call0_v4 : Ref sig .tc := ⟨.hbm, 221, rfl⟩
abbrev main_call0_v5 : Ref sig .tc := ⟨.hbm, 222, rfl⟩
abbrev main_v186 : Ref sig .tc := ⟨.hbm, 223, rfl⟩
abbrev main_v187 : Ref sig .tc := ⟨.hbm, 224, rfl⟩
abbrev main_v188 : Ref sig .tc := ⟨.hbm, 225, rfl⟩
abbrev main_v189 : Ref sig .tc := ⟨.hbm, 226, rfl⟩
abbrev main_v190 : Ref sig .tc := ⟨.hbm, 227, rfl⟩
abbrev main_v191 : Ref sig .tc := ⟨.hbm, 228, rfl⟩
abbrev main_v192 : Ref sig .tc := ⟨.hbm, 229, rfl⟩
abbrev main_v193 : Ref sig .tc := ⟨.hbm, 230, rfl⟩
abbrev main_v194 : Ref sig .tc := ⟨.hbm, 231, rfl⟩
abbrev main_v195 : Ref sig .tc := ⟨.hbm, 232, rfl⟩
abbrev main_v196 : Ref sig .tc := ⟨.hbm, 233, rfl⟩
abbrev main_v197 : Ref sig .tc := ⟨.hbm, 234, rfl⟩
abbrev main_call1_v0 : Ref sig .tc := ⟨.hbm, 235, rfl⟩
abbrev main_call1_v1 : Ref sig .tc := ⟨.hbm, 236, rfl⟩
abbrev main_call1_cst : Ref sig .tc := ⟨.hbm, 237, rfl⟩
abbrev main_call1_v2 : Ref sig .tc := ⟨.hbm, 238, rfl⟩
abbrev main_call1_v3 : Ref sig .tc := ⟨.hbm, 239, rfl⟩
abbrev main_call1_cst_0 : Ref sig .tc := ⟨.hbm, 240, rfl⟩
abbrev main_call1_v4 : Ref sig .tc := ⟨.hbm, 241, rfl⟩
abbrev main_call1_v5 : Ref sig .tc := ⟨.hbm, 242, rfl⟩
abbrev main_v198 : Ref sig .tc := ⟨.hbm, 243, rfl⟩
abbrev main_v199 : Ref sig .tc := ⟨.hbm, 244, rfl⟩
abbrev main_v200 : Ref sig .tc := ⟨.hbm, 245, rfl⟩
abbrev main_v201 : Ref sig .tc := ⟨.hbm, 246, rfl⟩
abbrev main_v202 : Ref sig .tc := ⟨.hbm, 247, rfl⟩
abbrev main_v203 : Ref sig .tc := ⟨.hbm, 248, rfl⟩

abbrev nD : Nat := 1
abbrev τ : Topo := Topo.v7x

variable {F : FTy → Type} [FloatOps F]
-- ==== Out.lean ====
abbrev S8x2048x1024 : Shape := ⟨3, ![8, 2048, 1024]⟩
abbrev S16384x512 : Shape := ⟨2, ![16384, 512]⟩
abbrev S8x3072 : Shape := ⟨2, ![8, 3072]⟩
abbrev S1x1024x1024 : Shape := ⟨3, ![1, 1024, 1024]⟩
abbrev S1024x1024 : Shape := ⟨2, ![1024, 1024]⟩
abbrev S8x1x3072 : Shape := ⟨3, ![8, 1, 3072]⟩
abbrev S1024x512 : Shape := ⟨2, ![1024, 512]⟩
abbrev S1x1x1024 : Shape := ⟨3, ![1, 1, 1024]⟩
abbrev S512x1024 : Shape := ⟨2, ![512, 1024]⟩
abbrev S1x1024 : Shape := ⟨2, ![1, 1024]⟩

abbrev nBuf : Space → Nat
  | .hbm => 9
  | .vmem => 11
  | .smem => 0
  | _ => 0

abbrev bufTy : (tb : Table) → Fin (tcTables nBuf tb) → BufTy
  | .hbm, ⟨0, _⟩ => ⟨S8x2048x1024, .f32⟩
  | .hbm, ⟨1, _⟩ => ⟨S16384x512, .bf16⟩
  | .hbm, ⟨2, _⟩ => ⟨S16384x512, .bf16⟩
  | .hbm, ⟨3, _⟩ => ⟨S8x3072, .f32⟩
  | .hbm, ⟨4, _⟩ => ⟨S1x1024x1024, .f32⟩
  | .hbm, ⟨5, _⟩ => ⟨S1024x1024, .f32⟩
  | .hbm, ⟨6, _⟩ => ⟨S1024x1024, .bf16⟩
  | .hbm, ⟨7, _⟩ => ⟨S8x1x3072, .f32⟩
  | .hbm, ⟨8, _⟩ => ⟨S8x2048x1024, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1x1x1024, .f32⟩
  | .local _ .vmem, ⟨7, _⟩ => ⟨S1x1x1024, .f32⟩
  | .local _ .vmem, ⟨8, _⟩ => ⟨S1024x1024, .bf16⟩
  | .local _ .vmem, ⟨9, _⟩ => ⟨S1x1024x1024, .f32⟩
  | .local _ .vmem, ⟨10, _⟩ => ⟨S1x1024x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OutRefIdeal.lean ====
abbrev S8x2048x1024 : Shape := ⟨3, ![8, 2048, 1024]⟩
abbrev S16384x512 : Shape := ⟨2, ![16384, 512]⟩
abbrev S8x3072 : Shape := ⟨2, ![8, 3072]⟩
abbrev S1x1024x1024 : Shape := ⟨3, ![1, 1024, 1024]⟩
abbrev S8x1024 : Shape := ⟨2, ![8, 1024]⟩
abbrev S8x2048x512 : Shape := ⟨3, ![8, 2048, 512]⟩
abbrev S1024x1024 : Shape := ⟨2, ![1024, 1024]⟩
abbrev S8x1x1024 : Shape := ⟨3, ![8, 1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S16384x512, .bf16⟩
  | .hbm, ⟨2, _⟩ => ⟨S16384x512, .bf16⟩
  | .hbm, ⟨3, _⟩ => ⟨S8x3072, .f32⟩
  | .hbm, ⟨4, _⟩ => ⟨S1x1024x1024, .f32⟩
  | .hbm, ⟨5, _⟩ => ⟨S8x1024, .f32⟩
  | .hbm, ⟨6, _⟩ => ⟨S8x1024, .f32⟩
  | .hbm, ⟨7, _⟩ => ⟨S8x1024, .f32⟩
  | .hbm, ⟨8, _⟩ => ⟨S8x2048x512, .bf16⟩
  | .hbm, ⟨9, _⟩ => ⟨S8x2048x512, .f32⟩
  | .hbm, ⟨10, _⟩ => ⟨S8x2048x512, .bf16⟩
  | .hbm, ⟨11, _⟩ => ⟨S8x2048x512, .f32⟩
  | .hbm, ⟨12, _⟩ => ⟨S8x2048x1024, .f32⟩
  | .hbm, ⟨13, _⟩ => ⟨S1024x1024, .f32⟩
  | .hbm, ⟨14, _⟩ => ⟨S8x2048x1024, .f32⟩
  | .hbm, ⟨15, _⟩ => ⟨S8x1x1024, .f32⟩
  | .hbm, ⟨16, _⟩ => ⟨S8x2048x1024, .f32⟩
  | .hbm, ⟨17, _⟩ => ⟨S8x2048x1024, .f32⟩
  | .hbm, ⟨18, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== OutS.lean ====
abbrev S128x1x1024 : Shape := ⟨3, ![128, 1, 1024]⟩
abbrev S128x1024 : Shape := ⟨2, ![128, 1024]⟩
abbrev S128x512 : Shape := ⟨2, ![128, 512]⟩
abbrev S128x3072 : Shape := ⟨2, ![128, 3072]⟩
abbrev S1x1024x1024 : Shape := ⟨3, ![1, 1024, 1024]⟩
abbrev S1024x1024 : Shape := ⟨2, ![1024, 1024]⟩
abbrev S128x128 : Shape := ⟨2, ![128, 128]⟩
abbrev S512x1024 : Shape := ⟨2, ![512, 1024]⟩

abbrev nBuf : Space → Nat
  | .hbm => 10
  | .vmem => 7
  | .smem => 0
  | _ => 0

abbrev bufTy : (tb : Table) → Fin (tcTables nBuf tb) → BufTy
  | .hbm, ⟨0, _⟩ => ⟨S128x1x1024, .f32⟩
  | .hbm, ⟨1, _⟩ => ⟨S128x1024, .f32⟩
  | .hbm, ⟨2, _⟩ => ⟨S128x512, .bf16⟩
  | .hbm, ⟨3, _⟩ => ⟨S128x512, .bf16⟩
  | .hbm, ⟨4, _⟩ => ⟨S128x3072, .f32⟩
  | .hbm, ⟨5, _⟩ => ⟨S1x1024x1024, .f32⟩
  | .hbm, ⟨6, _⟩ => ⟨S128x1024, .f32⟩
  | .hbm, ⟨7, _⟩ => ⟨S1024x1024, .f32⟩
  | .hbm, ⟨8, _⟩ => ⟨S1024x1024, .bf16⟩
  | .hbm, ⟨9, _⟩ => ⟨S128x1024, .f32⟩
  | .local _ .vmem, ⟨0, _⟩ => ⟨S128x1024, .f32⟩
  | .local _ .vmem, ⟨1, _⟩ => ⟨S128x1024, .f32⟩
  | .local _ .vmem, ⟨2, _⟩ => ⟨S128x512, .bf16⟩
  | .local _ .vmem, ⟨3, _⟩ => ⟨S128x512, .bf16⟩
  | .local _ .vmem, ⟨4, _⟩ => ⟨S128x3072, .f32⟩
  | .local _ .vmem, ⟨5, _⟩ => ⟨S1024x1024, .bf16⟩
  | .local _ .vmem, ⟨6, _⟩ => ⟨S128x1024, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== OutSRefIdeal.lean ====
abbrev S128x1x1024 : Shape := ⟨3, ![128, 1, 1024]⟩
abbrev S128x1024 : Shape := ⟨2, ![128, 1024]⟩
abbrev S128x512 : Shape := ⟨2, ![128, 512]⟩
abbrev S128x3072 : Shape := ⟨2, ![128, 3072]⟩
abbrev S1x1024x1024 : Shape := ⟨3, ![1, 1024, 1024]⟩
abbrev S128x2x4x2x64 : Shape := ⟨5, ![128, 2, 4, 2, 64]⟩
abbrev S128x1x4x1x64 : Shape := ⟨5, ![128, 1, 4, 1, 64]⟩
abbrev S128x4x64 : Shape := ⟨3, ![128, 4, 64]⟩
abbrev S128x1x4x64 : Shape := ⟨4, ![128, 1, 4, 64]⟩
abbrev S128x2x4x64 : Shape := ⟨4, ![128, 2, 4, 64]⟩
abbrev S1024x1024 : Shape := ⟨2, ![1024, 1024]⟩

abbrev nBuf : Space → Nat
  | .hbm => 27
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S128x1024, .f32⟩
  | .hbm, ⟨2, _⟩ => ⟨S128x512, .bf16⟩
  | .hbm, ⟨3, _⟩ => ⟨S128x512, .bf16⟩
  | .hbm, ⟨4, _⟩ => ⟨S128x3072, .f32⟩
  | .hbm, ⟨5, _⟩ => ⟨S1x1024x1024, .f32⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S128x2x4x2x64, .f32⟩
  | .hbm, ⟨10, _⟩ => ⟨S128x1x4x1x64, .f32⟩
  | .hbm, ⟨11, _⟩ => ⟨S128x4x64, .f32⟩
  | .hbm, ⟨12, _⟩ => ⟨S128x1x4x1x64, .f32⟩
  | .hbm, ⟨13, _⟩ => ⟨S128x4x64, .f32⟩
  | .hbm, ⟨14, _⟩ => ⟨S128x1x4x64, .f32⟩
  | .hbm, ⟨15, _⟩ => ⟨S128x1x4x64, .f32⟩
  | .hbm, ⟨16, _⟩ => ⟨S128x2x4x64, .f32⟩
  | .hbm, ⟨17, _⟩ => ⟨S128x512, .f32⟩
  | .hbm, ⟨18, _⟩ => ⟨S128x512, .f32⟩
  | .hbm, ⟨19, _⟩ => ⟨S128x512, .f32⟩
  | .hbm, ⟨20, _⟩ => ⟨S128x512, .f32⟩
  | .hbm, ⟨21, _⟩ => ⟨S128x1024, .f32⟩
  | .hbm, ⟨22, _⟩ => ⟨S1024x1024, .f32⟩
  | .hbm, ⟨23, _⟩ => ⟨S128x1024, .f32⟩
  | .hbm, ⟨24, _⟩ => ⟨S128x1024, .f32⟩
  | .hbm, ⟨25, _⟩ => ⟨S128x1024, .f32⟩
  | .hbm, ⟨26, _⟩ => ⟨S128x1024, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== ProjS.lean ====
abbrev S128x1x1024 : Shape := ⟨3, ![128, 1, 1024]⟩
abbrev S128x3072 : Shape := ⟨2, ![128, 3072]⟩
abbrev S1x1024 : Shape := ⟨2, ![1, 1024]⟩
abbrev S1024x2944 : Shape := ⟨2, ![1024, 2944]⟩
abbrev S1x64 : Shape := ⟨2, ![1, 64]⟩
abbrev S1x4x128x128 : Shape := ⟨4, ![1, 4, 128, 128]⟩
abbrev S1x512 : Shape := ⟨2, ![1, 512]⟩
abbrev S1x128x15x512 : Shape := ⟨4, ![1, 128, 15, 512]⟩
abbrev S_ : Shape := ⟨0, ![]⟩
abbrev S128x128 : Shape := ⟨2, ![128, 128]⟩
abbrev S1x1x128x128 : Shape := ⟨4, ![1, 1, 128, 128]⟩
abbrev S128x256 : Shape := ⟨2, ![128, 256]⟩
abbrev S256x256 : Shape := ⟨2, ![256, 256]⟩
abbrev S1x256x256 : Shape := ⟨3, ![1, 256, 256]⟩
abbrev S2x256x256 : Shape := ⟨3, ![2, 256, 256]⟩
abbrev S64 : Shape := ⟨1, ![64]⟩
abbrev S8x64 : Shape := ⟨2, ![8, 64]⟩
abbrev S512 : Shape := ⟨1, ![512]⟩
abbrev S2x64 : Shape := ⟨2, ![2, 64]⟩
abbrev S128 : Shape := ⟨1, ![128]⟩
abbrev S1x128 : Shape := ⟨2, ![1, 128]⟩
abbrev S1024 : Shape := ⟨1, ![1024]⟩
abbrev S128x15x512 : Shape := ⟨3, ![128, 15, 512]⟩
abbrev S15x128x512 : Shape := ⟨3, ![15, 128, 512]⟩
abbrev S128x1024 : Shape := ⟨2, ![128, 1024]⟩
abbrev S128x64 : Shape := ⟨2, ![128, 64]⟩
abbrev S128x512 : Shape := ⟨2, ![128, 512]⟩
abbrev S128x8 : Shape := ⟨2, ![128, 8]⟩
abbrev S128x1 : Shape := ⟨2, ![128, 1]⟩
abbrev S512x128 : Shape := ⟨2, ![512, 128]⟩
abbrev S1024x512 : Shape := ⟨2, ![1024, 512]⟩
abbrev S1024x128 : Shape := ⟨2, ![1024, 128]⟩
abbrev S1x128x512 : Shape := ⟨3, ![1, 128, 512]⟩
abbrev S1x128x128 : Shape := ⟨3, ![1, 128, 128]⟩

abbrev nBuf : Space → Nat
  | .hbm => 60
  | .vmem => 20
  | .smem => 0
  | _ => 0

abbrev bufTy : (tb : Table) → Fin (tcTables nBuf tb) → BufTy
  | .hbm, ⟨0, _⟩ => ⟨S128x1x1024, .f32⟩
  | .hbm, ⟨1, _⟩ => ⟨S128x3072, .f32⟩
  | .hbm, ⟨2, _⟩ => ⟨S1x1024, .f32⟩
  | .hbm, ⟨3, _⟩ => ⟨S1024x2944, .bf16⟩
  | .hbm, ⟨4, _⟩ => ⟨S1x64, .f32⟩
  | .hbm, ⟨5, _⟩ => ⟨S1x64, .f32⟩
  | .hbm, ⟨6, _⟩ => ⟨S1x4x128x128, .f32⟩
  | .hbm, ⟨7, _⟩ => ⟨S1x512, .f32⟩
  | .hbm, ⟨8, _⟩ => ⟨S1x128x15x512, .f32⟩
  | .hbm, ⟨9, _⟩ => ⟨S_, .f32⟩
  | .hbm, ⟨10, _⟩ => ⟨S128x128, .f32⟩
  | .hbm, ⟨11, _⟩ => ⟨S1x1x128x128, .f32⟩
  | .hbm, ⟨12, _⟩ => ⟨S128x128, .f32⟩
  | .hbm, ⟨13, _⟩ => ⟨S1x1x128x128, .f32⟩
  | .hbm, ⟨14, _⟩ => ⟨S128x128, .f32⟩
  | .hbm, ⟨15, _⟩ => ⟨S128x256, .f32⟩
  | .hbm, ⟨16, _⟩ => ⟨S128x256, .f32⟩
  | .hbm, ⟨17, _⟩ => ⟨S256x256, .f32⟩
  | .hbm, ⟨18, _⟩ => ⟨S1x1x128x128, .f32⟩
  | .hbm, ⟨19, _⟩ => ⟨S128x128, .f32⟩
  | .hbm, ⟨20, _⟩ => ⟨S1x1x128x128, .f32⟩
  | .hbm, ⟨21, _⟩ => ⟨S128x128, .f32⟩
  | .hbm, ⟨22, _⟩ => ⟨S128x256, .f32⟩
  | .hbm, ⟨23, _⟩ => ⟨S128x256, .f32⟩
  | .hbm, ⟨24, _⟩ => ⟨S256x256, .f32⟩
  | .hbm, ⟨25, _⟩ => ⟨S1x256x256, .f32⟩
  | .hbm, ⟨26, _⟩ => ⟨S1x256x256, .f32⟩
  | .hbm, ⟨27, _⟩ => ⟨S2x256x256, .f32⟩
  | .hbm, ⟨28, _⟩ => ⟨S2x256x256, .bf16⟩
  | .hbm, ⟨29, _⟩ => ⟨S64, .f32⟩
  | .hbm, ⟨30, _⟩ => ⟨S1x64, .f32⟩
  | .hbm, ⟨31, _⟩ => ⟨S8x64, .f32⟩
  | .hbm, ⟨32, _⟩ => ⟨S512, .f32⟩
  | .hbm, ⟨33, _⟩ => ⟨S1x512, .f32⟩
  | .hbm, ⟨34, _⟩ => ⟨S_, .f32⟩
  | .hbm, ⟨35, _⟩ => ⟨S1x512, .f32⟩
  | .hbm, ⟨36, _⟩ => ⟨S1x512, .f32⟩
  | .hbm, ⟨37, _⟩ => ⟨S64, .f32⟩
  | .hbm, ⟨38, _⟩ => ⟨S1x64, .f32⟩
  | .hbm, ⟨39, _⟩ => ⟨S2x64, .f32⟩
  | .hbm, ⟨40, _⟩ => ⟨S128, .f32⟩
  | .hbm, ⟨41, _⟩ => ⟨S1x128, .f32⟩
  | .hbm, ⟨42, _⟩ => ⟨S1024, .f32⟩
  | .hbm, ⟨43, _⟩ => ⟨S1x1024, .f32⟩
  | .hbm, ⟨44, _⟩ => ⟨S512, .f32⟩
  | .hbm, ⟨45, _⟩ => ⟨S1x512, .f32⟩
  | .hbm, ⟨46, _⟩ => ⟨S128x15x512, .f32⟩
  | .hbm, ⟨47, _⟩ => ⟨S15x128x512, .f32⟩
  | .hbm, ⟨48, _⟩ => ⟨S128x1024, .f32⟩
  | .hbm, ⟨49, _⟩ => ⟨S128x1024, .bf16⟩
  | .hbm, ⟨50, _⟩ => ⟨S128x128, .f32⟩
  | .hbm, ⟨51, _⟩ => ⟨S128x128, .f32⟩
  | .hbm, ⟨52, _⟩ => ⟨S128x64, .f32⟩
  | .hbm, ⟨53, _⟩ => ⟨S128x512, .bf16⟩
  | .hbm, ⟨54, _⟩ => ⟨S128x8, .f32⟩
  | .hbm, ⟨55, _⟩ => ⟨S128x128, .f32⟩
  | .hbm, ⟨56, _⟩ => ⟨S128x128, .f32⟩
  | .hbm, ⟨57, _⟩ => ⟨S128x512, .bf16⟩
  | .hbm, ⟨58, _⟩ => ⟨S128x512, .bf16⟩
  | .hbm, ⟨59, _⟩ => ⟨S15x128x512, .f32⟩
  | .local _ .vmem, ⟨0, _⟩ => ⟨S128x1024, .f32⟩
  | .local _ .vmem, ⟨1, _⟩ => ⟨S128x3072, .f32⟩
  | .local _ .vmem, ⟨2, _⟩ => ⟨S1x1024, .f32⟩
  | .local _ .vmem, ⟨3, _⟩ => ⟨S1024x2944, .bf16⟩
  | .local _ .vmem, ⟨4, _⟩ => ⟨S1x512, .f32⟩
  | .local _ .vmem, ⟨5, _⟩ => ⟨S1x128, .f32⟩
  | .local _ .vmem, ⟨6, _⟩ => ⟨S2x256x256, .bf16⟩
  | .local _ .vmem, ⟨7, _⟩ => ⟨S1x512, .f32⟩
  | .local _ .vmem, ⟨8, _⟩ => ⟨S15x128x512, .f32⟩
  | .local _ .vmem, ⟨9, _⟩ => ⟨S128x1024, .bf16⟩
  | .local _ .vmem, ⟨10, _⟩ => ⟨S128x128, .f32⟩
  | .local _ .vmem, ⟨11, _⟩ => ⟨S128x128, .f32⟩
  | .local _ .vmem, ⟨12, _⟩ => ⟨S128x64, .f32⟩
  | .local _ .vmem, ⟨13, _⟩ => ⟨S128x512, .bf16⟩
  | .local _ .vmem, ⟨14, _⟩ => ⟨S128x8, .f32⟩
  | .local _ .vmem, ⟨15, _⟩ => ⟨S128x128, .f32⟩
  | .local _ .vmem, ⟨16, _⟩ => ⟨S128x128, .f32⟩
  | .local _ .vmem, ⟨17, _⟩ => ⟨S128x512, .bf16⟩
  | .local _ .vmem, ⟨18, _⟩ => ⟨S128x512, .bf16⟩
  | .local _ .vmem, ⟨19, _⟩ => ⟨S15x128x512, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_v0 : Ref sig .tc := ⟨.hbm, 15, rfl⟩
abbrev main_call0_v1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_call1_v0 : Ref sig .tc := ⟨.hbm, 22, rfl⟩
abbrev main_call1_v1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_0 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34_0 : Ref sig .tc := ⟨.hbm, 49, rfl⟩
abbrev main_v34_1 : Ref sig .tc := ⟨.hbm, 50, rfl⟩
abbrev main_v34_2 : Ref sig .tc := ⟨.hbm, 51, rfl⟩
abbrev main_v34_3 : Ref sig .tc := ⟨.hbm, 52, rfl⟩
abbrev main_v34_4 : Ref sig .tc := ⟨.hbm, 53, rfl⟩
abbrev main_v34_5 : Ref sig .tc := ⟨.hbm, 54, rfl⟩
abbrev main_v34_6 : Ref sig .tc := ⟨.hbm, 55, rfl⟩
abbrev main_v34_7 : Ref sig .tc := ⟨.hbm, 56, rfl⟩
abbrev main_v34_8 : Ref sig .tc := ⟨.hbm, 57, rfl⟩
abbrev main_v34_9 : Ref sig .tc := ⟨.hbm, 58, rfl⟩
abbrev main_v34_10 : Ref sig .tc := ⟨.hbm, 59, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19

abbrev nD : Nat := 1
abbrev τ : Topo := Topo.v7x

variable {F : FTy → Type} [FloatOps F]

abbrev grid0 : Pipeline.Grid := .none

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x2944 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S15x128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S128x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S128x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S128x8 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S128x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S128x512 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S128x512 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S15x128x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
-- ==== ProjSRefIdeal.lean ====
abbrev S128x1x1024 : Shape := ⟨3, ![128, 1, 1024]⟩
abbrev S128x3072 : Shape := ⟨2, ![128, 3072]⟩
abbrev S1x1024 : Shape := ⟨2, ![1, 1024]⟩
abbrev S1024x2944 : Shape := ⟨2, ![1024, 2944]⟩
abbrev S1x64 : Shape := ⟨2, ![1, 64]⟩
abbrev S1x4x128x128 : Shape := ⟨4, ![1, 4, 128, 128]⟩
abbrev S1x512 : Shape := ⟨2, ![1, 512]⟩
abbrev S1x128x15x512 : Shape := ⟨4, ![1, 128, 15, 512]⟩
abbrev S128x1024 : Shape := ⟨2, ![128, 1024]⟩
abbrev S1024 : Shape := ⟨1, ![1024]⟩
abbrev S_ : Shape := ⟨0, ![]⟩
abbrev S128 : Shape := ⟨1, ![128]⟩
abbrev S128x1 : Shape := ⟨2, ![128, 1]⟩
abbrev S128x2944 : Shape := ⟨2, ![128, 2944]⟩
abbrev S128x512 : Shape := ⟨2, ![128, 512]⟩
abbrev S128x128 : Shape := ⟨2, ![128, 128]⟩
abbrev S128x64 : Shape := ⟨2, ![128, 64]⟩
abbrev S128x8 : Shape := ⟨2, ![128, 8]⟩
abbrev S128x56 : Shape := ⟨2, ![128, 56]⟩
abbrev S128x2x64 : Shape := ⟨3, ![128, 2, 64]⟩
abbrev S64 : Shape := ⟨1, ![64]⟩
abbrev S128x2 : Shape := ⟨2, ![128, 2]⟩
abbrev S128x2x1 : Shape := ⟨3, ![128, 2, 1]⟩
abbrev S1x1x64 : Shape := ⟨3, ![1, 1, 64]⟩
abbrev S128x15x512 : Shape := ⟨3, ![128, 15, 512]⟩
abbrev S128x1x512 : Shape := ⟨3, ![128, 1, 512]⟩
abbrev S128x16x512 : Shape := ⟨3, ![128, 16, 512]⟩
abbrev S128x16x128 : Shape := ⟨3, ![128, 16, 128]⟩
abbrev S128x2x128 : Shape := ⟨3, ![128, 2, 128]⟩
abbrev S128x1x128 : Shape := ⟨3, ![128, 1, 128]⟩
abbrev S128x4x128 : Shape := ⟨3, ![128, 4, 128]⟩
abbrev S128x8x128 : Shape := ⟨3, ![128, 8, 128]⟩
abbrev S4x128x128 : Shape := ⟨3, ![4, 128, 128]⟩
abbrev S512 : Shape := ⟨1, ![512]⟩
abbrev S15x128x512 : Shape := ⟨3, ![15, 128, 512]⟩

abbrev nBuf : Space → Nat
  | .hbm => 148
  | .vmem => 0
  | .smem => 0
  | _ => 0

abbrev hbmTy0_0 (i : Nat) : BufTy := match i % 128 with
  | 0 => ⟨S128x1x1024, .f32⟩
  | 1 => ⟨S128x3072, .f32⟩
  | 2 => ⟨S1x1024, .f32⟩
  | 3 => ⟨S1024x2944, .bf16⟩
  | 4 => ⟨S1x64, .f32⟩
  | 5 => ⟨S1x64, .f32⟩
  | 6 => ⟨S1x4x128x128, .f32⟩
  | 7 => ⟨S1x512, .f32⟩
  | 8 => ⟨S1x128x15x512, .f32⟩
  | 9 => ⟨S128x1024, .f32⟩
  | 10 => ⟨S128x1024, .f32⟩
  | 11 => ⟨S128x1024, .f32⟩
  | 12 => ⟨S128x1024, .f32⟩
  | 13 => ⟨S1024, .f32⟩
  | 14 => ⟨S128x1024, .f32⟩
  | 15 => ⟨S_, .f32⟩
  | 16 => ⟨S128, .f32⟩
  | 17 => ⟨S128x1, .f32⟩
  | 18 => ⟨S_, .f32⟩
  | 19 => ⟨S128x1, .f32⟩
  | 20 => ⟨S128x1, .f32⟩
  | 21 => ⟨S_, .f32⟩
  | 22 => ⟨S128x1, .f32⟩
  | 23 => ⟨S128x1, .f32⟩
  | 24 => ⟨S128x1, .f32⟩
  | 25 => ⟨S128x1024, .f32⟩
  | 26 => ⟨S128x1024, .f32⟩
  | 27 => ⟨S1x1024, .f32⟩
  | 28 => ⟨S128x1024, .f32⟩
  | 29 => ⟨S128x1024, .f32⟩
  | 30 => ⟨S_, .f32⟩
  | 31 => ⟨S128x1024, .f32⟩
  | 32 => ⟨S128x1024, .f32⟩
  | 33 => ⟨S128x1024, .f32⟩
  | 34 => ⟨S128x1024, .f32⟩
  | 35 => ⟨S1024x2944, .f32⟩
  | 36 => ⟨S128x2944, .f32⟩
  | 37 => ⟨S128x512, .f32⟩
  | 38 => ⟨S128x128, .f32⟩
  | 39 => ⟨S128x128, .f32⟩
  | 40 => ⟨S128x512, .f32⟩
  | 41 => ⟨S128x64, .f32⟩
  | 42 => ⟨S128x8, .f32⟩
  | 43 => ⟨S128x56, .f32⟩
  | 44 => ⟨S128x512, .f32⟩
  | 45 => ⟨S128x512, .f32⟩
  | 46 => ⟨S128x512, .f32⟩
  | 47 => ⟨S128x2x64, .f32⟩
  | 48 => ⟨S64, .f32⟩
  | 49 => ⟨S128x2x64, .f32⟩
  | 50 => ⟨S_, .f32⟩
  | 51 => ⟨S128x2, .f32⟩
  | 52 => ⟨S128x2x1, .f32⟩
  | 53 => ⟨S_, .f32⟩
  | 54 => ⟨S128x2x1, .f32⟩
  | 55 => ⟨S128x2x1, .f32⟩
  | 56 => ⟨S_, .f32⟩
  | 57 => ⟨S128x2x1, .f32⟩
  | 58 => ⟨S128x2x1, .f32⟩
  | 59 => ⟨S128x2x1, .f32⟩
  | 60 => ⟨S128x2x64, .f32⟩
  | 61 => ⟨S128x2x64, .f32⟩
  | 62 => ⟨S1x1x64, .f32⟩
  | 63 => ⟨S128x2x64, .f32⟩
  | 64 => ⟨S128x2x64, .f32⟩
  | 65 => ⟨S128x128, .f32⟩
  | 66 => ⟨S_, .f32⟩
  | 67 => ⟨S128x8, .f32⟩
  | 68 => ⟨S128x8, .f32⟩
  | 69 => ⟨S128x15x512, .f32⟩
  | 70 => ⟨S128x1x512, .f32⟩
  | 71 => ⟨S128x16x512, .f32⟩
  | 72 => ⟨S128x16x128, .f32⟩
  | 73 => ⟨S128x2x128, .f32⟩
  | 74 => ⟨S_, .f32⟩
  | 75 => ⟨S128x128, .f32⟩
  | 76 => ⟨S_, .f32⟩
  | 77 => ⟨S128x128, .f32⟩
  | 78 => ⟨S128x128, .f32⟩
  | 79 => ⟨S128x1x128, .f32⟩
  | 80 => ⟨S128x128, .f32⟩
  | 81 => ⟨S128x128, .f32⟩
  | 82 => ⟨S128x16x128, .f32⟩
  | 83 => ⟨S128x4x128, .f32⟩
  | 84 => ⟨S_, .f32⟩
  | 85 => ⟨S128x128, .f32⟩
  | 86 => ⟨S_, .f32⟩
  | 87 => ⟨S128x128, .f32⟩
  | 88 => ⟨S128x128, .f32⟩
  | 89 => ⟨S128x1x128, .f32⟩
  | 90 => ⟨S128x128, .f32⟩
  | 91 => ⟨S128x128, .f32⟩
  | 92 => ⟨S128x16x128, .f32⟩
  | 93 => ⟨S128x8x128, .f32⟩
  | 94 => ⟨S_, .f32⟩
  | 95 => ⟨S128x128, .f32⟩
  | 96 => ⟨S_, .f32⟩
  | 97 => ⟨S128x128, .f32⟩
  | 98 => ⟨S128x128, .f32⟩
  | 99 => ⟨S128x1x128, .f32⟩
  | 100 => ⟨S128x128, .f32⟩
  | 101 => ⟨S128x128, .f32⟩
  | 102 => ⟨S128x16x128, .f32⟩
  | 103 => ⟨S_, .f32⟩
  | 104 => ⟨S128x128, .f32⟩
  | 105 => ⟨S_, .f32⟩
  | 106 => ⟨S128x128, .f32⟩
  | 107 => ⟨S128x128, .f32⟩
  | 108 => ⟨S128x1x128, .f32⟩
  | 109 => ⟨S128x128, .f32⟩
  | 110 => ⟨S128x128, .f32⟩
  | 111 => ⟨S128x1x128, .f32⟩
  | 112 => ⟨S128x1x128, .f32⟩
  | 113 => ⟨S128x1x128, .f32⟩
  | 114 => ⟨S128x1x128, .f32⟩
  | 115 => ⟨S128x4x128, .f32⟩
  | 116 => ⟨S4x128x128, .f32⟩
  | 117 => ⟨S4x128x128, .f32⟩
  | 118 => ⟨S128x4x128, .f32⟩
  | 119 => ⟨S128x512, .f32⟩
  | 120 => ⟨S512, .f32⟩
  | 121 => ⟨S1x512, .f32⟩
  | 122 => ⟨S128x512, .f32⟩
  | 123 => ⟨S128x512, .f32⟩
  | 124 => ⟨S128x512, .bf16⟩
  | 125 => ⟨S128x512, .f32⟩
  | 126 => ⟨S128x512, .f32⟩
  | 127 => ⟨S_, .f32⟩
  | _ => ⟨S128x1x1024, .f32⟩

abbrev hbmTy0_1 (i : Nat) : BufTy := match i % 128 with
  | 0 => ⟨S128x512, .f32⟩
  | 1 => ⟨S128x512, .f32⟩
  | 2 => ⟨S_, .f32⟩
  | 3 => ⟨S128x512, .f32⟩
  | 4 => ⟨S128x512, .f32⟩
  | 5 => ⟨S128x512, .f32⟩
  | 6 => ⟨S128x512, .bf16⟩
  | 7 => ⟨S128x512, .f32⟩
  | 8 => ⟨S128x512, .f32⟩
  | 9 => ⟨S_, .f32⟩
  | 10 => ⟨S128x512, .f32⟩
  | 11 => ⟨S128x512, .f32⟩
  | 12 => ⟨S_, .f32⟩
  | 13 => ⟨S128x512, .f32⟩
  | 14 => ⟨S128x512, .f32⟩
  | 15 => ⟨S128x512, .f32⟩
  | 16 => ⟨S128x512, .f32⟩
  | 17 => ⟨S128x512, .bf16⟩
  | 18 => ⟨S128x15x512, .f32⟩
  | 19 => ⟨S15x128x512, .f32⟩
  | _ => ⟨S128x1x1024, .f32⟩

abbrev hbmTy (i : Nat) : BufTy := match i / 128 with
  | 0 => hbmTy0_0 i
  | 1 => hbmTy0_1 i
  | _ => ⟨S128x1x1024, .f32⟩

abbrev bufTy : (tb : Table) → Fin (tcTables nBuf tb) → BufTy
  | .hbm, ⟨i, _⟩ => hbmTy i
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_3 : Ref sig .tc := ⟨.hbm, 50, rfl⟩
abbrev main_v37 : Ref sig .tc := ⟨.hbm, 51, rfl⟩
abbrev main_v38 : Ref sig .tc := ⟨.hbm, 52, rfl⟩
abbrev main_cst_4 : Ref sig .tc := ⟨.hbm, 53, rfl⟩
abbrev main_v39 : Ref sig .tc := ⟨.hbm, 54, rfl⟩
abbrev main_v40 : Ref sig .tc := ⟨.hbm, 55, rfl⟩
abbrev main_cst_5 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_6 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_7 : Ref sig .tc := ⟨.hbm, 74, rfl⟩
abbrev main_v57 : Ref sig .tc := ⟨.hbm, 75, rfl⟩
abbrev main_cst_8 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_9 : Ref sig .tc := ⟨.hbm, 84, rfl⟩
abbrev main_v65 : Ref sig .tc := ⟨.hbm, 85, rfl⟩
abbrev main_cst_10 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_cst_11 : Ref sig .tc := ⟨.hbm, 94, rfl⟩
abbrev main_v73 : Ref sig .tc := ⟨.hbm, 95, rfl⟩
abbrev main_cst_12 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_cst_13 : Ref sig .tc := ⟨.hbm, 103, rfl⟩
abbrev main_v80 : Ref sig .tc := ⟨.hbm, 104, rfl⟩
abbrev main_cst_14 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_call0_v0 : Ref sig .tc := ⟨.hbm, 125, rfl⟩
abbrev main_call0_v1 : Ref sig .tc := ⟨.hbm, 126, rfl⟩
abbrev main_call0_cst : Ref sig .tc := ⟨.hbm, 127, rfl⟩
abbrev main_call0_v2 : Ref sig .tc := ⟨.hbm, 128, rfl⟩
abbrev main_call0_v3 : Ref sig .tc := ⟨.hbm, 129, rfl⟩
abbrev main_call0_cst_0 : Ref sig .tc := ⟨.hbm, 130, rfl⟩
abbrev main_call0_v4 : Ref sig .tc := ⟨.hbm, 131, rfl⟩
abbrev main_call0_v5 : Ref sig .tc := ⟨.hbm, 132, rfl⟩
abbrev main_v100 : Ref sig .tc := ⟨.hbm, 133, rfl⟩
abbrev main_v101 : Ref sig .tc := ⟨.hbm, 134, rfl⟩
abbrev main_call1_v0 : Ref sig .tc := ⟨.hbm, 135, rfl⟩
abbrev main_call1_v1 : Ref sig .tc := ⟨.hbm, 136, rfl⟩
abbrev main_call1_cst : Ref sig .tc := ⟨.hbm, 137, rfl⟩
abbrev main_call1_v2 : Ref sig .tc := ⟨.hbm, 138, rfl⟩
abbrev main_call1_v3 : Ref sig .tc := ⟨.hbm, 139, rfl⟩
abbrev main_call1_cst_0 : Ref sig .tc := ⟨.hbm, 140, rfl⟩
abbrev main_call1_v4 : Ref sig .tc := ⟨.hbm, 141, rfl⟩
abbrev main_call1_v5 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩

abbrev nD : Nat := 1
abbrev τ : Topo := Topo.v7x

variable {F : FTy → Type} [FloatOps F]
-- ==== Ada.lean ====
abbrev S8x1024 : Shape := ⟨2, ![8, 1024]⟩
abbrev S128x1024 : Shape := ⟨2, ![128, 1024]⟩
abbrev S1x1024x3072 : Shape := ⟨3, ![1, 1024, 3072]⟩
abbrev S1x3072 : Shape := ⟨2, ![1, 3072]⟩
abbrev S8x3072 : Shape := ⟨2, ![8, 3072]⟩
abbrev S128x3072 : Shape := ⟨2, ![128, 3072]⟩
abbrev S1x1024x1024 : Shape := ⟨3, ![1, 1024, 1024]⟩
abbrev S1x1024 : Shape := ⟨2, ![1, 1024]⟩
abbrev S1024x1024 : Shape := ⟨2, ![1024, 1024]⟩

abbrev nBuf : Space → Nat
  | .hbm => 6
  | .vmem => 10
  | .smem => 0
  | _ => 0

abbrev bufTy : (tb : Table) → Fin (tcTables nBuf tb) → BufTy
  | .hbm, ⟨0, _⟩ => ⟨S8x1024, .f32⟩
  | .hbm, ⟨1, _⟩ => ⟨S128x1024, .f32⟩
  | .hbm, ⟨2, _⟩ => ⟨S1x1024x3072, .f32⟩
  | .hbm, ⟨3, _⟩ => ⟨S1x3072, .f32⟩
  | .hbm, ⟨4, _⟩ => ⟨S8x3072, .f32⟩
  | .hbm, ⟨5, _⟩ => ⟨S128x3072, .f32⟩
  | .local _ .vmem, ⟨0, _⟩ => ⟨S8x1024, .f32⟩
  | .local _ .vmem, ⟨1, _⟩ => ⟨S128x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1024, .f32⟩
  | .local _ .vmem, ⟨5, _⟩ => ⟨S1x1024, .f32⟩
  | .local _ .vmem, ⟨6, _⟩ => ⟨S8x1024, .f32⟩
  | .local _ .vmem, ⟨7, _⟩ => ⟨S8x1024, .f32⟩
  | .local _ .vmem, ⟨8, _⟩ => ⟨S128x1024, .f32⟩
  | .local _ .vmem, ⟨9, _⟩ => ⟨S128x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== AdaRefIdeal.lean ====
abbrev S8x1024 : Shape := ⟨2, ![8, 1024]⟩
abbrev S128x1024 : Shape := ⟨2, ![128, 1024]⟩
abbrev S1x1024x3072 : Shape := ⟨3, ![1, 1024, 3072]⟩
abbrev S1x3072 : Shape := ⟨2, ![1, 3072]⟩
abbrev S_ : Shape := ⟨0, ![]⟩
abbrev S1024x3072 : Shape := ⟨2, ![1024, 3072]⟩
abbrev S8x3072 : Shape := ⟨2, ![8, 3072]⟩
abbrev S3072 : Shape := ⟨1, ![3072]⟩
abbrev S128x3072 : Shape := ⟨2, ![128, 3072]⟩

abbrev nBuf : Space → Nat
  | .hbm => 34
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S128x1024, .f32⟩
  | .hbm, ⟨2, _⟩ => ⟨S1x1024x3072, .f32⟩
  | .hbm, ⟨3, _⟩ => ⟨S1x3072, .f32⟩
  | .hbm, ⟨4, _⟩ => ⟨S8x1024, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S1024x3072, .f32⟩
  | .hbm, ⟨14, _⟩ => ⟨S8x3072, .f32⟩
  | .hbm, ⟨15, _⟩ => ⟨S3072, .f32⟩
  | .hbm, ⟨16, _⟩ => ⟨S1x3072, .f32⟩
  | .hbm, ⟨17, _⟩ => ⟨S8x3072, .f32⟩
  | .hbm, ⟨18, _⟩ => ⟨S8x3072, .f32⟩
  | .hbm, ⟨19, _⟩ => ⟨S128x1024, .f32⟩
  | .hbm, ⟨20, _⟩ => ⟨S128x1024, .f32⟩
  | .hbm, ⟨21, _⟩ => ⟨S_, .f32⟩
  | .hbm, ⟨22, _⟩ => ⟨S128x1024, .f32⟩
  | .hbm, ⟨23, _⟩ => ⟨S128x1024, .f32⟩
  | .hbm, ⟨24, _⟩ => ⟨S_, .f32⟩
  | .hbm, ⟨25, _⟩ => ⟨S128x1024, .f32⟩
  | .hbm, ⟨26, _⟩ => ⟨S128x1024, .f32⟩
  | .hbm, ⟨27, _⟩ => ⟨S128x1024, .f32⟩
  | .hbm, ⟨28, _⟩ => ⟨S1024x3072, .f32⟩
  | .hbm, ⟨29, _⟩ => ⟨S128x3072, .f32⟩
  | .hbm, ⟨30, _⟩ => ⟨S3072, .f32⟩
  | .hbm, ⟨31, _⟩ => ⟨S1x3072, .f32⟩
  | .hbm, ⟨32, _⟩ => ⟨S128x3072, .f32⟩
  | .hbm, ⟨33, _⟩ => ⟨S128x3072, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_call1_v0 : Ref sig .tc := ⟨.hbm, 19, rfl⟩
abbrev main_call1_v1 : Ref sig .tc := ⟨.hbm, 20, rfl⟩
abbrev main_call1_cst : Ref sig .tc := ⟨.hbm, 21, rfl⟩
abbrev main_call1_v2 : Ref sig .tc := ⟨.hbm, 22, rfl⟩
abbrev main_call1_v3 : Ref sig .tc := ⟨.hbm, 23, rfl⟩
abbrev main_call1_cst_0 : Ref sig .tc := ⟨.hbm, 24, rfl⟩
abbrev main_call1_v4 : Ref sig .tc := ⟨.hbm, 25, rfl⟩
abbrev main_call1_v5 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩

abbrev nD : Nat := 1
abbrev τ : Topo := Topo.v7x

variable {F : FTy → Type} [FloatOps F]
-- ==== Proof.ProjSpec.lean ====
/- The arithmetic the prompt's input projection is read in: the normalised head, the gate, and the two sums over a block of
   lanes that a 0/1 matrix picks out. -/
module

public import Idealize.ShloMosaic.Lib.Pointwise

@[expose] public section

set_option maxRecDepth 16384

noncomputable section

open Idealize.ShloMosaic Idealize.ShloMosaic.TcCoe Idealize.SL.Sem

namespace Cert.ProjSpec

/-- A lane over the root mean square of its head of 64 lanes. -/
def nrm {n : Nat} (z : Fin n → EReal) (hn : n % 64 = 0) (l : Fin n) : EReal :=
  z l * Ideal.rsqrt (Ideal.div (∑ j : Fin 64, z ⟨l.val / 64 * 64 + j.val, by omega⟩ * z ⟨l.val / 64 * 64 + j.val, by omega⟩)
    (Ideal.ofBits .f32 0x42800000#32) + Ideal.ofBits .f32 0x358637BD#32)

/-- One element of the modulated normalised rows. -/
def hid (x : Fin 1024 → EReal) (nw sc sh : EReal) (k : Fin 1024) : EReal :=
  x k * Ideal.rsqrt (Ideal.div (∑ j, x j * x j) (Ideal.ofBits .f32 0x44800000#32) + Ideal.ofBits .f32 0x358637BD#32) * nw * (1 + sc) + sh

/-- The gate's activation. -/
def silu (z : EReal) : EReal := z * Ideal.div 1 (1 + Ideal.exp (-z))

theorem exp_nonneg (x : EReal) : 0 ≤ Ideal.exp x := by
  induction x with
  | bot => exact le_refl (0 : EReal)
  | top => exact (le_top : (0 : EReal) ≤ ⊤)
  | coe r => show (0 : EReal) ≤ ((Real.exp r : ℝ) : EReal); exact_mod_cast (Real.exp_pos r).le

theorem silu_eq (z : EReal) : Ideal.div z (1 + Ideal.exp (0 - z)) = silu z := by
  have h : (1 : EReal) + Ideal.exp (-z) ≠ 0 := by
    have h1 : (1 : EReal) ≤ 1 + Ideal.exp (-z) := le_add_of_nonneg_right (exp_nonneg _)
    exact (lt_of_lt_of_le zero_lt_one h1).ne'
  unfold silu
  rw [show (0 : EReal) - z = -z by simp [sub_eq_add_neg]]
  unfold Ideal.div
  rw [if_neg h, if_neg h, one_mul]

theorem ofBits_64 : Ideal.ofBits .f32 0x42800000#32 = ((64 : ℝ) : EReal) := by
  simp [Ideal.ofBits, Ideal.ieee, -EReal.coe_mul]; norm_num
theorem ofBits_64inv : Ideal.ofBits .f32 0x3C800000#32 = ((1 / 64 : ℝ) : EReal) := by
  simp [Ideal.ofBits, Ideal.ieee, -EReal.coe_mul]; norm_num

theorem mean64 (s : EReal) : s * Ideal.ofBits .f32 0x3C800000#32 = Ideal.div s (Ideal.ofBits .f32 0x42800000#32) := by
  rw [ofBits_64, ofBits_64inv, Ideal.div_coe (by norm_num)]

/-- A sum against factors that vanish outside one block of `b` lanes is the sum over that block. -/
theorem block_sum {m b : Nat} (hb : 0 < b) (f g : Fin (m * b) → EReal) (q : Fin m) :
    (∑ x : Fin (m * b), f x * (if x.val / b = q.val then g x else 0))
      = ∑ j : Fin b, f ⟨q.val * b + j.val, by
          have h := Nat.mul_le_mul_right b (Nat.succ_le_of_lt q.isLt); rw [Nat.succ_mul] at h; omega⟩ *
        g ⟨q.val * b + j.val, by
          have h := Nat.mul_le_mul_right b (Nat.succ_le_of_lt q.isLt); rw [Nat.succ_mul] at h; omega⟩ := by
  rw [← finProdFinEquiv.sum_comp, Fintype.sum_prod_type, Finset.sum_eq_single q]
  · refine Finset.sum_congr rfl fun j _ => ?_
    have hv : (finProdFinEquiv (q, j)).val = q.val * b + j.val := by
      simp [finProdFinEquiv]; ring
    have hd : (finProdFinEquiv (q, j)).val / b = q.val := by
      rw [hv, Nat.add_comm, Nat.add_mul_div_right _ _ hb, Nat.div_eq_of_lt j.isLt, Nat.zero_add]
    rw [if_pos hd]
    have he : finProdFinEquiv (q, j) = ⟨q.val * b + j.val, by rw [← hv]; exact (finProdFinEquiv (q, j)).isLt⟩ := Fin.ext hv
    rw [he]
  · intro p _ hp
    refine Finset.sum_eq_zero fun j _ => ?_
    have hv : (finProdFinEquiv (p, j)).val = p.val * b + j.val := by
      simp [finProdFinEquiv]; ring
    have hd : (finProdFinEquiv (p, j)).val / b = p.val := by
      rw [hv, Nat.add_comm, Nat.add_mul_div_right _ _ hb, Nat.div_eq_of_lt j.isLt, Nat.zero_add]
    rw [if_neg (by rw [hd]; exact fun h => hp (Fin.ext h)), mul_zero]
  · intro h; exact absurd (Finset.mem_univ q) h

end Cert.ProjSpec

end
-- ==== Proof.ProjPay.lean ====
/- The values of the prompt's input projection, each read at an index: of a half of a block of 512 rows, the modulated
   normalised rows, the products with a slice of the weight, and what is stored of them. -/
module

public import proofs.«01_k».proof.Proof.Gen.KernelIdeal.Skeleton
public import proofs.«01_k».proof.Proof.ProjSpec

@[expose] public section

set_option maxRecDepth 16384
set_option maxHeartbeats 1000000

noncomputable section

open Idealize.ShloMosaic Idealize.ShloMosaic.TcCoe Idealize.SL.Sem

namespace Cert.ProjPay

open Cert.KernelIdeal Cert.KernelIdeal.Gen Cert.ProjSpec

theorem hid0 (v5 : Vec Ideal S1x1x3072 .f32) (v126 : Vec Ideal S1x256x1024 .f32) (v128 : Vec Ideal S1x1024 .f32) (r : Fin 256) (k : Fin 1024) :
    k0_pay41 (k0_pay27 v5) (k0_pay28 v5) (k0_pay40 v126) v128 (ix2 r k)
      = hid (fun j => v126 (ix3 0 r j)) (v128 (ix2 0 k)) (v5 (ix3 0 0 ⟨1024 + k.val, by omega⟩)) (v5 (ix3 0 0 ⟨k.val, by omega⟩)) k := by
  unfold hid
  pointwise! [k0_pay41, k0_pay40, k0_pay28, k0_pay27, k0_pay26]
theorem hid1 (v5 : Vec Ideal S1x1x3072 .f32) (v126 : Vec Ideal S1x256x1024 .f32) (v128 : Vec Ideal S1x1024 .f32) (r : Fin 256) (k : Fin 1024) :
    k0_pay77 (k0_pay27 v5) (k0_pay28 v5) v126 v128 (ix2 r k)
      = hid (fun j => v126 (ix3 0 r j)) (v128 (ix2 0 k)) (v5 (ix3 0 0 ⟨1024 + k.val, by omega⟩)) (v5 (ix3 0 0 ⟨k.val, by omega⟩)) k := by
  unfold hid
  pointwise! [k0_pay77, k0_pay28, k0_pay27, k0_pay26]

/-- The quotient by 64 as the index words compute it. -/
def fd (n : Nat) : BitVec 32 :=
  Scalar.select
          (IntOp.andi
            (IntOp.cmpi CmpIPredicate.ne
              (IntOp.subi (BitVec.setWidth 32 (IntOp.cmpi CmpIPredicate.sgt (BitVec.ofNat 32 n) 0#32))
                (BitVec.setWidth 32 (IntOp.cmpi CmpIPredicate.slt (BitVec.ofNat 32 n) 0#32)))
              (Scalar.subi (Scalar.extui (Scalar.cmpi CmpIPredicate.sgt 64#32 0#32))
                (Scalar.extui (Scalar.cmpi CmpIPredicate.slt 64#32 0#32))))
            (IntOp.cmpi CmpIPredicate.ne (IntOp.remsi ArithUnit.vector (BitVec.ofNat 32 n) 64#32) 0#32))
          (IntOp.subi (IntOp.divsi ArithUnit.vector (BitVec.ofNat 32 n) 64#32) 1#32)
          (IntOp.divsi ArithUnit.vector (BitVec.ofNat 32 n) 64#32)

theorem fd_eq : ∀ n : Fin 256, fd n.val = BitVec.ofNat 32 (n.val / 64) := by decide +kernel

theorem fd_cmp (k l : Nat) (hk : k < 256) (hl : l < 256) :
    IntOp.cmpi CmpIPredicate.eq (fd k) (fd l) = if k / 64 = l / 64 then 1#1 else 0#1 := by
  rw [show fd k = BitVec.ofNat 32 (k / 64) from fd_eq ⟨k, hk⟩, show fd l = BitVec.ofNat 32 (l / 64) from fd_eq ⟨l, hl⟩]
  split
  · next h => rw [h]; simp [IntOp.cmpi]
  · next h =>
    have : BitVec.ofNat 32 (k / 64) ≠ BitVec.ofNat 32 (l / 64) := by
      intro e
      have e' := congrArg BitVec.toNat e
      simp only [BitVec.toNat_ofNat] at e'
      omega
    show BitVec.ofBool (BitVec.ofNat 32 (k / 64) == BitVec.ofNat 32 (l / 64)) = 0#1
    rw [beq_eq_false_iff_ne.mpr this]; rfl

theorem mask (k l : Fin 256) :
    k0_pay33 (F := Ideal) k0_pay30 (iota .tc S256x256 32 [1] iota_S256x256_d1_w32) 64#32 k0_pay31 k0_pay32 (ix2 k l)
      = if k.val / 64 = l.val / 64 then 1 else 0 := by
  pointwise! [k0_pay33, k0_pay30, k0_pay31, k0_pay32]
  refine Eq.trans (congrArg (fun w => Scalar.select w (1 : EReal) 0) (fd_cmp k.val l.val k.isLt l.isLt)) ?_
  split <;> rfl
theorem mask1 (k l : Fin 128) :
    k0_pay37 (F := Ideal) k0_pay34 k0_pay35 k0_pay36 (ix2 k l) = if k.val / 64 = l.val / 64 then 1 else 0 := by
  pointwise! [k0_pay37, k0_pay34, k0_pay35, k0_pay36]
  refine Eq.trans (congrArg (fun w => Scalar.select w (1 : EReal) 0) (fd_cmp k.val l.val (by omega) (by omega))) ?_
  split <;> rfl

theorem head256 (f : Fin 256 → EReal) (l : Fin 256) :
    (∑ x : Fin 256, f x * (if x.val / 64 = l.val / 64 then 1 else 0)) = ∑ j : Fin 64, f ⟨l.val / 64 * 64 + j.val, by omega⟩ :=
  (block_sum (m := 4) (b := 64) (by decide) f (fun _ => 1) ⟨l.val / 64, by omega⟩).trans
    (Finset.sum_congr rfl fun j _ => mul_one _)
theorem head128 (f : Fin 128 → EReal) (l : Fin 128) :
    (∑ x : Fin 128, f x * (if x.val / 64 = l.val / 64 then 1 else 0)) = ∑ j : Fin 64, f ⟨l.val / 64 * 64 + j.val, by omega⟩ :=
  (block_sum (m := 2) (b := 64) (by decide) f (fun _ => 1) ⟨l.val / 64, by omega⟩).trans
    (Finset.sum_congr rfl fun j _ => mul_one _)

/-- The mean square of a lane's head, as the two products with the 0/1 matrix give it. -/
theorem sq512 (z : Fin 512 → EReal) (l : Fin 512) :
    (if h : l.val < 256 then ∑ x : Fin 256, z ⟨x.val, by omega⟩ * z ⟨x.val, by omega⟩ * (if x.val / 64 = l.val / 64 then 1 else 0)
     else ∑ x : Fin 256, z ⟨256 + x.val, by omega⟩ * z ⟨256 + x.val, by omega⟩ * (if x.val / 64 = (l.val - 256) / 64 then 1 else 0))
      = ∑ j : Fin 64, z ⟨l.val / 64 * 64 + j.val, by omega⟩ * z ⟨l.val / 64 * 64 + j.val, by omega⟩ := by
  split
  · next h => exact head256 (fun x => z ⟨x.val, by omega⟩ * z ⟨x.val, by omega⟩) ⟨l.val, h⟩
  · next h =>
    refine (head256 (fun x => z ⟨256 + x.val, by omega⟩ * z ⟨256 + x.val, by omega⟩) ⟨l.val - 256, by omega⟩).trans ?_
    refine Finset.sum_congr rfl fun j _ => ?_
    have e : (⟨256 + ((l.val - 256) / 64 * 64 + j.val), by omega⟩ : Fin 512) = ⟨l.val / 64 * 64 + j.val, by omega⟩ :=
      Fin.ext (show 256 + ((l.val - 256) / 64 * 64 + j.val) = l.val / 64 * 64 + j.val by omega)
    show z ⟨256 + ((l.val - 256) / 64 * 64 + j.val), _⟩ * z ⟨256 + ((l.val - 256) / 64 * 64 + j.val), _⟩ = _
    rw [e]

theorem q0 (v7 v8 : FVec Ideal S1x1024 .f32) (v66 : FVec Ideal S256x256 .bf16) (v127 : FVec Ideal S256x1024 .f32) (v128 : Vec Ideal S1x1024 .f32) (v149 : Vec Ideal S1024x512 .bf16) (v152 : Vec Ideal S1x512 .f32)
    (hm : ∀ k l : Fin 256, v66 (ix2 k l) = if k.val / 64 = l.val / 64 then 1 else 0) (z : Fin 512 → EReal) (r : Fin 256)
    (hz : ∀ l : Fin 512, (∑ k : Fin 1024, k0_pay41 v7 v8 v127 v128 (ix2 r k) * v149 (ix2 k l)) = z l) (l : Fin 512) :
    k0_pay42 v7 v8 v66 v127 v128 v149 v152 (ix2 r l) = nrm z (by decide) l * v152 (ix2 0 l) := by
  unfold nrm
  pointwise! [k0_pay42, hm, hz]
  rw [sq512, mean64]

theorem q1 (v66 : FVec Ideal S256x256 .bf16) (v383 : FVec Ideal S256x1024 .bf16) (v384 : Vec Ideal S1024x512 .bf16) (v152 : Vec Ideal S1x512 .f32)
    (hm : ∀ k l : Fin 256, v66 (ix2 k l) = if k.val / 64 = l.val / 64 then 1 else 0) (z : Fin 512 → EReal) (r : Fin 256)
    (hz : ∀ l : Fin 512, (∑ k : Fin 1024, v383 (ix2 r k) * v384 (ix2 k l)) = z l) (l : Fin 512) :
    k0_pay79 v66 v383 (k0_pay78 v384) (constant S256x512 .f32 0x00000000#32) v152 (ix2 r l) = nrm z (by decide) l * v152 (ix2 0 l) := by
  unfold nrm
  pointwise! [k0_pay79, k0_pay78, hm, hz]
  rw [sq512, mean64]

theorem k0 (v121 : FVec Ideal S128x128 .bf16) (v148 : FVec Ideal S256x1024 .bf16) (v171 : Vec Ideal S1024x256 .bf16) (v175 : Vec Ideal S1x128 .f32)
    (hm : ∀ k l : Fin 128, v121 (ix2 k l) = if k.val / 64 = l.val / 64 then 1 else 0) (z : Fin 256 → EReal) (r : Fin 256)
    (hz : ∀ l : Fin 256, (∑ k : Fin 1024, v148 (ix2 r k) * v171 (ix2 k l)) = z l) (l : Fin 128) :
    k0_pay45 v121 v148 v171 v175 (ix3 0 l r) = nrm (fun i : Fin 128 => z ⟨i.val, by omega⟩) (by decide) l * v175 (ix2 0 l) := by
  unfold nrm
  pointwise! [k0_pay45, k0_pay44, k0_pay43, hm, hz]
  rw [head128 (fun x => z ⟨x.val, by omega⟩ * z ⟨x.val, by omega⟩), mean64]
theorem k1 (v121 : FVec Ideal S128x128 .bf16) (v148 : FVec Ideal S256x1024 .bf16) (v171 : Vec Ideal S1024x256 .bf16) (v175 : Vec Ideal S1x128 .f32)
    (hm : ∀ k l : Fin 128, v121 (ix2 k l) = if k.val / 64 = l.val / 64 then 1 else 0) (z : Fin 256 → EReal) (r : Fin 256)
    (hz : ∀ l : Fin 256, (∑ k : Fin 1024, v148 (ix2 r k) * v171 (ix2 k l)) = z l) (l : Fin 128) :
    k0_pay83 (k0_pay82 v121 v148 v171 v175) (ix3 0 l r) = nrm (fun i : Fin 128 => z ⟨i.val, by omega⟩) (by decide) l * v175 (ix2 0 l) := by
  unfold nrm
  pointwise! [k0_pay83, k0_pay82, k0_pay81, k0_pay80, hm, hz]
  rw [head128 (fun x => z ⟨x.val, by omega⟩ * z ⟨x.val, by omega⟩), mean64]

section
variable (v148 : FVec Ideal S256x1024 .bf16) (w2 : Vec Ideal S1024x256 .bf16) (w5 : Vec Ideal S1024x512 .bf16) (w1 : Vec Ideal S1024x128 .bf16) (r : Fin 256)

theorem v0 (l : Fin 128) : k0_pay50 v148 w2 (ix3 0 l r) = ∑ k : Fin 1024, v148 (ix2 r k) * w2 (ix2 k ⟨128 + l.val, by omega⟩) := by
  pointwise! [k0_pay50, k0_pay49, k0_pay43]
theorem v1 (l : Fin 128) : k0_pay88 (k0_pay80 v148 w2) (ix3 0 l r) = ∑ k : Fin 1024, v148 (ix2 r k) * w2 (ix2 k ⟨128 + l.val, by omega⟩) := by
  pointwise! [k0_pay88, k0_pay87, k0_pay80]
theorem qi0 (l : Fin 512) : k0_pay55 v148 w5 (ix2 r l) = ∑ k : Fin 1024, v148 (ix2 r k) * w5 (ix2 k l) := by
  pointwise! [k0_pay55]
theorem qi1 (l : Fin 512) : k0_pay94 v148 w5 (ix2 r l) = ∑ k : Fin 1024, v148 (ix2 r k) * w5 (ix2 k l) := by
  pointwise! [k0_pay94]
theorem ki0 (l : Fin 64) : k0_pay59 (k0_pay58 v148 w1) (ix3 0 l r) = ∑ k : Fin 1024, v148 (ix2 r k) * w1 (ix2 k ⟨l.val, by omega⟩) := by
  pointwise! [k0_pay59, k0_pay58, k0_pay57, k0_pay56]
theorem ki1 (l : Fin 64) : k0_pay97 v148 w1 (ix3 0 l r) = ∑ k : Fin 1024, v148 (ix2 r k) * w1 (ix2 k ⟨l.val, by omega⟩) := by
  pointwise! [k0_pay97, k0_pay96, k0_pay95]
theorem wi0 (l : Fin 8) (r : Fin 128) : k0_pay61 (k0_pay57 v148 w1) (ix3 0 l r)
    = (∑ k : Fin 1024, v148 (ix2 ⟨r.val, by omega⟩ k) * w1 (ix2 k ⟨64 + l.val, by omega⟩)) * Ideal.ofBits .f32 0x3D3504F3#32 := by
  pointwise! [k0_pay61, k0_pay60, k0_pay57, k0_pay56]
theorem wi0' (l : Fin 8) (r : Fin 128) : k0_pay62 (k0_pay57 v148 w1) (ix3 0 l r)
    = (∑ k : Fin 1024, v148 (ix2 ⟨128 + r.val, by omega⟩ k) * w1 (ix2 k ⟨64 + l.val, by omega⟩)) * Ideal.ofBits .f32 0x3D3504F3#32 := by
  pointwise! [k0_pay62, k0_pay60, k0_pay57, k0_pay56]
theorem wi1 (l : Fin 8) (r : Fin 128) : k0_pay99 v148 w1 (ix3 0 l r)
    = (∑ k : Fin 1024, v148 (ix2 ⟨r.val, by omega⟩ k) * w1 (ix2 k ⟨64 + l.val, by omega⟩)) * Ideal.ofBits .f32 0x3D3504F3#32 := by
  pointwise! [k0_pay99, k0_pay98, k0_pay96, k0_pay95]
theorem wi1' (l : Fin 8) (r : Fin 128) : k0_pay100 v148 w1 (ix3 0 l r)
    = (∑ k : Fin 1024, v148 (ix2 ⟨128 + r.val, by omega⟩ k) * w1 (ix2 k ⟨64 + l.val, by omega⟩)) * Ideal.ofBits .f32 0x3D3504F3#32 := by
  pointwise! [k0_pay100, k0_pay98, k0_pay96, k0_pay95]
theorem sga0 (l : Fin 512) : k0_pay64 v148 w5 (ix2 r l) = silu (∑ k : Fin 1024, v148 (ix2 r k) * w5 (ix2 k l)) := by
  rw [← silu_eq]
  pointwise! [k0_pay64]
theorem sga1 (l : Fin 512) : k0_pay103 v148 w5 (ix2 r l) = silu (∑ k : Fin 1024, v148 (ix2 r k) * w5 (ix2 k l)) := by
  rw [← silu_eq]
  pointwise! [k0_pay103]
theorem u0 (l : Fin 512) : k0_pay65 v148 w5 (ix2 r l) = ∑ k : Fin 1024, v148 (ix2 r k) * w5 (ix2 k l) := by
  pointwise! [k0_pay65]
theorem u1 (l : Fin 512) : k0_pay104 v148 w5 (ix2 r l) = ∑ k : Fin 1024, v148 (ix2 r k) * w5 (ix2 k l) := by
  pointwise! [k0_pay104]
theorem us0 (v : FVec Ideal S256x512 .f32) (l : Fin 512) : k0_pay67 v (ix2 r l) = v (ix2 r l) := by
  pointwise! [k0_pay67]
theorem us1 (l : Fin 512) : k0_pay106 v148 w5 (ix2 r l) = ∑ k : Fin 1024, v148 (ix2 r k) * w5 (ix2 k l) := by
  pointwise! [k0_pay106, k0_pay104]
theorem gp0 (l : Fin 512) : k0_pay66 v148 w5 (ix2 r l) = ∑ k : Fin 1024, v148 (ix2 r k) * w5 (ix2 k l) := by
  pointwise! [k0_pay66]
theorem gp1 (l : Fin 512) : k0_pay105 v148 w5 (ix2 r l) = ∑ k : Fin 1024, v148 (ix2 r k) * w5 (ix2 k l) := by
  pointwise! [k0_pay105]
theorem last (v : FVec Ideal S16x512 .f32) (r : Fin 16) (l : Fin 512) : k0_pay1 v (ix3 0 r l) = v (ix2 r l) := by
  pointwise! [k0_pay1]
theorem keep (v : FVec Ideal S16x512 .f32) (r : Fin 16) (l : Fin 512) : k0_pay2 v (ix2 r l) = v (ix2 r l) := by
  pointwise! [k0_pay2]
theorem zero (r : Fin 16) (l : Fin 512) : k0_pay39 (F := Ideal) (ix2 r l) = 0 := by
  pointwise! [k0_pay39]
end

end Cert.ProjPay

end
-- ==== Proof.ProjPool.lean ====
/- The pooled branch of the prompt's input projection, read at an index: the window sums by doubling, their means less the
   row, and the product with the block diagonal of the pool's weight. -/
module

public import proofs.«01_k».proof.Proof.Gen.KernelIdeal.Skeleton
public import proofs.«01_k».proof.Proof.ProjSpec

@[expose] public section

set_option maxRecDepth 16384
set_option maxHeartbeats 1000000

noncomputable section

open Idealize.ShloMosaic Idealize.ShloMosaic.TcCoe Idealize.SL.Sem

namespace Cert.ProjPool

open Cert.KernelIdeal Cert.KernelIdeal.Gen Cert.ProjSpec

/-- The sum of a window of `n` rows ending at a row, the rows numbered from 15 before the first. -/
def win (U : Nat → EReal) (n i : Nat) : EReal := ∑ j ∈ Finset.range n, U (15 + i - j)

/-- The number of rows of a window that lie in the batch, as a float. -/
def cnt (i : Nat) (w : BitVec 32) : EReal :=
  FloatOps.sitofp (F := Ideal) FTy.f32 (IntOp.minsi (IntOp.addi (BitVec.ofNat 32 i) 1#32) w)

/-- The mean of a window less its last row. -/
def mean (U : Nat → EReal) (n : Nat) (w : BitVec 32) (i : Nat) : EReal := Ideal.div (win U n i) (cnt i w) - U (15 + i)

/-- Each group of 128 lanes with its window. -/
def dif (U : Fin 512 → Nat → EReal) (i : Nat) (l : Fin 512) : EReal :=
  if l.val < 128 then mean (U l) 2 2#32 i else if l.val < 256 then mean (U l) 4 4#32 i
  else if l.val < 384 then mean (U l) 8 8#32 i else mean (U l) 16 16#32 i

theorem pos0 (s r : Nat) : IntOp.addi (Scalar.addi (Scalar.muli (BitVec.ofNat 32 s) 512#32) 0#32) (BitVec.ofNat 32 r) = BitVec.ofNat 32 (s * 512 + r) := by
  simp [IntOp.addi, Scalar.addi, Scalar.muli, IntOp.muli, BitVec.ofNat_add, BitVec.ofNat_mul]
theorem pos1 (s r : Nat) : IntOp.addi (Scalar.addi (Scalar.muli (BitVec.ofNat 32 s) 512#32) 256#32) (BitVec.ofNat 32 r) = BitVec.ofNat 32 (s * 512 + 256 + r) := by
  simp [IntOp.addi, Scalar.addi, Scalar.muli, IntOp.muli, BitVec.ofNat_add, BitVec.ofNat_mul]

/-- A row plus the row `k` before it. -/
def dbl (k : BitVec 32) (g : FVec Ideal S272x128 .f32) : FVec Ideal S272x128 .f32 :=
  addf g (dynamicRotate 0 k none g rotates_S272x128_d0)

section
variable (g : FVec Ideal S272x128 .f32) (l : Fin 128)
theorem dbl1 (j : Fin 272) (h : 1 ≤ j.val) : dbl 1#32 g (ix2 j l) = g (ix2 j l) + g (ix2 ⟨j.val - 1, by omega⟩ l) := by
  pointwise! [dbl]
  simp only [show (j.val + 272 - 1) % 272 = j.val - 1 by omega]
theorem dbl2 (j : Fin 272) (h : 2 ≤ j.val) : dbl 2#32 g (ix2 j l) = g (ix2 j l) + g (ix2 ⟨j.val - 2, by omega⟩ l) := by
  pointwise! [dbl]
  simp only [show (j.val + 272 - 2) % 272 = j.val - 2 by omega]
theorem dbl4 (j : Fin 272) (h : 4 ≤ j.val) : dbl 4#32 g (ix2 j l) = g (ix2 j l) + g (ix2 ⟨j.val - 4, by omega⟩ l) := by
  pointwise! [dbl]
  simp only [show (j.val + 272 - 4) % 272 = j.val - 4 by omega]
theorem dbl8 (j : Fin 272) (h : 8 ≤ j.val) : dbl 8#32 g (ix2 j l) = g (ix2 j l) + g (ix2 ⟨j.val - 8, by omega⟩ l) := by
  pointwise! [dbl]
  simp only [show (j.val + 272 - 8) % 272 = j.val - 8 by omega]
end

section
variable (e : FVec Ideal S272x128 .f32) (l : Fin 128) (U : Nat → EReal) (B : Nat)
  (he : ∀ j : Fin 272, 1 ≤ j.val → e (ix2 j l) = U (B + j.val - 1))
include he

theorem sum2 (j : Fin 272) (h : 2 ≤ j.val) : dbl 1#32 e (ix2 j l) = U (B + j.val - 1) + U (B + j.val - 2) := by
  rw [dbl1 _ _ _ (by omega), he _ (by omega), he _ (show 1 ≤ j.val - 1 by omega)]
  simp only [show B + (j.val - 1) - 1 = B + j.val - 2 by omega]
theorem sum4 (j : Fin 272) (h : 4 ≤ j.val) : dbl 2#32 (dbl 1#32 e) (ix2 j l)
    = (U (B + j.val - 1) + U (B + j.val - 2)) + (U (B + j.val - 3) + U (B + j.val - 4)) := by
  rw [dbl2 _ _ _ (by omega), sum2 e l U B he _ (by omega), sum2 e l U B he _ (show 2 ≤ j.val - 2 by omega)]
  simp only [show B + (j.val - 2) - 1 = B + j.val - 3 by omega, show B + (j.val - 2) - 2 = B + j.val - 4 by omega]
theorem sum8 (j : Fin 272) (h : 8 ≤ j.val) : dbl 4#32 (dbl 2#32 (dbl 1#32 e)) (ix2 j l)
    = ((U (B + j.val - 1) + U (B + j.val - 2)) + (U (B + j.val - 3) + U (B + j.val - 4)))
      + ((U (B + j.val - 5) + U (B + j.val - 6)) + (U (B + j.val - 7) + U (B + j.val - 8))) := by
  rw [dbl4 _ _ _ (by omega), sum4 e l U B he _ (by omega), sum4 e l U B he _ (show 4 ≤ j.val - 4 by omega)]
  simp only [show B + (j.val - 4) - 1 = B + j.val - 5 by omega, show B + (j.val - 4) - 2 = B + j.val - 6 by omega,
    show B + (j.val - 4) - 3 = B + j.val - 7 by omega, show B + (j.val - 4) - 4 = B + j.val - 8 by omega]
theorem sum16 (j : Fin 272) (h : 16 ≤ j.val) : dbl 8#32 (dbl 4#32 (dbl 2#32 (dbl 1#32 e))) (ix2 j l)
    = (((U (B + j.val - 1) + U (B + j.val - 2)) + (U (B + j.val - 3) + U (B + j.val - 4)))
      + ((U (B + j.val - 5) + U (B + j.val - 6)) + (U (B + j.val - 7) + U (B + j.val - 8))))
      + (((U (B + j.val - 9) + U (B + j.val - 10)) + (U (B + j.val - 11) + U (B + j.val - 12)))
      + ((U (B + j.val - 13) + U (B + j.val - 14)) + (U (B + j.val - 15) + U (B + j.val - 16)))) := by
  rw [dbl8 _ _ _ (by omega), sum8 e l U B he _ (by omega), sum8 e l U B he _ (show 8 ≤ j.val - 8 by omega)]
  simp only [show B + (j.val - 8) - 1 = B + j.val - 9 by omega, show B + (j.val - 8) - 2 = B + j.val - 10 by omega,
    show B + (j.val - 8) - 3 = B + j.val - 11 by omega, show B + (j.val - 8) - 4 = B + j.val - 12 by omega,
    show B + (j.val - 8) - 5 = B + j.val - 13 by omega, show B + (j.val - 8) - 6 = B + j.val - 14 by omega,
    show B + (j.val - 8) - 7 = B + j.val - 15 by omega, show B + (j.val - 8) - 8 = B + j.val - 16 by omega]

variable (r : Fin 256)
theorem win2 : dbl 1#32 e (ix2 ⟨16 + r.val, by omega⟩ l) = win U 2 (B + r.val) := by
  rw [sum2 e l U B he _ (show 2 ≤ 16 + r.val by omega)]
  simp only [win, Finset.sum_range_succ, Finset.sum_range_zero, zero_add]
  iterate 2 (first | (refine congrArg₂ _ ?_ (congrArg U (by omega))) | exact congrArg U (by omega))
theorem win4 : dbl 2#32 (dbl 1#32 e) (ix2 ⟨16 + r.val, by omega⟩ l) = win U 4 (B + r.val) := by
  rw [sum4 e l U B he _ (show 4 ≤ 16 + r.val by omega)]
  simp only [win, Finset.sum_range_succ, Finset.sum_range_zero, zero_add, ← add_assoc (G := EReal)]
  iterate 4 (first | (refine congrArg₂ _ ?_ (congrArg U (by omega))) | exact congrArg U (by omega))
theorem win8 : dbl 4#32 (dbl 2#32 (dbl 1#32 e)) (ix2 ⟨16 + r.val, by omega⟩ l) = win U 8 (B + r.val) := by
  rw [sum8 e l U B he _ (show 8 ≤ 16 + r.val by omega)]
  simp only [win, Finset.sum_range_succ, Finset.sum_range_zero, zero_add, ← add_assoc (G := EReal)]
  iterate 8 (first | (refine congrArg₂ _ ?_ (congrArg U (by omega))) | exact congrArg U (by omega))
theorem win16 : dbl 8#32 (dbl 4#32 (dbl 2#32 (dbl 1#32 e))) (ix2 ⟨16 + r.val, by omega⟩ l) = win U 16 (B + r.val) := by
  rw [sum16 e l U B he _ (show 16 ≤ 16 + r.val by omega)]
  simp only [win, Finset.sum_range_succ, Finset.sum_range_zero, zero_add, ← add_assoc (G := EReal)]
  iterate 16 (first | (refine congrArg₂ _ ?_ (congrArg U (by omega))) | exact congrArg U (by omega))
end

/-- The four groups of lanes side by side, each its window's mean less the row. -/
def cat (pos : IVec S256x128 32) (u : FVec Ideal S256x512 .f32) (e0 e1 e2 e3 : FVec Ideal S272x128 .f32) : FVec Ideal S256x512 .bf16 :=
  truncf .bf16 (concatenate S256x512 1 [
    ⟨S256x128, subf (divf (extractStridedSlice S256x128 ![16, 0] (dbl 1#32 e0) slices_S272x128_o16_0_S256x128)
      (sitofp .f32 (minsi (addi pos (broadcast S256x128 1#32)) (broadcast S256x128 2#32))))
      (extractStridedSlice S256x128 ![0, 0] u slices_S256x512_o0_0_S256x128)⟩,
    ⟨S256x128, subf (divf (extractStridedSlice S256x128 ![16, 0] (dbl 2#32 (dbl 1#32 e1)) slices_S272x128_o16_0_S256x128)
      (sitofp .f32 (minsi (addi pos (broadcast S256x128 1#32)) (broadcast S256x128 4#32))))
      (extractStridedSlice S256x128 ![0, 128] u slices_S256x512_o0_128_S256x128)⟩,
    ⟨S256x128, subf (divf (extractStridedSlice S256x128 ![16, 0] (dbl 4#32 (dbl 2#32 (dbl 1#32 e2))) slices_S272x128_o16_0_S256x128)
      (sitofp .f32 (minsi (addi pos (broadcast S256x128 1#32)) (broadcast S256x128 8#32))))
      (extractStridedSlice S256x128 ![0, 256] u slices_S256x512_o0_256_S256x128)⟩,
    ⟨S256x128, subf (divf (extractStridedSlice S256x128 ![16, 0] (dbl 8#32 (dbl 4#32 (dbl 2#32 (dbl 1#32 e3)))) slices_S272x128_o16_0_S256x128)
      (sitofp .f32 (minsi (addi pos (broadcast S256x128 1#32)) (broadcast S256x128 16#32))))
      (extractStridedSlice S256x128 ![0, 384] u slices_S256x512_o0_384_S256x128)⟩] concatenates_S256x128_S256x128_S256x128_S256x128_S256x512_d1)
      bitsLt_bf16_f32

/-- The pooled rows through the two blocks of the weight, scaled and gated. -/
def fin (d : FVec Ideal S256x512 .bf16) (gp : FVec Ideal S256x512 .f32) (ps : Vec Ideal S1x512 .f32) (w0 w1 : Vec Ideal S1x256x256 .bf16) :
    FVec Ideal S256x512 .bf16 :=
  k0_pay76 gp (k0_pay72 ps) (matmul dot_S256x256_S256x256_S256x256_1_0_0_1_n_n none
      (extractStridedSlice S256x256 ![0, 0] d slices_S256x512_o0_0_S256x256) (shapeCast S256x256 w0 shapeCasts_S1x256x256_S256x256 : FVec Ideal S256x256 .bf16)
      (constant S256x256 .f32 0x00000000#32))
    (extractStridedSlice S256x256 ![0, 256] d slices_S256x512_o0_256_S256x256) w1

theorem fin0_eq (p : BitVec 32) (u gp : FVec Ideal S256x512 .f32) (e0 e1 e2 e3 : Vec Ideal S272x128 .f32) (ps : Vec Ideal S1x512 .f32) (w0 w1 : Vec Ideal S1x256x256 .bf16) :
    k0_pay76 gp (k0_pay72 ps) (k0_pay74 u (k0_pay68 p) (k0_pay69 p u e0) (k0_pay70 p u e1) e2 (k0_pay71 e2) e3 w0)
      (k0_pay75 u (k0_pay68 p) (k0_pay69 p u e0) (k0_pay70 p u e1) e2 (k0_pay71 e2) e3) w1
      = fin (cat (k0_pay68 p) u e0 e1 e2 e3) gp ps w0 w1 := rfl

theorem fin1_eq (p : BitVec 32) (u gp : FVec Ideal S256x512 .f32) (e0 e1 e2 e3 : Vec Ideal S272x128 .f32) (ps : Vec Ideal S1x512 .f32) (w0 w1 : Vec Ideal S1x256x256 .bf16) :
    k0_pay116 u gp (k0_pay107 p) (k0_pay111 u (k0_pay108 e0) (k0_pay109 p) k0_pay110) (k0_pay112 u (k0_pay107 p) e1) (k0_pay113 u (k0_pay107 p) e2)
      (k0_pay114 e3) (k0_pay115 e3) ps w0 w1
      = fin (cat (k0_pay107 p) u e0 e1 e2 e3) gp ps w0 w1 := rfl

/-- A slice of 128 lanes of the 272 rows the windows of half a block run over. -/
def Lanes (U : Fin 512 → Nat → EReal) (B o : Nat) (ho : o + 128 ≤ 512) (e : FVec Ideal S272x128 .f32) : Prop :=
  ∀ (j : Fin 272) (l : Fin 128), 1 ≤ j.val → e (ix2 j l) = U ⟨o + l.val, by omega⟩ (B + j.val - 1)

theorem cat_apply (u : FVec Ideal S256x512 .f32) (e0 e1 e2 e3 : FVec Ideal S272x128 .f32) (U : Fin 512 → Nat → EReal) (B : Nat) (pos : IVec S256x128 32)
    (hp : ∀ (r : Fin 256) (l : Fin 128), pos (ix2 r l) = BitVec.ofNat 32 (B + r.val))
    (he0 : Lanes U B 0 (by decide) e0) (he1 : Lanes U B 128 (by decide) e1) (he2 : Lanes U B 256 (by decide) e2) (he3 : Lanes U B 384 (by decide) e3)
    (hu : ∀ (r : Fin 256) (l : Fin 512), u (ix2 r l) = U l (15 + (B + r.val))) (r : Fin 256) (l : Fin 512) :
    cat pos u e0 e1 e2 e3 (ix2 r l) = dif U (B + r.val) l := by
  have h0 := fun l => win2 e0 l _ B (fun j => he0 j l) r
  have h1 := fun l => win4 e1 l _ B (fun j => he1 j l) r
  have h2 := fun l => win8 e2 l _ B (fun j => he2 j l) r
  have h3 := fun l => win16 e3 l _ B (fun j => he3 j l) r
  unfold dif mean cnt cat
  pointwise! [hu, hp]
  simp only [h0, h1, h2, h3]
  by_cases a : l.val < 128
  · simp only [a, Nat.zero_add, dif_pos, if_true]
  by_cases b : l.val < 256
  · have e : 128 + (l.val - 128) = l.val := by omega
    simp only [a, b, e, show l.val - 128 < 128 by omega, dif_pos, if_true, if_false, dite_false]
  by_cases d : l.val < 384
  · have e : 256 + (l.val - 128 - 128) = l.val := by omega
    simp only [a, b, d, e, show ¬ l.val - 128 < 128 by omega, show l.val - 128 - 128 < 128 by omega, dif_pos, if_true, if_false, dite_false]
  · have e : 384 + (l.val - 128 - 128 - 128) = l.val := by omega
    simp only [a, b, d, e, show ¬ l.val - 128 < 128 by omega, show ¬ l.val - 128 - 128 < 128 by omega, if_false, dite_false]

theorem fin_apply (d : FVec Ideal S256x512 .bf16) (gp : FVec Ideal S256x512 .f32) (ps : Vec Ideal S1x512 .f32) (w0 w1 : Vec Ideal S1x256x256 .bf16)
    (wp : Fin 4 → Fin 128 → Fin 128 → EReal)
    (h0 : ∀ x l : Fin 256, w0 (ix3 0 x l) = if x.val / 128 = l.val / 128 then wp ⟨l.val / 128, by omega⟩ ⟨x.val % 128, by omega⟩ ⟨l.val % 128, by omega⟩ else 0)
    (h1 : ∀ x l : Fin 256, w1 (ix3 0 x l) = if x.val / 128 = l.val / 128 then wp ⟨2 + l.val / 128, by omega⟩ ⟨x.val % 128, by omega⟩ ⟨l.val % 128, by omega⟩ else 0)
    (r : Fin 256) (l : Fin 512) :
    fin d gp ps w0 w1 (ix2 r l) = (∑ j : Fin 128, wp ⟨l.val / 128, by omega⟩ j ⟨l.val % 128, by omega⟩ * d (ix2 r ⟨l.val / 128 * 128 + j.val, by omega⟩))
      * ps (ix2 0 l) * silu (gp (ix2 r l)) := by
  rw [← silu_eq]
  unfold fin
  pointwise! [k0_pay76, k0_pay72, h0, h1]
  refine congrArg (fun z => z * ps (ix2 0 l) * _) ?_
  split
  · next h =>
    refine (block_sum (m := 2) (b := 128) (by decide) (fun x => d (ix2 r ⟨x.val, by omega⟩))
      (fun x => wp ⟨l.val / 128, by omega⟩ ⟨x.val % 128, by omega⟩ ⟨l.val % 128, by omega⟩) ⟨l.val / 128, by omega⟩).trans ?_
    refine Finset.sum_congr rfl fun j _ => ?_
    rw [mul_comm]
    simp only [show (l.val / 128 * 128 + j.val) % 128 = j.val by omega]
  · next h =>
    refine (block_sum (m := 2) (b := 128) (by decide) (fun x => d (ix2 r ⟨256 + x.val, by omega⟩))
      (fun x => wp ⟨2 + (l.val - 256) / 128, by omega⟩ ⟨x.val % 128, by omega⟩ ⟨(l.val - 256) % 128, by omega⟩) ⟨(l.val - 256) / 128, by omega⟩).trans ?_
    refine Finset.sum_congr rfl fun j _ => ?_
    rw [mul_comm]
    simp only [show ((l.val - 256) / 128 * 128 + j.val) % 128 = j.val by omega, show (l.val - 256) % 128 = l.val % 128 by omega,
      show 2 + (l.val - 256) / 128 = l.val / 128 by omega, show 256 + ((l.val - 256) / 128 * 128 + j.val) = l.val / 128 * 128 + j.val by omega]

theorem hp0 (s : Nat) (r : Fin 256) (l : Fin 128) : k0_pay68 (BitVec.ofNat 32 s) (ix2 r l) = BitVec.ofNat 32 (s * 512 + r.val) := by
  pointwise! [k0_pay68]
  rw [pos0]
theorem hp1 (s : Nat) (r : Fin 256) (l : Fin 128) : k0_pay107 (BitVec.ofNat 32 s) (ix2 r l) = BitVec.ofNat 32 (s * 512 + 256 + r.val) := by
  pointwise! [k0_pay107]
  rw [pos1]

end Cert.ProjPool

end
-- ==== Proof.ProjRef.lean ====
/- The reference of the prompt's input projection, each result read at an index. -/
module

public import proofs.«01_k».proof.Proof.Gen.ReferenceIdeal.Read
public import proofs.«01_k».proof.Proof.ProjSpec
public import proofs.«01_k».proof.Proof.ProjPool

@[expose] public section

set_option maxRecDepth 16384

noncomputable section

open Idealize.ShloMosaic Idealize.ShloMosaic.TcCoe Idealize.SL.Sem

namespace Cert.ProjRef

open Cert.ReferenceIdeal Cert.ReferenceIdeal.Gen Cert.ReferenceIdeal.Read Cert.ProjSpec Cert.ProjPool

variable (x : FVec Ideal S8x2048x1024 .f32) (ada : FVec Ideal S8x3072 .f32) (nw : FVec Ideal S1x1024 .f32)
  (wi : FVec Ideal S1x1024x2888 .f32) (qn kn : FVec Ideal S1x64 .f32) (wp : FVec Ideal S1x4x128x128 .f32)
  (ps : FVec Ideal S1x512 .f32)

/-- The projection of a row. -/
def prj (b : Fin 8) (r : Fin 2048) (k : Fin 2888) : EReal :=
  ∑ j : Fin 1024, hid (fun i => x (ix3 b r i)) (nw (ix2 0 j)) (ada (ix2 b ⟨1024 + j.val, by omega⟩)) (ada (ix2 b ⟨j.val, by omega⟩)) j
    * wi (ix3 0 j k)

theorem hid_apply (b : Fin 8) (r : Fin 2048) (k : Fin 1024) :
    val_main_v24 (F := Ideal) x ada nw (ix3 b r k)
      = hid (fun i => x (ix3 b r i)) (nw (ix2 0 k)) (ada (ix2 b ⟨1024 + k.val, by omega⟩)) (ada (ix2 b ⟨k.val, by omega⟩)) k := by
  unfold hid
  pointwise! [val_main_v24, val_main_v23, val_main_v22, val_main_v21, val_main_v20, val_main_v19, val_main_v18, val_main_cst_2,
    val_main_v17, val_main_v16, val_main_v15, val_main_v14, val_main_v13, val_main_v12, val_main_v11, val_main_v10, val_main_v9, val_main_cst_1,
    val_main_v8, val_main_v7, val_main_cst_0, val_main_v6, val_main_v5, val_main_cst, val_main_v4, val_main_v3, val_main_v1, val_main_v0]

theorem prj_apply (b : Fin 8) (r : Fin 2048) (k : Fin 2888) :
    val_main_v26 (F := Ideal) x ada nw wi (ix3 b r k) = prj x ada nw wi b r k := by
  unfold prj
  simp only [← hid_apply x ada nw b r]
  pointwise [val_main_v26, val_main_v25]

theorem qs_apply (r : Fin 16384) (l : Fin 512) :
    val_main_v189 (F := Ideal) x ada nw wi qn (ix2 r l)
      = nrm (fun i : Fin 512 => prj x ada nw wi ⟨r.val / 2048, by omega⟩ ⟨r.val % 2048, by omega⟩ ⟨i.val, by omega⟩) (by decide) l
        * (qn (ix2 0 ⟨l.val % 64, by omega⟩) * Ideal.ofBits .f32 0x3E000000#32) := by
  rw [← mul_assoc]
  unfold nrm
  simp only [← prj_apply]
  pointwise! [val_main_v189, val_main_v188, val_main_v52, val_main_v51, val_main_cst_6, val_main_v50, val_main_v49, val_main_v48,
   val_main_v47, val_main_v46, val_main_v45, val_main_v44, val_main_v43, val_main_cst_5, val_main_v42, val_main_v41, val_main_cst_4, val_main_v40,
   val_main_v39, val_main_cst_3, val_main_v38, val_main_v37, val_main_v36, val_main_v27]

theorem kt_apply (b : Fin 8) (l : Fin 128) (r : Fin 2048) :
    val_main_v191 (F := Ideal) x ada nw wi kn (ix3 b l r)
      = nrm (fun i : Fin 128 => prj x ada nw wi b r ⟨512 + i.val, by omega⟩) (by decide) l * kn (ix2 0 ⟨l.val % 64, by omega⟩) := by
  unfold nrm
  simp only [← prj_apply]
  pointwise! [val_main_v191, val_main_v190, val_main_v67, val_main_v66, val_main_v65, val_main_v64, val_main_v63,
   val_main_v62, val_main_v61, val_main_v60, val_main_cst_9, val_main_v59, val_main_v58, val_main_cst_8, val_main_v57, val_main_v56, val_main_cst_7, val_main_v55,
   val_main_v54, val_main_v53, val_main_v28]

theorem vt_apply (b : Fin 8) (l : Fin 128) (r : Fin 2048) :
    val_main_v192 (F := Ideal) x ada nw wi (ix3 b l r) = prj x ada nw wi b r ⟨640 + l.val, by omega⟩ := by
  simp only [← prj_apply]
  pointwise! [val_main_v192, val_main_v29]

theorem qi_apply (r : Fin 16384) (l : Fin 512) :
    val_main_v194 (F := Ideal) x ada nw wi (ix2 r l)
      = prj x ada nw wi ⟨r.val / 2048, by omega⟩ ⟨r.val % 2048, by omega⟩ ⟨768 + l.val, by omega⟩ := by
  simp only [← prj_apply]
  pointwise! [val_main_v194, val_main_v193, val_main_v30]

theorem ki_apply (b : Fin 8) (l : Fin 64) (r : Fin 2048) :
    val_main_v195 (F := Ideal) x ada nw wi (ix3 b l r) = prj x ada nw wi b r ⟨1280 + l.val, by omega⟩ := by
  simp only [← prj_apply]
  pointwise! [val_main_v195, val_main_v31]

theorem wi_apply (g : Fin 128) (h : Fin 8) (r : Fin 128) :
    val_main_v197 (F := Ideal) x ada nw wi (ix3 g h r)
      = prj x ada nw wi ⟨g.val / 16, by omega⟩ ⟨g.val % 16 * 128 + r.val, by omega⟩ ⟨1344 + h.val, by omega⟩ * Ideal.ofBits .f32 0x3D3504F3#32 := by
  simp only [← prj_apply]
  pointwise! [val_main_v197, val_main_v196, val_main_v69, val_main_v68, val_main_cst_10, val_main_v32]

theorem sga_apply (r : Fin 16384) (l : Fin 512) :
    val_main_v200 (F := Ideal) x ada nw wi (ix2 r l)
      = silu (prj x ada nw wi ⟨r.val / 2048, by omega⟩ ⟨r.val % 2048, by omega⟩ ⟨1352 + l.val, by omega⟩) := by
  unfold silu
  simp only [← prj_apply]
  pointwise! [val_main_v200, val_main_v199, val_main_v198, val_main_call1_v5, val_main_call1_v4, val_main_call1_cst_0, val_main_call1_v3, val_main_call1_v2, val_main_call1_cst,
     val_main_call1_v1, val_main_call1_v0, val_main_v33]

/-- The rows the windows run over: fifteen rows of zeros, then the batch's own. -/
def ext (b : Fin 8) (l : Fin 512) (n : Nat) : EReal :=
  if h : 15 ≤ n ∧ n < 2063 then prj x ada nw wi b ⟨n - 15, by omega⟩ ⟨1864 + l.val, by omega⟩ else 0

theorem ext_apply (b : Fin 8) (r : Fin 2063) (l : Fin 512) :
    val_main_v71 (F := Ideal) x ada nw wi (ix3 b r l) = ext x ada nw wi b l r.val := by
  unfold ext
  simp only [← prj_apply]
  pointwise [val_main_v71, val_main_v70, val_main_cst_11, val_main_v34]
  split
  · next h => rw [dif_neg (by omega)]
  · next h => rw [dif_pos (by omega)]

theorem last_apply (b : Fin 8) (r : Fin 16) (l : Fin 512) :
    val_main_v203 (F := Ideal) x ada nw wi (ix3 b r l) = ext x ada nw wi b l (2047 + r.val) := by
  refine Eq.trans ?_ (ext_apply x ada nw wi b ⟨2047 + r.val, by omega⟩ l)
  pointwise! [val_main_v203]

theorem pool0_apply (b : Fin 8) (r : Fin 2048) (l : Fin 128) :
    val_main_v88 (F := Ideal) x ada nw wi (ix3 b r l) = mean (ext x ada nw wi b ⟨l.val, by omega⟩) 2 2#32 r.val := by
  unfold mean win cnt
  simp only [Finset.sum_range_succ, Finset.sum_range_zero, zero_add, Nat.sub_zero, show 15 + r.val - 1 = 14 + r.val by omega]
  pointwise [val_main_v88, val_main_v86, val_main_v78, val_main_v76, val_main_v75, val_main_v77, val_main_v85, val_main_v84, val_main_v83, val_main_v82, val_main_v80, val_main_v74, val_main_v79, val_main_c, val_main_v81, val_main_c_12, val_main_v87]
  simp only [ext_apply]

theorem pool1_apply (b : Fin 8) (r : Fin 2048) (l : Fin 128) :
    val_main_v106 (F := Ideal) x ada nw wi (ix3 b r l) = mean (ext x ada nw wi b ⟨128 + l.val, by omega⟩) 4 4#32 r.val := by
  unfold mean win cnt
  simp only [Finset.sum_range_succ, Finset.sum_range_zero, zero_add, Nat.sub_zero, show 15 + r.val - 1 = 14 + r.val by omega, show 15 + r.val - 2 = 13 + r.val by omega, show 15 + r.val - 3 = 12 + r.val by omega]
  pointwise [val_main_v106, val_main_v104, val_main_v96, val_main_v94, val_main_v92, val_main_v90, val_main_v89, val_main_v91, val_main_v93, val_main_v95, val_main_v103, val_main_v102, val_main_v101, val_main_v100, val_main_v98, val_main_v74, val_main_v97, val_main_c_13, val_main_v99, val_main_c_14, val_main_v105]
  simp only [ext_apply]

theorem pool2_apply (b : Fin 8) (r : Fin 2048) (l : Fin 128) :
    val_main_v132 (F := Ideal) x ada nw wi (ix3 b r l) = mean (ext x ada nw wi b ⟨256 + l.val, by omega⟩) 8 8#32 r.val := by
  unfold mean win cnt
  simp only [Finset.sum_range_succ, Finset.sum_range_zero, zero_add, Nat.sub_zero, show 15 + r.val - 1 = 14 + r.val by omega, show 15 + r.val - 2 = 13 + r.val by omega, show 15 + r.val - 3 = 12 + r.val by omega, show 15 + r.val - 4 = 11 + r.val by omega, show 15 + r.val - 5 = 10 + r.val by omega, show 15 + r.val - 6 = 9 + r.val by omega, show 15 + r.val - 7 = 8 + r.val by omega]
  pointwise [val_main_v132, val_main_v130, val_main_v122, val_main_v120, val_main_v118, val_main_v116, val_main_v114, val_main_v112, val_main_v110, val_main_v108, val_main_v107, val_main_v109, val_main_v111, val_main_v113, val_main_v115, val_main_v117, val_main_v119, val_main_v121, val_main_v129, val_main_v128, val_main_v127, val_main_v126, val_main_v124, val_main_v74, val_main_v123, val_main_c_15, val_main_v125, val_main_c_16, val_main_v131]
  simp only [ext_apply]

theorem pool3_apply (b : Fin 8) (r : Fin 2048) (l : Fin 128) :
    val_main_v174 (F := Ideal) x ada nw wi (ix3 b r l) = mean (ext x ada nw wi b ⟨384 + l.val, by omega⟩) 16 16#32 r.val := by
  unfold mean win cnt
  simp only [Finset.sum_range_succ, Finset.sum_range_zero, zero_add, Nat.sub_zero, show 15 + r.val - 1 = 14 + r.val by omega, show 15 + r.val - 2 = 13 + r.val by omega, show 15 + r.val - 3 = 12 + r.val by omega, show 15 + r.val - 4 = 11 + r.val by omega, show 15 + r.val - 5 = 10 + r.val by omega, show 15 + r.val - 6 = 9 + r.val by omega, show 15 + r.val - 7 = 8 + r.val by omega, show 15 + r.val - 8 = 7 + r.val by omega, show 15 + r.val - 9 = 6 + r.val by omega, show 15 + r.val - 10 = 5 + r.val by omega, show 15 + r.val - 11 = 4 + r.val by omega, show 15 + r.val - 12 = 3 + r.val by omega, show 15 + r.val - 13 = 2 + r.val by omega, show 15 + r.val - 14 = 1 + r.val by omega, show 15 + r.val - 15 = 0 + r.val by omega]
  pointwise [val_main_v174, val_main_v172, val_main_v164, val_main_v162, val_main_v160, val_main_v158, val_main_v156, val_main_v154, val_main_v152, val_main_v150, val_main_v148, val_main_v146, val_main_v144, val_main_v142, val_main_v140, val_main_v138, val_main_v136, val_main_v134, val_main_v133, val_main_v135, val_main_v137, val_main_v139, val_main_v141, val_main_v143, val_main_v145, val_main_v147, val_main_v149, val_main_v151, val_main_v153, val_main_v155, val_main_v157, val_main_v159, val_main_v161, val_main_v163, val_main_v171, val_main_v170, val_main_v169, val_main_v168, val_main_v166, val_main_v74, val_main_v165, val_main_c_17, val_main_v167, val_main_c_18, val_main_v173]
  simp only [ext_apply]

theorem mix_apply (r : Fin 16384) (l : Fin 512) :
    val_main_v202 (F := Ideal) x ada nw wi wp ps (ix2 r l)
      = (∑ j : Fin 128, wp (ix4 0 ⟨l.val / 128, by omega⟩ j ⟨l.val % 128, by omega⟩)
          * dif (ext x ada nw wi ⟨r.val / 2048, by omega⟩) (r.val % 2048) ⟨l.val / 128 * 128 + j.val, by omega⟩)
        * ps (ix2 0 l) * silu (prj x ada nw wi ⟨r.val / 2048, by omega⟩ ⟨r.val % 2048, by omega⟩ ⟨2376 + l.val, by omega⟩) := by
  unfold silu dif
  simp only [← prj_apply]
  pointwise [val_main_v202, val_main_v201, val_main_v187, val_main_v185, val_main_v182, val_main_v181, val_main_v180, val_main_v72, val_main_v179, val_main_v175, val_main_v176, val_main_v177, val_main_v178, val_main_v184, val_main_v183, val_main_v73, val_main_v186, val_main_v35, val_main_call0_v5, val_main_call0_v4, val_main_call0_cst_0, val_main_call0_v3, val_main_call0_v2, val_main_call0_cst, val_main_call0_v1, val_main_call0_v0]
  simp only [pool0_apply, pool1_apply, pool2_apply, pool3_apply]
  refine congrArg (fun z => z * ps (ix2 0 l) * _) (Finset.sum_congr rfl fun j _ => congrArg (wp _ * ·) ?_)
  by_cases a : l.val / 128 < 1
  · have e : l.val / 128 * 128 + j.val = j.val := by omega
    simp only [a, e, show j.val < 128 from j.isLt, dif_pos, if_true]
  by_cases c : l.val / 128 - 1 < 1
  · have e : l.val / 128 * 128 + j.val = 128 + j.val := by omega
    simp only [a, c, e, show ¬ 128 + j.val < 128 by omega, show 128 + j.val < 256 by omega, dif_pos, if_true, if_false, dite_false]
  by_cases d : l.val / 128 - 1 - 1 < 1
  · have e : l.val / 128 * 128 + j.val = 256 + j.val := by omega
    simp only [a, c, d, e, show ¬ 256 + j.val < 128 by omega, show ¬ 256 + j.val < 256 by omega, show 256 + j.val < 384 by omega, dif_pos, if_true, if_false, dite_false]
  · have e : l.val / 128 * 128 + j.val = 384 + j.val := by omega
    simp only [a, c, d, e, show ¬ 384 + j.val < 128 by omega, show ¬ 384 + j.val < 256 by omega, show ¬ 384 + j.val < 384 by omega, if_false, dite_false]

end Cert.ProjRef
end
-- ==== Proof.ProjOut.lean ====
/- What a point of the prompt's input projection stores into each block it writes, as the reference's value at the block's
   place: two halves of 256 rows, each a payload read at an index. -/
module

public import proofs.«01_k».proof.Proof.ProjPay
public import proofs.«01_k».proof.Proof.ProjPool
public import proofs.«01_k».proof.Proof.ProjRef
public import Idealize.ShloMosaic.Lib.Pipeline.Value
public import Idealize.ShloMosaic.Lib.Writes

@[expose] public section

set_option maxRecDepth 16384
set_option maxHeartbeats 1000000

noncomputable section

open Idealize.ShloMosaic Idealize.ShloMosaic.TcCoe Idealize.SL.Sem

namespace Cert.ProjOut

open Cert.KernelIdeal Cert.KernelIdeal.Gen Cert.ProjSpec Cert.ProjRef Cert.ProjPool

/-- An index of a rectangle of unit step, in the array. -/
theorem emb_eq {s : Shape} {off size : Fin s.rank → ℕ} (inb : ∀ a, off a + size a ≤ s.size a)
    (x : (Rect.unit off size inb).shape.Idx) (y : s.Idx) (h : ∀ a, (y a).val = off a + (x a).val) :
    (Rect.unit off size inb).emb x = y :=
  funext fun a => Fin.ext (by show off a + 1 * (x a).val = _; rw [h a, Nat.one_mul])

theorem all2 {P : Fin 2 → Prop} (h0 : P 0) (h1 : P 1) : ∀ a, P a := Fin.forall_fin_two.mpr ⟨h0, h1⟩
theorem all3 {P : Fin 3 → Prop} (h0 : P 0) (h1 : P 1) (h2 : P 2) : ∀ a, P a := fun a => match a with
  | ⟨0, _⟩ => h0 | ⟨1, _⟩ => h1 | ⟨2, _⟩ => h2

section
variable (x : FVec Ideal S8x2048x1024 .f32) (ada : FVec Ideal S8x3072 .f32) (nw : FVec Ideal S1x1024 .f32)
  (wi : FVec Ideal S1x1024x2888 .f32) (qn kn : FVec Ideal S1x64 .f32) (wp : FVec Ideal S1x4x128x128 .f32)
  (ps : FVec Ideal S1x512 .f32) (t : Fin 32)

/-- The modulated normalised rows of a batch. -/
def hd (n : Fin 2048) (k : Fin 1024) : EReal :=
  hid (fun i => x (ix3 ⟨t.val / 4, by omega⟩ n i)) (nw (ix2 0 k)) (ada (ix2 ⟨t.val / 4, by omega⟩ ⟨1024 + k.val, by omega⟩))
    (ada (ix2 ⟨t.val / 4, by omega⟩ ⟨k.val, by omega⟩)) k

/-- The rows of a block, projected. -/
def pj (r : Fin 512) (k : Fin 2888) : EReal := prj x ada nw wi ⟨t.val / 4, by omega⟩ ⟨t.val % 4 * 512 + r.val, by omega⟩ k

theorem pj_eq (r : Fin 512) (k : Fin 2888) :
    (∑ j, hd x ada nw t ⟨t.val % 4 * 512 + r.val, by omega⟩ j * wi (ix3 0 j k)) = pj x ada nw wi t r k := rfl

/-- The windows' rows of the point's batch. -/
def ex (l : Fin 512) (n : Nat) : EReal := ext x ada nw wi ⟨t.val / 4, by omega⟩ l n

/-! The reference at a block. -/

def gQs : FVec Ideal S512x512 .bf16 := fun y =>
  Cert.ReferenceIdeal.Read.val_main_v189 (F := Ideal) x ada nw wi qn (ix2 ⟨t.val * 512 + (y 0).val, by have : (y 0).val < 512 := (y 0).isLt; omega⟩ (y 1))
def gKt : FVec Ideal S1x128x512 .f32 := fun y =>
  Cert.ReferenceIdeal.Read.val_main_v191 (F := Ideal) x ada nw wi kn (ix3 ⟨t.val / 4, by omega⟩ (y 1) ⟨t.val % 4 * 512 + (y 2).val, by have : (y 2).val < 512 := (y 2).isLt; omega⟩)
def gVt : FVec Ideal S1x128x512 .f32 := fun y =>
  Cert.ReferenceIdeal.Read.val_main_v192 (F := Ideal) x ada nw wi (ix3 ⟨t.val / 4, by omega⟩ (y 1) ⟨t.val % 4 * 512 + (y 2).val, by have : (y 2).val < 512 := (y 2).isLt; omega⟩)
def gQi : FVec Ideal S512x512 .bf16 := fun y =>
  Cert.ReferenceIdeal.Read.val_main_v194 (F := Ideal) x ada nw wi (ix2 ⟨t.val * 512 + (y 0).val, by have : (y 0).val < 512 := (y 0).isLt; omega⟩ (y 1))
def gKi : FVec Ideal S1x64x512 .f32 := fun y =>
  Cert.ReferenceIdeal.Read.val_main_v195 (F := Ideal) x ada nw wi (ix3 ⟨t.val / 4, by omega⟩ (y 1) ⟨t.val % 4 * 512 + (y 2).val, by have : (y 2).val < 512 := (y 2).isLt; omega⟩)
def gWi : FVec Ideal S4x8x128 .f32 := fun y =>
  Cert.ReferenceIdeal.Read.val_main_v197 (F := Ideal) x ada nw wi (ix3 ⟨t.val * 4 + (y 0).val, by have : (y 0).val < 4 := (y 0).isLt; omega⟩ (y 1) (y 2))
def gSg : FVec Ideal S512x512 .bf16 := fun y =>
  Cert.ReferenceIdeal.Read.val_main_v200 (F := Ideal) x ada nw wi (ix2 ⟨t.val * 512 + (y 0).val, by have : (y 0).val < 512 := (y 0).isLt; omega⟩ (y 1))
def gPg : FVec Ideal S512x512 .bf16 := fun y =>
  Cert.ReferenceIdeal.Read.val_main_v202 (F := Ideal) x ada nw wi wp ps (ix2 ⟨t.val * 512 + (y 0).val, by have : (y 0).val < 512 := (y 0).isLt; omega⟩ (y 1))
def gUl : FVec Ideal S1x16x512 .f32 := fun y => ex x ada nw wi t (y 2) (t.val % 4 * 512 + 511 + (y 1).val)

/-! Each of them at an index. -/

theorem gQs_apply (r l : Fin 512) : gQs x ada nw wi qn t (ix2 r l)
    = nrm (fun i : Fin 512 => pj x ada nw wi t r ⟨i.val, by omega⟩) (by decide) l * (qn (ix2 0 ⟨l.val % 64, by omega⟩) * Ideal.ofBits .f32 0x3E000000#32) := by
  refine (qs_apply x ada nw wi qn ⟨t.val * 512 + r.val, by omega⟩ l).trans ?_
  simp only [pj, show (t.val * 512 + r.val) / 2048 = t.val / 4 by omega, show (t.val * 512 + r.val) % 2048 = t.val % 4 * 512 + r.val by omega]
theorem gKt_apply (l : Fin 128) (r : Fin 512) : gKt x ada nw wi kn t (ix3 0 l r)
    = nrm (fun i : Fin 128 => pj x ada nw wi t r ⟨512 + i.val, by omega⟩) (by decide) l * kn (ix2 0 ⟨l.val % 64, by omega⟩) :=
  kt_apply x ada nw wi kn _ l _
theorem gVt_apply (l : Fin 128) (r : Fin 512) : gVt x ada nw wi t (ix3 0 l r) = pj x ada nw wi t r ⟨640 + l.val, by omega⟩ :=
  vt_apply x ada nw wi _ l _
theorem gQi_apply (r l : Fin 512) : gQi x ada nw wi t (ix2 r l) = pj x ada nw wi t r ⟨768 + l.val, by omega⟩ := by
  refine (qi_apply x ada nw wi ⟨t.val * 512 + r.val, by omega⟩ l).trans ?_
  simp only [pj, show (t.val * 512 + r.val) / 2048 = t.val / 4 by omega, show (t.val * 512 + r.val) % 2048 = t.val % 4 * 512 + r.val by omega]
theorem gKi_apply (l : Fin 64) (r : Fin 512) : gKi x ada nw wi t (ix3 0 l r) = pj x ada nw wi t r ⟨1280 + l.val, by omega⟩ :=
  ki_apply x ada nw wi _ l _
theorem gWi_apply (g : Fin 4) (h : Fin 8) (r : Fin 128) : gWi x ada nw wi t (ix3 g h r)
    = pj x ada nw wi t ⟨g.val * 128 + r.val, by omega⟩ ⟨1344 + h.val, by omega⟩ * Ideal.ofBits .f32 0x3D3504F3#32 := by
  refine (wi_apply x ada nw wi ⟨t.val * 4 + g.val, by omega⟩ h r).trans ?_
  simp only [pj, show (t.val * 4 + g.val) / 16 = t.val / 4 by omega,
    show (t.val * 4 + g.val) % 16 * 128 + r.val = t.val % 4 * 512 + (g.val * 128 + r.val) by omega]
theorem gSg_apply (r l : Fin 512) : gSg x ada nw wi t (ix2 r l) = silu (pj x ada nw wi t r ⟨1352 + l.val, by omega⟩) := by
  refine (sga_apply x ada nw wi ⟨t.val * 512 + r.val, by omega⟩ l).trans ?_
  simp only [pj, show (t.val * 512 + r.val) / 2048 = t.val / 4 by omega, show (t.val * 512 + r.val) % 2048 = t.val % 4 * 512 + r.val by omega]
theorem gPg_apply (r l : Fin 512) : gPg x ada nw wi wp ps t (ix2 r l)
    = (∑ j : Fin 128, wp (ix4 0 ⟨l.val / 128, by omega⟩ j ⟨l.val % 128, by omega⟩)
          * dif (ex x ada nw wi t) (t.val % 4 * 512 + r.val) ⟨l.val / 128 * 128 + j.val, by omega⟩)
        * ps (ix2 0 l) * silu (pj x ada nw wi t r ⟨2376 + l.val, by omega⟩) := by
  refine (mix_apply x ada nw wi wp ps ⟨t.val * 512 + r.val, by omega⟩ l).trans ?_
  have e : ext x ada nw wi ⟨t.val / 4, by omega⟩ = ex x ada nw wi t := rfl
  simp only [pj, ← e, show (t.val * 512 + r.val) / 2048 = t.val / 4 by omega, show (t.val * 512 + r.val) % 2048 = t.val % 4 * 512 + r.val by omega]
theorem ex_row (r : Fin 512) (l : Fin 512) : ex x ada nw wi t l (15 + (t.val % 4 * 512 + r.val)) = pj x ada nw wi t r ⟨1864 + l.val, by omega⟩ := by
  unfold ex ext pj
  rw [dif_pos (by omega)]
  simp only [show 15 + (t.val % 4 * 512 + r.val) - 15 = t.val % 4 * 512 + r.val by omega]

/-! The products of a half's rows with a slice of the weight. -/

/-- The rows of a half of the block. -/
def Rows (o : Nat) (ho : o + 256 ≤ 512) (H : FVec Ideal S256x1024 .bf16) : Prop :=
  ∀ (r : Fin 256) (k : Fin 1024), H (ix2 r k) = hd x ada nw t ⟨t.val % 4 * 512 + (o + r.val), by omega⟩ k

/-- A slice of the weight's columns. -/
def Cols {n : Nat} (o : Nat) (ho : o + n ≤ 2888) (w : (⟨2, ![1024, n]⟩ : Shape).Idx → EReal) : Prop :=
  ∀ (k : Fin 1024) (l : Fin n), w (ix2 k l) = wi (ix3 0 k ⟨o + l.val, by omega⟩)

theorem dot_eq {n : Nat} {o : Nat} {ho : o + 256 ≤ 512} {H : FVec Ideal S256x1024 .bf16} (hH : Rows x ada nw t o ho H)
    {q : Nat} {hq : q + n ≤ 2888} {w : (⟨2, ![1024, n]⟩ : Shape).Idx → EReal} (hw : Cols wi q hq w) (r : Fin 256) (l : Fin n) :
    (∑ k : Fin 1024, H (ix2 r k) * w (ix2 k l)) = pj x ada nw wi t ⟨o + r.val, by omega⟩ ⟨q + l.val, by omega⟩ := by
  rw [← pj_eq]
  exact Finset.sum_congr rfl fun k _ => congrArg₂ _ (hH r k) (hw k l)

end

end Cert.ProjOut

end
-- ==== Proof.ProjPieces.lean ====
/- The stores of a point of the prompt's input projection, piece by piece: each payload is the reference under its rectangle. -/
module

public import proofs.«01_k».proof.Proof.ProjOut

@[expose] public section

set_option maxRecDepth 16384
set_option maxHeartbeats 400000

noncomputable section

open Idealize.ShloMosaic Idealize.ShloMosaic.TcCoe Idealize.SL.Sem

namespace Cert.ProjOut

open Cert.KernelIdeal Cert.KernelIdeal.Gen Cert.ProjSpec Cert.ProjRef Cert.ProjPool

theorem mem2 {α : Type} {P : α → Prop} {a b : α} (ha : P a) (hb : P b) : ∀ p ∈ [a, b], P p := fun p hp => by
  rcases List.mem_cons.mp hp with rfl | hp
  · exact ha
  · exact (List.mem_singleton.mp hp) ▸ hb
theorem mem4 {α : Type} {P : α → Prop} {a b c d : α} (ha : P a) (hb : P b) (hc : P c) (hd : P d) : ∀ p ∈ [a, b, c, d], P p := fun p hp => by
  rcases List.mem_cons.mp hp with rfl | hp
  · exact ha
  rcases List.mem_cons.mp hp with rfl | hp
  · exact hb
  exact mem2 hc hd p hp

theorem lift2 {n m : Nat} {f g : (⟨2, ![n, m]⟩ : Shape).Idx → EReal} (h : ∀ r l, f (ix2 r l) = g (ix2 r l)) (z) : f z = g z := by
  have e : z = ix2 (z 0) (z 1) := funext fun a => by match a with | ⟨0, _⟩ => rfl | ⟨1, _⟩ => rfl
  rw [e]; exact h _ _
theorem lift3 {n m : Nat} {f g : (⟨3, ![1, n, m]⟩ : Shape).Idx → EReal} (h : ∀ r l, f (ix3 0 r l) = g (ix3 0 r l)) (z) : f z = g z := by
  have e : z = ix3 0 (z 1) (z 2) := funext fun a => by
    match a with
    | ⟨0, _⟩ => exact Subsingleton.elim (α := Fin 1) _ _
    | ⟨1, _⟩ => rfl
    | ⟨2, _⟩ => rfl
  rw [e]; exact h _ _

theorem half0 : 0 + 256 ≤ 512 := by decide
theorem half1 : 256 + 256 ≤ 512 := by decide

section
/-- The query norm's weight, tiled over the heads and scaled. -/
def Qn (qn : FVec Ideal S1x64 .f32) (x4 : Vec Ideal S1x512 .f32) : Prop :=
  ∀ l : Fin 512, x4 (ix2 0 l) = qn (ix2 0 ⟨l.val % 64, by omega⟩) * Ideal.ofBits .f32 0x3E000000#32
/-- The key norm's weight, tiled over the heads. -/
def Kn (kn : FVec Ideal S1x64 .f32) (x5 : Vec Ideal S1x128 .f32) : Prop :=
  ∀ l : Fin 128, x5 (ix2 0 l) = kn (ix2 0 ⟨l.val % 64, by omega⟩)
/-- Two of the pool's four matrices on a diagonal. -/
def Blk (wp : FVec Ideal S1x4x128x128 .f32) (o : Nat) (ho : o + 2 ≤ 4) (w : Fin 256 → Fin 256 → EReal) : Prop :=
  ∀ x l : Fin 256, w x l = if x.val / 128 = l.val / 128 then wp (ix4 0 ⟨o + l.val / 128, by omega⟩ ⟨x.val % 128, by omega⟩ ⟨l.val % 128, by omega⟩) else 0
end

section
variable (x : FVec Ideal S8x2048x1024 .f32) (ada : FVec Ideal S8x3072 .f32) (nw : FVec Ideal S1x1024 .f32)
  (wi : FVec Ideal S1x1024x2888 .f32) (qn kn : FVec Ideal S1x64 .f32) (wp : FVec Ideal S1x4x128x128 .f32)
  (ps : FVec Ideal S1x512 .f32) (t : Fin 32)
  {H0 H1 : FVec Ideal S256x1024 .bf16} (h0 : Rows x ada nw t 0 half0 H0) (h1 : Rows x ada nw t 256 half1 H1)

section
include h0 h1

theorem qs_pieces {v7 v8 : FVec Ideal S1x1024 .f32} {v127 : FVec Ideal S256x1024 .f32} {v128 : Vec Ideal S1x1024 .f32}
    (e0 : H0 = k0_pay41 v7 v8 v127 v128) {v66 : FVec Ideal S256x256 .bf16} (hm : ∀ k l : Fin 256, v66 (ix2 k l) = if k.val / 64 = l.val / 64 then 1 else 0)
    {w : Vec Ideal S1024x512 .bf16} (hw : Cols wi 0 (by decide) w) {x4 : Vec Ideal S1x512 .f32}
    (h4 : Qn qn x4) :
    ∀ p ∈ ([⟨Rect.unit ![256, 0] S256x512.size inb_S512x512_S256x512_256_0, k0_pay79 v66 H1 (k0_pay78 w) (constant S256x512 .f32 0#32) x4⟩,
      ⟨Rect.unit ![0, 0] S256x512.size inb_S512x512_S256x512_0_0, k0_pay42 v7 v8 v66 v127 v128 w x4⟩] : List (View.Piece (Elt Ideal) S512x512 .bf16)),
      ∀ z, p.2 z = gQs x ada nw wi qn t (p.1.emb z) := by
  subst e0
  refine mem2 (lift2 (n := 256) (m := 512) fun r l => ?_) (lift2 (n := 256) (m := 512) fun r l => ?_)
  · refine Eq.trans (ProjPay.q1 v66 H1 w x4 hm (fun i => pj x ada nw wi t ⟨256 + r.val, by omega⟩ ⟨0 + i.val, by omega⟩) r
      (fun l => dot_eq x ada nw wi t h1 hw r l) l) ?_
    refine Eq.trans ?_ (congrArg (gQs x ada nw wi qn t) (emb_eq inb_S512x512_S256x512_256_0 _ (ix2 ⟨256 + r.val, by omega⟩ l) (all2 rfl (Nat.zero_add _).symm))).symm
    refine Eq.trans ?_ (gQs_apply x ada nw wi qn t _ _).symm
    simp only [h4 _, Nat.zero_add]
  · refine Eq.trans (ProjPay.q0 v7 v8 v66 v127 v128 w x4 hm (fun i => pj x ada nw wi t ⟨0 + r.val, by omega⟩ ⟨0 + i.val, by omega⟩) r
      (fun l => dot_eq x ada nw wi t h0 hw r l) l) ?_
    refine Eq.trans ?_ (congrArg (gQs x ada nw wi qn t) (emb_eq inb_S512x512_S256x512_0_0 _ (ix2 ⟨r.val, by omega⟩ l) (all2 (Nat.zero_add _).symm (Nat.zero_add _).symm))).symm
    refine Eq.trans ?_ (gQs_apply x ada nw wi qn t _ _).symm
    simp only [h4 _, Nat.zero_add]

theorem kt_pieces {v121 : FVec Ideal S128x128 .bf16} (hm : ∀ k l : Fin 128, v121 (ix2 k l) = if k.val / 64 = l.val / 64 then 1 else 0)
    {w : Vec Ideal S1024x256 .bf16} (hw : Cols wi 512 (by decide) w) {x5 : Vec Ideal S1x128 .f32}
    (h5 : Kn kn x5) :
    ∀ p ∈ ([⟨Rect.unit ![0, 0, 256] S1x128x256.size inb_S1x128x512_S1x128x256_0_0_256, k0_pay83 (k0_pay82 v121 H1 w x5)⟩,
      ⟨Rect.unit ![0, 0, 0] S1x128x256.size inb_S1x128x512_S1x128x256_0_0_0, k0_pay45 v121 H0 w x5⟩] : List (View.Piece (Elt Ideal) S1x128x512 .f32)),
      ∀ z, p.2 z = gKt x ada nw wi kn t (p.1.emb z) := by
  refine mem2 (lift3 (n := 128) (m := 256) fun l r => ?_) (lift3 (n := 128) (m := 256) fun l r => ?_)
  · refine Eq.trans (ProjPay.k1 v121 H1 w x5 hm (fun i => pj x ada nw wi t ⟨256 + r.val, by omega⟩ ⟨512 + i.val, by omega⟩) r
      (fun l => dot_eq x ada nw wi t h1 hw r l) l) ?_
    refine Eq.trans ?_ (congrArg (gKt x ada nw wi kn t) (emb_eq inb_S1x128x512_S1x128x256_0_0_256 _ (ix3 0 l ⟨256 + r.val, by omega⟩) (all3 rfl (Nat.zero_add _).symm rfl))).symm
    refine Eq.trans ?_ (gKt_apply x ada nw wi kn t _ _).symm
    simp only [h5 _]
  · refine Eq.trans (ProjPay.k0 v121 H0 w x5 hm (fun i => pj x ada nw wi t ⟨0 + r.val, by omega⟩ ⟨512 + i.val, by omega⟩) r
      (fun l => dot_eq x ada nw wi t h0 hw r l) l) ?_
    refine Eq.trans ?_ (congrArg (gKt x ada nw wi kn t) (emb_eq inb_S1x128x512_S1x128x256_0_0_0 _ (ix3 0 l ⟨r.val, by omega⟩) (all3 rfl (Nat.zero_add _).symm (Nat.zero_add _).symm))).symm
    refine Eq.trans ?_ (gKt_apply x ada nw wi kn t _ _).symm
    simp only [h5 _, Nat.zero_add]

theorem vt_pieces {w : Vec Ideal S1024x256 .bf16} (hw : Cols wi 512 (by decide) w) :
    ∀ p ∈ ([⟨Rect.unit ![0, 0, 256] S1x128x256.size inb_S1x128x512_S1x128x256_0_0_256, k0_pay88 (k0_pay80 H1 w)⟩,
      ⟨Rect.unit ![0, 0, 0] S1x128x256.size inb_S1x128x512_S1x128x256_0_0_0, k0_pay50 H0 w⟩] : List (View.Piece (Elt Ideal) S1x128x512 .f32)),
      ∀ z, p.2 z = gVt x ada nw wi t (p.1.emb z) := by
  refine mem2 (lift3 (n := 128) (m := 256) fun l r => ?_) (lift3 (n := 128) (m := 256) fun l r => ?_)
  · refine Eq.trans (ProjPay.v1 H1 w r l) ?_
    refine Eq.trans ?_ (congrArg (gVt x ada nw wi t) (emb_eq inb_S1x128x512_S1x128x256_0_0_256 _ (ix3 0 l ⟨256 + r.val, by omega⟩) (all3 rfl (Nat.zero_add _).symm rfl))).symm
    refine Eq.trans ?_ (gVt_apply x ada nw wi t _ _).symm
    refine Eq.trans (dot_eq x ada nw wi t h1 hw r _) (congrArg (pj x ada nw wi t _) (Fin.ext ?_))
    show 512 + (128 + l.val) = 640 + l.val; omega
  · refine Eq.trans (ProjPay.v0 H0 w r l) ?_
    refine Eq.trans ?_ (congrArg (gVt x ada nw wi t) (emb_eq inb_S1x128x512_S1x128x256_0_0_0 _ (ix3 0 l ⟨0 + r.val, by omega⟩) (all3 rfl (Nat.zero_add _).symm rfl))).symm
    refine Eq.trans ?_ (gVt_apply x ada nw wi t _ _).symm
    refine Eq.trans (dot_eq x ada nw wi t h0 hw r _) (congrArg (pj x ada nw wi t _) (Fin.ext ?_))
    show 512 + (128 + l.val) = 640 + l.val; omega

theorem qi_pieces {w : Vec Ideal S1024x512 .bf16} (hw : Cols wi 768 (by decide) w) :
    ∀ p ∈ ([⟨Rect.unit ![256, 0] S256x512.size inb_S512x512_S256x512_256_0, k0_pay94 H1 w⟩,
      ⟨Rect.unit ![0, 0] S256x512.size inb_S512x512_S256x512_0_0, k0_pay55 H0 w⟩] : List (View.Piece (Elt Ideal) S512x512 .bf16)),
      ∀ z, p.2 z = gQi x ada nw wi t (p.1.emb z) := by
  refine mem2 (lift2 (n := 256) (m := 512) fun r l => ?_) (lift2 (n := 256) (m := 512) fun r l => ?_)
  · refine Eq.trans ((ProjPay.qi1 H1 w r l).trans (dot_eq x ada nw wi t h1 hw r l)) ?_
    refine Eq.trans ?_ (congrArg (gQi x ada nw wi t) (emb_eq inb_S512x512_S256x512_256_0 _ (ix2 ⟨256 + r.val, by omega⟩ l) (all2 rfl (Nat.zero_add _).symm))).symm
    exact (gQi_apply x ada nw wi t _ _).symm
  · refine Eq.trans ((ProjPay.qi0 H0 w r l).trans (dot_eq x ada nw wi t h0 hw r l)) ?_
    refine Eq.trans ?_ (congrArg (gQi x ada nw wi t) (emb_eq inb_S512x512_S256x512_0_0 _ (ix2 ⟨0 + r.val, by omega⟩ l) (all2 rfl (Nat.zero_add _).symm))).symm
    exact (gQi_apply x ada nw wi t _ _).symm

theorem sg_pieces {w : Vec Ideal S1024x512 .bf16} (hw : Cols wi 1352 (by decide) w) :
    ∀ p ∈ ([⟨Rect.unit ![256, 0] S256x512.size inb_S512x512_S256x512_256_0, k0_pay103 H1 w⟩,
      ⟨Rect.unit ![0, 0] S256x512.size inb_S512x512_S256x512_0_0, k0_pay64 H0 w⟩] : List (View.Piece (Elt Ideal) S512x512 .bf16)),
      ∀ z, p.2 z = gSg x ada nw wi t (p.1.emb z) := by
  refine mem2 (lift2 (n := 256) (m := 512) fun r l => ?_) (lift2 (n := 256) (m := 512) fun r l => ?_)
  · refine Eq.trans ((ProjPay.sga1 H1 w r l).trans (congrArg silu (dot_eq x ada nw wi t h1 hw r l))) ?_
    refine Eq.trans ?_ (congrArg (gSg x ada nw wi t) (emb_eq inb_S512x512_S256x512_256_0 _ (ix2 ⟨256 + r.val, by omega⟩ l) (all2 rfl (Nat.zero_add _).symm))).symm
    exact (gSg_apply x ada nw wi t _ _).symm
  · refine Eq.trans ((ProjPay.sga0 H0 w r l).trans (congrArg silu (dot_eq x ada nw wi t h0 hw r l))) ?_
    refine Eq.trans ?_ (congrArg (gSg x ada nw wi t) (emb_eq inb_S512x512_S256x512_0_0 _ (ix2 ⟨0 + r.val, by omega⟩ l) (all2 rfl (Nat.zero_add _).symm))).symm
    exact (gSg_apply x ada nw wi t _ _).symm

/-- The slice the two small projections are read out of: 72 columns of the weight and a padding. -/
def Cols72 (w : Vec Ideal S1024x128 .bf16) : Prop :=
  ∀ (k : Fin 1024) (l : Fin 72), w (ix2 k ⟨l.val, by omega⟩) = wi (ix3 0 k ⟨1280 + l.val, by omega⟩)

omit h0 h1 in
theorem dot72 {o : Nat} {ho : o + 256 ≤ 512} {H : FVec Ideal S256x1024 .bf16} (hH : Rows x ada nw t o ho H)
    {w : Vec Ideal S1024x128 .bf16} (hw : Cols72 wi w) (r : Fin 256) (l : Fin 72) :
    (∑ k : Fin 1024, H (ix2 r k) * w (ix2 k ⟨l.val, by omega⟩)) = pj x ada nw wi t ⟨o + r.val, by omega⟩ ⟨1280 + l.val, by omega⟩ := by
  rw [← pj_eq]
  exact Finset.sum_congr rfl fun k _ => congrArg₂ _ (hH r k) (hw k l)

theorem ki_pieces {w : Vec Ideal S1024x128 .bf16} (hw : Cols72 wi w) :
    ∀ p ∈ ([⟨Rect.unit ![0, 0, 256] S1x64x256.size inb_S1x64x512_S1x64x256_0_0_256, k0_pay97 H1 w⟩,
      ⟨Rect.unit ![0, 0, 0] S1x64x256.size inb_S1x64x512_S1x64x256_0_0_0, k0_pay59 (k0_pay58 H0 w)⟩] : List (View.Piece (Elt Ideal) S1x64x512 .f32)),
      ∀ z, p.2 z = gKi x ada nw wi t (p.1.emb z) := by
  refine mem2 (lift3 (n := 64) (m := 256) fun l r => ?_) (lift3 (n := 64) (m := 256) fun l r => ?_)
  · refine Eq.trans ((ProjPay.ki1 H1 w r l).trans (dot72 x ada nw wi t h1 hw r ⟨l.val, by omega⟩)) ?_
    refine Eq.trans ?_ (congrArg (gKi x ada nw wi t) (emb_eq inb_S1x64x512_S1x64x256_0_0_256 _ (ix3 0 l ⟨256 + r.val, by omega⟩) (all3 rfl (Nat.zero_add _).symm rfl))).symm
    exact (gKi_apply x ada nw wi t _ _).symm
  · refine Eq.trans ((ProjPay.ki0 H0 w r l).trans (dot72 x ada nw wi t h0 hw r ⟨l.val, by omega⟩)) ?_
    refine Eq.trans ?_ (congrArg (gKi x ada nw wi t) (emb_eq inb_S1x64x512_S1x64x256_0_0_0 _ (ix3 0 l ⟨0 + r.val, by omega⟩) (all3 rfl (Nat.zero_add _).symm rfl))).symm
    exact (gKi_apply x ada nw wi t _ _).symm

omit h0 h1 in
theorem wi_piece {o : Nat} {ho : o + 256 ≤ 512} {H : FVec Ideal S256x1024 .bf16} (hH : Rows x ada nw t o ho H)
    {w : Vec Ideal S1024x128 .bf16} (hw : Cols72 wi w) (g : Fin 4) (q : Nat) (hq : q + 128 ≤ 256) (e : o + q = g.val * 128) (h : Fin 8) (r : Fin 128) :
    (∑ k : Fin 1024, H (ix2 ⟨q + r.val, by omega⟩ k) * w (ix2 k ⟨64 + h.val, by omega⟩)) * Ideal.ofBits .f32 0x3D3504F3#32
      = gWi x ada nw wi t (ix3 g h r) := by
  refine Eq.trans ?_ (gWi_apply x ada nw wi t g h r).symm
  refine congrArg (· * _) ?_
  refine (dot72 x ada nw wi t hH hw ⟨q + r.val, by omega⟩ ⟨64 + h.val, by omega⟩).trans ?_
  refine congrArg₂ (pj x ada nw wi t) (Fin.ext ?_) (Fin.ext ?_)
  · show o + (q + r.val) = g.val * 128 + r.val; omega
  · show 1280 + (64 + h.val) = 1344 + h.val; omega

theorem wi_pieces {w : Vec Ideal S1024x128 .bf16} (hw : Cols72 wi w) :
    ∀ p ∈ ([⟨Rect.unit ![3, 0, 0] S1x8x128.size inb_S4x8x128_S1x8x128_3_0_0, k0_pay100 H1 w⟩,
      ⟨Rect.unit ![2, 0, 0] S1x8x128.size inb_S4x8x128_S1x8x128_2_0_0, k0_pay99 H1 w⟩,
      ⟨Rect.unit ![1, 0, 0] S1x8x128.size inb_S4x8x128_S1x8x128_1_0_0, k0_pay62 (k0_pay57 H0 w)⟩,
      ⟨Rect.unit ![0, 0, 0] S1x8x128.size inb_S4x8x128_S1x8x128_0_0_0, k0_pay61 (k0_pay57 H0 w)⟩] : List (View.Piece (Elt Ideal) S4x8x128 .f32)),
      ∀ z, p.2 z = gWi x ada nw wi t (p.1.emb z) := by
  refine mem4 (lift3 (n := 8) (m := 128) fun l r => ?_) (lift3 (n := 8) (m := 128) fun l r => ?_)
    (lift3 (n := 8) (m := 128) fun l r => ?_) (lift3 (n := 8) (m := 128) fun l r => ?_)
  · refine Eq.trans ((ProjPay.wi1' H1 w l r).trans (wi_piece x ada nw wi t h1 hw 3 128 (by decide) rfl l r)) ?_
    exact (congrArg (gWi x ada nw wi t) (emb_eq inb_S4x8x128_S1x8x128_3_0_0 _ (ix3 3 l r) (all3 rfl (Nat.zero_add _).symm (Nat.zero_add _).symm))).symm
  · refine Eq.trans ((ProjPay.wi1 H1 w l r).trans ?_) ((wi_piece x ada nw wi t h1 hw 2 0 (by decide) rfl l r).trans ?_)
    · simp only [Nat.zero_add]
    · exact (congrArg (gWi x ada nw wi t) (emb_eq inb_S4x8x128_S1x8x128_2_0_0 _ (ix3 2 l r) (all3 rfl (Nat.zero_add _).symm (Nat.zero_add _).symm))).symm
  · refine Eq.trans ((ProjPay.wi0' H0 w l r).trans (wi_piece x ada nw wi t h0 hw 1 128 (by decide) rfl l r)) ?_
    exact (congrArg (gWi x ada nw wi t) (emb_eq inb_S4x8x128_S1x8x128_1_0_0 _ (ix3 1 l r) (all3 rfl (Nat.zero_add _).symm (Nat.zero_add _).symm))).symm
  · refine Eq.trans ((ProjPay.wi0 H0 w l r).trans ?_) ((wi_piece x ada nw wi t h0 hw 0 0 (by decide) rfl l r).trans ?_)
    · simp only [Nat.zero_add]
    · exact (congrArg (gWi x ada nw wi t) (emb_eq inb_S4x8x128_S1x8x128_0_0_0 _ (ix3 0 l r) (all3 rfl (Nat.zero_add _).symm (Nat.zero_add _).symm))).symm

omit h0 h1 in
/-- Half a block of the gated pool. -/
theorem pg_half {o : Nat} {ho : o + 256 ≤ 512} {u gp : FVec Ideal S256x512 .f32} {pos : IVec S256x128 32}
    (hu : ∀ (r : Fin 256) (l : Fin 512), u (ix2 r l) = pj x ada nw wi t ⟨o + r.val, by omega⟩ ⟨1864 + l.val, by omega⟩)
    (hg : ∀ (r : Fin 256) (l : Fin 512), gp (ix2 r l) = pj x ada nw wi t ⟨o + r.val, by omega⟩ ⟨2376 + l.val, by omega⟩)
    (hp : ∀ (r : Fin 256) (l : Fin 128), pos (ix2 r l) = BitVec.ofNat 32 (t.val % 4 * 512 + o + r.val))
    {e0 e1 e2 e3 : Vec Ideal S272x128 .f32} (k0 : Lanes (ex x ada nw wi t) (t.val % 4 * 512 + o) 0 (by decide) e0)
    (k1 : Lanes (ex x ada nw wi t) (t.val % 4 * 512 + o) 128 (by decide) e1) (k2 : Lanes (ex x ada nw wi t) (t.val % 4 * 512 + o) 256 (by decide) e2)
    (k3 : Lanes (ex x ada nw wi t) (t.val % 4 * 512 + o) 384 (by decide) e3)
    {x7 : Vec Ideal S1x512 .f32} (h7 : ∀ l : Fin 512, x7 (ix2 0 l) = ps (ix2 0 l)) {w0 w1 : Vec Ideal S1x256x256 .bf16}
    (hw0 : Blk wp 0 (by decide) fun x l => w0 (ix3 0 x l))
    (hw1 : Blk wp 2 (by decide) fun x l => w1 (ix3 0 x l))
    (r : Fin 256) (l : Fin 512) :
    fin (cat pos u e0 e1 e2 e3) gp x7 w0 w1 (ix2 r l) = gPg x ada nw wi wp ps t (ix2 ⟨o + r.val, by omega⟩ l) := by
  refine (fin_apply _ gp x7 w0 w1 (fun a b c => wp (ix4 0 a b c))
    (fun x l => (hw0 x l).trans (by simp only [Nat.zero_add])) hw1 r l).trans ?_
  refine Eq.trans ?_ (gPg_apply x ada nw wi wp ps t _ l).symm
  rw [h7, hg]
  refine congrArg (fun z => z * ps (ix2 0 l) * _) (Finset.sum_congr rfl fun j _ => congrArg (wp _ * ·) ?_)
  refine (cat_apply u e0 e1 e2 e3 (ex x ada nw wi t) (t.val % 4 * 512 + o) pos hp
    k0 k1 k2 k3 (fun r l => (hu r l).trans ?_) r _).trans ?_
  · rw [← ex_row]
    exact congrArg _ (by show 15 + (t.val % 4 * 512 + (o + r.val)) = 15 + (t.val % 4 * 512 + o + r.val); omega)
  · rw [Nat.add_assoc]

theorem pg_pieces {wu wg : Vec Ideal S1024x512 .bf16} (hwu : Cols wi 1864 (by decide) wu) (hwg : Cols wi 2376 (by decide) wg)
    {pw : BitVec 32} (hp : pw = BitVec.ofNat 32 (t.val % 4))
    {e0 e1 e2 e3 f0 f1 f2 f3 : Vec Ideal S272x128 .f32} (k0 : Lanes (ex x ada nw wi t) (t.val % 4 * 512 + 0) 0 (by decide) e0)
    (k1 : Lanes (ex x ada nw wi t) (t.val % 4 * 512 + 0) 128 (by decide) e1) (k2 : Lanes (ex x ada nw wi t) (t.val % 4 * 512 + 0) 256 (by decide) e2)
    (k3 : Lanes (ex x ada nw wi t) (t.val % 4 * 512 + 0) 384 (by decide) e3)
    (j0 : Lanes (ex x ada nw wi t) (t.val % 4 * 512 + 256) 0 (by decide) f0)
    (j1 : Lanes (ex x ada nw wi t) (t.val % 4 * 512 + 256) 128 (by decide) f1) (j2 : Lanes (ex x ada nw wi t) (t.val % 4 * 512 + 256) 256 (by decide) f2)
    (j3 : Lanes (ex x ada nw wi t) (t.val % 4 * 512 + 256) 384 (by decide) f3)
    {x7 : Vec Ideal S1x512 .f32} (h7 : ∀ l : Fin 512, x7 (ix2 0 l) = ps (ix2 0 l)) {w0 w1 : Vec Ideal S1x256x256 .bf16}
    (hw0 : Blk wp 0 (by decide) fun x l => w0 (ix3 0 x l))
    (hw1 : Blk wp 2 (by decide) fun x l => w1 (ix3 0 x l)) :
    ∀ p ∈ ([⟨Rect.unit ![256, 0] S256x512.size inb_S512x512_S256x512_256_0,
        k0_pay116 (k0_pay104 H1 wu) (k0_pay105 H1 wg) (k0_pay107 pw) (k0_pay111 (k0_pay104 H1 wu) (k0_pay108 f0) (k0_pay109 pw) k0_pay110)
          (k0_pay112 (k0_pay104 H1 wu) (k0_pay107 pw) f1) (k0_pay113 (k0_pay104 H1 wu) (k0_pay107 pw) f2) (k0_pay114 f3) (k0_pay115 f3) x7 w0 w1⟩,
      ⟨Rect.unit ![0, 0] S256x512.size inb_S512x512_S256x512_0_0,
        k0_pay76 (k0_pay66 H0 wg) (k0_pay72 x7)
          (k0_pay74 (k0_pay65 H0 wu) (k0_pay68 pw) (k0_pay69 pw (k0_pay65 H0 wu) e0) (k0_pay70 pw (k0_pay65 H0 wu) e1) e2 (k0_pay71 e2) e3 w0)
          (k0_pay75 (k0_pay65 H0 wu) (k0_pay68 pw) (k0_pay69 pw (k0_pay65 H0 wu) e0) (k0_pay70 pw (k0_pay65 H0 wu) e1) e2 (k0_pay71 e2) e3) w1⟩] :
        List (View.Piece (Elt Ideal) S512x512 .bf16)),
      ∀ z, p.2 z = gPg x ada nw wi wp ps t (p.1.emb z) := by
  subst hp
  refine mem2 (lift2 (n := 256) (m := 512) fun r l => ?_) (lift2 (n := 256) (m := 512) fun r l => ?_)
  · refine Eq.trans (congrFun (fin1_eq (BitVec.ofNat 32 (t.val % 4)) (k0_pay104 H1 wu) (k0_pay105 H1 wg) f0 f1 f2 f3 x7 w0 w1) (ix2 r l)) ?_
    refine Eq.trans (pg_half x ada nw wi wp ps t (o := 256) (ho := by decide) (fun r l => (ProjPay.u1 H1 wu r l).trans (dot_eq x ada nw wi t h1 hwu r l))
      (fun r l => (ProjPay.gp1 H1 wg r l).trans (dot_eq x ada nw wi t h1 hwg r l)) (fun r l => hp1 (t.val % 4) r l) j0 j1 j2 j3 h7 hw0 hw1 r l) ?_
    exact (congrArg (gPg x ada nw wi wp ps t) (emb_eq inb_S512x512_S256x512_256_0 _ (ix2 ⟨256 + r.val, by omega⟩ l) (all2 rfl (Nat.zero_add _).symm))).symm
  · refine Eq.trans (congrFun (fin0_eq (BitVec.ofNat 32 (t.val % 4)) (k0_pay65 H0 wu) (k0_pay66 H0 wg) e0 e1 e2 e3 x7 w0 w1) (ix2 r l)) ?_
    refine Eq.trans (pg_half x ada nw wi wp ps t (o := 0) (ho := by decide) (fun r l => (ProjPay.u0 H0 wu r l).trans (dot_eq x ada nw wi t h0 hwu r l))
      (fun r l => (ProjPay.gp0 H0 wg r l).trans (dot_eq x ada nw wi t h0 hwg r l)) (fun r l => (hp0 (t.val % 4) r l).trans (by rw [Nat.add_zero])) k0 k1 k2 k3 h7 hw0 hw1 r l) ?_
    exact (congrArg (gPg x ada nw wi wp ps t) (emb_eq inb_S512x512_S256x512_0_0 _ (ix2 ⟨0 + r.val, by omega⟩ l) (all2 rfl (Nat.zero_add _).symm))).symm

/-! The carried rows: sixteen of the batch's rows before the block, then the block's own. -/

/-- The rows the windows of the block run over, as the carried buffer holds them. -/
def gEx : Vec Ideal S528x512 .f32 := fun y => ex x ada nw wi t (y 1) (t.val % 4 * 512 + (y 0).val - 1)

theorem ex_pieces {wu : Vec Ideal S1024x512 .bf16} (hwu : Cols wi 1864 (by decide) wu) :
    (∀ z, k0_pay106 H1 wu z = gEx x ada nw wi t ((Rect.unit (s := S528x512) ![272, 0] S256x512.size inb_S528x512_S256x512_272_0).emb z))
    ∧ ∀ z, k0_pay67 (k0_pay65 H0 wu) z = gEx x ada nw wi t ((Rect.unit (s := S528x512) ![16, 0] S256x512.size inb_S528x512_S256x512_16_0).emb z) := by
  constructor
  · refine lift2 (n := 256) (m := 512) fun r l => ?_
    refine Eq.trans ((ProjPay.us1 H1 wu r l).trans (dot_eq x ada nw wi t h1 hwu r l)) ?_
    refine Eq.trans ?_ (congrArg (gEx x ada nw wi t) (emb_eq inb_S528x512_S256x512_272_0 _ (ix2 ⟨272 + r.val, by omega⟩ l) (all2 rfl (Nat.zero_add _).symm))).symm
    rw [← ex_row]
    exact congrArg (ex x ada nw wi t l) (by show 15 + (t.val % 4 * 512 + (256 + r.val)) = t.val % 4 * 512 + (272 + r.val) - 1; omega)
  · refine lift2 (n := 256) (m := 512) fun r l => ?_
    refine Eq.trans ((ProjPay.us0 r _ l).trans ((ProjPay.u0 H0 wu r l).trans (dot_eq x ada nw wi t h0 hwu r l))) ?_
    refine Eq.trans ?_ (congrArg (gEx x ada nw wi t) (emb_eq inb_S528x512_S256x512_16_0 _ (ix2 ⟨16 + r.val, by omega⟩ l) (all2 rfl (Nat.zero_add _).symm))).symm
    rw [← ex_row]
    exact congrArg (ex x ada nw wi t l) (by show 15 + (t.val % 4 * 512 + (0 + r.val)) = t.val % 4 * 512 + (16 + r.val) - 1; omega)

end
end

end Cert.ProjOut

end
-- ==== Proof.ProjStage.lean ====
/- The weight as the first point of the prompt's input projection stages it: transposed, its columns from 1352 on moved
   up by 56, the gap zero. -/
module

public import proofs.«01_k».proof.Proof.ProjPieces

@[expose] public section

set_option maxRecDepth 16384
set_option maxHeartbeats 400000

noncomputable section

open Idealize.ShloMosaic Idealize.ShloMosaic.TcCoe Idealize.SL.Sem

namespace Cert.ProjOut

open Cert.KernelIdeal Cert.KernelIdeal.Gen Cert.ProjSpec Cert.ProjRef Cert.ProjPool

/-- A load out of a whole buffer, at an index. -/
theorem rd_at {S : Shape} {e : EltTy} (a : Memref sig .tc .vmem S e) (ha : a.IsWhole) (d : Vec Ideal S e) {off size : Fin S.rank → ℕ}
    (inb : ∀ a, off a + size a ≤ S.size a) (z : (Rect.unit off size inb).shape.Idx) (y : S.Idx) (h : ∀ a, (y a).val = off a + (z a).val) :
    View.readAt (Elt Ideal) a.view (Rect.unit off size inb).toLoadRect (ha.unread d) z = d y := by
  rw [View.readAt_eq_ld, ha.read_unread]
  exact congrArg d (emb_eq inb z y h)

/-- A load the earlier stores cover, at an index. -/
theorem rc_at {S : Shape} {e : EltTy} (a : Memref sig .tc .vmem S e) (L : List (View.Piece (Elt Ideal) S e)) (G : Vec Ideal S e)
    (hL : ∀ p ∈ L, ∀ z, p.2 z = G (p.1.emb z)) {off size : Fin S.rank → ℕ}
    (inb : ∀ a, off a + size a ≤ S.size a) (z : (Rect.unit off size inb).shape.Idx) (y : S.Idx) (h : ∀ a, (y a).val = off a + (z a).val)
    (hy : ∃ p ∈ L, y ∈ p.1.set) :
    a.view.readCov L (Rect.unit off size inb).toLoadRect z = G y := by
  rw [View.readCov_eq_canon']
  have e : (Rect.unit off size inb).toLoadRect.idx z = y := emb_eq inb z y h
  show View.canon L ((Rect.unit off size inb).toLoadRect.idx z) = G y
  rw [e]
  exact View.canon_apply_of_pieces G L hL y hy

/-- The staged weight. -/
def stg (wi : FVec Ideal S1x1024x2888 .f32) : Vec Ideal S1024x2944 .bf16 := fun y =>
  if h : (y 1).val < 1352 then wi (ix3 0 (y 0) ⟨(y 1).val, by omega⟩)
  else if (y 1).val < 1408 then 0
  else wi (ix3 0 (y 0) ⟨(y 1).val - 56, by have : (y 1).val < 2944 := (y 1).isLt; omega⟩)

section
variable (wi : FVec Ideal S1x1024x2888 .f32)

theorem stg_lo (k : Fin 1024) (l : Fin 2944) (h : l.val < 1352) : stg wi (ix2 k l) = wi (ix3 0 k ⟨l.val, by omega⟩) := dif_pos h
theorem stg_mid (k : Fin 1024) (l : Fin 2944) (h : 1352 ≤ l.val) (h' : l.val < 1408) : stg wi (ix2 k l) = 0 :=
  (dif_neg (by show ¬ l.val < 1352; omega)).trans (if_pos h')
theorem stg_hi (k : Fin 1024) (l : Fin 2944) (h : 1408 ≤ l.val) : stg wi (ix2 k l) = wi (ix3 0 k ⟨l.val - 56, by omega⟩) :=
  (dif_neg (by show ¬ l.val < 1352; omega)).trans (if_neg (by show ¬ l.val < 1408; omega))

theorem st3 (v : Vec Ideal S128x1024 .f32) (k : Fin 1024) (l : Fin 128) : k0_pay3 v (ix2 k l) = v (ix2 l k) := by
  pointwise! [k0_pay3]
theorem st4 (v : Vec Ideal S128x1024 .f32) (k : Fin 1024) (l : Fin 128) : k0_pay4 v (ix2 k l) = v (ix2 l k) := by
  pointwise! [k0_pay4]
theorem st5 (v : Vec Ideal S128x1024 .f32) (k : Fin 1024) (l : Fin 128) : k0_pay5 v (ix2 k l) = v (ix2 l k) := by
  pointwise! [k0_pay5]
theorem st6 (v : Vec Ideal S128x1024 .f32) (k : Fin 1024) (l : Fin 128) : k0_pay6 v (ix2 k l) = v (ix2 l k) := by
  pointwise! [k0_pay6]
theorem st7 (v : Vec Ideal S128x1024 .f32) (k : Fin 1024) (l : Fin 128) : k0_pay7 v (ix2 k l) = v (ix2 l k) := by
  pointwise! [k0_pay7]
theorem st8 (v : Vec Ideal S128x1024 .f32) (k : Fin 1024) (l : Fin 128) : k0_pay8 v (ix2 k l) = v (ix2 l k) := by
  pointwise! [k0_pay8]
theorem st9 (v : Vec Ideal S128x1024 .f32) (k : Fin 1024) (l : Fin 128) : k0_pay9 v (ix2 k l) = v (ix2 l k) := by
  pointwise! [k0_pay9]
theorem st10 (v : Vec Ideal S128x1024 .f32) (k : Fin 1024) (l : Fin 128) : k0_pay10 v (ix2 k l) = v (ix2 l k) := by
  pointwise! [k0_pay10]
theorem st11 (v : Vec Ideal S128x1024 .f32) (k : Fin 1024) (l : Fin 128) : k0_pay11 v (ix2 k l) = v (ix2 l k) := by
  pointwise! [k0_pay11]
theorem st12 (v : Vec Ideal S128x1024 .f32) (k : Fin 1024) (l : Fin 128) : k0_pay12 v (ix2 k l) = v (ix2 l k) := by
  pointwise! [k0_pay12]
theorem st13 (v : Vec Ideal S72x1024 .f32) (k : Fin 1024) (l : Fin 128) :
    k0_pay13 v (ix2 k l) = if h : l.val < 72 then v (ix2 ⟨l.val, h⟩ k) else 0 := by
  pointwise! [k0_pay13]
theorem st14 (v : Vec Ideal S128x1024 .f32) (k : Fin 1024) (l : Fin 128) : k0_pay14 v (ix2 k l) = v (ix2 l k) := by
  pointwise! [k0_pay14]
theorem st15 (v : Vec Ideal S128x1024 .f32) (k : Fin 1024) (l : Fin 128) : k0_pay15 v (ix2 k l) = v (ix2 l k) := by
  pointwise! [k0_pay15]
theorem st16 (v : Vec Ideal S128x1024 .f32) (k : Fin 1024) (l : Fin 128) : k0_pay16 v (ix2 k l) = v (ix2 l k) := by
  pointwise! [k0_pay16]
theorem st17 (v : Vec Ideal S128x1024 .f32) (k : Fin 1024) (l : Fin 128) : k0_pay17 v (ix2 k l) = v (ix2 l k) := by
  pointwise! [k0_pay17]
theorem st18 (v : Vec Ideal S128x1024 .f32) (k : Fin 1024) (l : Fin 128) : k0_pay18 v (ix2 k l) = v (ix2 l k) := by
  pointwise! [k0_pay18]
theorem st19 (v : Vec Ideal S128x1024 .f32) (k : Fin 1024) (l : Fin 128) : k0_pay19 v (ix2 k l) = v (ix2 l k) := by
  pointwise! [k0_pay19]
theorem st20 (v : Vec Ideal S128x1024 .f32) (k : Fin 1024) (l : Fin 128) : k0_pay20 v (ix2 k l) = v (ix2 l k) := by
  pointwise! [k0_pay20]
theorem st21 (v : Vec Ideal S128x1024 .f32) (k : Fin 1024) (l : Fin 128) : k0_pay21 v (ix2 k l) = v (ix2 l k) := by
  pointwise! [k0_pay21]
theorem st22 (v : Vec Ideal S128x1024 .f32) (k : Fin 1024) (l : Fin 128) : k0_pay22 v (ix2 k l) = v (ix2 l k) := by
  pointwise! [k0_pay22]
theorem st23 (v : Vec Ideal S128x1024 .f32) (k : Fin 1024) (l : Fin 128) : k0_pay23 v (ix2 k l) = v (ix2 l k) := by
  pointwise! [k0_pay23]
theorem st24 (v : Vec Ideal S128x1024 .f32) (k : Fin 1024) (l : Fin 128) : k0_pay24 v (ix2 k l) = v (ix2 l k) := by
  pointwise! [k0_pay24]
theorem st25 (v : Vec Ideal S128x1024 .f32) (k : Fin 1024) (l : Fin 128) : k0_pay25 v (ix2 k l) = v (ix2 l k) := by
  pointwise! [k0_pay25]

/-- A block of 128 columns of the staged weight, out of 128 rows of the transposed one. -/
theorem st_piece (q o : Nat) (inb : ∀ a, (![0, q] : Fin 2 → ℕ) a + S1024x128.size a ≤ S1024x2944.size a) (ho : o + 128 ≤ 2888) (hq : q + 128 ≤ 2944)
    (hc : (q + 128 ≤ 1352 ∧ o = q) ∨ (1408 ≤ q ∧ o + 56 = q)) {v : Vec Ideal S128x1024 .f32}
    (hv : ∀ (l : Fin 128) (k : Fin 1024), v (ix2 l k) = wi (ix3 0 k ⟨o + l.val, by omega⟩)) {f : FVec Ideal S1024x128 .bf16}
    (hf : ∀ (k : Fin 1024) (l : Fin 128), f (ix2 k l) = v (ix2 l k)) :
    ∀ z, f z = stg wi ((Rect.unit (s := S1024x2944) ![0, q] S1024x128.size inb).emb z) := by
  refine lift2 (n := 1024) (m := 128) fun k l => ?_
  refine Eq.trans ?_ (congrArg (stg wi) (emb_eq inb _ (ix2 k ⟨q + l.val, by omega⟩) (all2 (Nat.zero_add _).symm rfl))).symm
  rw [hf, hv]
  rcases hc with ⟨h, rfl⟩ | ⟨h, rfl⟩
  · exact (stg_lo wi k ⟨o + l.val, by omega⟩ (by show o + l.val < 1352; omega)).symm
  · refine Eq.trans ?_ (stg_hi wi k ⟨o + 56 + l.val, by omega⟩ (by show 1408 ≤ o + 56 + l.val; omega)).symm
    exact congrArg wi (congrArg (ix3 (0 : Fin 1) k) (Fin.ext (by show o + l.val = o + 56 + l.val - 56; omega)))

theorem st_piece13 {v : Vec Ideal S72x1024 .f32}
    (hv : ∀ (l : Fin 72) (k : Fin 1024), v (ix2 l k) = wi (ix3 0 k ⟨1280 + l.val, by omega⟩)) :
    ∀ z, k0_pay13 v z = stg wi ((Rect.unit (s := S1024x2944) ![0, 1280] S1024x128.size inb_S1024x2944_S1024x128_0_1280).emb z) := by
  refine lift2 (n := 1024) (m := 128) fun k l => ?_
  refine Eq.trans ?_ (congrArg (stg wi) (emb_eq inb_S1024x2944_S1024x128_0_1280 _ (ix2 k ⟨1280 + l.val, by omega⟩) (all2 (Nat.zero_add _).symm rfl))).symm
  rw [st13]
  by_cases h : l.val < 72
  · rw [dif_pos h, hv]
    exact (stg_lo wi k ⟨1280 + l.val, by omega⟩ (by show 1280 + l.val < 1352; omega)).symm
  · rw [dif_neg h]
    exact (stg_mid wi k ⟨1280 + l.val, by omega⟩ (by show 1352 ≤ 1280 + l.val; omega) (by show 1280 + l.val < 1408; omega)).symm

theorem st_pieces {x3 : Vec Ideal S2888x1024 .f32} (hx : ∀ (l : Fin 2888) (k : Fin 1024), x3 (ix2 l k) = wi (ix3 0 k l))
    (a : Memref sig .tc .vmem S2888x1024 .f32) (ha : a.IsWhole) :
    ∀ p ∈ ([⟨Rect.unit (s := S1024x2944) ![0, 2816] S1024x128.size inb_S1024x2944_S1024x128_0_2816, k0_pay25
        (View.readAt (Elt Ideal) a.view (Rect.unit (s := S2888x1024) ![2760, 0] S128x1024.size inb_S2888x1024_S128x1024_2760_0).toLoadRect (ha.unread x3))⟩,
      ⟨Rect.unit (s := S1024x2944) ![0, 2688] S1024x128.size inb_S1024x2944_S1024x128_0_2688, k0_pay24
        (View.readAt (Elt Ideal) a.view (Rect.unit (s := S2888x1024) ![2632, 0] S128x1024.size inb_S2888x1024_S128x1024_2632_0).toLoadRect (ha.unread x3))⟩,
      ⟨Rect.unit (s := S1024x2944) ![0, 2560] S1024x128.size inb_S1024x2944_S1024x128_0_2560, k0_pay23
        (View.readAt (Elt Ideal) a.view (Rect.unit (s := S2888x1024) ![2504, 0] S128x1024.size inb_S2888x1024_S128x1024_2504_0).toLoadRect (ha.unread x3))⟩,
      ⟨Rect.unit (s := S1024x2944) ![0, 2432] S1024x128.size inb_S1024x2944_S1024x128_0_2432, k0_pay22
        (View.readAt (Elt Ideal) a.view (Rect.unit (s := S2888x1024) ![2376, 0] S128x1024.size inb_S2888x1024_S128x1024_2376_0).toLoadRect (ha.unread x3))⟩,
      ⟨Rect.unit (s := S1024x2944) ![0, 2304] S1024x128.size inb_S1024x2944_S1024x128_0_2304, k0_pay21
        (View.readAt (Elt Ideal) a.view (Rect.unit (s := S2888x1024) ![2248, 0] S128x1024.size inb_S2888x1024_S128x1024_2248_0).toLoadRect (ha.unread x3))⟩,
      ⟨Rect.unit (s := S1024x2944) ![0, 2176] S1024x128.size inb_S1024x2944_S1024x128_0_2176, k0_pay20
        (View.readAt (Elt Ideal) a.view (Rect.unit (s := S2888x1024) ![2120, 0] S128x1024.size inb_S2888x1024_S128x1024_2120_0).toLoadRect (ha.unread x3))⟩,
      ⟨Rect.unit (s := S1024x2944) ![0, 2048] S1024x128.size inb_S1024x2944_S1024x128_0_2048, k0_pay19
        (View.readAt (Elt Ideal) a.view (Rect.unit (s := S2888x1024) ![1992, 0] S128x1024.size inb_S2888x1024_S128x1024_1992_0).toLoadRect (ha.unread x3))⟩,
      ⟨Rect.unit (s := S1024x2944) ![0, 1920] S1024x128.size inb_S1024x2944_S1024x128_0_1920, k0_pay18
        (View.readAt (Elt Ideal) a.view (Rect.unit (s := S2888x1024) ![1864, 0] S128x1024.size inb_S2888x1024_S128x1024_1864_0).toLoadRect (ha.unread x3))⟩,
      ⟨Rect.unit (s := S1024x2944) ![0, 1792] S1024x128.size inb_S1024x2944_S1024x128_0_1792, k0_pay17
        (View.readAt (Elt Ideal) a.view (Rect.unit (s := S2888x1024) ![1736, 0] S128x1024.size inb_S2888x1024_S128x1024_1736_0).toLoadRect (ha.unread x3))⟩,
      ⟨Rect.unit (s := S1024x2944) ![0, 1664] S1024x128.size inb_S1024x2944_S1024x128_0_1664, k0_pay16
        (View.readAt (Elt Ideal) a.view (Rect.unit (s := S2888x1024) ![1608, 0] S128x1024.size inb_S2888x1024_S128x1024_1608_0).toLoadRect (ha.unread x3))⟩,
      ⟨Rect.unit (s := S1024x2944) ![0, 1536] S1024x128.size inb_S1024x2944_S1024x128_0_1536, k0_pay15
        (View.readAt (Elt Ideal) a.view (Rect.unit (s := S2888x1024) ![1480, 0] S128x1024.size inb_S2888x1024_S128x1024_1480_0).toLoadRect (ha.unread x3))⟩,
      ⟨Rect.unit (s := S1024x2944) ![0, 1408] S1024x128.size inb_S1024x2944_S1024x128_0_1408, k0_pay14
        (View.readAt (Elt Ideal) a.view (Rect.unit (s := S2888x1024) ![1352, 0] S128x1024.size inb_S2888x1024_S128x1024_1352_0).toLoadRect (ha.unread x3))⟩,
      ⟨Rect.unit (s := S1024x2944) ![0, 1280] S1024x128.size inb_S1024x2944_S1024x128_0_1280, k0_pay13
        (View.readAt (Elt Ideal) a.view (Rect.unit (s := S2888x1024) ![1280, 0] S72x1024.size inb_S2888x1024_S72x1024_1280_0).toLoadRect (ha.unread x3))⟩,
      ⟨Rect.unit (s := S1024x2944) ![0, 1152] S1024x128.size inb_S1024x2944_S1024x128_0_1152, k0_pay12
        (View.readAt (Elt Ideal) a.view (Rect.unit (s := S2888x1024) ![1152, 0] S128x1024.size inb_S2888x1024_S128x1024_1152_0).toLoadRect (ha.unread x3))⟩,
      ⟨Rect.unit (s := S1024x2944) ![0, 1024] S1024x128.size inb_S1024x2944_S1024x128_0_1024, k0_pay11
        (View.readAt (Elt Ideal) a.view (Rect.unit (s := S2888x1024) ![1024, 0] S128x1024.size inb_S2888x1024_S128x1024_1024_0).toLoadRect (ha.unread x3))⟩,
      ⟨Rect.unit (s := S1024x2944) ![0, 896] S1024x128.size inb_S1024x2944_S1024x128_0_896, k0_pay10
        (View.readAt (Elt Ideal) a.view (Rect.unit (s := S2888x1024) ![896, 0] S128x1024.size inb_S2888x1024_S128x1024_896_0).toLoadRect (ha.unread x3))⟩,
      ⟨Rect.unit (s := S1024x2944) ![0, 768] S1024x128.size inb_S1024x2944_S1024x128_0_768, k0_pay9
        (View.readAt (Elt Ideal) a.view (Rect.unit (s := S2888x1024) ![768, 0] S128x1024.size inb_S2888x1024_S128x1024_768_0).toLoadRect (ha.unread x3))⟩,
      ⟨Rect.unit (s := S1024x2944) ![0, 640] S1024x128.size inb_S1024x2944_S1024x128_0_640, k0_pay8
        (View.readAt (Elt Ideal) a.view (Rect.unit (s := S2888x1024) ![640, 0] S128x1024.size inb_S2888x1024_S128x1024_640_0).toLoadRect (ha.unread x3))⟩,
      ⟨Rect.unit (s := S1024x2944) ![0, 512] S1024x128.size inb_S1024x2944_S1024x128_0_512, k0_pay7
        (View.readAt (Elt Ideal) a.view (Rect.unit (s := S2888x1024) ![512, 0] S128x1024.size inb_S2888x1024_S128x1024_512_0).toLoadRect (ha.unread x3))⟩,
      ⟨Rect.unit (s := S1024x2944) ![0, 384] S1024x128.size inb_S1024x2944_S1024x128_0_384, k0_pay6
        (View.readAt (Elt Ideal) a.view (Rect.unit (s := S2888x1024) ![384, 0] S128x1024.size inb_S2888x1024_S128x1024_384_0).toLoadRect (ha.unread x3))⟩,
      ⟨Rect.unit (s := S1024x2944) ![0, 256] S1024x128.size inb_S1024x2944_S1024x128_0_256, k0_pay5
        (View.readAt (Elt Ideal) a.view (Rect.unit (s := S2888x1024) ![256, 0] S128x1024.size inb_S2888x1024_S128x1024_256_0).toLoadRect (ha.unread x3))⟩,
      ⟨Rect.unit (s := S1024x2944) ![0, 128] S1024x128.size inb_S1024x2944_S1024x128_0_128, k0_pay4
        (View.readAt (Elt Ideal) a.view (Rect.unit (s := S2888x1024) ![128, 0] S128x1024.size inb_S2888x1024_S128x1024_128_0).toLoadRect (ha.unread x3))⟩,
      ⟨Rect.unit (s := S1024x2944) ![0, 0] S1024x128.size inb_S1024x2944_S1024x128_0_0, k0_pay3
        (View.readAt (Elt Ideal) a.view (Rect.unit (s := S2888x1024) ![0, 0] S128x1024.size inb_S2888x1024_S128x1024_0_0).toLoadRect (ha.unread x3))⟩] : List (View.Piece (Elt Ideal) S1024x2944 .bf16)),
      ∀ z, p.2 z = stg wi (p.1.emb z) := by
  have hr : ∀ (o : Nat) (inb : ∀ a, (![o, 0] : Fin 2 → ℕ) a + S128x1024.size a ≤ S2888x1024.size a) (ho : o + 128 ≤ 2888) (l : Fin 128) (k : Fin 1024),
      View.readAt (Elt Ideal) a.view (Rect.unit (s := S2888x1024) ![o, 0] S128x1024.size inb).toLoadRect (ha.unread x3) (ix2 l k) = wi (ix3 0 k ⟨o + l.val, by omega⟩) :=
    fun o inb ho l k => (rd_at a ha x3 inb _ (ix2 ⟨o + l.val, by omega⟩ k) (all2 rfl (Nat.zero_add _).symm)).trans (hx _ _)
  refine List.forall_mem_cons.mpr ⟨st_piece wi 2816 2760 inb_S1024x2944_S1024x128_0_2816 (by decide) (by decide) (by decide) (hr 2760 inb_S2888x1024_S128x1024_2760_0 (by decide)) (st25 _), ?_⟩
  refine List.forall_mem_cons.mpr ⟨st_piece wi 2688 2632 inb_S1024x2944_S1024x128_0_2688 (by decide) (by decide) (by decide) (hr 2632 inb_S2888x1024_S128x1024_2632_0 (by decide)) (st24 _), ?_⟩
  refine List.forall_mem_cons.mpr ⟨st_piece wi 2560 2504 inb_S1024x2944_S1024x128_0_2560 (by decide) (by decide) (by decide) (hr 2504 inb_S2888x1024_S128x1024_2504_0 (by decide)) (st23 _), ?_⟩
  refine List.forall_mem_cons.mpr ⟨st_piece wi 2432 2376 inb_S1024x2944_S1024x128_0_2432 (by decide) (by decide) (by decide) (hr 2376 inb_S2888x1024_S128x1024_2376_0 (by decide)) (st22 _), ?_⟩
  refine List.forall_mem_cons.mpr ⟨st_piece wi 2304 2248 inb_S1024x2944_S1024x128_0_2304 (by decide) (by decide) (by decide) (hr 2248 inb_S2888x1024_S128x1024_2248_0 (by decide)) (st21 _), ?_⟩
  refine List.forall_mem_cons.mpr ⟨st_piece wi 2176 2120 inb_S1024x2944_S1024x128_0_2176 (by decide) (by decide) (by decide) (hr 2120 inb_S2888x1024_S128x1024_2120_0 (by decide)) (st20 _), ?_⟩
  refine List.forall_mem_cons.mpr ⟨st_piece wi 2048 1992 inb_S1024x2944_S1024x128_0_2048 (by decide) (by decide) (by decide) (hr 1992 inb_S2888x1024_S128x1024_1992_0 (by decide)) (st19 _), ?_⟩
  refine List.forall_mem_cons.mpr ⟨st_piece wi 1920 1864 inb_S1024x2944_S1024x128_0_1920 (by decide) (by decide) (by decide) (hr 1864 inb_S2888x1024_S128x1024_1864_0 (by decide)) (st18 _), ?_⟩
  refine List.forall_mem_cons.mpr ⟨st_piece wi 1792 1736 inb_S1024x2944_S1024x128_0_1792 (by decide) (by decide) (by decide) (hr 1736 inb_S2888x1024_S128x1024_1736_0 (by decide)) (st17 _), ?_⟩
  refine List.forall_mem_cons.mpr ⟨st_piece wi 1664 1608 inb_S1024x2944_S1024x128_0_1664 (by decide) (by decide) (by decide) (hr 1608 inb_S2888x1024_S128x1024_1608_0 (by decide)) (st16 _), ?_⟩
  refine List.forall_mem_cons.mpr ⟨st_piece wi 1536 1480 inb_S1024x2944_S1024x128_0_1536 (by decide) (by decide) (by decide) (hr 1480 inb_S2888x1024_S128x1024_1480_0 (by decide)) (st15 _), ?_⟩
  refine List.forall_mem_cons.mpr ⟨st_piece wi 1408 1352 inb_S1024x2944_S1024x128_0_1408 (by decide) (by decide) (by decide) (hr 1352 inb_S2888x1024_S128x1024_1352_0 (by decide)) (st14 _), ?_⟩
  refine List.forall_mem_cons.mpr ⟨st_piece13 wi fun l k =>
    (rd_at a ha x3 inb_S2888x1024_S72x1024_1280_0 _ (ix2 ⟨1280 + l.val, by omega⟩ k) (all2 rfl (Nat.zero_add _).symm)).trans (hx _ _), ?_⟩
  refine List.forall_mem_cons.mpr ⟨st_piece wi 1152 1152 inb_S1024x2944_S1024x128_0_1152 (by decide) (by decide) (by decide) (hr 1152 inb_S2888x1024_S128x1024_1152_0 (by decide)) (st12 _), ?_⟩
  refine List.forall_mem_cons.mpr ⟨st_piece wi 1024 1024 inb_S1024x2944_S1024x128_0_1024 (by decide) (by decide) (by decide) (hr 1024 inb_S2888x1024_S128x1024_1024_0 (by decide)) (st11 _), ?_⟩
  refine List.forall_mem_cons.mpr ⟨st_piece wi 896 896 inb_S1024x2944_S1024x128_0_896 (by decide) (by decide) (by decide) (hr 896 inb_S2888x1024_S128x1024_896_0 (by decide)) (st10 _), ?_⟩
  refine List.forall_mem_cons.mpr ⟨st_piece wi 768 768 inb_S1024x2944_S1024x128_0_768 (by decide) (by decide) (by decide) (hr 768 inb_S2888x1024_S128x1024_768_0 (by decide)) (st9 _), ?_⟩
  refine List.forall_mem_cons.mpr ⟨st_piece wi 640 640 inb_S1024x2944_S1024x128_0_640 (by decide) (by decide) (by decide) (hr 640 inb_S2888x1024_S128x1024_640_0 (by decide)) (st8 _), ?_⟩
  refine List.forall_mem_cons.mpr ⟨st_piece wi 512 512 inb_S1024x2944_S1024x128_0_512 (by decide) (by decide) (by decide) (hr 512 inb_S2888x1024_S128x1024_512_0 (by decide)) (st7 _), ?_⟩
  refine List.forall_mem_cons.mpr ⟨st_piece wi 384 384 inb_S1024x2944_S1024x128_0_384 (by decide) (by decide) (by decide) (hr 384 inb_S2888x1024_S128x1024_384_0 (by decide)) (st6 _), ?_⟩
  refine List.forall_mem_cons.mpr ⟨st_piece wi 256 256 inb_S1024x2944_S1024x128_0_256 (by decide) (by decide) (by decide) (hr 256 inb_S2888x1024_S128x1024_256_0 (by decide)) (st5 _), ?_⟩
  refine List.forall_mem_cons.mpr ⟨st_piece wi 128 128 inb_S1024x2944_S1024x128_0_128 (by decide) (by decide) (by decide) (hr 128 inb_S2888x1024_S128x1024_128_0 (by decide)) (st4 _), ?_⟩
  refine List.forall_mem_cons.mpr ⟨st_piece wi 0 0 inb_S1024x2944_S1024x128_0_0 (by decide) (by decide) (by decide) (hr 0 inb_S2888x1024_S128x1024_0_0 (by decide)) (st3 _), ?_⟩
  exact fun p hp => absurd hp List.not_mem_nil

/-! The slices of the staged weight the products read. -/

theorem stg_cols {n : Nat} (q o : Nat) (hq : q + n ≤ 2944) (ho : o + n ≤ 2888) (hc : (q + n ≤ 1352 ∧ o = q) ∨ (1408 ≤ q ∧ o + 56 = q))
    {w : (⟨2, ![1024, n]⟩ : Shape).Idx → EReal} (hw : ∀ (k : Fin 1024) (l : Fin n), w (ix2 k l) = stg wi (ix2 k ⟨q + l.val, by omega⟩)) :
    Cols wi o ho w := fun k l => by
  rw [hw]
  rcases hc with ⟨h, rfl⟩ | ⟨h, rfl⟩
  · exact stg_lo wi k ⟨o + l.val, by omega⟩ (by show o + l.val < 1352; omega)
  · refine (stg_hi wi k ⟨o + 56 + l.val, by omega⟩ (by show 1408 ≤ o + 56 + l.val; omega)).trans ?_
    exact congrArg wi (congrArg (ix3 (0 : Fin 1) k) (Fin.ext (by show o + 56 + l.val - 56 = o + l.val; omega)))

theorem stg_72 {w : Vec Ideal S1024x128 .bf16} (hw : ∀ (k : Fin 1024) (l : Fin 128), w (ix2 k l) = stg wi (ix2 k ⟨1280 + l.val, by omega⟩)) :
    Cols72 wi w := fun k l => by
  rw [hw]
  exact stg_lo wi k ⟨1280 + l.val, by omega⟩ (by show 1280 + l.val < 1352; omega)

end

end Cert.ProjOut

end
-- ==== Proof.ProjPoint.lean ====
/- What a point of the prompt's input projection reads, and what it has to leave: the shared part of the three kinds of point. -/
module

public import proofs.«01_k».proof.Proof.ProjStage
public import Idealize.ShloMosaic.Lib.WritesUnit

@[expose] public section

set_option maxRecDepth 16384
set_option maxHeartbeats 1000000

noncomputable section

open Idealize.ShloMosaic Idealize.ShloMosaic.TcCoe Idealize.SL.Sem

namespace Cert.ProjOut

open Cert.KernelIdeal Cert.KernelIdeal.Gen Cert.ProjSpec Cert.ProjRef Cert.ProjPool

/-- A list of stores that fills its buffer with `G`. -/
def Full {S : Shape} {e : EltTy} (L : List (View.Piece (Elt Ideal) S e)) (G : Vec Ideal S e) : Prop :=
  (∀ p ∈ L, ∀ z, p.2 z = G (p.1.emb z)) ∧ ∀ y, ∃ p ∈ L, y ∈ p.1.set

theorem Full.read {S : Shape} {e : EltTy} {L : List (View.Piece (Elt Ideal) S e)} {G : Vec Ideal S e} (h : Full L G)
    (m : Memref sig .tc .vmem S e) (f : m.view.ty.Contents (Elt Ideal)) : m.view.read (Elt Ideal) (m.view.writes (Elt Ideal) f L) = G :=
  funext fun y => View.read_writes_apply_of_pieces _ _ G L h.1 y (h.2 y)

section
variable (x : FVec Ideal S8x2048x1024 .f32) (ada : FVec Ideal S8x3072 .f32) (nw : FVec Ideal S1x1024 .f32)
  (wi : FVec Ideal S1x1024x2888 .f32) (qn kn : FVec Ideal S1x64 .f32) (wp : FVec Ideal S1x4x128x128 .f32)
  (ps : FVec Ideal S1x512 .f32) (t : Fin 32)

/-- The point's rows of the input. -/
def InRows (x0 : Vec Ideal S1x512x1024 .f32) : Prop :=
  ∀ (r : Fin 512) (k : Fin 1024), x0 (ix3 0 r k) = x (ix3 ⟨t.val / 4, by omega⟩ ⟨t.val % 4 * 512 + r.val, by omega⟩ k)
/-- The modulation of the point's batch. -/
def InMods (x1 : Vec Ideal S1x1x3072 .f32) : Prop :=
  ∀ k : Fin 3072, x1 (ix3 0 0 k) = ada (ix2 ⟨t.val / 4, by omega⟩ k)

/-- The blocks a point is handed. -/
structure Held (x0 : Vec Ideal S1x512x1024 .f32) (x1 : Vec Ideal S1x1x3072 .f32) (x2 : Vec Ideal S1x1024 .f32) (x4 : Vec Ideal S1x512 .f32)
    (x5 : Vec Ideal S1x128 .f32) (x6 : Vec Ideal S2x256x256 .bf16) (x7 : Vec Ideal S1x512 .f32) : Prop where
  rows : InRows x t x0
  mods : InMods ada t x1
  norm : ∀ k : Fin 1024, x2 (ix2 0 k) = nw (ix2 0 k)
  qnorm : Qn qn x4
  knorm : Kn kn x5
  pool0 : Blk wp 0 (by decide) fun x l => x6 (ix3 0 x l)
  pool1 : Blk wp 2 (by decide) fun x l => x6 (ix3 1 x l)
  scale : ∀ l : Fin 512, x7 (ix2 0 l) = ps (ix2 0 l)

/-- The last sixteen rows of a block, in the first sixteen of the carried buffer. -/
def Next (e : Vec Ideal S528x512 .f32) : Prop :=
  ∀ (j : Fin 16) (l : Fin 512), e (ix2 ⟨j.val, by omega⟩ l) = ex x ada nw wi t l (t.val % 4 * 512 + 511 + j.val)
/-- The sixteen rows before a block, in the first sixteen of the carried buffer. -/
def Prev (e : Vec Ideal S528x512 .f32) : Prop :=
  ∀ (j : Fin 16) (l : Fin 512), e (ix2 ⟨j.val, by omega⟩ l) = ex x ada nw wi t l (t.val % 4 * 512 + j.val - 1)

/-- What the point leaves in the buffers it stores into, given the lists of its stores. -/
structure Done (m : Memref sig .tc .vmem S528x512 .f32) (L8 : List (View.Piece (Elt Ideal) S512x512 .bf16)) (L9 L11 : List (View.Piece (Elt Ideal) S1x128x512 .f32))
    (L13 : List (View.Piece (Elt Ideal) S512x512 .bf16)) (L14 : List (View.Piece (Elt Ideal) S1x64x512 .f32)) (L16 : List (View.Piece (Elt Ideal) S4x8x128 .f32))
    (L17 L18 : List (View.Piece (Elt Ideal) S512x512 .bf16)) (L19 : List (View.Piece (Elt Ideal) S1x16x512 .f32))
    (LE : List (View.Piece (Elt Ideal) S528x512 .f32)) : Prop where
  qs : Full L8 (gQs x ada nw wi qn t)
  kt : Full L9 (gKt x ada nw wi kn t)
  vt : Full L11 (gVt x ada nw wi t)
  qi : Full L13 (gQi x ada nw wi t)
  ki : Full L14 (gKi x ada nw wi t)
  gr : Full L16 (gWi x ada nw wi t)
  sg : Full L17 (gSg x ada nw wi t)
  pg : Full L18 (gPg x ada nw wi wp ps t)
  ul : Full L19 (gUl x ada nw wi t)
  next : ∀ f : m.view.ty.Contents (Elt Ideal), Next x ada nw wi t (m.view.read (Elt Ideal) (m.view.writes (Elt Ideal) f LE))

theorem hid_congr {f g : Fin 1024 → EReal} {a a' b b' c c' : EReal} (h : ∀ j, f j = g j) (ha : a = a') (hb : b = b') (hc : c = c') (k : Fin 1024) :
    hid f a b c k = hid g a' b' c' k := by
  rw [funext h, ha, hb, hc]

section
variable (a2 : Memref sig .tc .vmem S1x512x1024 .f32) (ha2 : a2.IsWhole) (a3 : Memref sig .tc .vmem S1x1x3072 .f32) (ha3 : a3.IsWhole)
  (a4 : Memref sig .tc .vmem S1x1024 .f32) (ha4 : a4.IsWhole) {x0 : Vec Ideal S1x512x1024 .f32} {x1 : Vec Ideal S1x1x3072 .f32} {x2 : Vec Ideal S1x1024 .f32}
  {x4 : Vec Ideal S1x512 .f32} {x5 : Vec Ideal S1x128 .f32} {x6 : Vec Ideal S2x256x256 .bf16} {x7 : Vec Ideal S1x512 .f32}
  (hh : Held x ada nw qn kn wp ps t x0 x1 x2 x4 x5 x6 x7)
include hh

theorem rows0 : Rows x ada nw t 0 (by decide) (k0_pay41
    (k0_pay27 (View.readAt (Elt Ideal) a3.view (Rect.unit (s := S1x1x3072) ![0, 0, 0] S1x1x3072.size inb_S1x1x3072_S1x1x3072_0_0_0).toLoadRect (ha3.unread x1)))
    (k0_pay28 (View.readAt (Elt Ideal) a3.view (Rect.unit (s := S1x1x3072) ![0, 0, 0] S1x1x3072.size inb_S1x1x3072_S1x1x3072_0_0_0).toLoadRect (ha3.unread x1)))
    (k0_pay40 (View.readAt (Elt Ideal) a2.view (Rect.unit (s := S1x512x1024) ![0, 0, 0] S1x256x1024.size inb_S1x512x1024_S1x256x1024_0_0_0).toLoadRect (ha2.unread x0)))
    (View.readAt (Elt Ideal) a4.view (Rect.unit (s := S1x1024) ![0, 0] S1x1024.size inb_S1x1024_S1x1024_0_0).toLoadRect (ha4.unread x2))) := fun r k =>
  (ProjPay.hid0 _ _ _ r k).trans (hid_congr
    (fun j => (rd_at a2 ha2 x0 inb_S1x512x1024_S1x256x1024_0_0_0 _ (ix3 0 ⟨0 + r.val, by omega⟩ j) (all3 rfl rfl (Nat.zero_add _).symm)).trans (hh.rows _ _))
    ((rd_at a4 ha4 x2 inb_S1x1024_S1x1024_0_0 _ (ix2 0 k) (all2 rfl (Nat.zero_add _).symm)).trans (hh.norm _))
    ((rd_at a3 ha3 x1 inb_S1x1x3072_S1x1x3072_0_0_0 _ (ix3 0 0 ⟨1024 + k.val, by omega⟩) (all3 rfl rfl (Nat.zero_add _).symm)).trans (hh.mods _))
    ((rd_at a3 ha3 x1 inb_S1x1x3072_S1x1x3072_0_0_0 _ (ix3 0 0 ⟨k.val, by omega⟩) (all3 rfl rfl (Nat.zero_add _).symm)).trans (hh.mods _)) k)

theorem rows1 : Rows x ada nw t 256 (by decide) (k0_pay77
    (k0_pay27 (View.readAt (Elt Ideal) a3.view (Rect.unit (s := S1x1x3072) ![0, 0, 0] S1x1x3072.size inb_S1x1x3072_S1x1x3072_0_0_0).toLoadRect (ha3.unread x1)))
    (k0_pay28 (View.readAt (Elt Ideal) a3.view (Rect.unit (s := S1x1x3072) ![0, 0, 0] S1x1x3072.size inb_S1x1x3072_S1x1x3072_0_0_0).toLoadRect (ha3.unread x1)))
    (View.readAt (Elt Ideal) a2.view (Rect.unit (s := S1x512x1024) ![0, 256, 0] S1x256x1024.size inb_S1x512x1024_S1x256x1024_0_256_0).toLoadRect (ha2.unread x0))
    (View.readAt (Elt Ideal) a4.view (Rect.unit (s := S1x1024) ![0, 0] S1x1024.size inb_S1x1024_S1x1024_0_0).toLoadRect (ha4.unread x2))) := fun r k =>
  (ProjPay.hid1 _ _ _ r k).trans (hid_congr
    (fun j => (rd_at a2 ha2 x0 inb_S1x512x1024_S1x256x1024_0_256_0 _ (ix3 0 ⟨256 + r.val, by omega⟩ j) (all3 rfl rfl (Nat.zero_add _).symm)).trans (hh.rows _ _))
    ((rd_at a4 ha4 x2 inb_S1x1024_S1x1024_0_0 _ (ix2 0 k) (all2 rfl (Nat.zero_add _).symm)).trans (hh.norm _))
    ((rd_at a3 ha3 x1 inb_S1x1x3072_S1x1x3072_0_0_0 _ (ix3 0 0 ⟨1024 + k.val, by omega⟩) (all3 rfl rfl (Nat.zero_add _).symm)).trans (hh.mods _))
    ((rd_at a3 ha3 x1 inb_S1x1x3072_S1x1x3072_0_0_0 _ (ix3 0 0 ⟨k.val, by omega⟩) (all3 rfl rfl (Nat.zero_add _).symm)).trans (hh.mods _)) k)

end

/-! The carried rows, read back. -/

abbrev R0 : Rect S528x512 := Rect.unit (s := S528x512) ![0, 0] S16x512.size inb_S528x512_S16x512_0_0
abbrev R16 : Rect S528x512 := Rect.unit (s := S528x512) ![16, 0] S256x512.size inb_S528x512_S256x512_16_0
abbrev R272 : Rect S528x512 := Rect.unit (s := S528x512) ![272, 0] S256x512.size inb_S528x512_S256x512_272_0

theorem mem_R0 (y : S528x512.Idx) (h : (y 0).val < 16) : y ∈ R0.set :=
  Rect.mem_set_unit.mpr (Rect.unit_rows_mem y (W := 16) rfl rfl ⟨Nat.zero_le _, by omega⟩)
theorem mem_R16 (y : S528x512.Idx) (h : 16 ≤ (y 0).val) (h' : (y 0).val < 272) : y ∈ R16.set :=
  Rect.mem_set_unit.mpr (Rect.unit_rows_mem y (W := 256) rfl rfl ⟨h, h'⟩)
theorem mem_R272 (y : S528x512.Idx) (h : 272 ≤ (y 0).val) : y ∈ R272.set :=
  Rect.mem_set_unit.mpr (Rect.unit_rows_mem y (W := 256) rfl rfl ⟨h, by have : (y 0).val < 528 := (y 0).isLt; omega⟩)

theorem cover_lo (w : R16.shape.Idx → Elt Ideal .f32) (v : R0.shape.Idx → Elt Ideal .f32) (y : S528x512.Idx) (h : 0 ≤ (y 0).val) (h' : (y 0).val < 0 + 272) :
    ∃ p ∈ [(⟨R16, w⟩ : View.Piece (Elt Ideal) S528x512 .f32), ⟨R0, v⟩], y ∈ p.1.set := by
  by_cases e : (y 0).val < 16
  · exact ⟨_, List.mem_cons_of_mem _ List.mem_cons_self, mem_R0 y e⟩
  · exact ⟨_, List.mem_cons_self, mem_R16 y (by omega) (by omega)⟩
theorem cover_hi (w : R272.shape.Idx → Elt Ideal .f32) (v : R16.shape.Idx → Elt Ideal .f32) (L : List (View.Piece (Elt Ideal) S528x512 .f32)) (y : S528x512.Idx)
    (h : 256 ≤ (y 0).val) (h' : (y 0).val < 256 + 272) :
    ∃ p ∈ (⟨R272, w⟩ : View.Piece (Elt Ideal) S528x512 .f32) :: ⟨R16, v⟩ :: L, y ∈ p.1.set := by
  by_cases e : (y 0).val < 272
  · exact ⟨_, List.mem_cons_of_mem _ List.mem_cons_self, mem_R16 y (by omega) e⟩
  · exact ⟨_, List.mem_cons_self, mem_R272 y (by omega)⟩

theorem zero_piece (ht : t.val % 4 = 0) : ∀ z, k0_pay39 (F := Ideal) z = gEx x ada nw wi t (R0.emb z) := by
  refine lift2 (n := 16) (m := 512) fun r l => ?_
  refine Eq.trans (ProjPay.zero r l) ?_
  refine Eq.trans ?_ (congrArg (gEx x ada nw wi t) (emb_eq inb_S528x512_S16x512_0_0 _ (ix2 ⟨r.val, by omega⟩ l) (all2 (Nat.zero_add _).symm (Nat.zero_add _).symm))).symm
  show 0 = ext x ada nw wi _ l (t.val % 4 * 512 + r.val - 1)
  unfold ext
  rw [dif_neg (by omega)]

section
variable {H0 H1 : FVec Ideal S256x1024 .bf16} (h0 : Rows x ada nw t 0 half0 H0) (h1 : Rows x ada nw t 256 half1 H1)
  {wu : Vec Ideal S1024x512 .bf16}
include h0 h1

theorem ext_lo (hwu : Cols wi 1864 (by decide) wu) (ht : t.val % 4 = 0) :
    ∀ p ∈ [(⟨R16, k0_pay67 (k0_pay65 H0 wu)⟩ : View.Piece (Elt Ideal) S528x512 .f32), ⟨R0, k0_pay39 (F := Ideal)⟩], ∀ z, p.2 z = gEx x ada nw wi t (p.1.emb z) := by
  refine mem2 ?_ ?_
  · exact (ex_pieces x ada nw wi t h0 h1 hwu).2
  · exact zero_piece x ada nw wi t ht
theorem ext_hi (hwu : Cols wi 1864 (by decide) wu) (ht : t.val % 4 = 0) :
    ∀ p ∈ [(⟨R272, k0_pay106 H1 wu⟩ : View.Piece (Elt Ideal) S528x512 .f32), ⟨R16, k0_pay67 (k0_pay65 H0 wu)⟩, ⟨R0, k0_pay39 (F := Ideal)⟩],
      ∀ z, p.2 z = gEx x ada nw wi t (p.1.emb z) := by
  refine List.forall_mem_cons.mpr ⟨?_, ?_⟩
  · exact (ex_pieces x ada nw wi t h0 h1 hwu).1
  · exact ext_lo x ada nw wi t h0 h1 hwu ht
theorem ext_two (hwu : Cols wi 1864 (by decide) wu) :
    ∀ p ∈ [(⟨R272, k0_pay106 H1 wu⟩ : View.Piece (Elt Ideal) S528x512 .f32), ⟨R16, k0_pay67 (k0_pay65 H0 wu)⟩],
      ∀ z, p.2 z = gEx x ada nw wi t (p.1.emb z) := by
  refine mem2 ?_ ?_
  · exact (ex_pieces x ada nw wi t h0 h1 hwu).1
  · exact (ex_pieces x ada nw wi t h0 h1 hwu).2
end

theorem lanes_cov (a : Memref sig .tc .vmem S528x512 .f32) (q o : Nat) (ho : o + 128 ≤ 512) (hq : q + 272 ≤ 528) (L : List (View.Piece (Elt Ideal) S528x512 .f32))
    (hL : ∀ p ∈ L, ∀ z, p.2 z = gEx x ada nw wi t (p.1.emb z)) (inb : ∀ a, (![q, o] : Fin 2 → ℕ) a + S272x128.size a ≤ S528x512.size a)
    (cov : ∀ y : S528x512.Idx, q ≤ (y 0).val → (y 0).val < q + 272 → ∃ p ∈ L, y ∈ p.1.set) :
    Lanes (ex x ada nw wi t) (t.val % 4 * 512 + q) o ho (a.view.readCov L (Rect.unit (s := S528x512) ![q, o] S272x128.size inb).toLoadRect) := fun j l hj => by
  refine (rc_at a L (gEx x ada nw wi t) hL inb _ (ix2 ⟨q + j.val, by omega⟩ ⟨o + l.val, by omega⟩) (all2 rfl rfl)
    (cov _ (Nat.le_add_right _ _) (Nat.add_lt_add_left j.isLt q))).trans ?_
  exact congrArg (ex x ada nw wi t _) (by show t.val % 4 * 512 + (q + j.val) - 1 = t.val % 4 * 512 + q + j.val - 1; omega)

theorem old_read (a : Memref sig .tc .vmem S528x512 .f32) (ha : a.IsWhole) (xe : Vec Ideal S528x512 .f32) (w : R16.shape.Idx → Elt Ideal .f32)
    (y : S528x512.Idx) (h : (y 0).val < 16) :
    a.view.read (Elt Ideal) (a.view.writes (Elt Ideal) (ha.unread xe) [⟨R16, w⟩]) y = xe y := by
  refine (View.read_writes_cons_unit_of_not_mem (off' := ![16, 0]) a.view (ha.unread xe) inb_S528x512_S256x512_16_0 w [] y rfl (0 : Fin 2) (Or.inl h)).trans ?_
  show a.view.read (Elt Ideal) (ha.unread xe) y = _
  rw [ha.read_unread]
theorem new_read (a : Memref sig .tc .vmem S528x512 .f32) (ha : a.IsWhole) (xe : Vec Ideal S528x512 .f32) (w : R16.shape.Idx → Elt Ideal .f32)
    (G : Vec Ideal S528x512 .f32) (hw : ∀ z, w z = G (R16.emb z)) (y : S528x512.Idx) (h : 16 ≤ (y 0).val) (h' : (y 0).val < 272) :
    a.view.read (Elt Ideal) (a.view.writes (Elt Ideal) (ha.unread xe) [⟨R16, w⟩]) y = G y :=
  View.read_writes_apply_of_pieces _ _ G [⟨R16, w⟩] (fun p hp => (List.mem_singleton.mp hp) ▸ hw) y ⟨_, List.mem_singleton_self _, mem_R16 y h h'⟩

theorem lanes_old (a : Memref sig .tc .vmem S528x512 .f32) (ha : a.IsWhole) (o : Nat) (ho : o + 128 ≤ 512) (xe : Vec Ideal S528x512 .f32)
    (hxe : Prev x ada nw wi t xe)
    {H0 : FVec Ideal S256x1024 .bf16} {wu : Vec Ideal S1024x512 .bf16} (hw : ∀ z, k0_pay67 (k0_pay65 H0 wu) z = gEx x ada nw wi t (R16.emb z))
    (inb : ∀ a, (![0, o] : Fin 2 → ℕ) a + S272x128.size a ≤ S528x512.size a) :
    Lanes (ex x ada nw wi t) (t.val % 4 * 512 + 0) o ho
      (View.readAt (Elt Ideal) a.view (Rect.unit (s := S528x512) ![0, o] S272x128.size inb).toLoadRect
        (a.view.writes (Elt Ideal) (ha.unread xe) [(⟨R16, k0_pay67 (k0_pay65 H0 wu)⟩ : View.Piece (Elt Ideal) S528x512 .f32)])) := fun j l hj => by
  rw [View.readAt_eq_ld]
  have e : (Rect.unit (s := S528x512) ![0, o] S272x128.size inb).toLoadRect.idx (ix2 j l) = ix2 ⟨j.val, by omega⟩ ⟨o + l.val, by omega⟩ :=
    emb_eq inb _ _ (all2 (Nat.zero_add _).symm rfl)
  show a.view.read (Elt Ideal) _ ((Rect.unit (s := S528x512) ![0, o] S272x128.size inb).toLoadRect.idx (ix2 j l)) = _
  rw [e, Nat.add_zero]
  by_cases h : j.val < 16
  · exact (old_read a ha xe (k0_pay67 (k0_pay65 H0 wu)) (ix2 ⟨j.val, by omega⟩ ⟨o + l.val, by omega⟩) h).trans (hxe ⟨j.val, h⟩ ⟨o + l.val, by omega⟩)
  · exact new_read a ha xe (k0_pay67 (k0_pay65 H0 wu)) (gEx x ada nw wi t) hw (ix2 ⟨j.val, by omega⟩ ⟨o + l.val, by omega⟩) (Nat.le_of_not_lt h) j.isLt

theorem last_cov (a : Memref sig .tc .vmem S528x512 .f32) (L : List (View.Piece (Elt Ideal) S528x512 .f32))
    (hL : ∀ p ∈ L, ∀ z, p.2 z = gEx x ada nw wi t (p.1.emb z))
    (cov : ∀ y : S528x512.Idx, 256 ≤ (y 0).val → (y 0).val < 256 + 272 → ∃ p ∈ L, y ∈ p.1.set) (i : Fin 16) (l : Fin 512) :
    a.view.readCov L (Rect.unit (s := S528x512) ![512, 0] S16x512.size inb_S528x512_S16x512_512_0).toLoadRect (ix2 i l)
      = ex x ada nw wi t l (t.val % 4 * 512 + 511 + i.val) := by
  refine (rc_at a L (gEx x ada nw wi t) hL inb_S528x512_S16x512_512_0 _ (ix2 ⟨512 + i.val, by omega⟩ l) (all2 rfl (Nat.zero_add _).symm)
    (cov _ (by show 256 ≤ 512 + i.val; omega) (by show 512 + i.val < 256 + 272; omega))).trans ?_
  exact congrArg (ex x ada nw wi t _) (by show t.val % 4 * 512 + (512 + i.val) - 1 = t.val % 4 * 512 + 511 + i.val; omega)

theorem ul_full {v : FVec Ideal S16x512 .f32} (hv : ∀ (i : Fin 16) (l : Fin 512), v (ix2 i l) = ex x ada nw wi t l (t.val % 4 * 512 + 511 + i.val)) :
    Full (e := .f32) [⟨Rect.unit (s := S1x16x512) ![0, 0, 0] ![1, 16, 512] inb_S1x16x512_S1x16x512_0_0_0, k0_pay1 (F := Ideal) v⟩] (gUl x ada nw wi t) := by
  refine ⟨fun p hp => (List.mem_singleton.mp hp) ▸ lift3 (n := 16) (m := 512) fun r l => ?_, fun y => ⟨_, List.mem_singleton_self _, ?_⟩⟩
  · refine ((ProjPay.last v r l).trans (hv r l)).trans ?_
    exact (congrArg (gUl x ada nw wi t) (emb_eq inb_S1x16x512_S1x16x512_0_0_0 _ (ix3 0 r l) (all3 rfl (Nat.zero_add _).symm (Nat.zero_add _).symm))).symm
  · show y ∈ (Rect.unit (s := S1x16x512) ![0, 0, 0] ![1, 16, 512] inb_S1x16x512_S1x16x512_0_0_0).set
    exact Rect.mem_set_unit.mpr (all3 ⟨Nat.zero_le _, (Nat.zero_add 1).symm ▸ (y 0).isLt⟩ ⟨Nat.zero_le _, (Nat.zero_add 16).symm ▸ (y 1).isLt⟩
      ⟨Nat.zero_le _, (Nat.zero_add 512).symm ▸ (y 2).isLt⟩)

theorem next_read {v : FVec Ideal S16x512 .f32} (hv : ∀ (i : Fin 16) (l : Fin 512), v (ix2 i l) = ex x ada nw wi t l (t.val % 4 * 512 + 511 + i.val))
    (m : Memref sig .tc .vmem S528x512 .f32) (L : List (View.Piece (Elt Ideal) S528x512 .f32)) (f : m.view.ty.Contents (Elt Ideal)) :
    Next x ada nw wi t (m.view.read (Elt Ideal) (m.view.writes (Elt Ideal) f ((⟨R0, k0_pay2 (F := Ideal) v⟩ : View.Piece (Elt Ideal) S528x512 .f32) :: L))) := fun j l =>
  (View.read_writes_cons_unit_of_mem (off' := ![0, 0]) m.view f inb_S528x512_S16x512_0_0 (k0_pay2 (F := Ideal) v) L (ix2 ⟨j.val, by omega⟩ l) (ix2 j l) rfl
    (all2 (P := fun a => (ix2 (⟨j.val, by omega⟩ : Fin 528) l a).val = (![0, 0] : Fin 2 → ℕ) a + (ix2 j l a).val) (Nat.zero_add _).symm (Nat.zero_add _).symm)).trans
    ((ProjPay.keep v j l).trans (hv j l))

end

end Cert.ProjOut

end
-- ==== Proof.ProjSetup.lean ====
module

public import proofs.«01_k».proof.Proof.Gen.KernelIdeal.Frame
public import proofs.«01_k».proof.Proof.Gen.KernelIdeal.Points
public import proofs.«01_k».proof.Proof.Gen.KernelIdeal.Skeleton
public import proofs.«01_k».proof.Proof.Gen.KernelIdeal.Launch
public import Idealize.ShloMosaic.Lib.Pipeline.FrameBody
public import Idealize.ShloMosaic.Lib.Pipeline.Value
public import Idealize.ShloMosaic.Lib.Tactic
public import Idealize.ShloMosaic.Lib.WordCmp

@[expose] public section

set_option maxRecDepth 16384

noncomputable section

namespace Cert.Proj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The weight is staged: the first branch of the body is taken. -/
abbrev first (i : grid0.Coords) : Prop := k0_cond1 i = 1#1

/-- A batch begins: the second branch of the body is taken. -/
abbrev fresh (i : grid0.Coords) : Prop :=
  (Scalar.cmpi .ne (Scalar.extui (Scalar.cmpi .eq (BitVec.ofNat 32 (i 1).val) 0#32)) 0#32) = 1#1

theorem coord0 (t : Fin cfg0.N) : (grid0.coords t 0).val = t.val / 4 := by
  have h : (grid0.coords t 0).val = t.val / 4 % 8 := Pipeline.Grid.coords_val t 0 (by decide) rfl
  have ht : t.val < 32 := Nat.lt_of_lt_of_eq t.isLt N_0
  omega

theorem coord1 (t : Fin cfg0.N) : (grid0.coords t 1).val = t.val % 4 := by
  have h : (grid0.coords t 1).val = t.val / 1 % 4 := Pipeline.Grid.coords_val t 1 (by decide) rfl
  omega

theorem first_iff (t : Fin cfg0.N) : first (grid0.coords t) ↔ t.val = 0 := by
  have ht : t.val < 32 := Nat.lt_of_lt_of_eq t.isLt N_0
  have e0 := coord0 t
  have e1 := coord1 t
  have h : first (grid0.coords t) ↔ t.val % 32 = 0 := by
    simp only [first, k0_cond1, e0, e1]
    word_cmp
  rw [h]; omega

theorem fresh_iff (t : Fin cfg0.N) : fresh (grid0.coords t) ↔ t.val % 4 = 0 := by
  have ht : t.val < 32 := Nat.lt_of_lt_of_eq t.isLt N_0
  have e1 := coord1 t
  simp only [fresh, e1]
  word_cmp

/-! The staging memref of each window at a point, as the body is handed it. -/

abbrev st0 (t : Fin cfg0.N) : Memref sig .tc .vmem S1x512x1024 .f32 := win0_0.stage (cfg0.slots t 0)
abbrev wh0 (t : Fin cfg0.N) : (st0 t).IsWhole := hstage0_0 ((cfg0.slots t 0).cast nbuf0_0)
abbrev st1 (t : Fin cfg0.N) : Memref sig .tc .vmem S1x1x3072 .f32 := win0_1.stage (cfg0.slots t 1)
abbrev wh1 (t : Fin cfg0.N) : (st1 t).IsWhole := hstage0_1 ((cfg0.slots t 1).cast nbuf0_1)
abbrev st2 (t : Fin cfg0.N) : Memref sig .tc .vmem S1x1024 .f32 := win0_2.stage (cfg0.slots t 2)
abbrev wh2 (t : Fin cfg0.N) : (st2 t).IsWhole := hstage0_2 ((cfg0.slots t 2).cast nbuf0_2)
abbrev st3 (t : Fin cfg0.N) : Memref sig .tc .vmem S2888x1024 .f32 := win0_3.stage (cfg0.slots t 3)
abbrev wh3 (t : Fin cfg0.N) : (st3 t).IsWhole := hstage0_3 ((cfg0.slots t 3).cast nbuf0_3)
abbrev st4 (t : Fin cfg0.N) : Memref sig .tc .vmem S1x512 .f32 := win0_4.stage (cfg0.slots t 4)
abbrev wh4 (t : Fin cfg0.N) : (st4 t).IsWhole := hstage0_4 ((cfg0.slots t 4).cast nbuf0_4)
abbrev st5 (t : Fin cfg0.N) : Memref sig .tc .vmem S1x128 .f32 := win0_5.stage (cfg0.slots t 5)
abbrev wh5 (t : Fin cfg0.N) : (st5 t).IsWhole := hstage0_5 ((cfg0.slots t 5).cast nbuf0_5)
abbrev st6 (t : Fin cfg0.N) : Memref sig .tc .vmem S2x256x256 .bf16 := win0_6.stage (cfg0.slots t 6)
abbrev wh6 (t : Fin cfg0.N) : (st6 t).IsWhole := hstage0_6 ((cfg0.slots t 6).cast nbuf0_6)
abbrev st7 (t : Fin cfg0.N) : Memref sig .tc .vmem S1x512 .f32 := win0_7.stage (cfg0.slots t 7)
abbrev wh7 (t : Fin cfg0.N) : (st7 t).IsWhole := hstage0_7 ((cfg0.slots t 7).cast nbuf0_7)
abbrev st8 (t : Fin cfg0.N) : Memref sig .tc .vmem S512x512 .bf16 := win0_8.stage (cfg0.slots t 8)
abbrev wh8 (t : Fin cfg0.N) : (st8 t).IsWhole := hstage0_8 ((cfg0.slots t 8).cast nbuf0_8)
abbrev st9 (t : Fin cfg0.N) : Memref sig .tc .vmem S1x128x512 .f32 := win0_9.stage (cfg0.slots t 9)
abbrev wh9 (t : Fin cfg0.N) : (st9 t).IsWhole := hstage0_9 ((cfg0.slots t 9).cast nbuf0_9)
abbrev st10 (t : Fin cfg0.N) : Memref sig .tc .vmem S2x512x128 .bf16 := win0_10.stage (cfg0.slots t 10)
abbrev wh10 (t : Fin cfg0.N) : (st10 t).IsWhole := hstage0_10 ((cfg0.slots t 10).cast nbuf0_10)
abbrev st11 (t : Fin cfg0.N) : Memref sig .tc .vmem S1x128x512 .f32 := win0_11.stage (cfg0.slots t 11)
abbrev wh11 (t : Fin cfg0.N) : (st11 t).IsWhole := hstage0_11 ((cfg0.slots t 11).cast nbuf0_11)
abbrev st12 (t : Fin cfg0.N) : Memref sig .tc .vmem S1x2x2x80x256 .bf16 := win0_12.stage (cfg0.slots t 12)
abbrev wh12 (t : Fin cfg0.N) : (st12 t).IsWhole := hstage0_12 ((cfg0.slots t 12).cast nbuf0_12)
abbrev st13 (t : Fin cfg0.N) : Memref sig .tc .vmem S512x512 .bf16 := win0_13.stage (cfg0.slots t 13)
abbrev wh13 (t : Fin cfg0.N) : (st13 t).IsWhole := hstage0_13 ((cfg0.slots t 13).cast nbuf0_13)
abbrev st14 (t : Fin cfg0.N) : Memref sig .tc .vmem S1x64x512 .f32 := win0_14.stage (cfg0.slots t 14)
abbrev wh14 (t : Fin cfg0.N) : (st14 t).IsWhole := hstage0_14 ((cfg0.slots t 14).cast nbuf0_14)
abbrev st15 (t : Fin cfg0.N) : Memref sig .tc .vmem S512x128 .bf16 := win0_15.stage (cfg0.slots t 15)
abbrev wh15 (t : Fin cfg0.N) : (st15 t).IsWhole := hstage0_15 ((cfg0.slots t 15).cast nbuf0_15)
abbrev st16 (t : Fin cfg0.N) : Memref sig .tc .vmem S4x8x128 .f32 := win0_16.stage (cfg0.slots t 16)
abbrev wh16 (t : Fin cfg0.N) : (st16 t).IsWhole := hstage0_16 ((cfg0.slots t 16).cast nbuf0_16)
abbrev st17 (t : Fin cfg0.N) : Memref sig .tc .vmem S512x512 .bf16 := win0_17.stage (cfg0.slots t 17)
abbrev wh17 (t : Fin cfg0.N) : (st17 t).IsWhole := hstage0_17 ((cfg0.slots t 17).cast nbuf0_17)
abbrev st18 (t : Fin cfg0.N) : Memref sig .tc .vmem S512x512 .bf16 := win0_18.stage (cfg0.slots t 18)
abbrev wh18 (t : Fin cfg0.N) : (st18 t).IsWhole := hstage0_18 ((cfg0.slots t 18).cast nbuf0_18)
abbrev st19 (t : Fin cfg0.N) : Memref sig .tc .vmem S1x16x512 .f32 := win0_19.stage (cfg0.slots t 19)
abbrev wh19 (t : Fin cfg0.N) : (st19 t).IsWhole := hstage0_19 ((cfg0.slots t 19).cast nbuf0_19)
abbrev st20 (t : Fin cfg0.N) : Memref sig .tc .vmem S1024x2944 .bf16 := win0_20.stage (cfg0.slots t 20)
abbrev wh20 (t : Fin cfg0.N) : (st20 t).IsWhole := hstage0_20 ((cfg0.slots t 20).cast nbuf0_20)

/-- The buffer the body carries from a point to the next. -/
abbrev carry : Memref sig .tc .vmem S528x512 .f32 := Memref.whole cc0_scratch0

theorem ΦA_eq (c : Dev nD) :
    (Pipeline.ΦA spec0 c : sProp 𝕄)
      = iprop(iprop((∃ d, owns (c : Thread nD τ) carry fullShare d)) ∗ (∃ r, prngReg c r)) := by
  unfold Pipeline.ΦA; rw [scopedRest0_eq]; simp only [carry, owns_whole]; try rfl

end Cert.Proj

end
-- ==== Proof.ProjFeed.lean ====
/- What each point's body is handed: the blocks of the prompt's arrays and of the buffers prepared from them. -/
module

public import proofs.«01_k».proof.Proof.ProjPoint
public import proofs.«01_k».proof.Proof.ProjSetup
public import Idealize.ShloMosaic.Lib.Pipeline.ValueKit
public import Idealize.ShloMosaic.Lib.StableHlo.ReadAt

@[expose] public section

set_option maxRecDepth 16384

noncomputable section

namespace Cert.ProjFeed

open Cert.KernelIdeal Cert.KernelIdeal.Gen Cert.ProjOut
open Idealize.ShloMosaic Idealize.ShloMosaic.TcCoe Idealize.SL.Sem
open Idealize.ShloMosaic.Pipeline (Dat)

variable (m : (ℓ : Loc nD τ sig) → Buf (Elt Ideal) ℓ)

/-! The arguments. -/
abbrev aX (c : Dev nD) : FVec Ideal S8x2048x1024 .f32 := m ((c : Thread nD τ).loc main_arg0)
abbrev aAda (c : Dev nD) : FVec Ideal S8x3072 .f32 := m ((c : Thread nD τ).loc main_arg1)
abbrev aNw (c : Dev nD) : FVec Ideal S1x1024 .f32 := m ((c : Thread nD τ).loc main_arg2)
abbrev aWi (c : Dev nD) : FVec Ideal S1x1024x2888 .f32 := m ((c : Thread nD τ).loc main_arg3)
abbrev aQn (c : Dev nD) : FVec Ideal S1x64 .f32 := m ((c : Thread nD τ).loc main_arg4)
abbrev aKn (c : Dev nD) : FVec Ideal S1x64 .f32 := m ((c : Thread nD τ).loc main_arg5)
abbrev aWp (c : Dev nD) : FVec Ideal S1x4x128x128 .f32 := m ((c : Thread nD τ).loc main_arg6)
abbrev aPs (c : Dev nD) : FVec Ideal S1x512 .f32 := m ((c : Thread nD τ).loc main_arg7)

/-- A point of the grid, as a number below 32. -/
def tt (t : Fin cfg0.N) : Fin 32 := ⟨t.val, Nat.lt_of_lt_of_eq t.isLt N_0⟩

theorem tlt (t : Fin cfg0.N) : t.val < 32 := Nat.lt_of_lt_of_eq t.isLt N_0

/-! The prepared buffers, read at an index. -/

theorem mods_apply (c : Dev nD) (b : Fin 8) (k : Fin 3072) : V m c main_v33 (ix3 b 0 k) = aAda m c (ix2 b k) := by
  unfold V
  after_reads_at
theorem norm_apply (c : Dev nD) (k : Fin 1024) : V m c main_v30 (ix2 0 k) = aNw m c (ix2 0 k) := by
  unfold V
  after_reads_at
theorem wt_apply (c : Dev nD) (l : Fin 2888) (k : Fin 1024) : V m c main_v1 (ix2 l k) = aWi m c (ix3 0 k l) := by
  unfold V
  after_reads_at
theorem qn_apply (c : Dev nD) (l : Fin 512) :
    V m c main_v23 (ix2 0 l) = aQn m c (ix2 0 ⟨l.val % 64, by omega⟩) * Ideal.ofBits .f32 0x3E000000#32 := by
  unfold V
  after_reads_at
theorem kn_apply (c : Dev nD) (l : Fin 128) : V m c main_v28 (ix2 0 l) = aKn m c (ix2 0 ⟨l.val % 64, by omega⟩) := by
  unfold V
  after_reads_at
theorem scale_apply (c : Dev nD) (l : Fin 512) : V m c main_v32 (ix2 0 l) = aPs m c (ix2 0 l) := by
  unfold V
  after_reads_at

theorem pick (w : FVec Ideal S1x4x128x128 .f32) {p p' : Fin 4} {a a' b b' : Fin 128} (hp : p.val = p'.val) (ha : a.val = a'.val)
    (hb : b.val = b'.val) : w (ix4 0 p a b) = w (ix4 0 p' a' b') := by
  rw [Fin.ext hp, Fin.ext ha, Fin.ext hb]

theorem pool_apply0 (c : Dev nD) (x l : Fin 256) : V m c main_v16 (ix3 0 x l)
    = if x.val / 128 = l.val / 128 then aWp m c (ix4 0 ⟨0 + l.val / 128, by omega⟩ ⟨x.val % 128, by omega⟩ ⟨l.val % 128, by omega⟩) else 0 := by
  unfold V
  after_reads_at
  after_reads_at
  after_reads_at
  after_reads_at
  by_cases hx : x.val < 128 <;> by_cases hl : l.val < 128
  · have hq : x.val / 128 = l.val / 128 := by omega
    rw [dif_pos hx, dif_pos hl]
    refine Eq.trans ?_ (if_pos hq).symm
    exact pick (aWp m c) (show (0 : Nat) = l.val / 128 by omega) (show x.val = x.val % 128 by omega) (show l.val = l.val % 128 by omega)
  · have hq : x.val / 128 ≠ l.val / 128 := by omega
    rw [dif_pos hx, dif_neg hl]
    exact (if_neg hq).symm
  · have hq : x.val / 128 ≠ l.val / 128 := by omega
    rw [dif_neg hx, dif_pos hl]
    exact (if_neg hq).symm
  · have hq : x.val / 128 = l.val / 128 := by omega
    rw [dif_neg hx, dif_neg hl]
    refine Eq.trans ?_ (if_pos hq).symm
    exact pick (aWp m c) (show (1 : Nat) = l.val / 128 by omega) (show x.val - 128 = x.val % 128 by omega) (show l.val - 128 = l.val % 128 by omega)

theorem pool_apply1 (c : Dev nD) (x l : Fin 256) : V m c main_v16 (ix3 1 x l)
    = if x.val / 128 = l.val / 128 then aWp m c (ix4 0 ⟨2 + l.val / 128, by omega⟩ ⟨x.val % 128, by omega⟩ ⟨l.val % 128, by omega⟩) else 0 := by
  unfold V
  after_reads_at
  after_reads_at
  after_reads_at
  after_reads_at
  by_cases hx : x.val < 128 <;> by_cases hl : l.val < 128
  · have hq : x.val / 128 = l.val / 128 := by omega
    rw [dif_pos hx, dif_pos hl]
    refine Eq.trans ?_ (if_pos hq).symm
    exact pick (aWp m c) (show (2 : Nat) = 2 + l.val / 128 by omega) (show x.val = x.val % 128 by omega) (show l.val = l.val % 128 by omega)
  · have hq : x.val / 128 ≠ l.val / 128 := by omega
    rw [dif_pos hx, dif_neg hl]
    exact (if_neg hq).symm
  · have hq : x.val / 128 ≠ l.val / 128 := by omega
    rw [dif_neg hx, dif_pos hl]
    exact (if_neg hq).symm
  · have hq : x.val / 128 = l.val / 128 := by omega
    rw [dif_neg hx, dif_neg hl]
    refine Eq.trans ?_ (if_pos hq).symm
    exact pick (aWp m c) (show (3 : Nat) = 2 + l.val / 128 by omega) (show x.val - 128 = x.val % 128 by omega) (show l.val - 128 = l.val % 128 by omega)

/-! Which block of its array a window is on. -/

theorem idx0 : ∀ t : Fin cfg0.N, win0_0.index t = ![t.val / 4, t.val % 4, 0] :=
  (by decide +kernel : ∀ t : Fin grid0.N, win0_0.index t = ![t.val / 4, t.val % 4, 0])
theorem idx1 : ∀ t : Fin cfg0.N, win0_1.index t = ![t.val / 4, 0, 0] :=
  (by decide +kernel : ∀ t : Fin grid0.N, win0_1.index t = ![t.val / 4, 0, 0])
theorem idx2 : ∀ t : Fin cfg0.N, win0_2.index t = ![0, 0] :=
  (by decide +kernel : ∀ t : Fin grid0.N, win0_2.index t = ![0, 0])
theorem idx3 : ∀ t : Fin cfg0.N, win0_3.index t = ![0, 0] :=
  (by decide +kernel : ∀ t : Fin grid0.N, win0_3.index t = ![0, 0])
theorem idx4 : ∀ t : Fin cfg0.N, win0_4.index t = ![0, 0] :=
  (by decide +kernel : ∀ t : Fin grid0.N, win0_4.index t = ![0, 0])
theorem idx5 : ∀ t : Fin cfg0.N, win0_5.index t = ![0, 0] :=
  (by decide +kernel : ∀ t : Fin grid0.N, win0_5.index t = ![0, 0])
theorem idx6 : ∀ t : Fin cfg0.N, win0_6.index t = ![0, 0, 0] :=
  (by decide +kernel : ∀ t : Fin grid0.N, win0_6.index t = ![0, 0, 0])
theorem idx7 : ∀ t : Fin cfg0.N, win0_7.index t = ![0, 0] :=
  (by decide +kernel : ∀ t : Fin grid0.N, win0_7.index t = ![0, 0])

/-! The blocks. -/

theorem blk0 (c : Dev nD) (t : Fin cfg0.N) : InRows (aX m c) (tt t) (iblk m c 0 t) := fun r k => by
  have ht := tlt t
  show iblk m c 0 t (ix3 0 r k) = m ((c : Thread nD τ).loc main_arg0) (ix3 ⟨t.val / 4, by omega⟩ ⟨t.val % 4 * 512 + r.val, by omega⟩ k)
  rw [← V_main_arg0 m c]
  blk_ext [iblk, idx0]
theorem blk1 (c : Dev nD) (t : Fin cfg0.N) : InMods (aAda m c) (tt t) (iblk m c 1 t) := fun k => by
  have ht := tlt t
  show iblk m c 1 t (ix3 0 0 k) = aAda m c (ix2 ⟨t.val / 4, by omega⟩ k)
  rw [← mods_apply m c]
  blk_ext [iblk, idx1]
theorem blk2 (c : Dev nD) (t : Fin cfg0.N) (k : Fin 1024) : iblk m c 2 t (ix2 0 k) = aNw m c (ix2 0 k) := by
  rw [← norm_apply m c]
  blk_ext [iblk, idx2]
theorem blk3 (c : Dev nD) (t : Fin cfg0.N) (l : Fin 2888) (k : Fin 1024) : iblk m c 3 t (ix2 l k) = aWi m c (ix3 0 k l) := by
  rw [← wt_apply m c]
  blk_ext [iblk, idx3]
theorem blk4 (c : Dev nD) (t : Fin cfg0.N) : Qn (aQn m c) (iblk m c 4 t) := fun l => by
  rw [← qn_apply m c]
  blk_ext [iblk, idx4]
theorem blk5 (c : Dev nD) (t : Fin cfg0.N) : Kn (aKn m c) (iblk m c 5 t) := fun l => by
  rw [← kn_apply m c]
  blk_ext [iblk, idx5]
theorem blk6 (c : Dev nD) (t : Fin cfg0.N) (p : Fin 2) (x l : Fin 256) : iblk m c 6 t (ix3 p x l) = V m c main_v16 (ix3 p x l) := by
  blk_ext [iblk, idx6]
theorem blk7 (c : Dev nD) (t : Fin cfg0.N) (l : Fin 512) : iblk m c 7 t (ix2 0 l) = aPs m c (ix2 0 l) := by
  rw [← scale_apply m c]
  blk_ext [iblk, idx7]

theorem held (c : Dev nD) (t : Fin cfg0.N) :
    Held (aX m c) (aAda m c) (aNw m c) (aQn m c) (aKn m c) (aWp m c) (aPs m c) (tt t)
      (iblk m c 0 t) (iblk m c 1 t) (iblk m c 2 t) (iblk m c 4 t) (iblk m c 5 t) (iblk m c 6 t) (iblk m c 7 t) where
  rows := blk0 m c t
  mods := blk1 m c t
  norm := blk2 m c t
  qnorm := blk4 m c t
  knorm := blk5 m c t
  pool0 := fun x l => (blk6 m c t 0 x l).trans (pool_apply0 m c x l)
  pool1 := fun x l => (blk6 m c t 1 x l).trans (pool_apply1 m c x l)
  scale := blk7 m c t

end Cert.ProjFeed

end
-- ==== Proof.ProjFrame.lean ====
/- The proof data of the prompt projection: what each window holds after each point, and what is carried between points. -/
module

public import proofs.«01_k».proof.Proof.ProjFeed
public import Idealize.ShloMosaic.Lib.Claim

@[expose] public section

set_option maxRecDepth 16384

noncomputable section

namespace Cert.ProjFrame

open Cert.KernelIdeal Cert.KernelIdeal.Gen Cert.ProjOut Cert.ProjFeed
open Cert.Proj (st0 st1 st2 st3 st4 st5 st6 st7 st8 st9 st10 st11 st12 st13 st14 st15 st16 st17 st18 st19 st20 wh0 wh1 wh2 wh3 wh4 wh5 wh6 wh7 wh8 wh9 wh10 wh11 wh12 wh13 wh14 wh15 wh16 wh17 wh18 wh19 wh20 carry)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The three outputs of which nothing is claimed. -/
def forgets0 : Fin 21 → Bool := fun w => w.val == 10 || w.val == 12 || w.val == 15

/-- Before point `n`, unless a batch begins there, the carried buffer opens with the sixteen rows before the point's block. -/
def Carried (c : Dev nD) (n : Nat) (e : Vec Ideal S528x512 .f32) : Prop :=
  ∀ h : n < 32, n % 4 ≠ 0 → Prev (aX m c) (aAda m c) (aNw m c) (aWi m c) ⟨n, h⟩ e

theorem Carried.of_next (c : Dev nD) (t : Fin cfg0.N) {e : Vec Ideal S528x512 .f32}
    (h : Next (aX m c) (aAda m c) (aNw m c) (aWi m c) (tt t) e) : Carried m c (t.val + 1) e := by
  intro hl hn j l
  have hq : (t.val + 1) / 4 = t.val / 4 := by omega
  have hr : (t.val + 1) % 4 * 512 + j.val - 1 = t.val % 4 * 512 + 511 + j.val := by omega
  refine (h j l).trans ?_
  unfold ex
  have hb : (⟨t.val / 4, by have := tlt t; omega⟩ : Fin 8) = ⟨(t.val + 1) / 4, by omega⟩ := Fin.ext hq.symm
  show Cert.ProjRef.ext (aX m c) (aAda m c) (aNw m c) (aWi m c) (⟨t.val / 4, by have := tlt t; omega⟩ : Fin 8) l (t.val % 4 * 512 + 511 + j.val)
    = Cert.ProjRef.ext (aX m c) (aAda m c) (aNw m c) (aWi m c) (⟨(t.val + 1) / 4, by omega⟩ : Fin 8) l ((t.val + 1) % 4 * 512 + j.val - 1)
  rw [hb, hr]

/-- What the points hand each other: the carried buffer and the generator's register. -/
def PhiS (c : Dev nD) : Nat → sProp 𝕄
  | 0 => Pipeline.ΦA spec0 c
  | n + 1 => iprop(iprop(∃ e, ⌜Carried m c (n + 1) e⌝ ∗ owns (c : Thread nD τ) carry fullShare e) ∗ (∃ r, prngReg c r))

theorem PhiS_pos (c : Dev nD) (n : Nat) (h : n ≠ 0) :
    PhiS m c n = iprop(iprop(∃ e, ⌜Carried m c n e⌝ ∗ owns (c : Thread nD τ) carry fullShare e) ∗ (∃ r, prngReg c r)) := by
  cases n with
  | zero => exact absurd rfl h
  | succ n => rfl

def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => gQs (aX m c) (aAda m c) (aNw m c) (aWi m c) (aQn m c) (tt t)
    | ⟨9, _⟩ => gKt (aX m c) (aAda m c) (aNw m c) (aWi m c) (aKn m c) (tt t)
    | ⟨10, h⟩ => Pipeline.Dat.unnamed (cfg := cfg0) ⟨10, h⟩ t
    | ⟨11, _⟩ => gVt (aX m c) (aAda m c) (aNw m c) (aWi m c) (tt t)
    | ⟨12, h⟩ => Pipeline.Dat.unnamed (cfg := cfg0) ⟨12, h⟩ t
    | ⟨13, _⟩ => gQi (aX m c) (aAda m c) (aNw m c) (aWi m c) (tt t)
    | ⟨14, _⟩ => gKi (aX m c) (aAda m c) (aNw m c) (aWi m c) (tt t)
    | ⟨15, h⟩ => Pipeline.Dat.unnamed (cfg := cfg0) ⟨15, h⟩ t
    | ⟨16, _⟩ => gWi (aX m c) (aAda m c) (aNw m c) (aWi m c) (tt t)
    | ⟨17, _⟩ => gSg (aX m c) (aAda m c) (aNw m c) (aWi m c) (tt t)
    | ⟨18, _⟩ => gPg (aX m c) (aAda m c) (aNw m c) (aWi m c) (aWp m c) (aPs m c) (tt t)
    | ⟨19, _⟩ => gUl (aX m c) (aAda m c) (aNw m c) (aWi m c) (tt t)
    | ⟨20, _⟩ => stg (aWi m c)
    | ⟨_ + 21, h⟩ => absurd h (Nat.not_lt.2 (Nat.le_add_left _ _))
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = gQs (aX m c) (aAda m c) (aNw m c) (aWi m c) (aQn m c) (tt t) := by dsimp only [dats]
theorem after0_9 (c : Dev nD) (t : Fin cfg0.N) : (dats m 0 c).after 9 t = gKt (aX m c) (aAda m c) (aNw m c) (aWi m c) (aKn m c) (tt t) := by dsimp only [dats]
theorem after0_11 (c : Dev nD) (t : Fin cfg0.N) : (dats m 0 c).after 11 t = gVt (aX m c) (aAda m c) (aNw m c) (aWi m c) (tt t) := by dsimp only [dats]
theorem after0_13 (c : Dev nD) (t : Fin cfg0.N) : (dats m 0 c).after 13 t = gQi (aX m c) (aAda m c) (aNw m c) (aWi m c) (tt t) := by dsimp only [dats]
theorem after0_14 (c : Dev nD) (t : Fin cfg0.N) : (dats m 0 c).after 14 t = gKi (aX m c) (aAda m c) (aNw m c) (aWi m c) (tt t) := by dsimp only [dats]
theorem after0_16 (c : Dev nD) (t : Fin cfg0.N) : (dats m 0 c).after 16 t = gWi (aX m c) (aAda m c) (aNw m c) (aWi m c) (tt t) := by dsimp only [dats]
theorem after0_17 (c : Dev nD) (t : Fin cfg0.N) : (dats m 0 c).after 17 t = gSg (aX m c) (aAda m c) (aNw m c) (aWi m c) (tt t) := by dsimp only [dats]
theorem after0_18 (c : Dev nD) (t : Fin cfg0.N) : (dats m 0 c).after 18 t = gPg (aX m c) (aAda m c) (aNw m c) (aWi m c) (aWp m c) (aPs m c) (tt t) := by dsimp only [dats]
theorem after0_19 (c : Dev nD) (t : Fin cfg0.N) : (dats m 0 c).after 19 t = gUl (aX m c) (aAda m c) (aNw m c) (aWi m c) (tt t) := by dsimp only [dats]
theorem after0_20 (c : Dev nD) (t : Fin cfg0.N) : (dats m 0 c).after 20 t = stg (aWi m c) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- The staged weight is found at every point but the first. -/
theorem before0_20 (c : Dev nD) (t : Fin cfg0.N) (hz : t.val ≠ 0) (d) : (dats m 0 c).before 20 t d = stg (aWi m c) := by
  obtain ⟨n, hn⟩ := t
  induction n with
  | zero => exact absurd rfl hz
  | succ n ih =>
    have hn' : n + 1 < 32 := Nat.lt_of_lt_of_eq hn N_0
    have hnN : n < cfg0.N := Nat.lt_of_succ_lt hn
    have hfl : (cfg0.win 20).flush ⟨n, hnN⟩ = false := by
      cases h : (cfg0.win 20).flush ⟨n, hnN⟩ with
      | false => rfl
      | true =>
        have h31 : n % 32 = 31 := (flush0_20 ⟨n, hnN⟩).mp h
        omega
    refine ((dats m 0 c).before_of_pos 20 ⟨n + 1, hn⟩ hz rfl d).trans ?_
    refine (if_neg (by rw [show (⟨(⟨n + 1, hn⟩ : Fin cfg0.N).val - 1, Nat.lt_of_le_of_lt (Nat.sub_le _ _) hn⟩ : Fin cfg0.N) = ⟨n, hnN⟩ from rfl, hfl]; exact Bool.false_ne_true)).trans ?_
    show (dats m 0 c).left 20 ⟨n, hnN⟩ d = _
    unfold Dat.left
    cases hid : cfg0.idle 20 (cfg0.grid.coords ⟨n, hnN⟩) with
    | false => exact after0_20 m c ⟨n, hnN⟩
    | true =>
      refine ih hnN fun h0 => ?_
      have h0' : n = 0 := h0
      subst h0'
      have := (Cert.Proj.first_iff ⟨0, hnN⟩).mpr rfl
      have hl : cfg0.idle 20 (cfg0.grid.coords ⟨0, hnN⟩) = (!(decide (k0_cond1 (grid0.coords ⟨0, hnN⟩) = 1#1))) := rfl
      rw [hl, decide_eq_true this] at hid
      exact absurd hid (by decide)

/-- A buffer at the staged weight is what every point leaves of it. -/
theorem leaves20 (c : Dev nD) (t : Fin cfg0.N) :
    (owns (c : Thread nD τ) (st20 t) fullShare (stg (aWi m c)) : sProp 𝕄) ⊢ (dats m 0 c).leavesExact 20 t := by
  unfold Dat.leavesExact
  cases hid : cfg0.idle 20 (cfg0.grid.coords t) with
  | false => exact Entails.of_eq (by rw [after0_20])
  | true =>
    cases hfl : (cfg0.win 20).flush t with
    | true => exact Entails.of_eq (by rw [after0_20])
    | false =>
      have hz : t.val ≠ 0 := fun h0 => by
        have := (Cert.Proj.first_iff t).mpr h0
        have hl : cfg0.idle 20 (cfg0.grid.coords t) = (!(decide (k0_cond1 (grid0.coords t) = 1#1))) := rfl
        rw [hl, decide_eq_true this] at hid
        exact absurd hid (by decide)
      have hb := before0_20 m c t hz (stg (aWi m c))
      iintro H
      iexists (stg (aWi m c))
      rw [hb]
      iexact H

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d))
    ∗ (∃ d, owns (c : Thread nD τ) (st8 t) fullShare ((dats m 0 c).before 8 t d))
    ∗ (∃ d, owns (c : Thread nD τ) (st9 t) fullShare ((dats m 0 c).before 9 t d))
    ∗ (∃ d, owns (c : Thread nD τ) (st10 t) fullShare d)
    ∗ (∃ d, owns (c : Thread nD τ) (st11 t) fullShare ((dats m 0 c).before 11 t d))
    ∗ (∃ d, owns (c : Thread nD τ) (st12 t) fullShare d)
    ∗ (∃ d, owns (c : Thread nD τ) (st13 t) fullShare ((dats m 0 c).before 13 t d))
    ∗ (∃ d, owns (c : Thread nD τ) (st14 t) fullShare ((dats m 0 c).before 14 t d))
    ∗ (∃ d, owns (c : Thread nD τ) (st15 t) fullShare d)
    ∗ (∃ d, owns (c : Thread nD τ) (st16 t) fullShare ((dats m 0 c).before 16 t d))
    ∗ (∃ d, owns (c : Thread nD τ) (st17 t) fullShare ((dats m 0 c).before 17 t d))
    ∗ (∃ d, owns (c : Thread nD τ) (st18 t) fullShare ((dats m 0 c).before 18 t d))
    ∗ (∃ d, owns (c : Thread nD τ) (st19 t) fullShare ((dats m 0 c).before 19 t d))
    ∗ (∃ d, owns (c : Thread nD τ) (st20 t) fullShare ((dats m 0 c).before 20 t d)))

/-- and what it returns. -/
def bodyPost (c : Dev nD) (t : Fin cfg0.N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t)
    ∗ owns (c : Thread nD τ) (st4 t) fullShare ((dats m 0 c).after 4 t)
    ∗ owns (c : Thread nD τ) (st5 t) fullShare ((dats m 0 c).after 5 t)
    ∗ owns (c : Thread nD τ) (st6 t) fullShare ((dats m 0 c).after 6 t)
    ∗ owns (c : Thread nD τ) (st7 t) fullShare ((dats m 0 c).after 7 t)
    ∗ owns (c : Thread nD τ) (st8 t) fullShare ((dats m 0 c).after 8 t)
    ∗ owns (c : Thread nD τ) (st9 t) fullShare ((dats m 0 c).after 9 t)
    ∗ (∃ d, owns (c : Thread nD τ) (st10 t) fullShare d)
    ∗ owns (c : Thread nD τ) (st11 t) fullShare ((dats m 0 c).after 11 t)
    ∗ (∃ d, owns (c : Thread nD τ) (st12 t) fullShare d)
    ∗ owns (c : Thread nD τ) (st13 t) fullShare ((dats m 0 c).after 13 t)
    ∗ owns (c : Thread nD τ) (st14 t) fullShare ((dats m 0 c).after 14 t)
    ∗ (∃ d, owns (c : Thread nD τ) (st15 t) fullShare d)
    ∗ owns (c : Thread nD τ) (st16 t) fullShare ((dats m 0 c).after 16 t)
    ∗ owns (c : Thread nD τ) (st17 t) fullShare ((dats m 0 c).after 17 t)
    ∗ owns (c : Thread nD τ) (st18 t) fullShare ((dats m 0 c).after 18 t)
    ∗ owns (c : Thread nD τ) (st19 t) fullShare ((dats m 0 c).after 19 t)
    ∗ (dats m 0 c).leavesExact 20 t)

end Cert.ProjFrame

end
-- ==== Proof.ProjRunB.lean ====
module

public import proofs.«01_k».proof.Proof.ProjSetup

@[expose] public section

set_option maxRecDepth 16384

noncomputable section

namespace Cert.Proj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The body at a point inside a batch. -/

set_option maxHeartbeats 2000000 in
/-- What the body leaves in each buffer it stores into, as the list of its stores (the last first), with the proof that it
    leaves it there and every other buffer as it was. -/
noncomputable def runB (c : Dev nD) (i : grid0.Coords) (arg2 : Memref sig .tc .vmem S1x512x1024 .f32) (harg2 : arg2.IsWhole) (arg3 : Memref sig .tc .vmem S1x1x3072 .f32) (harg3 : arg3.IsWhole) (arg4 : Memref sig .tc .vmem S1x1024 .f32) (harg4 : arg4.IsWhole) (arg5 : Memref sig .tc .vmem S2888x1024 .f32) (harg5 : arg5.IsWhole) (arg6 : Memref sig .tc .vmem S1x512 .f32) (harg6 : arg6.IsWhole) (arg7 : Memref sig .tc .vmem S1x128 .f32) (harg7 : arg7.IsWhole) (arg8 : Memref sig .tc .vmem S2x256x256 .bf16) (harg8 : arg8.IsWhole) (arg9 : Memref sig .tc .vmem S1x512 .f32) (harg9 : arg9.IsWhole) (arg10 : Memref sig .tc .vmem S512x512 .bf16) (harg10 : arg10.IsWhole) (arg11 : Memref sig .tc .vmem S1x128x512 .f32) (harg11 : arg11.IsWhole) (arg12 : Memref sig .tc .vmem S2x512x128 .bf16) (harg12 : arg12.IsWhole) (arg13 : Memref sig .tc .vmem S1x128x512 .f32) (harg13 : arg13.IsWhole) (arg14 : Memref sig .tc .vmem S1x2x2x80x256 .bf16) (harg14 : arg14.IsWhole) (arg15 : Memref sig .tc .vmem S512x512 .bf16) (harg15 : arg15.IsWhole) (arg16 : Memref sig .tc .vmem S1x64x512 .f32) (harg16 : arg16.IsWhole) (arg17 : Memref sig .tc .vmem S512x128 .bf16) (harg17 : arg17.IsWhole) (arg18 : Memref sig .tc .vmem S4x8x128 .f32) (harg18 : arg18.IsWhole) (arg19 : Memref sig .tc .vmem S512x512 .bf16) (harg19 : arg19.IsWhole) (arg20 : Memref sig .tc .vmem S512x512 .bf16) (harg20 : arg20.IsWhole) (arg21 : Memref sig .tc .vmem S1x16x512 .f32) (harg21 : arg21.IsWhole) (arg22 : Memref sig .tc .vmem S1024x2944 .bf16) (harg22 : arg22.IsWhole) (arg23 : Memref sig .tc .vmem S528x512 .f32) (harg23 : arg23.IsWhole) (hc0 : ¬first i) (hc1 : ¬fresh i)
    (x0 : Vec F S1x512x1024 .f32) (x1 : Vec F S1x1x3072 .f32) (x2 : Vec F S1x1024 .f32) (x3 : Vec F S2888x1024 .f32) (x4 : Vec F S1x512 .f32) (x5 : Vec F S1x128 .f32) (x6 : Vec F S2x256x256 .bf16) (x7 : Vec F S1x512 .f32) (xw : Vec F S1024x2944 .bf16) (xe : Vec F S528x512 .f32) :
    Σ' (L8 : List (View.Piece (Elt F) S512x512 .bf16)), Σ' (L9 : List (View.Piece (Elt F) S1x128x512 .f32)), Σ' (L10 : List (View.Piece (Elt F) S2x512x128 .bf16)), Σ' (L11 : List (View.Piece (Elt F) S1x128x512 .f32)), Σ' (L12 : List (View.Piece (Elt F) S1x2x2x80x256 .bf16)), Σ' (L13 : List (View.Piece (Elt F) S512x512 .bf16)), Σ' (L14 : List (View.Piece (Elt F) S1x64x512 .f32)), Σ' (L15 : List (View.Piece (Elt F) S512x128 .bf16)), Σ' (L16 : List (View.Piece (Elt F) S4x8x128 .f32)), Σ' (L17 : List (View.Piece (Elt F) S512x512 .bf16)), Σ' (L18 : List (View.Piece (Elt F) S512x512 .bf16)), Σ' (L19 : List (View.Piece (Elt F) S1x16x512 .f32)), { LE : List (View.Piece (Elt F) S528x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ owns (c : Thread nD τ) arg22 fullShare xw ∗ owns (c : Thread nD τ) arg23 fullShare xe
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ owns (c : Thread nD τ) arg22 fullShare xw ∗ (∃ f, arg23.view.loc (c : Thread nD τ) ↦[arg23.view.set]{fullShare} arg23.view.writes (Elt F) f LE)) -∗ K ⟨⟩))
          ⊢ wp frame (wpE (defs₀ (F := F)) Variants.none c none) E (cc0_proj_prompt i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, ?_, ?_, ?_, ?_, ?_, ?_, ?_, ?_, ?_, ?_, fun E K => ?run⟩
  case run =>
    simp only [cc0_proj_prompt_eq_skeleton]; unfold cc0_proj_prompt_skel
    simp only [k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%fw, %hfw, HW⟩, ⟨%fe, %hfe, HE⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg22.eq_unread hfw; obtain rfl := harg23.eq_unread hfe
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [HW]
    · iexists _; isplitr; · ipureintro; exact harg22.read_unread _
      iexact HW
    iexists _; iexact HE

end Cert.Proj

end
-- ==== Proof.ProjRunC.lean ====
module

public import proofs.«01_k».proof.Proof.ProjRunB

@[expose] public section

set_option maxRecDepth 16384

noncomputable section

namespace Cert.Proj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The body at the first point of a batch that is not the first of all. -/

set_option maxHeartbeats 2000000 in
/-- What the body leaves in each buffer it stores into, as the list of its stores (the last first), with the proof that it
    leaves it there and every other buffer as it was. -/
noncomputable def runC (c : Dev nD) (i : grid0.Coords) (arg2 : Memref sig .tc .vmem S1x512x1024 .f32) (harg2 : arg2.IsWhole) (arg3 : Memref sig .tc .vmem S1x1x3072 .f32) (harg3 : arg3.IsWhole) (arg4 : Memref sig .tc .vmem S1x1024 .f32) (harg4 : arg4.IsWhole) (arg5 : Memref sig .tc .vmem S2888x1024 .f32) (harg5 : arg5.IsWhole) (arg6 : Memref sig .tc .vmem S1x512 .f32) (harg6 : arg6.IsWhole) (arg7 : Memref sig .tc .vmem S1x128 .f32) (harg7 : arg7.IsWhole) (arg8 : Memref sig .tc .vmem S2x256x256 .bf16) (harg8 : arg8.IsWhole) (arg9 : Memref sig .tc .vmem S1x512 .f32) (harg9 : arg9.IsWhole) (arg10 : Memref sig .tc .vmem S512x512 .bf16) (harg10 : arg10.IsWhole) (arg11 : Memref sig .tc .vmem S1x128x512 .f32) (harg11 : arg11.IsWhole) (arg12 : Memref sig .tc .vmem S2x512x128 .bf16) (harg12 : arg12.IsWhole) (arg13 : Memref sig .tc .vmem S1x128x512 .f32) (harg13 : arg13.IsWhole) (arg14 : Memref sig .tc .vmem S1x2x2x80x256 .bf16) (harg14 : arg14.IsWhole) (arg15 : Memref sig .tc .vmem S512x512 .bf16) (harg15 : arg15.IsWhole) (arg16 : Memref sig .tc .vmem S1x64x512 .f32) (harg16 : arg16.IsWhole) (arg17 : Memref sig .tc .vmem S512x128 .bf16) (harg17 : arg17.IsWhole) (arg18 : Memref sig .tc .vmem S4x8x128 .f32) (harg18 : arg18.IsWhole) (arg19 : Memref sig .tc .vmem S512x512 .bf16) (harg19 : arg19.IsWhole) (arg20 : Memref sig .tc .vmem S512x512 .bf16) (harg20 : arg20.IsWhole) (arg21 : Memref sig .tc .vmem S1x16x512 .f32) (harg21 : arg21.IsWhole) (arg22 : Memref sig .tc .vmem S1024x2944 .bf16) (harg22 : arg22.IsWhole) (arg23 : Memref sig .tc .vmem S528x512 .f32) (harg23 : arg23.IsWhole) (hc0 : ¬first i) (hc1 : fresh i)
    (x0 : Vec F S1x512x1024 .f32) (x1 : Vec F S1x1x3072 .f32) (x2 : Vec F S1x1024 .f32) (x3 : Vec F S2888x1024 .f32) (x4 : Vec F S1x512 .f32) (x5 : Vec F S1x128 .f32) (x6 : Vec F S2x256x256 .bf16) (x7 : Vec F S1x512 .f32) (xw : Vec F S1024x2944 .bf16) :
    Σ' (L8 : List (View.Piece (Elt F) S512x512 .bf16)), Σ' (L9 : List (View.Piece (Elt F) S1x128x512 .f32)), Σ' (L10 : List (View.Piece (Elt F) S2x512x128 .bf16)), Σ' (L11 : List (View.Piece (Elt F) S1x128x512 .f32)), Σ' (L12 : List (View.Piece (Elt F) S1x2x2x80x256 .bf16)), Σ' (L13 : List (View.Piece (Elt F) S512x512 .bf16)), Σ' (L14 : List (View.Piece (Elt F) S1x64x512 .f32)), Σ' (L15 : List (View.Piece (Elt F) S512x128 .bf16)), Σ' (L16 : List (View.Piece (Elt F) S4x8x128 .f32)), Σ' (L17 : List (View.Piece (Elt F) S512x512 .bf16)), Σ' (L18 : List (View.Piece (Elt F) S512x512 .bf16)), Σ' (L19 : List (View.Piece (Elt F) S1x16x512 .f32)), { LE : List (View.Piece (Elt F) S528x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ owns (c : Thread nD τ) arg22 fullShare xw ∗ (∃ d, owns (c : Thread nD τ) arg23 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ owns (c : Thread nD τ) arg22 fullShare xw ∗ (∃ f, arg23.view.loc (c : Thread nD τ) ↦[arg23.view.set]{fullShare} arg23.view.writes (Elt F) f LE)) -∗ K ⟨⟩))
          ⊢ wp frame (wpE (defs₀ (F := F)) Variants.none c none) E (cc0_proj_prompt i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, ?_, ?_, ?_, ?_, ?_, ?_, ?_, ?_, ?_, ?_, fun E K => ?run⟩
  case run =>
    simp only [cc0_proj_prompt_eq_skeleton]; unfold cc0_proj_prompt_skel
    simp only [k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%fw, %hfw, HW⟩, ⟨%de, %fe, -, HE⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg22.eq_unread hfw
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [HW]
    · iexists _; isplitr; · ipureintro; exact harg22.read_unread _
      iexact HW
    iexists _; iexact HE

end Cert.Proj

end
-- ==== Proof.ProjRunA.lean ====
module

public import proofs.«01_k».proof.Proof.ProjRunC

@[expose] public section

set_option maxRecDepth 16384

noncomputable section

namespace Cert.Proj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The body at the first point of all: the weight is staged and a batch begins. -/

set_option maxHeartbeats 2000000 in
/-- What the body leaves in each buffer it stores into, as the list of its stores (the last first), with the proof that it
    leaves it there and every other buffer as it was. -/
noncomputable def runA (c : Dev nD) (i : grid0.Coords) (arg2 : Memref sig .tc .vmem S1x512x1024 .f32) (harg2 : arg2.IsWhole) (arg3 : Memref sig .tc .vmem S1x1x3072 .f32) (harg3 : arg3.IsWhole) (arg4 : Memref sig .tc .vmem S1x1024 .f32) (harg4 : arg4.IsWhole) (arg5 : Memref sig .tc .vmem S2888x1024 .f32) (harg5 : arg5.IsWhole) (arg6 : Memref sig .tc .vmem S1x512 .f32) (harg6 : arg6.IsWhole) (arg7 : Memref sig .tc .vmem S1x128 .f32) (harg7 : arg7.IsWhole) (arg8 : Memref sig .tc .vmem S2x256x256 .bf16) (harg8 : arg8.IsWhole) (arg9 : Memref sig .tc .vmem S1x512 .f32) (harg9 : arg9.IsWhole) (arg10 : Memref sig .tc .vmem S512x512 .bf16) (harg10 : arg10.IsWhole) (arg11 : Memref sig .tc .vmem S1x128x512 .f32) (harg11 : arg11.IsWhole) (arg12 : Memref sig .tc .vmem S2x512x128 .bf16) (harg12 : arg12.IsWhole) (arg13 : Memref sig .tc .vmem S1x128x512 .f32) (harg13 : arg13.IsWhole) (arg14 : Memref sig .tc .vmem S1x2x2x80x256 .bf16) (harg14 : arg14.IsWhole) (arg15 : Memref sig .tc .vmem S512x512 .bf16) (harg15 : arg15.IsWhole) (arg16 : Memref sig .tc .vmem S1x64x512 .f32) (harg16 : arg16.IsWhole) (arg17 : Memref sig .tc .vmem S512x128 .bf16) (harg17 : arg17.IsWhole) (arg18 : Memref sig .tc .vmem S4x8x128 .f32) (harg18 : arg18.IsWhole) (arg19 : Memref sig .tc .vmem S512x512 .bf16) (harg19 : arg19.IsWhole) (arg20 : Memref sig .tc .vmem S512x512 .bf16) (harg20 : arg20.IsWhole) (arg21 : Memref sig .tc .vmem S1x16x512 .f32) (harg21 : arg21.IsWhole) (arg22 : Memref sig .tc .vmem S1024x2944 .bf16) (harg22 : arg22.IsWhole) (arg23 : Memref sig .tc .vmem S528x512 .f32) (harg23 : arg23.IsWhole) (hc0 : first i) (hc1 : fresh i)
    (x0 : Vec F S1x512x1024 .f32) (x1 : Vec F S1x1x3072 .f32) (x2 : Vec F S1x1024 .f32) (x3 : Vec F S2888x1024 .f32) (x4 : Vec F S1x512 .f32) (x5 : Vec F S1x128 .f32) (x6 : Vec F S2x256x256 .bf16) (x7 : Vec F S1x512 .f32) :
    Σ' (L8 : List (View.Piece (Elt F) S512x512 .bf16)), Σ' (L9 : List (View.Piece (Elt F) S1x128x512 .f32)), Σ' (L10 : List (View.Piece (Elt F) S2x512x128 .bf16)), Σ' (L11 : List (View.Piece (Elt F) S1x128x512 .f32)), Σ' (L12 : List (View.Piece (Elt F) S1x2x2x80x256 .bf16)), Σ' (L13 : List (View.Piece (Elt F) S512x512 .bf16)), Σ' (L14 : List (View.Piece (Elt F) S1x64x512 .f32)), Σ' (L15 : List (View.Piece (Elt F) S512x128 .bf16)), Σ' (L16 : List (View.Piece (Elt F) S4x8x128 .f32)), Σ' (L17 : List (View.Piece (Elt F) S512x512 .bf16)), Σ' (L18 : List (View.Piece (Elt F) S512x512 .bf16)), Σ' (L19 : List (View.Piece (Elt F) S1x16x512 .f32)), Σ' (LW : List (View.Piece (Elt F) S1024x2944 .bf16)), { LE : List (View.Piece (Elt F) S528x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ (∃ f, arg22.view.loc (c : Thread nD τ) ↦[arg22.view.set]{fullShare} arg22.view.writes (Elt F) f LW) ∗ (∃ f, arg23.view.loc (c : Thread nD τ) ↦[arg23.view.set]{fullShare} arg23.view.writes (Elt F) f LE)) -∗ K ⟨⟩))
          ⊢ wp frame (wpE (defs₀ (F := F)) Variants.none c none) E (cc0_proj_prompt i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, ?_, ?_, ?_, ?_, ?_, ?_, ?_, ?_, ?_, ?_, ?_, fun E K => ?run⟩
  case run =>
    simp only [cc0_proj_prompt_eq_skeleton]; unfold cc0_proj_prompt_skel
    simp only [k0_part4_eq_skeleton, k0_part1_eq_skeleton, k0_part2_eq_skeleton, k0_part3_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%dw, %fw, -, HW⟩, ⟨%de, %fe, -, HE⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [HW]; · iexists _; iexact HW
    iexists _; iexact HE

end Cert.Proj

end
-- ==== Proof.ProjCaseA.lean ====
/- What the first point of all leaves in each buffer it stores into. -/
module

public import proofs.«01_k».proof.Proof.ProjPoint
public import proofs.«01_k».proof.Proof.ProjRunA
public import Idealize.ShloMosaic.Lib.Tactic

@[expose] public section

set_option maxRecDepth 16384
set_option maxHeartbeats 1000000

noncomputable section

open Idealize.ShloMosaic Idealize.ShloMosaic.TcCoe Idealize.SL.Sem

namespace Cert.ProjOut

open Cert.KernelIdeal Cert.KernelIdeal.Gen Cert.ProjSpec Cert.ProjRef Cert.ProjPool

section
variable (x : FVec Ideal S8x2048x1024 .f32) (ada : FVec Ideal S8x3072 .f32) (nw : FVec Ideal S1x1024 .f32)
  (wi : FVec Ideal S1x1024x2888 .f32) (qn kn : FVec Ideal S1x64 .f32) (wp : FVec Ideal S1x4x128x128 .f32)
  (ps : FVec Ideal S1x512 .f32) (t : Fin 32)

theorem stagedA (c : Dev nD) (i : grid0.Coords) (arg2 : Memref sig .tc .vmem S1x512x1024 .f32) (harg2 : arg2.IsWhole) (arg3 : Memref sig .tc .vmem S1x1x3072 .f32) (harg3 : arg3.IsWhole) (arg4 : Memref sig .tc .vmem S1x1024 .f32) (harg4 : arg4.IsWhole) (arg5 : Memref sig .tc .vmem S2888x1024 .f32) (harg5 : arg5.IsWhole) (arg6 : Memref sig .tc .vmem S1x512 .f32) (harg6 : arg6.IsWhole) (arg7 : Memref sig .tc .vmem S1x128 .f32) (harg7 : arg7.IsWhole) (arg8 : Memref sig .tc .vmem S2x256x256 .bf16) (harg8 : arg8.IsWhole) (arg9 : Memref sig .tc .vmem S1x512 .f32) (harg9 : arg9.IsWhole) (arg10 : Memref sig .tc .vmem S512x512 .bf16) (harg10 : arg10.IsWhole) (arg11 : Memref sig .tc .vmem S1x128x512 .f32) (harg11 : arg11.IsWhole) (arg12 : Memref sig .tc .vmem S2x512x128 .bf16) (harg12 : arg12.IsWhole) (arg13 : Memref sig .tc .vmem S1x128x512 .f32) (harg13 : arg13.IsWhole) (arg14 : Memref sig .tc .vmem S1x2x2x80x256 .bf16) (harg14 : arg14.IsWhole) (arg15 : Memref sig .tc .vmem S512x512 .bf16) (harg15 : arg15.IsWhole) (arg16 : Memref sig .tc .vmem S1x64x512 .f32) (harg16 : arg16.IsWhole) (arg17 : Memref sig .tc .vmem S512x128 .bf16) (harg17 : arg17.IsWhole) (arg18 : Memref sig .tc .vmem S4x8x128 .f32) (harg18 : arg18.IsWhole) (arg19 : Memref sig .tc .vmem S512x512 .bf16) (harg19 : arg19.IsWhole) (arg20 : Memref sig .tc .vmem S512x512 .bf16) (harg20 : arg20.IsWhole) (arg21 : Memref sig .tc .vmem S1x16x512 .f32) (harg21 : arg21.IsWhole) (arg22 : Memref sig .tc .vmem S1024x2944 .bf16) (harg22 : arg22.IsWhole) (arg23 : Memref sig .tc .vmem S528x512 .f32) (harg23 : arg23.IsWhole) (hc0 : Cert.Proj.first i) (hc1 : Cert.Proj.fresh i)
    (x0 : Vec Ideal S1x512x1024 .f32) (x1 : Vec Ideal S1x1x3072 .f32) (x2 : Vec Ideal S1x1024 .f32) (x3 : Vec Ideal S2888x1024 .f32) (x4 : Vec Ideal S1x512 .f32) (x5 : Vec Ideal S1x128 .f32) (x6 : Vec Ideal S2x256x256 .bf16) (x7 : Vec Ideal S1x512 .f32)
    (hx3 : ∀ (l : Fin 2888) (k : Fin 1024), x3 (ix2 l k) = wi (ix3 0 k l)) :
    Full ((Cert.Proj.runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7).2.2.2.2.2.2.2.2.2.2.2.2.1) (stg wi) :=
  ⟨st_pieces wi hx3 arg5 harg5, View.cover_of_tiledL ((Cert.Proj.runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7).2.2.2.2.2.2.2.2.2.2.2.2.1) S1024x128.size (by sl_kernel_rfl)⟩

set_option maxHeartbeats 4000000 in
theorem pointA (c : Dev nD) (i : grid0.Coords) (arg2 : Memref sig .tc .vmem S1x512x1024 .f32) (harg2 : arg2.IsWhole) (arg3 : Memref sig .tc .vmem S1x1x3072 .f32) (harg3 : arg3.IsWhole) (arg4 : Memref sig .tc .vmem S1x1024 .f32) (harg4 : arg4.IsWhole) (arg5 : Memref sig .tc .vmem S2888x1024 .f32) (harg5 : arg5.IsWhole) (arg6 : Memref sig .tc .vmem S1x512 .f32) (harg6 : arg6.IsWhole) (arg7 : Memref sig .tc .vmem S1x128 .f32) (harg7 : arg7.IsWhole) (arg8 : Memref sig .tc .vmem S2x256x256 .bf16) (harg8 : arg8.IsWhole) (arg9 : Memref sig .tc .vmem S1x512 .f32) (harg9 : arg9.IsWhole) (arg10 : Memref sig .tc .vmem S512x512 .bf16) (harg10 : arg10.IsWhole) (arg11 : Memref sig .tc .vmem S1x128x512 .f32) (harg11 : arg11.IsWhole) (arg12 : Memref sig .tc .vmem S2x512x128 .bf16) (harg12 : arg12.IsWhole) (arg13 : Memref sig .tc .vmem S1x128x512 .f32) (harg13 : arg13.IsWhole) (arg14 : Memref sig .tc .vmem S1x2x2x80x256 .bf16) (harg14 : arg14.IsWhole) (arg15 : Memref sig .tc .vmem S512x512 .bf16) (harg15 : arg15.IsWhole) (arg16 : Memref sig .tc .vmem S1x64x512 .f32) (harg16 : arg16.IsWhole) (arg17 : Memref sig .tc .vmem S512x128 .bf16) (harg17 : arg17.IsWhole) (arg18 : Memref sig .tc .vmem S4x8x128 .f32) (harg18 : arg18.IsWhole) (arg19 : Memref sig .tc .vmem S512x512 .bf16) (harg19 : arg19.IsWhole) (arg20 : Memref sig .tc .vmem S512x512 .bf16) (harg20 : arg20.IsWhole) (arg21 : Memref sig .tc .vmem S1x16x512 .f32) (harg21 : arg21.IsWhole) (arg22 : Memref sig .tc .vmem S1024x2944 .bf16) (harg22 : arg22.IsWhole) (arg23 : Memref sig .tc .vmem S528x512 .f32) (harg23 : arg23.IsWhole) (hc0 : Cert.Proj.first i) (hc1 : Cert.Proj.fresh i)
    (x0 : Vec Ideal S1x512x1024 .f32) (x1 : Vec Ideal S1x1x3072 .f32) (x2 : Vec Ideal S1x1024 .f32) (x3 : Vec Ideal S2888x1024 .f32) (x4 : Vec Ideal S1x512 .f32) (x5 : Vec Ideal S1x128 .f32) (x6 : Vec Ideal S2x256x256 .bf16) (x7 : Vec Ideal S1x512 .f32)
    (hi : (i 1).val = t.val % 4) (hh : Held x ada nw qn kn wp ps t x0 x1 x2 x4 x5 x6 x7)
    (hx3 : ∀ (l : Fin 2888) (k : Fin 1024), x3 (ix2 l k) = wi (ix3 0 k l)) (ht : t.val % 4 = 0) :
    Done x ada nw wi qn kn wp ps t arg23
      ((Cert.Proj.runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7).1)
      ((Cert.Proj.runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7).2.1)
      ((Cert.Proj.runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7).2.2.2.1)
      ((Cert.Proj.runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7).2.2.2.2.2.1)
      ((Cert.Proj.runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7).2.2.2.2.2.2.1)
      ((Cert.Proj.runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7).2.2.2.2.2.2.2.2.1)
      ((Cert.Proj.runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7).2.2.2.2.2.2.2.2.2.1)
      ((Cert.Proj.runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7).2.2.2.2.2.2.2.2.2.2.1)
      ((Cert.Proj.runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7).2.2.2.2.2.2.2.2.2.2.2.1)
      ((Cert.Proj.runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7).2.2.2.2.2.2.2.2.2.2.2.2.2.1) := by
  have h0 := rows0 x ada nw qn kn wp ps t arg2 harg2 arg3 harg3 arg4 harg4 hh
  have h1 := rows1 x ada nw qn kn wp ps t arg2 harg2 arg3 harg3 arg4 harg4 hh
  have hp : BitVec.ofNat 32 (i 1).val = BitVec.ofNat 32 (t.val % 4) := by rw [hi]
  have hW := stagedA wi c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 hx3
  have hu : Cols wi 1864 (by decide) (arg22.view.readCov ((Cert.Proj.runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7).2.2.2.2.2.2.2.2.2.2.2.2.1) (Rect.unit (s := S1024x2944) ![0, 1920] S1024x512.size inb_S1024x2944_S1024x512_0_1920).toLoadRect) := stg_cols wi 1920 1864 (by decide) (by decide) (by decide) fun k l => (rc_at arg22 _ (stg wi) hW.1 inb_S1024x2944_S1024x512_0_1920 _ (ix2 k ⟨1920 + l.val, by omega⟩) (all2 (Nat.zero_add _).symm rfl) (hW.2 _))
  have eA := ext_lo x ada nw wi t h0 h1 hu ht
  have eB := ext_hi x ada nw wi t h0 h1 hu ht
  have hl := last_cov x ada nw wi t arg23 _ eB (cover_hi _ _ _)
  constructor
  · refine ⟨qs_pieces x ada nw wi qn t h0 h1 rfl ?_ ?_ ?_, View.cover_of_tiledL ((Cert.Proj.runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7).1) S256x512.size (by sl_kernel_rfl)⟩
    · exact ProjPay.mask
    · exact stg_cols wi 0 0 (by decide) (by decide) (by decide) fun k l => (rc_at arg22 _ (stg wi) hW.1 inb_S1024x2944_S1024x512_0_0 _ (ix2 k ⟨0 + l.val, by omega⟩) (all2 (Nat.zero_add _).symm rfl) (hW.2 _))
    · exact fun l => (rd_at arg6 harg6 x4 inb_S1x512_S1x512_0_0 _ (ix2 0 l) (all2 rfl (Nat.zero_add _).symm)).trans (hh.qnorm l)
  · refine ⟨kt_pieces x ada nw wi kn t h0 h1 ?_ ?_ ?_, View.cover_of_tiledL ((Cert.Proj.runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7).2.1) S1x128x256.size (by sl_kernel_rfl)⟩
    · exact ProjPay.mask1
    · exact stg_cols wi 512 512 (by decide) (by decide) (by decide) fun k l => (rc_at arg22 _ (stg wi) hW.1 inb_S1024x2944_S1024x256_0_512 _ (ix2 k ⟨512 + l.val, by omega⟩) (all2 (Nat.zero_add _).symm rfl) (hW.2 _))
    · exact fun l => (rd_at arg7 harg7 x5 inb_S1x128_S1x128_0_0 _ (ix2 0 l) (all2 rfl (Nat.zero_add _).symm)).trans (hh.knorm l)
  · refine ⟨vt_pieces x ada nw wi t h0 h1 ?_, View.cover_of_tiledL ((Cert.Proj.runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7).2.2.2.1) S1x128x256.size (by sl_kernel_rfl)⟩
    · exact stg_cols wi 512 512 (by decide) (by decide) (by decide) fun k l => (rc_at arg22 _ (stg wi) hW.1 inb_S1024x2944_S1024x256_0_512 _ (ix2 k ⟨512 + l.val, by omega⟩) (all2 (Nat.zero_add _).symm rfl) (hW.2 _))
  · refine ⟨qi_pieces x ada nw wi t h0 h1 ?_, View.cover_of_tiledL ((Cert.Proj.runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7).2.2.2.2.2.1) S256x512.size (by sl_kernel_rfl)⟩
    · exact stg_cols wi 768 768 (by decide) (by decide) (by decide) fun k l => (rc_at arg22 _ (stg wi) hW.1 inb_S1024x2944_S1024x512_0_768 _ (ix2 k ⟨768 + l.val, by omega⟩) (all2 (Nat.zero_add _).symm rfl) (hW.2 _))
  · refine ⟨ki_pieces x ada nw wi t h0 h1 ?_, View.cover_of_tiledL ((Cert.Proj.runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7).2.2.2.2.2.2.1) S1x64x256.size (by sl_kernel_rfl)⟩
    · exact stg_72 wi fun k l => (rc_at arg22 _ (stg wi) hW.1 inb_S1024x2944_S1024x128_0_1280 _ (ix2 k ⟨1280 + l.val, by omega⟩) (all2 (Nat.zero_add _).symm rfl) (hW.2 _))
  · refine ⟨wi_pieces x ada nw wi t h0 h1 ?_, View.cover_of_tiledL ((Cert.Proj.runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7).2.2.2.2.2.2.2.2.1) S1x8x128.size (by sl_kernel_rfl)⟩
    · exact stg_72 wi fun k l => (rc_at arg22 _ (stg wi) hW.1 inb_S1024x2944_S1024x128_0_1280 _ (ix2 k ⟨1280 + l.val, by omega⟩) (all2 (Nat.zero_add _).symm rfl) (hW.2 _))
  · refine ⟨sg_pieces x ada nw wi t h0 h1 ?_, View.cover_of_tiledL ((Cert.Proj.runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7).2.2.2.2.2.2.2.2.2.1) S256x512.size (by sl_kernel_rfl)⟩
    · exact stg_cols wi 1408 1352 (by decide) (by decide) (by decide) fun k l => (rc_at arg22 _ (stg wi) hW.1 inb_S1024x2944_S1024x512_0_1408 _ (ix2 k ⟨1408 + l.val, by omega⟩) (all2 (Nat.zero_add _).symm rfl) (hW.2 _))
  · refine ⟨pg_pieces x ada nw wi wp ps t h0 h1 ?_ ?_ hp ?_ ?_ ?_ ?_ ?_ ?_ ?_ ?_ ?_ ?_ ?_, View.cover_of_tiledL ((Cert.Proj.runA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7).2.2.2.2.2.2.2.2.2.2.1) S256x512.size (by sl_kernel_rfl)⟩
    · exact stg_cols wi 1920 1864 (by decide) (by decide) (by decide) fun k l => (rc_at arg22 _ (stg wi) hW.1 inb_S1024x2944_S1024x512_0_1920 _ (ix2 k ⟨1920 + l.val, by omega⟩) (all2 (Nat.zero_add _).symm rfl) (hW.2 _))
    · exact stg_cols wi 2432 2376 (by decide) (by decide) (by decide) fun k l => (rc_at arg22 _ (stg wi) hW.1 inb_S1024x2944_S1024x512_0_2432 _ (ix2 k ⟨2432 + l.val, by omega⟩) (all2 (Nat.zero_add _).symm rfl) (hW.2 _))
    · exact lanes_cov x ada nw wi t arg23 0 0 (by decide) (by decide) _ eA inb_S528x512_S272x128_0_0 (cover_lo _ _)
    · exact lanes_cov x ada nw wi t arg23 0 128 (by decide) (by decide) _ eA inb_S528x512_S272x128_0_128 (cover_lo _ _)
    · exact lanes_cov x ada nw wi t arg23 0 256 (by decide) (by decide) _ eA inb_S528x512_S272x128_0_256 (cover_lo _ _)
    · exact lanes_cov x ada nw wi t arg23 0 384 (by decide) (by decide) _ eA inb_S528x512_S272x128_0_384 (cover_lo _ _)
    · exact lanes_cov x ada nw wi t arg23 256 0 (by decide) (by decide) _ eB inb_S528x512_S272x128_256_0 (cover_hi _ _ _)
    · exact lanes_cov x ada nw wi t arg23 256 128 (by decide) (by decide) _ eB inb_S528x512_S272x128_256_128 (cover_hi _ _ _)
    · exact lanes_cov x ada nw wi t arg23 256 256 (by decide) (by decide) _ eB inb_S528x512_S272x128_256_256 (cover_hi _ _ _)
    · exact lanes_cov x ada nw wi t arg23 256 384 (by decide) (by decide) _ eB inb_S528x512_S272x128_256_384 (cover_hi _ _ _)
    · exact fun l => (rd_at arg9 harg9 x7 inb_S1x512_S1x512_0_0 _ (ix2 0 l) (all2 rfl (Nat.zero_add _).symm)).trans (hh.scale l)
    · exact fun x l => (rd_at arg8 harg8 x6 inb_S2x256x256_S1x256x256_0_0_0 _ (ix3 0 x l) (all3 rfl (Nat.zero_add _).symm (Nat.zero_add _).symm)).trans (hh.pool0 x l)
    · exact fun x l => (rd_at arg8 harg8 x6 inb_S2x256x256_S1x256x256_1_0_0 _ (ix3 1 x l) (all3 rfl (Nat.zero_add _).symm (Nat.zero_add _).symm)).trans (hh.pool1 x l)
  · exact ul_full x ada nw wi t hl
  · exact next_read x ada nw wi t hl arg23 _

end

end Cert.ProjOut

end
-- ==== Proof.ProjBodyA.lean ====
/- The first point, where the weight is staged. -/
module

public import proofs.«01_k».proof.Proof.ProjFrame
public import proofs.«01_k».proof.Proof.ProjCaseA

@[expose] public section

set_option maxRecDepth 16384

noncomputable section

namespace Cert.ProjFrame

open Cert.KernelIdeal Cert.KernelIdeal.Gen Cert.ProjOut Cert.ProjFeed
open Cert.Proj (st0 st1 st2 st3 st4 st5 st6 st7 st8 st9 st10 st11 st12 st13 st14 st15 st16 st17 st18 st19 st20 wh0 wh1 wh2 wh3 wh4 wh5 wh6 wh7 wh8 wh9 wh10 wh11 wh12 wh13 wh14 wh15 wh16 wh17 wh18 wh19 wh20 carry)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option maxHeartbeats 8000000 in
theorem bodyA (c : Dev nD) (t : Fin cfg0.N) (hz : t.val = 0) (hf : t.val % 4 = 0) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    after0_0, after0_1, after0_2, after0_3, after0_4, after0_5, after0_6, after0_7, after0_8, after0_9, after0_11, after0_13, after0_14, after0_16, after0_17, after0_18, after0_19]
  rw [show (dats m 0 c).Φ t.succ = PhiS m c (t.val + 1) from rfl, PhiS_pos m c _ (Nat.succ_ne_zero _)]
  rw [show (dats m 0 c).Φ t.castSucc = Pipeline.ΦA spec0 c from by show PhiS m c t.val = _; rw [hz]; rfl, Cert.Proj.ΦA_eq]
  have hS := stagedA (aWi m c) c (grid0.coords t) (st0 t) (wh0 t) (st1 t) (wh1 t) (st2 t) (wh2 t) (st3 t) (wh3 t) (st4 t) (wh4 t) (st5 t) (wh5 t) (st6 t) (wh6 t) (st7 t) (wh7 t) (st8 t) (wh8 t) (st9 t) (wh9 t) (st10 t) (wh10 t) (st11 t) (wh11 t) (st12 t) (wh12 t) (st13 t) (wh13 t) (st14 t) (wh14 t) (st15 t) (wh15 t) (st16 t) (wh16 t) (st17 t) (wh17 t) (st18 t) (wh18 t) (st19 t) (wh19 t) (st20 t) (wh20 t) carry (Memref.isWhole_whole _) ((Cert.Proj.first_iff t).mpr hz) ((Cert.Proj.fresh_iff t).mpr hf) (iblk m c 0 t) (iblk m c 1 t) (iblk m c 2 t) (iblk m c 3 t) (iblk m c 4 t) (iblk m c 5 t) (iblk m c 6 t) (iblk m c 7 t) (fun l k => blk3 m c t l k)
  iintro ⟨⟨⟨%e, HE⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  have hD := pointA (aX m c) (aAda m c) (aNw m c) (aWi m c) (aQn m c) (aKn m c) (aWp m c) (aPs m c) (tt t) c (grid0.coords t) (st0 t) (wh0 t) (st1 t) (wh1 t) (st2 t) (wh2 t) (st3 t) (wh3 t) (st4 t) (wh4 t) (st5 t) (wh5 t) (st6 t) (wh6 t) (st7 t) (wh7 t) (st8 t) (wh8 t) (st9 t) (wh9 t) (st10 t) (wh10 t) (st11 t) (wh11 t) (st12 t) (wh12 t) (st13 t) (wh13 t) (st14 t) (wh14 t) (st15 t) (wh15 t) (st16 t) (wh16 t) (st17 t) (wh17 t) (st18 t) (wh18 t) (st19 t) (wh19 t) (st20 t) (wh20 t) carry (Memref.isWhole_whole _) ((Cert.Proj.first_iff t).mpr hz) ((Cert.Proj.fresh_iff t).mpr hf) (iblk m c 0 t) (iblk m c 1 t) (iblk m c 2 t) (iblk m c 3 t) (iblk m c 4 t) (iblk m c 5 t) (iblk m c 6 t) (iblk m c 7 t) (Cert.Proj.coord1 t) (held m c t) (fun l k => blk3 m c t l k) hf
  iapply ((Cert.Proj.runA c (grid0.coords t) (st0 t) (wh0 t) (st1 t) (wh1 t) (st2 t) (wh2 t) (st3 t) (wh3 t) (st4 t) (wh4 t) (st5 t) (wh5 t) (st6 t) (wh6 t) (st7 t) (wh7 t) (st8 t) (wh8 t) (st9 t) (wh9 t) (st10 t) (wh10 t) (st11 t) (wh11 t) (st12 t) (wh12 t) (st13 t) (wh13 t) (st14 t) (wh14 t) (st15 t) (wh15 t) (st16 t) (wh16 t) (st17 t) (wh17 t) (st18 t) (wh18 t) (st19 t) (wh19 t) (st20 t) (wh20 t) carry (Memref.isWhole_whole _) ((Cert.Proj.first_iff t).mpr hz) ((Cert.Proj.fresh_iff t).mpr hf) (iblk m c 0 t) (iblk m c 1 t) (iblk m c 2 t) (iblk m c 3 t) (iblk m c 4 t) (iblk m c 5 t) (iblk m c 6 t) (iblk m c 7 t)).2.2.2.2.2.2.2.2.2.2.2.2.2.2 Set.univ _)
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexists _; iexact H8
  isplitl [H9]
  · iexists _; iexact H9
  isplitl [H10]
  · iexists _; iexact H10
  isplitl [H11]
  · iexists _; iexact H11
  isplitl [H12]
  · iexists _; iexact H12
  isplitl [H13]
  · iexists _; iexact H13
  isplitl [H14]
  · iexists _; iexact H14
  isplitl [H15]
  · iexists _; iexact H15
  isplitl [H16]
  · iexists _; iexact H16
  isplitl [H17]
  · iexists _; iexact H17
  isplitl [H18]
  · iexists _; iexact H18
  isplitl [H19]
  · iexists _; iexact H19
  isplitl [H20]
  · iexists _; iexact H20
  isplitl [HE]
  · iexists _; iexact HE
  iintro ⟨H0, H1, H2, H3, H4, H5, H6, H7, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%fe, HE⟩⟩
  isplitl [HE Hg]
  · isplitl [HE]
    · iexists _
      isplitr; swap
      · unfold owns; iexists _; isplitr; swap
        · iexact HE
        ipureintro; rfl
      ipureintro; exact Carried.of_next m c t (hD.next fe)
    iexact Hg
  isplitl [Ho]
  · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · unfold owns; iexists _; isplitr; swap
    · iexact H8
    ipureintro; exact hD.qs.read _ _
  isplitl [H9]
  · unfold owns; iexists _; isplitr; swap
    · iexact H9
    ipureintro; exact hD.kt.read _ _
  isplitl [H10]
  · iexists _; unfold owns; iexists _; isplitr; swap
    · iexact H10
    ipureintro; rfl
  isplitl [H11]
  · unfold owns; iexists _; isplitr; swap
    · iexact H11
    ipureintro; exact hD.vt.read _ _
  isplitl [H12]
  · iexists _; unfold owns; iexists _; isplitr; swap
    · iexact H12
    ipureintro; rfl
  isplitl [H13]
  · unfold owns; iexists _; isplitr; swap
    · iexact H13
    ipureintro; exact hD.qi.read _ _
  isplitl [H14]
  · unfold owns; iexists _; isplitr; swap
    · iexact H14
    ipureintro; exact hD.ki.read _ _
  isplitl [H15]
  · iexists _; unfold owns; iexists _; isplitr; swap
    · iexact H15
    ipureintro; rfl
  isplitl [H16]
  · unfold owns; iexists _; isplitr; swap
    · iexact H16
    ipureintro; exact hD.gr.read _ _
  isplitl [H17]
  · unfold owns; iexists _; isplitr; swap
    · iexact H17
    ipureintro; exact hD.sg.read _ _
  isplitl [H18]
  · unfold owns; iexists _; isplitr; swap
    · iexact H18
    ipureintro; exact hD.pg.read _ _
  isplitl [H19]
  · unfold owns; iexists _; isplitr; swap
    · iexact H19
    ipureintro; exact hD.ul.read _ _
  iapply (leaves20 m c t)
  unfold owns; iexists _; isplitr; swap
  · iexact H20
  ipureintro; exact hS.read _ _

end Cert.ProjFrame

end
-- ==== Proof.ProjCaseB.lean ====
/- What a point inside a batch leaves in each buffer it stores into. -/
module

public import proofs.«01_k».proof.Proof.ProjPoint
public import proofs.«01_k».proof.Proof.ProjRunB
public import Idealize.ShloMosaic.Lib.Tactic

@[expose] public section

set_option maxRecDepth 16384
set_option maxHeartbeats 1000000

noncomputable section

open Idealize.ShloMosaic Idealize.ShloMosaic.TcCoe Idealize.SL.Sem

namespace Cert.ProjOut

open Cert.KernelIdeal Cert.KernelIdeal.Gen Cert.ProjSpec Cert.ProjRef Cert.ProjPool

section
variable (x : FVec Ideal S8x2048x1024 .f32) (ada : FVec Ideal S8x3072 .f32) (nw : FVec Ideal S1x1024 .f32)
  (wi : FVec Ideal S1x1024x2888 .f32) (qn kn : FVec Ideal S1x64 .f32) (wp : FVec Ideal S1x4x128x128 .f32)
  (ps : FVec Ideal S1x512 .f32) (t : Fin 32)

set_option maxHeartbeats 4000000 in
theorem pointB (c : Dev nD) (i : grid0.Coords) (arg2 : Memref sig .tc .vmem S1x512x1024 .f32) (harg2 : arg2.IsWhole) (arg3 : Memref sig .tc .vmem S1x1x3072 .f32) (harg3 : arg3.IsWhole) (arg4 : Memref sig .tc .vmem S1x1024 .f32) (harg4 : arg4.IsWhole) (arg5 : Memref sig .tc .vmem S2888x1024 .f32) (harg5 : arg5.IsWhole) (arg6 : Memref sig .tc .vmem S1x512 .f32) (harg6 : arg6.IsWhole) (arg7 : Memref sig .tc .vmem S1x128 .f32) (harg7 : arg7.IsWhole) (arg8 : Memref sig .tc .vmem S2x256x256 .bf16) (harg8 : arg8.IsWhole) (arg9 : Memref sig .tc .vmem S1x512 .f32) (harg9 : arg9.IsWhole) (arg10 : Memref sig .tc .vmem S512x512 .bf16) (harg10 : arg10.IsWhole) (arg11 : Memref sig .tc .vmem S1x128x512 .f32) (harg11 : arg11.IsWhole) (arg12 : Memref sig .tc .vmem S2x512x128 .bf16) (harg12 : arg12.IsWhole) (arg13 : Memref sig .tc .vmem S1x128x512 .f32) (harg13 : arg13.IsWhole) (arg14 : Memref sig .tc .vmem S1x2x2x80x256 .bf16) (harg14 : arg14.IsWhole) (arg15 : Memref sig .tc .vmem S512x512 .bf16) (harg15 : arg15.IsWhole) (arg16 : Memref sig .tc .vmem S1x64x512 .f32) (harg16 : arg16.IsWhole) (arg17 : Memref sig .tc .vmem S512x128 .bf16) (harg17 : arg17.IsWhole) (arg18 : Memref sig .tc .vmem S4x8x128 .f32) (harg18 : arg18.IsWhole) (arg19 : Memref sig .tc .vmem S512x512 .bf16) (harg19 : arg19.IsWhole) (arg20 : Memref sig .tc .vmem S512x512 .bf16) (harg20 : arg20.IsWhole) (arg21 : Memref sig .tc .vmem S1x16x512 .f32) (harg21 : arg21.IsWhole) (arg22 : Memref sig .tc .vmem S1024x2944 .bf16) (harg22 : arg22.IsWhole) (arg23 : Memref sig .tc .vmem S528x512 .f32) (harg23 : arg23.IsWhole) (hc0 : ¬Cert.Proj.first i) (hc1 : ¬Cert.Proj.fresh i)
    (x0 : Vec Ideal S1x512x1024 .f32) (x1 : Vec Ideal S1x1x3072 .f32) (x2 : Vec Ideal S1x1024 .f32) (x3 : Vec Ideal S2888x1024 .f32) (x4 : Vec Ideal S1x512 .f32) (x5 : Vec Ideal S1x128 .f32) (x6 : Vec Ideal S2x256x256 .bf16) (x7 : Vec Ideal S1x512 .f32) (xw : Vec Ideal S1024x2944 .bf16) (xe : Vec Ideal S528x512 .f32)
    (hi : (i 1).val = t.val % 4) (hh : Held x ada nw qn kn wp ps t x0 x1 x2 x4 x5 x6 x7)
    (hxw : xw = stg wi) (hxe : Prev x ada nw wi t xe) :
    Done x ada nw wi qn kn wp ps t arg23
      ((Cert.Proj.runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 xw xe).1)
      ((Cert.Proj.runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 xw xe).2.1)
      ((Cert.Proj.runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 xw xe).2.2.2.1)
      ((Cert.Proj.runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 xw xe).2.2.2.2.2.1)
      ((Cert.Proj.runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 xw xe).2.2.2.2.2.2.1)
      ((Cert.Proj.runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 xw xe).2.2.2.2.2.2.2.2.1)
      ((Cert.Proj.runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 xw xe).2.2.2.2.2.2.2.2.2.1)
      ((Cert.Proj.runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 xw xe).2.2.2.2.2.2.2.2.2.2.1)
      ((Cert.Proj.runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 xw xe).2.2.2.2.2.2.2.2.2.2.2.1)
      ((Cert.Proj.runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 xw xe).2.2.2.2.2.2.2.2.2.2.2.2.1) := by
  have h0 := rows0 x ada nw qn kn wp ps t arg2 harg2 arg3 harg3 arg4 harg4 hh
  have h1 := rows1 x ada nw qn kn wp ps t arg2 harg2 arg3 harg3 arg4 harg4 hh
  have hp : BitVec.ofNat 32 (i 1).val = BitVec.ofNat 32 (t.val % 4) := by rw [hi]
  have hu : Cols wi 1864 (by decide) (View.readAt (Elt Ideal) arg22.view (Rect.unit (s := S1024x2944) ![0, 1920] S1024x512.size inb_S1024x2944_S1024x512_0_1920).toLoadRect (harg22.unread xw)) := stg_cols wi 1920 1864 (by decide) (by decide) (by decide) fun k l => ((rd_at arg22 harg22 xw inb_S1024x2944_S1024x512_0_1920 _ (ix2 k ⟨1920 + l.val, by omega⟩) (all2 (Nat.zero_add _).symm rfl)).trans (congrFun hxw _))
  have e := ex_pieces x ada nw wi t h0 h1 hu
  have eB := ext_two x ada nw wi t h0 h1 hu
  have hl := last_cov x ada nw wi t arg23 _ eB (cover_hi _ _ [])
  constructor
  · refine ⟨qs_pieces x ada nw wi qn t h0 h1 rfl ?_ ?_ ?_, View.cover_of_tiledL ((Cert.Proj.runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 xw xe).1) S256x512.size (by sl_kernel_rfl)⟩
    · exact ProjPay.mask
    · exact stg_cols wi 0 0 (by decide) (by decide) (by decide) fun k l => ((rd_at arg22 harg22 xw inb_S1024x2944_S1024x512_0_0 _ (ix2 k ⟨0 + l.val, by omega⟩) (all2 (Nat.zero_add _).symm rfl)).trans (congrFun hxw _))
    · exact fun l => (rd_at arg6 harg6 x4 inb_S1x512_S1x512_0_0 _ (ix2 0 l) (all2 rfl (Nat.zero_add _).symm)).trans (hh.qnorm l)
  · refine ⟨kt_pieces x ada nw wi kn t h0 h1 ?_ ?_ ?_, View.cover_of_tiledL ((Cert.Proj.runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 xw xe).2.1) S1x128x256.size (by sl_kernel_rfl)⟩
    · exact ProjPay.mask1
    · exact stg_cols wi 512 512 (by decide) (by decide) (by decide) fun k l => ((rd_at arg22 harg22 xw inb_S1024x2944_S1024x256_0_512 _ (ix2 k ⟨512 + l.val, by omega⟩) (all2 (Nat.zero_add _).symm rfl)).trans (congrFun hxw _))
    · exact fun l => (rd_at arg7 harg7 x5 inb_S1x128_S1x128_0_0 _ (ix2 0 l) (all2 rfl (Nat.zero_add _).symm)).trans (hh.knorm l)
  · refine ⟨vt_pieces x ada nw wi t h0 h1 ?_, View.cover_of_tiledL ((Cert.Proj.runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 xw xe).2.2.2.1) S1x128x256.size (by sl_kernel_rfl)⟩
    · exact stg_cols wi 512 512 (by decide) (by decide) (by decide) fun k l => ((rd_at arg22 harg22 xw inb_S1024x2944_S1024x256_0_512 _ (ix2 k ⟨512 + l.val, by omega⟩) (all2 (Nat.zero_add _).symm rfl)).trans (congrFun hxw _))
  · refine ⟨qi_pieces x ada nw wi t h0 h1 ?_, View.cover_of_tiledL ((Cert.Proj.runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 xw xe).2.2.2.2.2.1) S256x512.size (by sl_kernel_rfl)⟩
    · exact stg_cols wi 768 768 (by decide) (by decide) (by decide) fun k l => ((rd_at arg22 harg22 xw inb_S1024x2944_S1024x512_0_768 _ (ix2 k ⟨768 + l.val, by omega⟩) (all2 (Nat.zero_add _).symm rfl)).trans (congrFun hxw _))
  · refine ⟨ki_pieces x ada nw wi t h0 h1 ?_, View.cover_of_tiledL ((Cert.Proj.runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 xw xe).2.2.2.2.2.2.1) S1x64x256.size (by sl_kernel_rfl)⟩
    · exact stg_72 wi fun k l => ((rd_at arg22 harg22 xw inb_S1024x2944_S1024x128_0_1280 _ (ix2 k ⟨1280 + l.val, by omega⟩) (all2 (Nat.zero_add _).symm rfl)).trans (congrFun hxw _))
  · refine ⟨wi_pieces x ada nw wi t h0 h1 ?_, View.cover_of_tiledL ((Cert.Proj.runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 xw xe).2.2.2.2.2.2.2.2.1) S1x8x128.size (by sl_kernel_rfl)⟩
    · exact stg_72 wi fun k l => ((rd_at arg22 harg22 xw inb_S1024x2944_S1024x128_0_1280 _ (ix2 k ⟨1280 + l.val, by omega⟩) (all2 (Nat.zero_add _).symm rfl)).trans (congrFun hxw _))
  · refine ⟨sg_pieces x ada nw wi t h0 h1 ?_, View.cover_of_tiledL ((Cert.Proj.runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 xw xe).2.2.2.2.2.2.2.2.2.1) S256x512.size (by sl_kernel_rfl)⟩
    · exact stg_cols wi 1408 1352 (by decide) (by decide) (by decide) fun k l => ((rd_at arg22 harg22 xw inb_S1024x2944_S1024x512_0_1408 _ (ix2 k ⟨1408 + l.val, by omega⟩) (all2 (Nat.zero_add _).symm rfl)).trans (congrFun hxw _))
  · refine ⟨pg_pieces x ada nw wi wp ps t h0 h1 ?_ ?_ hp ?_ ?_ ?_ ?_ ?_ ?_ ?_ ?_ ?_ ?_ ?_, View.cover_of_tiledL ((Cert.Proj.runB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 xw xe).2.2.2.2.2.2.2.2.2.2.1) S256x512.size (by sl_kernel_rfl)⟩
    · exact stg_cols wi 1920 1864 (by decide) (by decide) (by decide) fun k l => ((rd_at arg22 harg22 xw inb_S1024x2944_S1024x512_0_1920 _ (ix2 k ⟨1920 + l.val, by omega⟩) (all2 (Nat.zero_add _).symm rfl)).trans (congrFun hxw _))
    · exact stg_cols wi 2432 2376 (by decide) (by decide) (by decide) fun k l => ((rd_at arg22 harg22 xw inb_S1024x2944_S1024x512_0_2432 _ (ix2 k ⟨2432 + l.val, by omega⟩) (all2 (Nat.zero_add _).symm rfl)).trans (congrFun hxw _))
    · exact lanes_old x ada nw wi t arg23 harg23 0 (by decide) xe hxe e.2 inb_S528x512_S272x128_0_0
    · exact lanes_old x ada nw wi t arg23 harg23 128 (by decide) xe hxe e.2 inb_S528x512_S272x128_0_128
    · exact lanes_old x ada nw wi t arg23 harg23 256 (by decide) xe hxe e.2 inb_S528x512_S272x128_0_256
    · exact lanes_old x ada nw wi t arg23 harg23 384 (by decide) xe hxe e.2 inb_S528x512_S272x128_0_384
    · exact lanes_cov x ada nw wi t arg23 256 0 (by decide) (by decide) _ eB inb_S528x512_S272x128_256_0 (cover_hi _ _ [])
    · exact lanes_cov x ada nw wi t arg23 256 128 (by decide) (by decide) _ eB inb_S528x512_S272x128_256_128 (cover_hi _ _ [])
    · exact lanes_cov x ada nw wi t arg23 256 256 (by decide) (by decide) _ eB inb_S528x512_S272x128_256_256 (cover_hi _ _ [])
    · exact lanes_cov x ada nw wi t arg23 256 384 (by decide) (by decide) _ eB inb_S528x512_S272x128_256_384 (cover_hi _ _ [])
    · exact fun l => (rd_at arg9 harg9 x7 inb_S1x512_S1x512_0_0 _ (ix2 0 l) (all2 rfl (Nat.zero_add _).symm)).trans (hh.scale l)
    · exact fun x l => (rd_at arg8 harg8 x6 inb_S2x256x256_S1x256x256_0_0_0 _ (ix3 0 x l) (all3 rfl (Nat.zero_add _).symm (Nat.zero_add _).symm)).trans (hh.pool0 x l)
    · exact fun x l => (rd_at arg8 harg8 x6 inb_S2x256x256_S1x256x256_1_0_0 _ (ix3 1 x l) (all3 rfl (Nat.zero_add _).symm (Nat.zero_add _).symm)).trans (hh.pool1 x l)
  · exact ul_full x ada nw wi t hl
  · exact next_read x ada nw wi t hl arg23 _

end

end Cert.ProjOut

end
-- ==== Proof.ProjBodyB.lean ====
/- A point inside a batch. -/
module

public import proofs.«01_k».proof.Proof.ProjFrame
public import proofs.«01_k».proof.Proof.ProjCaseB

@[expose] public section

set_option maxRecDepth 16384

noncomputable section

namespace Cert.ProjFrame

open Cert.KernelIdeal Cert.KernelIdeal.Gen Cert.ProjOut Cert.ProjFeed
open Cert.Proj (st0 st1 st2 st3 st4 st5 st6 st7 st8 st9 st10 st11 st12 st13 st14 st15 st16 st17 st18 st19 st20 wh0 wh1 wh2 wh3 wh4 wh5 wh6 wh7 wh8 wh9 wh10 wh11 wh12 wh13 wh14 wh15 wh16 wh17 wh18 wh19 wh20 carry)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option maxHeartbeats 8000000 in
theorem bodyB (c : Dev nD) (t : Fin cfg0.N) (hz : t.val ≠ 0) (hf : t.val % 4 ≠ 0) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_20 m c t hz]
  rw [show (dats m 0 c).owesAt () t.succ = (dats m 0 c).owesAt () t.castSucc from rfl,
    after0_0, after0_1, after0_2, after0_3, after0_4, after0_5, after0_6, after0_7, after0_8, after0_9, after0_11, after0_13, after0_14, after0_16, after0_17, after0_18, after0_19]
  rw [show (dats m 0 c).Φ t.succ = PhiS m c (t.val + 1) from rfl, PhiS_pos m c _ (Nat.succ_ne_zero _)]
  rw [show (dats m 0 c).Φ t.castSucc = PhiS m c t.val from rfl, PhiS_pos m c _ hz]
  iintro ⟨⟨⟨%e, %he, HE⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  have hD := pointB (aX m c) (aAda m c) (aNw m c) (aWi m c) (aQn m c) (aKn m c) (aWp m c) (aPs m c) (tt t) c (grid0.coords t) (st0 t) (wh0 t) (st1 t) (wh1 t) (st2 t) (wh2 t) (st3 t) (wh3 t) (st4 t) (wh4 t) (st5 t) (wh5 t) (st6 t) (wh6 t) (st7 t) (wh7 t) (st8 t) (wh8 t) (st9 t) (wh9 t) (st10 t) (wh10 t) (st11 t) (wh11 t) (st12 t) (wh12 t) (st13 t) (wh13 t) (st14 t) (wh14 t) (st15 t) (wh15 t) (st16 t) (wh16 t) (st17 t) (wh17 t) (st18 t) (wh18 t) (st19 t) (wh19 t) (st20 t) (wh20 t) carry (Memref.isWhole_whole _) (fun h => hz ((Cert.Proj.first_iff t).mp h)) (fun h => hf ((Cert.Proj.fresh_iff t).mp h)) (iblk m c 0 t) (iblk m c 1 t) (iblk m c 2 t) (iblk m c 3 t) (iblk m c 4 t) (iblk m c 5 t) (iblk m c 6 t) (iblk m c 7 t) (stg (aWi m c)) e (Cert.Proj.coord1 t) (held m c t) rfl (he (tlt t) hf)
  iapply ((Cert.Proj.runB c (grid0.coords t) (st0 t) (wh0 t) (st1 t) (wh1 t) (st2 t) (wh2 t) (st3 t) (wh3 t) (st4 t) (wh4 t) (st5 t) (wh5 t) (st6 t) (wh6 t) (st7 t) (wh7 t) (st8 t) (wh8 t) (st9 t) (wh9 t) (st10 t) (wh10 t) (st11 t) (wh11 t) (st12 t) (wh12 t) (st13 t) (wh13 t) (st14 t) (wh14 t) (st15 t) (wh15 t) (st16 t) (wh16 t) (st17 t) (wh17 t) (st18 t) (wh18 t) (st19 t) (wh19 t) (st20 t) (wh20 t) carry (Memref.isWhole_whole _) (fun h => hz ((Cert.Proj.first_iff t).mp h)) (fun h => hf ((Cert.Proj.fresh_iff t).mp h)) (iblk m c 0 t) (iblk m c 1 t) (iblk m c 2 t) (iblk m c 3 t) (iblk m c 4 t) (iblk m c 5 t) (iblk m c 6 t) (iblk m c 7 t) (stg (aWi m c)) e).2.2.2.2.2.2.2.2.2.2.2.2.2 Set.univ _)
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexists _; iexact H8
  isplitl [H9]
  · iexists _; iexact H9
  isplitl [H10]
  · iexists _; iexact H10
  isplitl [H11]
  · iexists _; iexact H11
  isplitl [H12]
  · iexists _; iexact H12
  isplitl [H13]
  · iexists _; iexact H13
  isplitl [H14]
  · iexists _; iexact H14
  isplitl [H15]
  · iexists _; iexact H15
  isplitl [H16]
  · iexists _; iexact H16
  isplitl [H17]
  · iexists _; iexact H17
  isplitl [H18]
  · iexists _; iexact H18
  isplitl [H19]
  · iexists _; iexact H19
  isplitl [H20]
  · iexact H20
  isplitl [HE]
  · iexact HE
  iintro ⟨H0, H1, H2, H3, H4, H5, H6, H7, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, H20, ⟨%fe, HE⟩⟩
  isplitl [HE Hg]
  · isplitl [HE]
    · iexists _
      isplitr; swap
      · unfold owns; iexists _; isplitr; swap
        · iexact HE
        ipureintro; rfl
      ipureintro; exact Carried.of_next m c t (hD.next fe)
    iexact Hg
  isplitl [Ho]
  · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · unfold owns; iexists _; isplitr; swap
    · iexact H8
    ipureintro; exact hD.qs.read _ _
  isplitl [H9]
  · unfold owns; iexists _; isplitr; swap
    · iexact H9
    ipureintro; exact hD.kt.read _ _
  isplitl [H10]
  · iexists _; unfold owns; iexists _; isplitr; swap
    · iexact H10
    ipureintro; rfl
  isplitl [H11]
  · unfold owns; iexists _; isplitr; swap
    · iexact H11
    ipureintro; exact hD.vt.read _ _
  isplitl [H12]
  · iexists _; unfold owns; iexists _; isplitr; swap
    · iexact H12
    ipureintro; rfl
  isplitl [H13]
  · unfold owns; iexists _; isplitr; swap
    · iexact H13
    ipureintro; exact hD.qi.read _ _
  isplitl [H14]
  · unfold owns; iexists _; isplitr; swap
    · iexact H14
    ipureintro; exact hD.ki.read _ _
  isplitl [H15]
  · iexists _; unfold owns; iexists _; isplitr; swap
    · iexact H15
    ipureintro; rfl
  isplitl [H16]
  · unfold owns; iexists _; isplitr; swap
    · iexact H16
    ipureintro; exact hD.gr.read _ _
  isplitl [H17]
  · unfold owns; iexists _; isplitr; swap
    · iexact H17
    ipureintro; exact hD.sg.read _ _
  isplitl [H18]
  · unfold owns; iexists _; isplitr; swap
    · iexact H18
    ipureintro; exact hD.pg.read _ _
  isplitl [H19]
  · unfold owns; iexists _; isplitr; swap
    · iexact H19
    ipureintro; exact hD.ul.read _ _
  iapply (leaves20 m c t)
  iexact H20

end Cert.ProjFrame

end
-- ==== Proof.ProjCaseC.lean ====
/- What the first point of a later batch leaves in each buffer it stores into. -/
module

public import proofs.«01_k».proof.Proof.ProjPoint
public import proofs.«01_k».proof.Proof.ProjRunC
public import Idealize.ShloMosaic.Lib.Tactic

@[expose] public section

set_option maxRecDepth 16384
set_option maxHeartbeats 1000000

noncomputable section

open Idealize.ShloMosaic Idealize.ShloMosaic.TcCoe Idealize.SL.Sem

namespace Cert.ProjOut

open Cert.KernelIdeal Cert.KernelIdeal.Gen Cert.ProjSpec Cert.ProjRef Cert.ProjPool

section
variable (x : FVec Ideal S8x2048x1024 .f32) (ada : FVec Ideal S8x3072 .f32) (nw : FVec Ideal S1x1024 .f32)
  (wi : FVec Ideal S1x1024x2888 .f32) (qn kn : FVec Ideal S1x64 .f32) (wp : FVec Ideal S1x4x128x128 .f32)
  (ps : FVec Ideal S1x512 .f32) (t : Fin 32)

set_option maxHeartbeats 4000000 in
theorem pointC (c : Dev nD) (i : grid0.Coords) (arg2 : Memref sig .tc .vmem S1x512x1024 .f32) (harg2 : arg2.IsWhole) (arg3 : Memref sig .tc .vmem S1x1x3072 .f32) (harg3 : arg3.IsWhole) (arg4 : Memref sig .tc .vmem S1x1024 .f32) (harg4 : arg4.IsWhole) (arg5 : Memref sig .tc .vmem S2888x1024 .f32) (harg5 : arg5.IsWhole) (arg6 : Memref sig .tc .vmem S1x512 .f32) (harg6 : arg6.IsWhole) (arg7 : Memref sig .tc .vmem S1x128 .f32) (harg7 : arg7.IsWhole) (arg8 : Memref sig .tc .vmem S2x256x256 .bf16) (harg8 : arg8.IsWhole) (arg9 : Memref sig .tc .vmem S1x512 .f32) (harg9 : arg9.IsWhole) (arg10 : Memref sig .tc .vmem S512x512 .bf16) (harg10 : arg10.IsWhole) (arg11 : Memref sig .tc .vmem S1x128x512 .f32) (harg11 : arg11.IsWhole) (arg12 : Memref sig .tc .vmem S2x512x128 .bf16) (harg12 : arg12.IsWhole) (arg13 : Memref sig .tc .vmem S1x128x512 .f32) (harg13 : arg13.IsWhole) (arg14 : Memref sig .tc .vmem S1x2x2x80x256 .bf16) (harg14 : arg14.IsWhole) (arg15 : Memref sig .tc .vmem S512x512 .bf16) (harg15 : arg15.IsWhole) (arg16 : Memref sig .tc .vmem S1x64x512 .f32) (harg16 : arg16.IsWhole) (arg17 : Memref sig .tc .vmem S512x128 .bf16) (harg17 : arg17.IsWhole) (arg18 : Memref sig .tc .vmem S4x8x128 .f32) (harg18 : arg18.IsWhole) (arg19 : Memref sig .tc .vmem S512x512 .bf16) (harg19 : arg19.IsWhole) (arg20 : Memref sig .tc .vmem S512x512 .bf16) (harg20 : arg20.IsWhole) (arg21 : Memref sig .tc .vmem S1x16x512 .f32) (harg21 : arg21.IsWhole) (arg22 : Memref sig .tc .vmem S1024x2944 .bf16) (harg22 : arg22.IsWhole) (arg23 : Memref sig .tc .vmem S528x512 .f32) (harg23 : arg23.IsWhole) (hc0 : ¬Cert.Proj.first i) (hc1 : Cert.Proj.fresh i)
    (x0 : Vec Ideal S1x512x1024 .f32) (x1 : Vec Ideal S1x1x3072 .f32) (x2 : Vec Ideal S1x1024 .f32) (x3 : Vec Ideal S2888x1024 .f32) (x4 : Vec Ideal S1x512 .f32) (x5 : Vec Ideal S1x128 .f32) (x6 : Vec Ideal S2x256x256 .bf16) (x7 : Vec Ideal S1x512 .f32) (xw : Vec Ideal S1024x2944 .bf16)
    (hi : (i 1).val = t.val % 4) (hh : Held x ada nw qn kn wp ps t x0 x1 x2 x4 x5 x6 x7)
    (hxw : xw = stg wi) (ht : t.val % 4 = 0) :
    Done x ada nw wi qn kn wp ps t arg23
      ((Cert.Proj.runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 xw).1)
      ((Cert.Proj.runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 xw).2.1)
      ((Cert.Proj.runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 xw).2.2.2.1)
      ((Cert.Proj.runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 xw).2.2.2.2.2.1)
      ((Cert.Proj.runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 xw).2.2.2.2.2.2.1)
      ((Cert.Proj.runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 xw).2.2.2.2.2.2.2.2.1)
      ((Cert.Proj.runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 xw).2.2.2.2.2.2.2.2.2.1)
      ((Cert.Proj.runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 xw).2.2.2.2.2.2.2.2.2.2.1)
      ((Cert.Proj.runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 xw).2.2.2.2.2.2.2.2.2.2.2.1)
      ((Cert.Proj.runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 xw).2.2.2.2.2.2.2.2.2.2.2.2.1) := by
  have h0 := rows0 x ada nw qn kn wp ps t arg2 harg2 arg3 harg3 arg4 harg4 hh
  have h1 := rows1 x ada nw qn kn wp ps t arg2 harg2 arg3 harg3 arg4 harg4 hh
  have hp : BitVec.ofNat 32 (i 1).val = BitVec.ofNat 32 (t.val % 4) := by rw [hi]
  have hu : Cols wi 1864 (by decide) (View.readAt (Elt Ideal) arg22.view (Rect.unit (s := S1024x2944) ![0, 1920] S1024x512.size inb_S1024x2944_S1024x512_0_1920).toLoadRect (harg22.unread xw)) := stg_cols wi 1920 1864 (by decide) (by decide) (by decide) fun k l => ((rd_at arg22 harg22 xw inb_S1024x2944_S1024x512_0_1920 _ (ix2 k ⟨1920 + l.val, by omega⟩) (all2 (Nat.zero_add _).symm rfl)).trans (congrFun hxw _))
  have eA := ext_lo x ada nw wi t h0 h1 hu ht
  have eB := ext_hi x ada nw wi t h0 h1 hu ht
  have hl := last_cov x ada nw wi t arg23 _ eB (cover_hi _ _ _)
  constructor
  · refine ⟨qs_pieces x ada nw wi qn t h0 h1 rfl ?_ ?_ ?_, View.cover_of_tiledL ((Cert.Proj.runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 xw).1) S256x512.size (by sl_kernel_rfl)⟩
    · exact ProjPay.mask
    · exact stg_cols wi 0 0 (by decide) (by decide) (by decide) fun k l => ((rd_at arg22 harg22 xw inb_S1024x2944_S1024x512_0_0 _ (ix2 k ⟨0 + l.val, by omega⟩) (all2 (Nat.zero_add _).symm rfl)).trans (congrFun hxw _))
    · exact fun l => (rd_at arg6 harg6 x4 inb_S1x512_S1x512_0_0 _ (ix2 0 l) (all2 rfl (Nat.zero_add _).symm)).trans (hh.qnorm l)
  · refine ⟨kt_pieces x ada nw wi kn t h0 h1 ?_ ?_ ?_, View.cover_of_tiledL ((Cert.Proj.runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 xw).2.1) S1x128x256.size (by sl_kernel_rfl)⟩
    · exact ProjPay.mask1
    · exact stg_cols wi 512 512 (by decide) (by decide) (by decide) fun k l => ((rd_at arg22 harg22 xw inb_S1024x2944_S1024x256_0_512 _ (ix2 k ⟨512 + l.val, by omega⟩) (all2 (Nat.zero_add _).symm rfl)).trans (congrFun hxw _))
    · exact fun l => (rd_at arg7 harg7 x5 inb_S1x128_S1x128_0_0 _ (ix2 0 l) (all2 rfl (Nat.zero_add _).symm)).trans (hh.knorm l)
  · refine ⟨vt_pieces x ada nw wi t h0 h1 ?_, View.cover_of_tiledL ((Cert.Proj.runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 xw).2.2.2.1) S1x128x256.size (by sl_kernel_rfl)⟩
    · exact stg_cols wi 512 512 (by decide) (by decide) (by decide) fun k l => ((rd_at arg22 harg22 xw inb_S1024x2944_S1024x256_0_512 _ (ix2 k ⟨512 + l.val, by omega⟩) (all2 (Nat.zero_add _).symm rfl)).trans (congrFun hxw _))
  · refine ⟨qi_pieces x ada nw wi t h0 h1 ?_, View.cover_of_tiledL ((Cert.Proj.runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 xw).2.2.2.2.2.1) S256x512.size (by sl_kernel_rfl)⟩
    · exact stg_cols wi 768 768 (by decide) (by decide) (by decide) fun k l => ((rd_at arg22 harg22 xw inb_S1024x2944_S1024x512_0_768 _ (ix2 k ⟨768 + l.val, by omega⟩) (all2 (Nat.zero_add _).symm rfl)).trans (congrFun hxw _))
  · refine ⟨ki_pieces x ada nw wi t h0 h1 ?_, View.cover_of_tiledL ((Cert.Proj.runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 xw).2.2.2.2.2.2.1) S1x64x256.size (by sl_kernel_rfl)⟩
    · exact stg_72 wi fun k l => ((rd_at arg22 harg22 xw inb_S1024x2944_S1024x128_0_1280 _ (ix2 k ⟨1280 + l.val, by omega⟩) (all2 (Nat.zero_add _).symm rfl)).trans (congrFun hxw _))
  · refine ⟨wi_pieces x ada nw wi t h0 h1 ?_, View.cover_of_tiledL ((Cert.Proj.runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 xw).2.2.2.2.2.2.2.2.1) S1x8x128.size (by sl_kernel_rfl)⟩
    · exact stg_72 wi fun k l => ((rd_at arg22 harg22 xw inb_S1024x2944_S1024x128_0_1280 _ (ix2 k ⟨1280 + l.val, by omega⟩) (all2 (Nat.zero_add _).symm rfl)).trans (congrFun hxw _))
  · refine ⟨sg_pieces x ada nw wi t h0 h1 ?_, View.cover_of_tiledL ((Cert.Proj.runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 xw).2.2.2.2.2.2.2.2.2.1) S256x512.size (by sl_kernel_rfl)⟩
    · exact stg_cols wi 1408 1352 (by decide) (by decide) (by decide) fun k l => ((rd_at arg22 harg22 xw inb_S1024x2944_S1024x512_0_1408 _ (ix2 k ⟨1408 + l.val, by omega⟩) (all2 (Nat.zero_add _).symm rfl)).trans (congrFun hxw _))
  · refine ⟨pg_pieces x ada nw wi wp ps t h0 h1 ?_ ?_ hp ?_ ?_ ?_ ?_ ?_ ?_ ?_ ?_ ?_ ?_ ?_, View.cover_of_tiledL ((Cert.Proj.runC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 xw).2.2.2.2.2.2.2.2.2.2.1) S256x512.size (by sl_kernel_rfl)⟩
    · exact stg_cols wi 1920 1864 (by decide) (by decide) (by decide) fun k l => ((rd_at arg22 harg22 xw inb_S1024x2944_S1024x512_0_1920 _ (ix2 k ⟨1920 + l.val, by omega⟩) (all2 (Nat.zero_add _).symm rfl)).trans (congrFun hxw _))
    · exact stg_cols wi 2432 2376 (by decide) (by decide) (by decide) fun k l => ((rd_at arg22 harg22 xw inb_S1024x2944_S1024x512_0_2432 _ (ix2 k ⟨2432 + l.val, by omega⟩) (all2 (Nat.zero_add _).symm rfl)).trans (congrFun hxw _))
    · exact lanes_cov x ada nw wi t arg23 0 0 (by decide) (by decide) _ eA inb_S528x512_S272x128_0_0 (cover_lo _ _)
    · exact lanes_cov x ada nw wi t arg23 0 128 (by decide) (by decide) _ eA inb_S528x512_S272x128_0_128 (cover_lo _ _)
    · exact lanes_cov x ada nw wi t arg23 0 256 (by decide) (by decide) _ eA inb_S528x512_S272x128_0_256 (cover_lo _ _)
    · exact lanes_cov x ada nw wi t arg23 0 384 (by decide) (by decide) _ eA inb_S528x512_S272x128_0_384 (cover_lo _ _)
    · exact lanes_cov x ada nw wi t arg23 256 0 (by decide) (by decide) _ eB inb_S528x512_S272x128_256_0 (cover_hi _ _ _)
    · exact lanes_cov x ada nw wi t arg23 256 128 (by decide) (by decide) _ eB inb_S528x512_S272x128_256_128 (cover_hi _ _ _)
    · exact lanes_cov x ada nw wi t arg23 256 256 (by decide) (by decide) _ eB inb_S528x512_S272x128_256_256 (cover_hi _ _ _)
    · exact lanes_cov x ada nw wi t arg23 256 384 (by decide) (by decide) _ eB inb_S528x512_S272x128_256_384 (cover_hi _ _ _)
    · exact fun l => (rd_at arg9 harg9 x7 inb_S1x512_S1x512_0_0 _ (ix2 0 l) (all2 rfl (Nat.zero_add _).symm)).trans (hh.scale l)
    · exact fun x l => (rd_at arg8 harg8 x6 inb_S2x256x256_S1x256x256_0_0_0 _ (ix3 0 x l) (all3 rfl (Nat.zero_add _).symm (Nat.zero_add _).symm)).trans (hh.pool0 x l)
    · exact fun x l => (rd_at arg8 harg8 x6 inb_S2x256x256_S1x256x256_1_0_0 _ (ix3 1 x l) (all3 rfl (Nat.zero_add _).symm (Nat.zero_add _).symm)).trans (hh.pool1 x l)
  · exact ul_full x ada nw wi t hl
  · exact next_read x ada nw wi t hl arg23 _

end

end Cert.ProjOut

end
-- ==== Proof.ProjBodyC.lean ====
/- A batch's first point, the weight being staged already. -/
module

public import proofs.«01_k».proof.Proof.ProjFrame
public import proofs.«01_k».proof.Proof.ProjCaseC

@[expose] public section

set_option maxRecDepth 16384

noncomputable section

namespace Cert.ProjFrame

open Cert.KernelIdeal Cert.KernelIdeal.Gen Cert.ProjOut Cert.ProjFeed
open Cert.Proj (st0 st1 st2 st3 st4 st5 st6 st7 st8 st9 st10 st11 st12 st13 st14 st15 st16 st17 st18 st19 st20 wh0 wh1 wh2 wh3 wh4 wh5 wh6 wh7 wh8 wh9 wh10 wh11 wh12 wh13 wh14 wh15 wh16 wh17 wh18 wh19 wh20 carry)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option maxHeartbeats 8000000 in
theorem bodyC (c : Dev nD) (t : Fin cfg0.N) (hz : t.val ≠ 0) (hf : t.val % 4 = 0) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_20 m c t hz]
  rw [show (dats m 0 c).owesAt () t.succ = (dats m 0 c).owesAt () t.castSucc from rfl,
    after0_0, after0_1, after0_2, after0_3, after0_4, after0_5, after0_6, after0_7, after0_8, after0_9, after0_11, after0_13, after0_14, after0_16, after0_17, after0_18, after0_19]
  rw [show (dats m 0 c).Φ t.succ = PhiS m c (t.val + 1) from rfl, PhiS_pos m c _ (Nat.succ_ne_zero _)]
  rw [show (dats m 0 c).Φ t.castSucc = PhiS m c t.val from rfl, PhiS_pos m c _ hz]
  iintro ⟨⟨⟨%e, %he, HE⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  have hD := pointC (aX m c) (aAda m c) (aNw m c) (aWi m c) (aQn m c) (aKn m c) (aWp m c) (aPs m c) (tt t) c (grid0.coords t) (st0 t) (wh0 t) (st1 t) (wh1 t) (st2 t) (wh2 t) (st3 t) (wh3 t) (st4 t) (wh4 t) (st5 t) (wh5 t) (st6 t) (wh6 t) (st7 t) (wh7 t) (st8 t) (wh8 t) (st9 t) (wh9 t) (st10 t) (wh10 t) (st11 t) (wh11 t) (st12 t) (wh12 t) (st13 t) (wh13 t) (st14 t) (wh14 t) (st15 t) (wh15 t) (st16 t) (wh16 t) (st17 t) (wh17 t) (st18 t) (wh18 t) (st19 t) (wh19 t) (st20 t) (wh20 t) carry (Memref.isWhole_whole _) (fun h => hz ((Cert.Proj.first_iff t).mp h)) ((Cert.Proj.fresh_iff t).mpr hf) (iblk m c 0 t) (iblk m c 1 t) (iblk m c 2 t) (iblk m c 3 t) (iblk m c 4 t) (iblk m c 5 t) (iblk m c 6 t) (iblk m c 7 t) (stg (aWi m c)) (Cert.Proj.coord1 t) (held m c t) rfl hf
  iapply ((Cert.Proj.runC c (grid0.coords t) (st0 t) (wh0 t) (st1 t) (wh1 t) (st2 t) (wh2 t) (st3 t) (wh3 t) (st4 t) (wh4 t) (st5 t) (wh5 t) (st6 t) (wh6 t) (st7 t) (wh7 t) (st8 t) (wh8 t) (st9 t) (wh9 t) (st10 t) (wh10 t) (st11 t) (wh11 t) (st12 t) (wh12 t) (st13 t) (wh13 t) (st14 t) (wh14 t) (st15 t) (wh15 t) (st16 t) (wh16 t) (st17 t) (wh17 t) (st18 t) (wh18 t) (st19 t) (wh19 t) (st20 t) (wh20 t) carry (Memref.isWhole_whole _) (fun h => hz ((Cert.Proj.first_iff t).mp h)) ((Cert.Proj.fresh_iff t).mpr hf) (iblk m c 0 t) (iblk m c 1 t) (iblk m c 2 t) (iblk m c 3 t) (iblk m c 4 t) (iblk m c 5 t) (iblk m c 6 t) (iblk m c 7 t) (stg (aWi m c))).2.2.2.2.2.2.2.2.2.2.2.2.2 Set.univ _)
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexists _; iexact H8
  isplitl [H9]
  · iexists _; iexact H9
  isplitl [H10]
  · iexists _; iexact H10
  isplitl [H11]
  · iexists _; iexact H11
  isplitl [H12]
  · iexists _; iexact H12
  isplitl [H13]
  · iexists _; iexact H13
  isplitl [H14]
  · iexists _; iexact H14
  isplitl [H15]
  · iexists _; iexact H15
  isplitl [H16]
  · iexists _; iexact H16
  isplitl [H17]
  · iexists _; iexact H17
  isplitl [H18]
  · iexists _; iexact H18
  isplitl [H19]
  · iexists _; iexact H19
  isplitl [H20]
  · iexact H20
  isplitl [HE]
  · iexists _; iexact HE
  iintro ⟨H0, H1, H2, H3, H4, H5, H6, H7, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, H20, ⟨%fe, HE⟩⟩
  isplitl [HE Hg]
  · isplitl [HE]
    · iexists _
      isplitr; swap
      · unfold owns; iexists _; isplitr; swap
        · iexact HE
        ipureintro; rfl
      ipureintro; exact Carried.of_next m c t (hD.next fe)
    iexact Hg
  isplitl [Ho]
  · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · unfold owns; iexists _; isplitr; swap
    · iexact H8
    ipureintro; exact hD.qs.read _ _
  isplitl [H9]
  · unfold owns; iexists _; isplitr; swap
    · iexact H9
    ipureintro; exact hD.kt.read _ _
  isplitl [H10]
  · iexists _; unfold owns; iexists _; isplitr; swap
    · iexact H10
    ipureintro; rfl
  isplitl [H11]
  · unfold owns; iexists _; isplitr; swap
    · iexact H11
    ipureintro; exact hD.vt.read _ _
  isplitl [H12]
  · iexists _; unfold owns; iexists _; isplitr; swap
    · iexact H12
    ipureintro; rfl
  isplitl [H13]
  · unfold owns; iexists _; isplitr; swap
    · iexact H13
    ipureintro; exact hD.qi.read _ _
  isplitl [H14]
  · unfold owns; iexists _; isplitr; swap
    · iexact H14
    ipureintro; exact hD.ki.read _ _
  isplitl [H15]
  · iexists _; unfold owns; iexists _; isplitr; swap
    · iexact H15
    ipureintro; rfl
  isplitl [H16]
  · unfold owns; iexists _; isplitr; swap
    · iexact H16
    ipureintro; exact hD.gr.read _ _
  isplitl [H17]
  · unfold owns; iexists _; isplitr; swap
    · iexact H17
    ipureintro; exact hD.sg.read _ _
  isplitl [H18]
  · unfold owns; iexists _; isplitr; swap
    · iexact H18
    ipureintro; exact hD.pg.read _ _
  isplitl [H19]
  · unfold owns; iexists _; isplitr; swap
    · iexact H19
    ipureintro; exact hD.ul.read _ _
  iapply (leaves20 m c t)
  iexact H20

end Cert.ProjFrame

end
-- ==== Proof.ProjLaunch.lean ====
/- The run of the prompt projection: every point discharged, then the launch. -/
module

public import proofs.«01_k».proof.Proof.ProjBodyA
public import proofs.«01_k».proof.Proof.ProjBodyB
public import proofs.«01_k».proof.Proof.ProjBodyC

@[expose] public section

set_option maxRecDepth 16384

noncomputable section

namespace Cert.ProjFrame

open Cert.KernelIdeal Cert.KernelIdeal.Gen Cert.ProjOut Cert.ProjFeed
open Cert.Proj (st0 st1 st2 st3 st4 st5 st6 st7 st8 st9 st10 st11 st12 st13 st14 st15 st16 st17 st18 st19 st20 wh0 wh1 wh2 wh3 wh4 wh5 wh6 wh7 wh8 wh9 wh10 wh11 wh12 wh13 wh14 wh15 wh16 wh17 wh18 wh19 wh20 carry)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

theorem body (c : Dev nD) (t : Fin cfg0.N) :
    bodyPre m c t ⊢ wp frame (wpE (defs₀ (F := Ideal)) Variants.none c none) Set.univ (bodyAt0 t) (fun _ => bodyPost m c t) := by
  by_cases hz : t.val = 0
  · exact bodyA m c t hz (by omega)
  · by_cases hf : t.val % 4 = 0
    · exact bodyC m c t hz hf
    · exact bodyB m c t hz hf

theorem table_row (t : Fin cfg0.N) :
    defs₀ (F := Ideal) .tc cfg0.body (cfg0.bodyArgs t (cfg0.slots t)) = bodyAt0 t := by
  unfold defs₀; rw [Defs.onTc_tc]

theorem obligation (c : Dev nD) : BodyObligation (dats m 0 c) (defs₀ (F := Ideal)) Variants.none () Set.univ forgets0 := fun t => by
  rw [bigSep_W0, bigSep_W0, table_row]
  exact triple_restated (body m c t) rfl .rfl fun _ => .rfl

theorem enter (c : Dev nD) : Pipeline.ΦA spec0 c ⊢ (dats m 0 c).Φ 0 := by
  rw [show (dats m 0 c).Φ 0 = Pipeline.ΦA spec0 c from rfl]

theorem leave (c : Dev nD) : (dats m 0 c).Φ (Fin.last cfg0.N) ⊢ Pipeline.ΦA spec0 c := by
  have hN : (Fin.last cfg0.N).val ≠ 0 := by rw [Fin.val_last]; have : cfg0.N = 32 := N_0; omega
  rw [show (dats m 0 c).Φ (Fin.last cfg0.N) = PhiS m c (Fin.last cfg0.N).val from rfl, PhiS_pos m c _ hN, Cert.Proj.ΦA_eq]
  iintro ⟨⟨%e, %he, HE⟩, Hg⟩
  isplitl [HE]
  · iexists _; iexact HE
  iexact Hg

/-- What every final state holds: the windows' arrays, and the buffers the call does not touch. -/
abbrev Final (r : PUnit × MemSt nD τ sig (Elt Ideal)) : Prop :=
  Pipeline.RDat.FramePost (cfgs 0) (fun c => (dats m 0 c).toRForget forgets0) (V m) r

set_option backward.isDefEq.respectTransparency.types false in
theorem launch : θ_run defs (onTc (τ := τ) (main (F := Ideal))) (s₀ m ρ)
    (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (obligation m c).loose) (hshare := fun c => (dats m 0 c).share_full fun _ => rfl)
    (howed := fun _ _ => rfl) (V := V m) (hmain := hmain m Variants.none) (hA := A_eq m) (hin := enter m) (hout := leave m)

/-- The arguments end as they began. -/
theorem args_kept {r : PUnit × MemSt nD τ sig (Elt Ideal)} (h : Final m r) (c : Dev nD) :
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  ⟨(Pipeline.RDat.FramePost.arr_in h c 0 rfl).trans ((A_eq m c 0).trans (V_main_arg0 m c)),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c)⟩

end Cert.ProjFrame

end
-- ==== Proof.ProjKFrame.lean ====
/- The program as it is compiled: it ends, it leaves its arguments as they were, and no counter is left raised. Nothing is
   said here of what it computes, so every output is let go. -/
module

public import proofs.«01_k».proof.Proof.ProjKRunA
public import proofs.«01_k».proof.Proof.ProjKRunB
public import proofs.«01_k».proof.Proof.ProjKRunC
public import Idealize.ShloMosaic.Lib.Claim

@[expose] public section

set_option maxRecDepth 16384

noncomputable section

namespace Cert.ProjK

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every output is let go. -/
def forgets0 : Fin 21 → Bool := fun w => 8 ≤ w.val

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
    | ⟨14, h⟩ => Pipeline.Dat.unnamed (cfg := cfg0) ⟨14, h⟩ t
    | ⟨15, h⟩ => Pipeline.Dat.unnamed (cfg := cfg0) ⟨15, h⟩ t
    | ⟨16, h⟩ => Pipeline.Dat.unnamed (cfg := cfg0) ⟨16, h⟩ t
    | ⟨17, h⟩ => Pipeline.Dat.unnamed (cfg := cfg0) ⟨17, h⟩ t
    | ⟨18, h⟩ => Pipeline.Dat.unnamed (cfg := cfg0) ⟨18, h⟩ t
    | ⟨19, h⟩ => Pipeline.Dat.unnamed (cfg := cfg0) ⟨19, h⟩ t
    | ⟨20, h⟩ => Pipeline.Dat.unnamed (cfg := cfg0) ⟨20, h⟩ t
    | ⟨_ + 21, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0 t) fullShare ((dats m 0 c).before 0 t d))
    ∗ (∃ d, owns (c : Thread nD τ) (st1 t) fullShare ((dats m 0 c).before 1 t d))
    ∗ (∃ d, owns (c : Thread nD τ) (st2 t) fullShare ((dats m 0 c).before 2 t d))
    ∗ (∃ d, owns (c : Thread nD τ) (st3 t) fullShare ((dats m 0 c).before 3 t d))
    ∗ (∃ d, owns (c : Thread nD τ) (st4 t) fullShare ((dats m 0 c).before 4 t d))
    ∗ (∃ d, owns (c : Thread nD τ) (st5 t) fullShare ((dats m 0 c).before 5 t d))
    ∗ (∃ d, owns (c : Thread nD τ) (st6 t) fullShare ((dats m 0 c).before 6 t d))
    ∗ (∃ d, owns (c : Thread nD τ) (st7 t) fullShare ((dats m 0 c).before 7 t d))
    ∗ (∃ d, owns (c : Thread nD τ) (st8 t) fullShare d)
    ∗ (∃ d, owns (c : Thread nD τ) (st9 t) fullShare d)
    ∗ (∃ d, owns (c : Thread nD τ) (st10 t) fullShare d)
    ∗ (∃ d, owns (c : Thread nD τ) (st11 t) fullShare d)
    ∗ (∃ d, owns (c : Thread nD τ) (st12 t) fullShare d)
    ∗ (∃ d, owns (c : Thread nD τ) (st13 t) fullShare d)
    ∗ (∃ d, owns (c : Thread nD τ) (st14 t) fullShare d)
    ∗ (∃ d, owns (c : Thread nD τ) (st15 t) fullShare d)
    ∗ (∃ d, owns (c : Thread nD τ) (st16 t) fullShare d)
    ∗ (∃ d, owns (c : Thread nD τ) (st17 t) fullShare d)
    ∗ (∃ d, owns (c : Thread nD τ) (st18 t) fullShare d)
    ∗ (∃ d, owns (c : Thread nD τ) (st19 t) fullShare d)
    ∗ (∃ d, owns (c : Thread nD τ) (st20 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (st0 t) fullShare ((dats m 0 c).after 0 t)
    ∗ owns (c : Thread nD τ) (st1 t) fullShare ((dats m 0 c).after 1 t)
    ∗ owns (c : Thread nD τ) (st2 t) fullShare ((dats m 0 c).after 2 t)
    ∗ owns (c : Thread nD τ) (st3 t) fullShare ((dats m 0 c).after 3 t)
    ∗ owns (c : Thread nD τ) (st4 t) fullShare ((dats m 0 c).after 4 t)
    ∗ owns (c : Thread nD τ) (st5 t) fullShare ((dats m 0 c).after 5 t)
    ∗ owns (c : Thread nD τ) (st6 t) fullShare ((dats m 0 c).after 6 t)
    ∗ owns (c : Thread nD τ) (st7 t) fullShare ((dats m 0 c).after 7 t)
    ∗ (∃ d, owns (c : Thread nD τ) (st8 t) fullShare d)
    ∗ (∃ d, owns (c : Thread nD τ) (st9 t) fullShare d)
    ∗ (∃ d, owns (c : Thread nD τ) (st10 t) fullShare d)
    ∗ (∃ d, owns (c : Thread nD τ) (st11 t) fullShare d)
    ∗ (∃ d, owns (c : Thread nD τ) (st12 t) fullShare d)
    ∗ (∃ d, owns (c : Thread nD τ) (st13 t) fullShare d)
    ∗ (∃ d, owns (c : Thread nD τ) (st14 t) fullShare d)
    ∗ (∃ d, owns (c : Thread nD τ) (st15 t) fullShare d)
    ∗ (∃ d, owns (c : Thread nD τ) (st16 t) fullShare d)
    ∗ (∃ d, owns (c : Thread nD τ) (st17 t) fullShare d)
    ∗ (∃ d, owns (c : Thread nD τ) (st18 t) fullShare d)
    ∗ (∃ d, owns (c : Thread nD τ) (st19 t) fullShare d)
    ∗ (∃ d, owns (c : Thread nD τ) (st20 t) fullShare d))

set_option maxHeartbeats 8000000 in
theorem bodyA (c : Dev nD) (t : Fin cfg0.N) (hz : t.val = 0) (hf : t.val % 4 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    after0_0, after0_1, after0_2, after0_3, after0_4, after0_5, after0_6, after0_7]
  rw [show (dats m 0 c).Φ t.succ = Pipeline.ΦA spec0 c from rfl, show (dats m 0 c).Φ t.castSucc = Pipeline.ΦA spec0 c from rfl, ΦA_eq]
  iintro ⟨⟨⟨%e, HE⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply ((runA c (grid0.coords t) (st0 t) (wh0 t) (st1 t) (wh1 t) (st2 t) (wh2 t) (st3 t) (wh3 t) (st4 t) (wh4 t) (st5 t) (wh5 t) (st6 t) (wh6 t) (st7 t) (wh7 t) (st8 t) (wh8 t) (st9 t) (wh9 t) (st10 t) (wh10 t) (st11 t) (wh11 t) (st12 t) (wh12 t) (st13 t) (wh13 t) (st14 t) (wh14 t) (st15 t) (wh15 t) (st16 t) (wh16 t) (st17 t) (wh17 t) (st18 t) (wh18 t) (st19 t) (wh19 t) (st20 t) (wh20 t) carry (Memref.isWhole_whole _) ((first_iff t).mpr hz) ((fresh_iff t).mpr hf) (iblk m c 0 t) (iblk m c 1 t) (iblk m c 2 t) (iblk m c 3 t) (iblk m c 4 t) (iblk m c 5 t) (iblk m c 6 t) (iblk m c 7 t)).2.2.2.2.2.2.2.2.2.2.2.2.2.2 Set.univ _)
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexists _; iexact H8
  isplitl [H9]
  · iexists _; iexact H9
  isplitl [H10]
  · iexists _; iexact H10
  isplitl [H11]
  · iexists _; iexact H11
  isplitl [H12]
  · iexists _; iexact H12
  isplitl [H13]
  · iexists _; iexact H13
  isplitl [H14]
  · iexists _; iexact H14
  isplitl [H15]
  · iexists _; iexact H15
  isplitl [H16]
  · iexists _; iexact H16
  isplitl [H17]
  · iexists _; iexact H17
  isplitl [H18]
  · iexists _; iexact H18
  isplitl [H19]
  · iexists _; iexact H19
  isplitl [H20]
  · iexists _; iexact H20
  isplitl [HE]
  · iexists _; iexact HE
  iintro ⟨H0, H1, H2, H3, H4, H5, H6, H7, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, ⟨%f20, H20⟩, ⟨%fe, HE⟩⟩
  isplitl [HE Hg]
  · isplitl [HE]
    · iexists _; unfold owns; iexists _; isplitr; swap
      · iexact HE
      ipureintro; rfl
    iexact Hg
  isplitl [Ho]
  · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexists _; unfold owns; iexists _; isplitr; swap
    · iexact H8
    ipureintro; rfl
  isplitl [H9]
  · iexists _; unfold owns; iexists _; isplitr; swap
    · iexact H9
    ipureintro; rfl
  isplitl [H10]
  · iexists _; unfold owns; iexists _; isplitr; swap
    · iexact H10
    ipureintro; rfl
  isplitl [H11]
  · iexists _; unfold owns; iexists _; isplitr; swap
    · iexact H11
    ipureintro; rfl
  isplitl [H12]
  · iexists _; unfold owns; iexists _; isplitr; swap
    · iexact H12
    ipureintro; rfl
  isplitl [H13]
  · iexists _; unfold owns; iexists _; isplitr; swap
    · iexact H13
    ipureintro; rfl
  isplitl [H14]
  · iexists _; unfold owns; iexists _; isplitr; swap
    · iexact H14
    ipureintro; rfl
  isplitl [H15]
  · iexists _; unfold owns; iexists _; isplitr; swap
    · iexact H15
    ipureintro; rfl
  isplitl [H16]
  · iexists _; unfold owns; iexists _; isplitr; swap
    · iexact H16
    ipureintro; rfl
  isplitl [H17]
  · iexists _; unfold owns; iexists _; isplitr; swap
    · iexact H17
    ipureintro; rfl
  isplitl [H18]
  · iexists _; unfold owns; iexists _; isplitr; swap
    · iexact H18
    ipureintro; rfl
  isplitl [H19]
  · iexists _; unfold owns; iexists _; isplitr; swap
    · iexact H19
    ipureintro; rfl
  iexists _; unfold owns; iexists _; isplitr; swap
  · iexact H20
  ipureintro; rfl

set_option maxHeartbeats 8000000 in
theorem bodyB (c : Dev nD) (t : Fin cfg0.N) (hz : t.val ≠ 0) (hf : t.val % 4 ≠ 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    after0_0, after0_1, after0_2, after0_3, after0_4, after0_5, after0_6, after0_7]
  rw [show (dats m 0 c).Φ t.succ = Pipeline.ΦA spec0 c from rfl, show (dats m 0 c).Φ t.castSucc = Pipeline.ΦA spec0 c from rfl, ΦA_eq]
  iintro ⟨⟨⟨%e, HE⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply ((runB c (grid0.coords t) (st0 t) (wh0 t) (st1 t) (wh1 t) (st2 t) (wh2 t) (st3 t) (wh3 t) (st4 t) (wh4 t) (st5 t) (wh5 t) (st6 t) (wh6 t) (st7 t) (wh7 t) (st8 t) (wh8 t) (st9 t) (wh9 t) (st10 t) (wh10 t) (st11 t) (wh11 t) (st12 t) (wh12 t) (st13 t) (wh13 t) (st14 t) (wh14 t) (st15 t) (wh15 t) (st16 t) (wh16 t) (st17 t) (wh17 t) (st18 t) (wh18 t) (st19 t) (wh19 t) (st20 t) (wh20 t) carry (Memref.isWhole_whole _) (fun h => hz ((first_iff t).mp h)) (fun h => hf ((fresh_iff t).mp h)) (iblk m c 0 t) (iblk m c 1 t) (iblk m c 2 t) (iblk m c 3 t) (iblk m c 4 t) (iblk m c 5 t) (iblk m c 6 t) (iblk m c 7 t) d20 e).2.2.2.2.2.2.2.2.2.2.2.2.2 Set.univ _)
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexists _; iexact H8
  isplitl [H9]
  · iexists _; iexact H9
  isplitl [H10]
  · iexists _; iexact H10
  isplitl [H11]
  · iexists _; iexact H11
  isplitl [H12]
  · iexists _; iexact H12
  isplitl [H13]
  · iexists _; iexact H13
  isplitl [H14]
  · iexists _; iexact H14
  isplitl [H15]
  · iexists _; iexact H15
  isplitl [H16]
  · iexists _; iexact H16
  isplitl [H17]
  · iexists _; iexact H17
  isplitl [H18]
  · iexists _; iexact H18
  isplitl [H19]
  · iexists _; iexact H19
  isplitl [H20]
  · iexact H20
  isplitl [HE]
  · iexact HE
  iintro ⟨H0, H1, H2, H3, H4, H5, H6, H7, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, H20, ⟨%fe, HE⟩⟩
  isplitl [HE Hg]
  · isplitl [HE]
    · iexists _; unfold owns; iexists _; isplitr; swap
      · iexact HE
      ipureintro; rfl
    iexact Hg
  isplitl [Ho]
  · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexists _; unfold owns; iexists _; isplitr; swap
    · iexact H8
    ipureintro; rfl
  isplitl [H9]
  · iexists _; unfold owns; iexists _; isplitr; swap
    · iexact H9
    ipureintro; rfl
  isplitl [H10]
  · iexists _; unfold owns; iexists _; isplitr; swap
    · iexact H10
    ipureintro; rfl
  isplitl [H11]
  · iexists _; unfold owns; iexists _; isplitr; swap
    · iexact H11
    ipureintro; rfl
  isplitl [H12]
  · iexists _; unfold owns; iexists _; isplitr; swap
    · iexact H12
    ipureintro; rfl
  isplitl [H13]
  · iexists _; unfold owns; iexists _; isplitr; swap
    · iexact H13
    ipureintro; rfl
  isplitl [H14]
  · iexists _; unfold owns; iexists _; isplitr; swap
    · iexact H14
    ipureintro; rfl
  isplitl [H15]
  · iexists _; unfold owns; iexists _; isplitr; swap
    · iexact H15
    ipureintro; rfl
  isplitl [H16]
  · iexists _; unfold owns; iexists _; isplitr; swap
    · iexact H16
    ipureintro; rfl
  isplitl [H17]
  · iexists _; unfold owns; iexists _; isplitr; swap
    · iexact H17
    ipureintro; rfl
  isplitl [H18]
  · iexists _; unfold owns; iexists _; isplitr; swap
    · iexact H18
    ipureintro; rfl
  isplitl [H19]
  · iexists _; unfold owns; iexists _; isplitr; swap
    · iexact H19
    ipureintro; rfl
  iexists _; iexact H20

set_option maxHeartbeats 8000000 in
theorem bodyC (c : Dev nD) (t : Fin cfg0.N) (hz : t.val ≠ 0) (hf : t.val % 4 = 0) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    after0_0, after0_1, after0_2, after0_3, after0_4, after0_5, after0_6, after0_7]
  rw [show (dats m 0 c).Φ t.succ = Pipeline.ΦA spec0 c from rfl, show (dats m 0 c).Φ t.castSucc = Pipeline.ΦA spec0 c from rfl, ΦA_eq]
  iintro ⟨⟨⟨%e, HE⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply ((runC c (grid0.coords t) (st0 t) (wh0 t) (st1 t) (wh1 t) (st2 t) (wh2 t) (st3 t) (wh3 t) (st4 t) (wh4 t) (st5 t) (wh5 t) (st6 t) (wh6 t) (st7 t) (wh7 t) (st8 t) (wh8 t) (st9 t) (wh9 t) (st10 t) (wh10 t) (st11 t) (wh11 t) (st12 t) (wh12 t) (st13 t) (wh13 t) (st14 t) (wh14 t) (st15 t) (wh15 t) (st16 t) (wh16 t) (st17 t) (wh17 t) (st18 t) (wh18 t) (st19 t) (wh19 t) (st20 t) (wh20 t) carry (Memref.isWhole_whole _) (fun h => hz ((first_iff t).mp h)) ((fresh_iff t).mpr hf) (iblk m c 0 t) (iblk m c 1 t) (iblk m c 2 t) (iblk m c 3 t) (iblk m c 4 t) (iblk m c 5 t) (iblk m c 6 t) (iblk m c 7 t) d20).2.2.2.2.2.2.2.2.2.2.2.2.2 Set.univ _)
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexists _; iexact H8
  isplitl [H9]
  · iexists _; iexact H9
  isplitl [H10]
  · iexists _; iexact H10
  isplitl [H11]
  · iexists _; iexact H11
  isplitl [H12]
  · iexists _; iexact H12
  isplitl [H13]
  · iexists _; iexact H13
  isplitl [H14]
  · iexists _; iexact H14
  isplitl [H15]
  · iexists _; iexact H15
  isplitl [H16]
  · iexists _; iexact H16
  isplitl [H17]
  · iexists _; iexact H17
  isplitl [H18]
  · iexists _; iexact H18
  isplitl [H19]
  · iexists _; iexact H19
  isplitl [H20]
  · iexact H20
  isplitl [HE]
  · iexists _; iexact HE
  iintro ⟨H0, H1, H2, H3, H4, H5, H6, H7, ⟨%f8, H8⟩, ⟨%f9, H9⟩, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩, ⟨%f19, H19⟩, H20, ⟨%fe, HE⟩⟩
  isplitl [HE Hg]
  · isplitl [HE]
    · iexists _; unfold owns; iexists _; isplitr; swap
      · iexact HE
      ipureintro; rfl
    iexact Hg
  isplitl [Ho]
  · iexact Ho
  isplitl [H0]
  · iexact H0
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexists _; unfold owns; iexists _; isplitr; swap
    · iexact H8
    ipureintro; rfl
  isplitl [H9]
  · iexists _; unfold owns; iexists _; isplitr; swap
    · iexact H9
    ipureintro; rfl
  isplitl [H10]
  · iexists _; unfold owns; iexists _; isplitr; swap
    · iexact H10
    ipureintro; rfl
  isplitl [H11]
  · iexists _; unfold owns; iexists _; isplitr; swap
    · iexact H11
    ipureintro; rfl
  isplitl [H12]
  · iexists _; unfold owns; iexists _; isplitr; swap
    · iexact H12
    ipureintro; rfl
  isplitl [H13]
  · iexists _; unfold owns; iexists _; isplitr; swap
    · iexact H13
    ipureintro; rfl
  isplitl [H14]
  · iexists _; unfold owns; iexists _; isplitr; swap
    · iexact H14
    ipureintro; rfl
  isplitl [H15]
  · iexists _; unfold owns; iexists _; isplitr; swap
    · iexact H15
    ipureintro; rfl
  isplitl [H16]
  · iexists _; unfold owns; iexists _; isplitr; swap
    · iexact H16
    ipureintro; rfl
  isplitl [H17]
  · iexists _; unfold owns; iexists _; isplitr; swap
    · iexact H17
    ipureintro; rfl
  isplitl [H18]
  · iexists _; unfold owns; iexists _; isplitr; swap
    · iexact H18
    ipureintro; rfl
  isplitl [H19]
  · iexists _; unfold owns; iexists _; isplitr; swap
    · iexact H19
    ipureintro; rfl
  iexists _; iexact H20

theorem body (c : Dev nD) (t : Fin cfg0.N) :
    bodyPre m c t ⊢ wp frame (wpE (defs₀ (F := F)) Variants.none c none) Set.univ (bodyAt0 t) (fun _ => bodyPost m c t) := by
  by_cases hz : t.val = 0
  · exact bodyA m c t hz (by omega)
  · by_cases hf : t.val % 4 = 0
    · exact bodyC m c t hz hf
    · exact bodyB m c t hz hf

theorem table_row (t : Fin cfg0.N) :
    defs₀ (F := F) .tc cfg0.body (cfg0.bodyArgs t (cfg0.slots t)) = bodyAt0 t := by
  unfold defs₀; rw [Defs.onTc_tc]

theorem obligation (c : Dev nD) : BodyObligation (dats m 0 c) (defs₀ (F := F)) Variants.none () Set.univ forgets0 := fun t => by
  rw [bigSep_W0, bigSep_W0, table_row]
  exact triple_restated (body m c t) rfl .rfl fun _ => .rfl

set_option backward.isDefEq.respectTransparency.types false in
theorem launch : θ_run defs (onTc (τ := τ) (main (F := F))) (s₀ m ρ)
    (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- What every final state holds: the windows' arrays, and the buffers the call does not touch. -/
abbrev Final (r : PUnit × MemSt nD τ sig (Elt F)) : Prop :=
  Pipeline.RDat.FramePost (cfgs 0) (fun c => (dats m 0 c).toRForget forgets0) (V m) r

/-- The arguments end as they began. -/
theorem args_kept {r : PUnit × MemSt nD τ sig (Elt F)} (h : Final m r) (c : Dev nD) :
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  ⟨(Pipeline.RDat.FramePost.arr_in h c 0 rfl).trans ((A_eq m c 0).trans (V_main_arg0 m c)),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c)⟩

/-- The arguments end as they began and no counter is left raised. -/
theorem kept : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => args_kept m h.1 c, h.2⟩) (launch m ρ)

end Cert.ProjK

end
-- ==== Proof.ProjClaim.lean ====
/- The claims of the prompt projection: its nine result arrays are the reference's. -/
module

public import proofs.«01_k».proof.Defs
public import proofs.«01_k».proof.Proof.ProjLaunch
public import proofs.«01_k».proof.Proof.ProjKFrame
public import proofs.«01_k».proof.Proof.Gen.ReferenceIdeal.Run
public import proofs.«01_k».proof.Proof.Gen.ReferenceIdeal.Read
public import Idealize.ShloMosaic.Lib.Quiescent

@[expose] public section

set_option maxRecDepth 16384

noncomputable section

namespace Cert.ProjClaim

open Cert.KernelIdeal Cert.KernelIdeal.Gen Cert.ProjOut Cert.ProjFeed Cert.ProjFrame
open Cert.Proj (st0 st1 st2 st3 st4 st5 st6 st7 st8 st9 st10 st11 st12 st13 st14 st15 st16 st17 st18 st19 st20 wh0 wh1 wh2 wh3 wh4 wh5 wh6 wh7 wh8 wh9 wh10 wh11 wh12 wh13 wh14 wh15 wh16 wh17 wh18 wh19 wh20 carry)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

theorem idx8 : ∀ t : Fin cfg0.N, win0_8.index t = ![t.val, 0] :=
  (by decide +kernel : ∀ t : Fin grid0.N, win0_8.index t = ![t.val, 0])
abbrev res8 (c : Dev nD) : Buf (Elt Ideal) ((c : Thread nD τ).loc main_v34_0) :=
  Cert.ReferenceIdeal.Read.val_main_v189 (F := Ideal) (aX m c) (aAda m c) (aNw m c) (aWi m c) (aQn m c)
theorem final8 (c : Dev nD) : (dats m 0 c).arrAt 8 cfg0.N = res8 m c := by
  refine (dats m 0 c).arrAt_eq_of_covers 8 _ (by decide +kernel) fun t hf y => ?_
  blk_simp
  rw [after0_8]
  idx_vars y
  have ht := tlt t
  have hi : ((View.whole main_v34_0).slice (win0_8.rect t)).emb (ix2 y0 y1)
      = (ix2 ⟨t.val * 512 + y0.val, by omega⟩ y1 : S16384x512.Idx) := by
    blk_ext [idx8]
  rw [hi]
  rfl

theorem idx9 : ∀ t : Fin cfg0.N, win0_9.index t = ![t.val / 4, 0, t.val % 4] :=
  (by decide +kernel : ∀ t : Fin grid0.N, win0_9.index t = ![t.val / 4, 0, t.val % 4])
abbrev res9 (c : Dev nD) : Buf (Elt Ideal) ((c : Thread nD τ).loc main_v34_1) :=
  Cert.ReferenceIdeal.Read.val_main_v191 (F := Ideal) (aX m c) (aAda m c) (aNw m c) (aWi m c) (aKn m c)
theorem final9 (c : Dev nD) : (dats m 0 c).arrAt 9 cfg0.N = res9 m c := by
  refine (dats m 0 c).arrAt_eq_of_covers 9 _ (by decide +kernel) fun t hf y => ?_
  blk_simp
  rw [after0_9]
  idx_vars y
  obtain rfl : y0 = 0 := Subsingleton.elim _ _
  have ht := tlt t
  have hi : ((View.whole main_v34_1).slice (win0_9.rect t)).emb (ix3 0 y1 y2)
      = (ix3 ⟨t.val / 4, by omega⟩ y1 ⟨t.val % 4 * 512 + y2.val, by omega⟩ : S8x128x2048.Idx) := by
    blk_ext [idx9]
  rw [hi]
  rfl

theorem idx11 : ∀ t : Fin cfg0.N, win0_11.index t = ![t.val / 4, 0, t.val % 4] :=
  (by decide +kernel : ∀ t : Fin grid0.N, win0_11.index t = ![t.val / 4, 0, t.val % 4])
abbrev res11 (c : Dev nD) : Buf (Elt Ideal) ((c : Thread nD τ).loc main_v34_3) :=
  Cert.ReferenceIdeal.Read.val_main_v192 (F := Ideal) (aX m c) (aAda m c) (aNw m c) (aWi m c)
theorem final11 (c : Dev nD) : (dats m 0 c).arrAt 11 cfg0.N = res11 m c := by
  refine (dats m 0 c).arrAt_eq_of_covers 11 _ (by decide +kernel) fun t hf y => ?_
  blk_simp
  rw [after0_11]
  idx_vars y
  obtain rfl : y0 = 0 := Subsingleton.elim _ _
  have ht := tlt t
  have hi : ((View.whole main_v34_3).slice (win0_11.rect t)).emb (ix3 0 y1 y2)
      = (ix3 ⟨t.val / 4, by omega⟩ y1 ⟨t.val % 4 * 512 + y2.val, by omega⟩ : S8x128x2048.Idx) := by
    blk_ext [idx11]
  rw [hi]
  rfl

theorem idx13 : ∀ t : Fin cfg0.N, win0_13.index t = ![t.val, 0] :=
  (by decide +kernel : ∀ t : Fin grid0.N, win0_13.index t = ![t.val, 0])
abbrev res13 (c : Dev nD) : Buf (Elt Ideal) ((c : Thread nD τ).loc main_v34_5) :=
  Cert.ReferenceIdeal.Read.val_main_v194 (F := Ideal) (aX m c) (aAda m c) (aNw m c) (aWi m c)
theorem final13 (c : Dev nD) : (dats m 0 c).arrAt 13 cfg0.N = res13 m c := by
  refine (dats m 0 c).arrAt_eq_of_covers 13 _ (by decide +kernel) fun t hf y => ?_
  blk_simp
  rw [after0_13]
  idx_vars y
  have ht := tlt t
  have hi : ((View.whole main_v34_5).slice (win0_13.rect t)).emb (ix2 y0 y1)
      = (ix2 ⟨t.val * 512 + y0.val, by omega⟩ y1 : S16384x512.Idx) := by
    blk_ext [idx13]
  rw [hi]
  rfl

theorem idx14 : ∀ t : Fin cfg0.N, win0_14.index t = ![t.val / 4, 0, t.val % 4] :=
  (by decide +kernel : ∀ t : Fin grid0.N, win0_14.index t = ![t.val / 4, 0, t.val % 4])
abbrev res14 (c : Dev nD) : Buf (Elt Ideal) ((c : Thread nD τ).loc main_v34_6) :=
  Cert.ReferenceIdeal.Read.val_main_v195 (F := Ideal) (aX m c) (aAda m c) (aNw m c) (aWi m c)
theorem final14 (c : Dev nD) : (dats m 0 c).arrAt 14 cfg0.N = res14 m c := by
  refine (dats m 0 c).arrAt_eq_of_covers 14 _ (by decide +kernel) fun t hf y => ?_
  blk_simp
  rw [after0_14]
  idx_vars y
  obtain rfl : y0 = 0 := Subsingleton.elim _ _
  have ht := tlt t
  have hi : ((View.whole main_v34_6).slice (win0_14.rect t)).emb (ix3 0 y1 y2)
      = (ix3 ⟨t.val / 4, by omega⟩ y1 ⟨t.val % 4 * 512 + y2.val, by omega⟩ : S8x64x2048.Idx) := by
    blk_ext [idx14]
  rw [hi]
  rfl

theorem idx16 : ∀ t : Fin cfg0.N, win0_16.index t = ![t.val, 0, 0] :=
  (by decide +kernel : ∀ t : Fin grid0.N, win0_16.index t = ![t.val, 0, 0])
abbrev res16 (c : Dev nD) : Buf (Elt Ideal) ((c : Thread nD τ).loc main_v34_8) :=
  Cert.ReferenceIdeal.Read.val_main_v197 (F := Ideal) (aX m c) (aAda m c) (aNw m c) (aWi m c)
theorem final16 (c : Dev nD) : (dats m 0 c).arrAt 16 cfg0.N = res16 m c := by
  refine (dats m 0 c).arrAt_eq_of_covers 16 _ (by decide +kernel) fun t hf y => ?_
  blk_simp
  rw [after0_16]
  idx_vars y
  have ht := tlt t
  have hi : ((View.whole main_v34_8).slice (win0_16.rect t)).emb (ix3 y0 y1 y2)
      = (ix3 ⟨t.val * 4 + y0.val, by omega⟩ y1 y2 : S128x8x128.Idx) := by
    blk_ext [idx16]
  rw [hi]
  rfl

theorem idx17 : ∀ t : Fin cfg0.N, win0_17.index t = ![t.val, 0] :=
  (by decide +kernel : ∀ t : Fin grid0.N, win0_17.index t = ![t.val, 0])
abbrev res17 (c : Dev nD) : Buf (Elt Ideal) ((c : Thread nD τ).loc main_v34_9) :=
  Cert.ReferenceIdeal.Read.val_main_v200 (F := Ideal) (aX m c) (aAda m c) (aNw m c) (aWi m c)
theorem final17 (c : Dev nD) : (dats m 0 c).arrAt 17 cfg0.N = res17 m c := by
  refine (dats m 0 c).arrAt_eq_of_covers 17 _ (by decide +kernel) fun t hf y => ?_
  blk_simp
  rw [after0_17]
  idx_vars y
  have ht := tlt t
  have hi : ((View.whole main_v34_9).slice (win0_17.rect t)).emb (ix2 y0 y1)
      = (ix2 ⟨t.val * 512 + y0.val, by omega⟩ y1 : S16384x512.Idx) := by
    blk_ext [idx17]
  rw [hi]
  rfl

theorem idx18 : ∀ t : Fin cfg0.N, win0_18.index t = ![t.val, 0] :=
  (by decide +kernel : ∀ t : Fin grid0.N, win0_18.index t = ![t.val, 0])
abbrev res18 (c : Dev nD) : Buf (Elt Ideal) ((c : Thread nD τ).loc main_v34_10) :=
  Cert.ReferenceIdeal.Read.val_main_v202 (F := Ideal) (aX m c) (aAda m c) (aNw m c) (aWi m c) (aWp m c) (aPs m c)
theorem final18 (c : Dev nD) : (dats m 0 c).arrAt 18 cfg0.N = res18 m c := by
  refine (dats m 0 c).arrAt_eq_of_covers 18 _ (by decide +kernel) fun t hf y => ?_
  blk_simp
  rw [after0_18]
  idx_vars y
  have ht := tlt t
  have hi : ((View.whole main_v34_10).slice (win0_18.rect t)).emb (ix2 y0 y1)
      = (ix2 ⟨t.val * 512 + y0.val, by omega⟩ y1 : S16384x512.Idx) := by
    blk_ext [idx18]
  rw [hi]
  rfl

theorem idx19 : ∀ t : Fin cfg0.N, win0_19.index t = ![t.val / 4, 0, 0] :=
  (by decide +kernel : ∀ t : Fin grid0.N, win0_19.index t = ![t.val / 4, 0, 0])
abbrev res19 (c : Dev nD) : Buf (Elt Ideal) ((c : Thread nD τ).loc main_v34_11) :=
  Cert.ReferenceIdeal.Read.val_main_v203 (F := Ideal) (aX m c) (aAda m c) (aNw m c) (aWi m c)
theorem final19 (c : Dev nD) : (dats m 0 c).arrAt 19 cfg0.N = res19 m c := by
  refine (dats m 0 c).arrAt_eq_of_covers 19 _ (by decide +kernel) fun t hf y => ?_
  blk_simp
  rw [after0_19]
  idx_vars y
  obtain rfl : y0 = 0 := Subsingleton.elim _ _
  have ht := tlt t
  have hi : ((View.whole main_v34_11).slice (win0_19.rect t)).emb (ix3 0 y1 y2)
      = (ix3 ⟨t.val / 4, by omega⟩ y1 y2 : S8x16x512.Idx) := by
    blk_ext [idx19]
  rw [hi]
  have h3 : t.val % 4 = 3 := (flush0_19 t).mp hf
  refine Eq.trans ?_ (Cert.ProjRef.last_apply (aX m c) (aAda m c) (aNw m c) (aWi m c) _ y1 y2).symm
  have hr : t.val % 4 * 512 + 511 + y1.val = 2047 + y1.val := by omega
  show Cert.ProjRef.ext (aX m c) (aAda m c) (aNw m c) (aWi m c) (⟨t.val / 4, by omega⟩ : Fin 8) y2 (t.val % 4 * 512 + 511 + y1.val) = _
  rw [hr]

/-! ## The claims -/

theorem frame_p : Cert.quiescent_Kernel := fun m ρ _ => Cert.ProjK.kept m ρ
theorem frame_pi : Cert.quiescent_KernelIdeal := fun m ρ _ =>
  (θ_run defs _ _).mono (fun r h => ⟨fun c => args_kept m h.1 c, h.2⟩) (launch m ρ)
theorem frame_ri : Cert.quiescent_ReferenceIdeal := fun m ρ _ =>
  (θ_run Cert.ReferenceIdeal.defs _ _).mono (fun r h => ⟨fun c => (h c).2.2.2.2.2.2.2.2.2,
      Idealize.ShloMosaic.sem_eq_zero_of_no_sems (by decide) r.2⟩)
    (Cert.ReferenceIdeal.Value.run (F := Ideal) m ρ)
theorem same : Cert.preserves_Kernel_KernelIdeal := trivial
set_option maxHeartbeats 4000000 in
theorem value : Cert.algebraic_KernelIdeal_ReferenceIdeal := by
  intro m ρ m' ρ' _ hagree
  refine ⟨fun c => res8 m c, fun c => res9 m c, fun c => res11 m c, fun c => res13 m c, fun c => res14 m c, fun c => res16 m c, fun c => res17 m c, fun c => res18 m c, fun c => res19 m c, ?_, ?_⟩
  · refine (θ_run defs _ _).mono (fun r h c => ⟨?_, ?_, ?_, ?_, ?_, ?_, ?_, ?_, ?_, args_kept m h.1 c⟩) (launch m ρ)
    · exact ((Pipeline.Dat.toRForget_arrAt_iff (dat := dats m 0 c) (fgt := forgets0) (w := 8) rfl _ _).mp ((h.1 c).1 8)).trans (final8 m c)
    · exact ((Pipeline.Dat.toRForget_arrAt_iff (dat := dats m 0 c) (fgt := forgets0) (w := 9) rfl _ _).mp ((h.1 c).1 9)).trans (final9 m c)
    · exact ((Pipeline.Dat.toRForget_arrAt_iff (dat := dats m 0 c) (fgt := forgets0) (w := 11) rfl _ _).mp ((h.1 c).1 11)).trans (final11 m c)
    · exact ((Pipeline.Dat.toRForget_arrAt_iff (dat := dats m 0 c) (fgt := forgets0) (w := 13) rfl _ _).mp ((h.1 c).1 13)).trans (final13 m c)
    · exact ((Pipeline.Dat.toRForget_arrAt_iff (dat := dats m 0 c) (fgt := forgets0) (w := 14) rfl _ _).mp ((h.1 c).1 14)).trans (final14 m c)
    · exact ((Pipeline.Dat.toRForget_arrAt_iff (dat := dats m 0 c) (fgt := forgets0) (w := 16) rfl _ _).mp ((h.1 c).1 16)).trans (final16 m c)
    · exact ((Pipeline.Dat.toRForget_arrAt_iff (dat := dats m 0 c) (fgt := forgets0) (w := 17) rfl _ _).mp ((h.1 c).1 17)).trans (final17 m c)
    · exact ((Pipeline.Dat.toRForget_arrAt_iff (dat := dats m 0 c) (fgt := forgets0) (w := 18) rfl _ _).mp ((h.1 c).1 18)).trans (final18 m c)
    · exact ((Pipeline.Dat.toRForget_arrAt_iff (dat := dats m 0 c) (fgt := forgets0) (w := 19) rfl _ _).mp ((h.1 c).1 19)).trans (final19 m c)
  · refine (θ_run Cert.ReferenceIdeal.defs _ _).mono (fun r h c => ?_) (Cert.ReferenceIdeal.Value.run (F := Ideal) m' ρ')
    obtain ⟨h0, h1, h2, h3, h4, h5, h6, h7⟩ := hagree c
    obtain ⟨g8, g9, g11, g13, g14, g16, g17, g18, g19, ga⟩ := h c
    refine ⟨?_, ?_, ?_, ?_, ?_, ?_, ?_, ?_, ?_, ga⟩
    · refine g8.trans ((Cert.ReferenceIdeal.Read.val_main_v189_eq (F := Ideal) _).trans ?_)
      show Cert.ReferenceIdeal.Read.val_main_v189 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) = _
      rw [h0, h1, h2, h3, h4]
    · refine g9.trans ((Cert.ReferenceIdeal.Read.val_main_v191_eq (F := Ideal) _).trans ?_)
      show Cert.ReferenceIdeal.Read.val_main_v191 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg5)) = _
      rw [h0, h1, h2, h3, h5]
    · refine g11.trans ((Cert.ReferenceIdeal.Read.val_main_v192_eq (F := Ideal) _).trans ?_)
      show Cert.ReferenceIdeal.Read.val_main_v192 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) = _
      rw [h0, h1, h2, h3]
    · refine g13.trans ((Cert.ReferenceIdeal.Read.val_main_v194_eq (F := Ideal) _).trans ?_)
      show Cert.ReferenceIdeal.Read.val_main_v194 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) = _
      rw [h0, h1, h2, h3]
    · refine g14.trans ((Cert.ReferenceIdeal.Read.val_main_v195_eq (F := Ideal) _).trans ?_)
      show Cert.ReferenceIdeal.Read.val_main_v195 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) = _
      rw [h0, h1, h2, h3]
    · refine g16.trans ((Cert.ReferenceIdeal.Read.val_main_v197_eq (F := Ideal) _).trans ?_)
      show Cert.ReferenceIdeal.Read.val_main_v197 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) = _
      rw [h0, h1, h2, h3]
    · refine g17.trans ((Cert.ReferenceIdeal.Read.val_main_v200_eq (F := Ideal) _).trans ?_)
      show Cert.ReferenceIdeal.Read.val_main_v200 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) = _
      rw [h0, h1, h2, h3]
    · refine g18.trans ((Cert.ReferenceIdeal.Read.val_main_v202_eq (F := Ideal) _).trans ?_)
      show Cert.ReferenceIdeal.Read.val_main_v202 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) = _
      rw [h0, h1, h2, h3, h6, h7]
    · refine g19.trans ((Cert.ReferenceIdeal.Read.val_main_v203_eq (F := Ideal) _).trans ?_)
      show Cert.ReferenceIdeal.Read.val_main_v203 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) = _
      rw [h0, h1, h2, h3]

end Cert.ProjClaim

end
-- ==== Proof.OutProj.lean ====
/- The output projection of the prompt: the pipelined kernel's result array is the gated residual of the concatenated
   branches through the output weights, as the reference writes it. -/
module

public import proofs.«01_k».proof.Defs
public import proofs.«01_k».proof.Proof.Gen.Out.Frame
public import proofs.«01_k».proof.Proof.Gen.OutIdeal.Value
public import proofs.«01_k».proof.Proof.Gen.OutRefIdeal.Run
public import proofs.«01_k».proof.Proof.Gen.OutRefIdeal.Read
public import Idealize.ShloMosaic.Lib.Pipeline.Value
public import Idealize.ShloMosaic.Lib.Pipeline.ValueKit
public import Idealize.ShloMosaic.Lib.Pointwise
public import Idealize.ShloMosaic.Lib.StableHlo.ReadAt
public import Idealize.ShloMosaic.Lib.Quiescent

@[expose] public section

noncomputable section

open Idealize.ShloMosaic Idealize.ShloMosaic.TcCoe Idealize.SL.Sem
open Idealize.ShloMosaic.Pipeline (Dat)

namespace Cert.OutProj

open Cert.OutIdeal Cert.OutIdeal.Gen

/-- One element of the result: the residual, plus the gate times the two halves of the dot product. -/
def elem (x : FVec Ideal S8x2048x1024 .f32) (a p : FVec Ideal S16384x512 .bf16) (ada : FVec Ideal S8x3072 .f32)
    (w : FVec Ideal S1x1024x1024 .f32) (b : Fin 8) (r : Fin 2048) (l : Fin 1024) : EReal :=
  x (ix3 b r l) + ada (ix2 b ⟨2048 + l.val, by omega⟩) *
    ((∑ k : Fin 512, a (ix2 ⟨b.val * 2048 + r.val, by omega⟩ k) * w (ix3 0 ⟨k.val, by omega⟩ l))
      + ∑ k : Fin 512, p (ix2 ⟨b.val * 2048 + r.val, by omega⟩ k) * w (ix3 0 ⟨512 + k.val, by omega⟩ l))

set_option maxRecDepth 16384 in
/-- The reference, read at an index. -/
theorem ref_apply (x : FVec Ideal S8x2048x1024 .f32) (a p : FVec Ideal S16384x512 .bf16) (ada : FVec Ideal S8x3072 .f32)
    (w : FVec Ideal S1x1024x1024 .f32) (b : Fin 8) (r : Fin 2048) (l : Fin 1024) :
    Cert.OutRefIdeal.Read.val_main_v13 (F := Ideal) x a p ada w (ix3 b r l) = elem x a p ada w b r l := by
  unfold elem
  pointwise [Cert.OutRefIdeal.Read.val_main_v13, Cert.OutRefIdeal.Read.val_main_v12, Cert.OutRefIdeal.Read.val_main_v11,
    Cert.OutRefIdeal.Read.val_main_v10, Cert.OutRefIdeal.Read.val_main_v9, Cert.OutRefIdeal.Read.val_main_v8,
    Cert.OutRefIdeal.Read.val_main_v7, Cert.OutRefIdeal.Read.val_main_v6, Cert.OutRefIdeal.Read.val_main_v5,
    Cert.OutRefIdeal.Read.val_main_v4, Cert.OutRefIdeal.Read.val_main_v3, Cert.OutRefIdeal.Read.val_main_v2]

set_option maxRecDepth 16384 in
/-- The body's payload, read at an index. -/
theorem pay_apply (v0 : Vec Ideal S1024x512 .bf16) (v1 : Vec Ideal S512x1024 .bf16) (v4 : Vec Ideal S1024x512 .bf16)
    (v5 : Vec Ideal S512x1024 .bf16) (v9 : Vec Ideal S1x1024x1024 .f32) (v11 : Vec Ideal S1x1x1024 .f32)
    (r : Fin 1024) (l : Fin 1024) :
    k0_pay1 v0 v1 v4 v5 v9 v11 (ix3 0 r l) = v9 (ix3 0 r l) + v11 (ix3 0 0 l) *
      ((∑ k : Fin 512, v0 (ix2 r k) * v1 (ix2 k l)) + ∑ k : Fin 512, v4 (ix2 r k) * v5 (ix2 k l)) := by
  pointwise! [k0_pay1]

variable (m : (ℓ : Loc nD τ sig) → Buf (Elt Ideal) ℓ) (ρ : Dev nD → PrngReg)

theorem wt_apply (c : Dev nD) (k l : Fin 1024) :
    V m c main_v1 (ix2 k l) = m ((c : Thread nD τ).loc main_arg4) (ix3 0 k l) := by
  unfold V
  after_reads_at
theorem gate_apply (c : Dev nD) (b : Fin 8) (l : Fin 3072) :
    V m c main_v2 (ix3 b 0 l) = m ((c : Thread nD τ).loc main_arg3) (ix2 b l) := by
  unfold V
  after_reads_at

theorem idx0 : ∀ t : Fin cfg0.N, win0_0.index t = ![t.val / 2, t.val % 2, 0] :=
  (by decide +kernel : ∀ t : Fin grid0.N, win0_0.index t = ![t.val / 2, t.val % 2, 0])
theorem idx1 : ∀ t : Fin cfg0.N, win0_1.index t = ![t.val, 0] :=
  (by decide +kernel : ∀ t : Fin grid0.N, win0_1.index t = ![t.val, 0])
theorem idx2 : ∀ t : Fin cfg0.N, win0_2.index t = ![t.val, 0] :=
  (by decide +kernel : ∀ t : Fin grid0.N, win0_2.index t = ![t.val, 0])
theorem idx3 : ∀ t : Fin cfg0.N, win0_3.index t = ![t.val / 2, 0, 2] :=
  (by decide +kernel : ∀ t : Fin grid0.N, win0_3.index t = ![t.val / 2, 0, 2])
theorem idx4 : ∀ t : Fin cfg0.N, win0_4.index t = ![0, 0] :=
  (by decide +kernel : ∀ t : Fin grid0.N, win0_4.index t = ![0, 0])
theorem idx5 : ∀ t : Fin cfg0.N, win0_5.index t = ![t.val / 2, t.val % 2, 0] :=
  (by decide +kernel : ∀ t : Fin grid0.N, win0_5.index t = ![t.val / 2, t.val % 2, 0])

theorem tlt (t : Fin cfg0.N) : t.val < 16 := t.isLt

theorem blk0 (c : Dev nD) (t : Fin cfg0.N) (r l : Fin 1024) :
    iblk m c 0 t (ix3 0 r l) = m ((c : Thread nD τ).loc main_arg0) (ix3 ⟨t.val / 2, by have := tlt t; omega⟩ ⟨t.val % 2 * 1024 + r.val, by omega⟩ l) := by
  rw [← V_main_arg0 m c]
  blk_ext [iblk, idx0]
theorem blk1 (c : Dev nD) (t : Fin cfg0.N) (r : Fin 1024) (k : Fin 512) :
    iblk m c 1 t (ix2 r k) = m ((c : Thread nD τ).loc main_arg1) (ix2 ⟨t.val * 1024 + r.val, by have := tlt t; omega⟩ k) := by
  rw [← V_main_arg1 m c]
  blk_ext [iblk, idx1]
theorem blk2 (c : Dev nD) (t : Fin cfg0.N) (r : Fin 1024) (k : Fin 512) :
    iblk m c 2 t (ix2 r k) = m ((c : Thread nD τ).loc main_arg2) (ix2 ⟨t.val * 1024 + r.val, by have := tlt t; omega⟩ k) := by
  rw [← V_main_arg2 m c]
  blk_ext [iblk, idx2]
theorem blk3 (c : Dev nD) (t : Fin cfg0.N) (l : Fin 1024) :
    iblk m c 3 t (ix3 0 0 l) = m ((c : Thread nD τ).loc main_arg3) (ix2 ⟨t.val / 2, by have := tlt t; omega⟩ ⟨2048 + l.val, by omega⟩) := by
  rw [← gate_apply m c]
  blk_ext [iblk, idx3]
theorem blk4 (c : Dev nD) (t : Fin cfg0.N) (k l : Fin 1024) :
    iblk m c 4 t (ix2 k l) = m ((c : Thread nD τ).loc main_arg4) (ix3 0 k l) := by
  rw [← wt_apply m c]
  blk_ext [iblk, idx4]

/-- The result, as the reference's whole array. -/
abbrev res (c : Dev nD) : Buf (Elt Ideal) ((c : Thread nD τ).loc main_v3) :=
  Cert.OutRefIdeal.Read.val_main_v13 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

theorem final (c : Dev nD) : (dats m 0 c).arrAt 5 cfg0.N = res m c := by
  refine (dats m 0 c).arrAt_eq_of_covers 5 _ (by decide +kernel) fun t hf y => ?_
  blk_simp
  rw [after0_5]
  unfold out0_5
  rw [View.canon_cons_unit_lit _ _ _ (by decide)]
  idx_vars y
  obtain rfl : y0 = 0 := Subsingleton.elim _ _
  have ht := tlt t
  have hi : ((View.whole main_v3).slice (win0_5.rect t)).emb (ix3 0 y1 y2)
      = (ix3 ⟨t.val / 2, by omega⟩ ⟨t.val % 2 * 1024 + y1.val, by omega⟩ y2 : S8x2048x1024.Idx) := by
    blk_ext [idx5]
  rw [hi, pay_apply]
  refine Eq.trans ?_ (ref_apply _ _ _ _ _ _ _ _).symm
  unfold elem
  pointwise [blk0, blk1, blk2, blk3, blk4]
  have e : t.val * 1024 + y1.val = t.val / 2 * 2048 + (t.val % 2 * 1024 + y1.val) := by omega
  simp only [e]

theorem run : θ_run defs (onTc (τ := τ) (main (F := Ideal))) ⟨m, fun _ => 0, ρ⟩ fun r => ∀ c : Dev nD,
      r.2.mem ((c : Thread nD τ).loc main_v3) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (final m c), (h c).2⟩) (Value.run_blocks m ρ)

/-! ## The claims -/

theorem frame_p : Cert.quiescent_Out := fun m ρ _ => Cert.Out.Gen.frame m ρ
theorem frame_pi : Cert.quiescent_OutIdeal := fun m ρ _ => Cert.OutIdeal.Gen.frame m ρ
theorem frame_ri : Cert.quiescent_OutRefIdeal := fun m ρ _ =>
  (θ_run Cert.OutRefIdeal.defs _ _).mono (fun r h => ⟨fun c => (h c).2,
      Idealize.ShloMosaic.sem_eq_zero_of_no_sems (by decide) r.2⟩)
    (Cert.OutRefIdeal.Value.run (F := Ideal) m ρ)
theorem same : Cert.preserves_Out_OutIdeal := trivial
theorem value : Cert.algebraic_OutIdeal_OutRefIdeal := by
  intro m ρ m' ρ' _ hagree
  refine ⟨fun c => res m c, run m ρ, ?_⟩
  refine (θ_run Cert.OutRefIdeal.defs _ _).mono (fun _ h c => ⟨(h c).1.trans ?_, (h c).2⟩)
    (Cert.OutRefIdeal.Value.run (F := Ideal) m' ρ')
  refine (Cert.OutRefIdeal.Read.val_main_v13_eq _ _ _ _ _).trans ?_
  obtain ⟨h0, h1, h2, h3, h4⟩ := hagree c
  unfold res
  rw [h0, h1, h2, h3, h4]

end Cert.OutProj

end
-- ==== Proof.OutSamp.lean ====
/- The output projection of the samples: the kernel's result array is the gated residual of the concatenated
   branches through the output weights, as the reference writes it. -/
module

public import proofs.«01_k».proof.Defs
public import proofs.«01_k».proof.Proof.Gen.OutS.Frame
public import proofs.«01_k».proof.Proof.Gen.OutSIdeal.Value
public import proofs.«01_k».proof.Proof.Gen.OutSRefIdeal.Run
public import proofs.«01_k».proof.Proof.Gen.OutSRefIdeal.Read
public import Idealize.ShloMosaic.Lib.Pipeline.Value
public import Idealize.ShloMosaic.Lib.Pipeline.ValueKit
public import Idealize.ShloMosaic.Lib.Pointwise
public import Idealize.ShloMosaic.Lib.StableHlo.ReadAt
public import Idealize.ShloMosaic.Lib.Quiescent

@[expose] public section

noncomputable section

open Idealize.ShloMosaic Idealize.ShloMosaic.TcCoe Idealize.SL.Sem
open Idealize.ShloMosaic.Pipeline (Dat)

namespace Cert.OutSamp

open Cert.OutSIdeal Cert.OutSIdeal.Gen

/-- Where lane `l` of the attention branch lies in the call's argument: the head's row of 128 lanes, in the half of the head's key head. -/
def sel (l : Fin 512) : Fin 1024 := ⟨l.val / 64 * 128 + l.val / 256 * 64 + l.val % 64, by omega⟩

/-- One element of the result. -/
def elem (x : FVec Ideal S128x1x1024 .f32) (o : FVec Ideal S128x1024 .f32) (g p : FVec Ideal S128x512 .bf16) (ada : FVec Ideal S128x3072 .f32)
    (w : FVec Ideal S1x1024x1024 .f32) (b : Fin 128) (l : Fin 1024) : EReal :=
  x (ix3 b 0 l) + ada (ix2 b ⟨2048 + l.val, by omega⟩) *
    ((∑ k : Fin 512, o (ix2 b (sel k)) * g (ix2 b k) * w (ix3 0 ⟨k.val, by omega⟩ l))
      + ∑ k : Fin 512, p (ix2 b k) * w (ix3 0 ⟨512 + k.val, by omega⟩ l))

set_option maxRecDepth 16384 in
theorem ref_heads (o : FVec Ideal S128x1024 .f32) (b : Fin 128) (l : Fin 512) :
    Cert.OutSRefIdeal.Read.val_main_v11 (F := Ideal) o (ix2 b l) = o (ix2 b (sel l)) := by
  pointwise! [Cert.OutSRefIdeal.Read.val_main_v11, Cert.OutSRefIdeal.Read.val_main_v10, Cert.OutSRefIdeal.Read.val_main_v9, Cert.OutSRefIdeal.Read.val_main_v8, Cert.OutSRefIdeal.Read.val_main_v7, Cert.OutSRefIdeal.Read.val_main_v6, Cert.OutSRefIdeal.Read.val_main_v5, Cert.OutSRefIdeal.Read.val_main_v4, Cert.OutSRefIdeal.Read.val_main_v3, sel]
  split <;> (congr 2; apply Fin.ext; simp only [Fin.val_mk]; omega)

set_option maxRecDepth 16384 in
theorem ref_apply (x : FVec Ideal S128x1x1024 .f32) (o : FVec Ideal S128x1024 .f32) (g p : FVec Ideal S128x512 .bf16) (ada : FVec Ideal S128x3072 .f32)
    (w : FVec Ideal S1x1024x1024 .f32) (b : Fin 128) (l : Fin 1024) :
    Cert.OutSRefIdeal.Read.val_main_v20 (F := Ideal) x o g p ada w (ix2 b l) = elem x o g p ada w b l := by
  unfold elem
  simp only [← ref_heads]
  pointwise [Cert.OutSRefIdeal.Read.val_main_v20, Cert.OutSRefIdeal.Read.val_main_v19, Cert.OutSRefIdeal.Read.val_main_v18, Cert.OutSRefIdeal.Read.val_main_v17, Cert.OutSRefIdeal.Read.val_main_v16, Cert.OutSRefIdeal.Read.val_main_v15, Cert.OutSRefIdeal.Read.val_main_v14, Cert.OutSRefIdeal.Read.val_main_v13, Cert.OutSRefIdeal.Read.val_main_v12, Cert.OutSRefIdeal.Read.val_main_v2]

set_option maxRecDepth 16384 in
theorem pay2_apply (v3 v4 v7 v8 v11 v12 v15 v16 : Vec Ideal S128x128 .f32) (v20 : Vec Ideal S128x512 .bf16) (v24 : Vec Ideal S512x1024 .bf16)
    (z : Fin 1024 → EReal) (r : Fin 128) (l : Fin 1024)
    (h3 : ∀ l : Fin 128, v3 (ix2 r l) = z ⟨l.val, by omega⟩) (h4 : ∀ l : Fin 128, v4 (ix2 r l) = z ⟨128 + l.val, by omega⟩)
    (h7 : ∀ l : Fin 128, v7 (ix2 r l) = z ⟨256 + l.val, by omega⟩) (h8 : ∀ l : Fin 128, v8 (ix2 r l) = z ⟨384 + l.val, by omega⟩)
    (h11 : ∀ l : Fin 128, v11 (ix2 r l) = z ⟨512 + l.val, by omega⟩) (h12 : ∀ l : Fin 128, v12 (ix2 r l) = z ⟨640 + l.val, by omega⟩)
    (h15 : ∀ l : Fin 128, v15 (ix2 r l) = z ⟨768 + l.val, by omega⟩) (h16 : ∀ l : Fin 128, v16 (ix2 r l) = z ⟨896 + l.val, by omega⟩) :
    k0_pay2 v3 v4 v7 v8 v11 v12 v15 v16 v20 v24 (ix2 r l) = ∑ k : Fin 512, z (sel k) * v20 (ix2 r k) * v24 (ix2 k l) := by
  pointwise! [k0_pay2, h3, h4, h7, h8, h11, h12, h15, h16]

set_option maxRecDepth 16384 in
theorem pay1_apply (v26 : FVec Ideal S128x1024 .f32) (v27 : Vec Ideal S128x512 .bf16) (v28 : Vec Ideal S512x1024 .bf16) (v32 v34 : Vec Ideal S128x1024 .f32)
    (r : Fin 128) (l : Fin 1024) :
    k0_pay1 v26 v27 (k0_pay3 v28) v32 v34 (ix2 r l)
      = v32 (ix2 r l) + v34 (ix2 r l) * (v26 (ix2 r l) + ∑ k : Fin 512, v27 (ix2 r k) * v28 (ix2 k l)) := by
  pointwise! [k0_pay1, k0_pay3]

variable (m : (ℓ : Loc nD τ sig) → Buf (Elt Ideal) ℓ) (ρ : Dev nD → PrngReg)

theorem x_apply (c : Dev nD) (b : Fin 128) (l : Fin 1024) :
    V m c main_v0 (ix2 b l) = m ((c : Thread nD τ).loc main_arg0) (ix3 b 0 l) := by
  unfold V
  after_reads_at
theorem wt_apply (c : Dev nD) (k l : Fin 1024) :
    V m c main_v2 (ix2 k l) = m ((c : Thread nD τ).loc main_arg5) (ix3 0 k l) := by
  unfold V
  after_reads_at

theorem idx0 : ∀ t : Fin cfg0.N, win0_0.index t = ![0, 0] :=
  (by decide +kernel : ∀ t : Fin grid0.N, win0_0.index t = ![0, 0])
theorem idx1 : ∀ t : Fin cfg0.N, win0_1.index t = ![0, 0] :=
  (by decide +kernel : ∀ t : Fin grid0.N, win0_1.index t = ![0, 0])
theorem idx2 : ∀ t : Fin cfg0.N, win0_2.index t = ![0, 0] :=
  (by decide +kernel : ∀ t : Fin grid0.N, win0_2.index t = ![0, 0])
theorem idx3 : ∀ t : Fin cfg0.N, win0_3.index t = ![0, 0] :=
  (by decide +kernel : ∀ t : Fin grid0.N, win0_3.index t = ![0, 0])
theorem idx4 : ∀ t : Fin cfg0.N, win0_4.index t = ![0, 0] :=
  (by decide +kernel : ∀ t : Fin grid0.N, win0_4.index t = ![0, 0])
theorem idx5 : ∀ t : Fin cfg0.N, win0_5.index t = ![0, 0] :=
  (by decide +kernel : ∀ t : Fin grid0.N, win0_5.index t = ![0, 0])
theorem idx6 : ∀ t : Fin cfg0.N, win0_6.index t = ![0, 0] :=
  (by decide +kernel : ∀ t : Fin grid0.N, win0_6.index t = ![0, 0])
theorem blk0 (c : Dev nD) (t : Fin cfg0.N) (r : Fin 128) (l : Fin 1024) :
    iblk m c 0 t (ix2 r l) = m ((c : Thread nD τ).loc main_arg0) (ix3 r 0 l) := by
  rw [← x_apply m c]
  blk_ext [iblk, idx0]
theorem blk1 (c : Dev nD) (t : Fin cfg0.N) (r : Fin 128) (l : Fin 1024) :
    iblk m c 1 t (ix2 r l) = m ((c : Thread nD τ).loc main_arg1) (ix2 r l) := by
  rw [← V_main_arg1 m c]
  blk_ext [iblk, idx1]
theorem blk2 (c : Dev nD) (t : Fin cfg0.N) (r : Fin 128) (l : Fin 512) :
    iblk m c 2 t (ix2 r l) = m ((c : Thread nD τ).loc main_arg2) (ix2 r l) := by
  rw [← V_main_arg2 m c]
  blk_ext [iblk, idx2]
theorem blk3 (c : Dev nD) (t : Fin cfg0.N) (r : Fin 128) (l : Fin 512) :
    iblk m c 3 t (ix2 r l) = m ((c : Thread nD τ).loc main_arg3) (ix2 r l) := by
  rw [← V_main_arg3 m c]
  blk_ext [iblk, idx3]
theorem blk4 (c : Dev nD) (t : Fin cfg0.N) (r : Fin 128) (l : Fin 3072) :
    iblk m c 4 t (ix2 r l) = m ((c : Thread nD τ).loc main_arg4) (ix2 r l) := by
  rw [← V_main_arg4 m c]
  blk_ext [iblk, idx4]
theorem blk5 (c : Dev nD) (t : Fin cfg0.N) (r : Fin 1024) (l : Fin 1024) :
    iblk m c 5 t (ix2 r l) = m ((c : Thread nD τ).loc main_arg5) (ix3 0 r l) := by
  rw [← wt_apply m c]
  blk_ext [iblk, idx5]

/-- The result, as the reference's whole array. -/
abbrev res (c : Dev nD) : Buf (Elt Ideal) ((c : Thread nD τ).loc main_v3) :=
  Cert.OutSRefIdeal.Read.val_main_v20 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

set_option maxHeartbeats 1000000 in
theorem final (c : Dev nD) : (dats m 0 c).arrAt 6 cfg0.N = res m c := by
  refine (dats m 0 c).arrAt_eq_of_covers 6 _ (by decide +kernel) fun t hf y => ?_
  blk_simp
  rw [after0_6]
  unfold out0_6
  rw [View.canon_cons_unit_lit _ _ _ (by decide)]
  idx_vars y
  have hi : ((View.whole main_v3).slice (win0_6.rect t)).emb (ix2 y0 y1) = (ix2 y0 y1 : S128x1024.Idx) := by
    blk_ext [idx6]
  rw [hi, pay1_apply]
  rw [pay2_apply _ _ _ _ _ _ _ _ _ _ (fun j => m ((c : Thread nD τ).loc main_arg1) (ix2 y0 j))]
  · refine Eq.trans ?_ (ref_apply _ _ _ _ _ _ _ _).symm
    unfold elem
    pointwise [blk0, blk2, blk3, blk4, blk5]
  all_goals intro l; pointwise [blk1]

theorem run : θ_run defs (onTc (τ := τ) (main (F := Ideal))) ⟨m, fun _ => 0, ρ⟩ fun r => ∀ c : Dev nD,
      r.2.mem ((c : Thread nD τ).loc main_v3) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final m c), (h c).2⟩) (Value.run_blocks m ρ)

/-! ## The claims -/

theorem frame_p : Cert.quiescent_OutS := fun m ρ _ => Cert.OutS.Gen.frame m ρ
theorem frame_pi : Cert.quiescent_OutSIdeal := fun m ρ _ => Cert.OutSIdeal.Gen.frame m ρ
theorem frame_ri : Cert.quiescent_OutSRefIdeal := fun m ρ _ =>
  (θ_run Cert.OutSRefIdeal.defs _ _).mono (fun r h => ⟨fun c => (h c).2,
      Idealize.ShloMosaic.sem_eq_zero_of_no_sems (by decide) r.2⟩)
    (Cert.OutSRefIdeal.Value.run (F := Ideal) m ρ)
theorem same : Cert.preserves_OutS_OutSIdeal := trivial
theorem value : Cert.algebraic_OutSIdeal_OutSRefIdeal := by
  intro m ρ m' ρ' _ hagree
  refine ⟨fun c => res m c, run m ρ, ?_⟩
  refine (θ_run Cert.OutSRefIdeal.defs _ _).mono (fun _ h c => ⟨(h c).1.trans ?_, (h c).2⟩)
    (Cert.OutSRefIdeal.Value.run (F := Ideal) m' ρ')
  refine (Cert.OutSRefIdeal.Read.val_main_v20_eq _ _ _ _ _ _).trans ?_
  obtain ⟨h0, h1, h2, h3, h4, h5⟩ := hagree c
  unfold res
  rw [h0, h1, h2, h3, h4, h5]

end Cert.OutSamp

end
-- ==== Proof.ProjSSpec.lean ====
/- The windows of the samples' pooled rows: sixteen rows a sample, the last its own. -/
module

public import Idealize.ShloMosaic.Lib.Pointwise

@[expose] public section

set_option maxRecDepth 16384

noncomputable section

open Idealize.ShloMosaic Idealize.ShloMosaic.TcCoe Idealize.SL.Sem

namespace Cert.ProjSSpec

/-- The mean of the last `n` of the sixteen rows less the last. -/
def mean (U : Nat → EReal) (n : Nat) (c : EReal) : EReal :=
  Ideal.div (∑ j ∈ Finset.range n, U (15 - j)) c - U 15

/-- Each group of 128 lanes with its window. -/
def dif (U : Fin 512 → Nat → EReal) (l : Fin 512) : EReal :=
  if l.val < 128 then mean (U l) 2 (Ideal.ofBits .f32 0x40000000#32)
  else if l.val < 256 then mean (U l) 4 (Ideal.ofBits .f32 0x40800000#32)
  else if l.val < 384 then mean (U l) 8 (Ideal.ofBits .f32 0x41000000#32)
  else mean (U l) 16 (Ideal.ofBits .f32 0x41800000#32)

/-- A window's sum, from its first row on. -/
theorem up_eq (U : Nat → EReal) (n : Nat) (hn : n ≤ 16) :
    (∑ k : Fin n, U (16 - n + k.val)) = ∑ j ∈ Finset.range n, U (15 - j) := by
  rw [Fin.sum_univ_eq_sum_range (fun k => U (16 - n + k)) n, ← Finset.sum_range_reflect]
  refine Finset.sum_congr rfl fun j hj => ?_
  have h := Finset.mem_range.mp hj
  exact congrArg U (by omega)

end Cert.ProjSSpec

end
-- ==== Proof.ProjSPay.lean ====
/- What the sample projection's body computes, each value read at an index. -/
module

public import proofs.«01_k».proof.Proof.Gen.ProjSIdeal.Skeleton
public import proofs.«01_k».proof.Proof.ProjSpec
public import proofs.«01_k».proof.Proof.ProjSSpec

@[expose] public section

set_option maxRecDepth 16384

noncomputable section

open Idealize.ShloMosaic Idealize.ShloMosaic.TcCoe Idealize.SL.Sem

namespace Cert.ProjSPay

open Cert.ProjSIdeal Cert.ProjSIdeal.Gen Cert.ProjSpec Cert.ProjSSpec

theorem hid_apply (v0 v2 v3 : Vec Ideal S128x1024 .f32) (v4 : Vec Ideal S1x1024 .f32) (r : Fin 128) (k : Fin 1024) :
    k0_pay1 v0 v2 v3 v4 (ix2 r k) = hid (fun j => v0 (ix2 r j)) (v4 (ix2 0 k)) (v3 (ix2 r k)) (v2 (ix2 r k)) k := by
  unfold hid
  pointwise! [k0_pay1]

/-- The quotient of a lane by 64 as the index words compute it. -/
def qw (n : Nat) : BitVec 32 :=
  Scalar.select
          (IntOp.andi
            (IntOp.cmpi CmpIPredicate.ne
              (IntOp.subi (BitVec.setWidth 32 (IntOp.cmpi CmpIPredicate.sgt (BitVec.ofNat 32 n) 0#32))
                (BitVec.setWidth 32 (IntOp.cmpi CmpIPredicate.slt (BitVec.ofNat 32 n) 0#32)))
              (Scalar.subi (Scalar.extui (Scalar.cmpi CmpIPredicate.sgt 64#32 0#32))
                (Scalar.extui (Scalar.cmpi CmpIPredicate.slt 64#32 0#32))))
            (IntOp.cmpi CmpIPredicate.ne (IntOp.remsi ArithUnit.vector (BitVec.ofNat 32 n) 64#32) 0#32))
          (IntOp.subi (IntOp.divsi ArithUnit.vector (BitVec.ofNat 32 n) 64#32) 1#32)
          (IntOp.divsi ArithUnit.vector (BitVec.ofNat 32 n) 64#32)

theorem qw_eq : ∀ n : Fin 128, qw n.val = BitVec.ofNat 32 (n.val / 64) := by decide +kernel

theorem qw_cmp (k l : Fin 128) :
    IntOp.cmpi CmpIPredicate.eq (qw k.val) (qw l.val) = if k.val / 64 = l.val / 64 then 1#1 else 0#1 := by
  rw [qw_eq, qw_eq]
  split
  · next h => rw [h]; simp [IntOp.cmpi]
  · next h =>
    have : BitVec.ofNat 32 (k.val / 64) ≠ BitVec.ofNat 32 (l.val / 64) := by
      intro e
      have e' := congrArg BitVec.toNat e
      simp only [BitVec.toNat_ofNat] at e'
      omega
    show BitVec.ofBool (BitVec.ofNat 32 (k.val / 64) == BitVec.ofNat 32 (l.val / 64)) = 0#1
    rw [beq_eq_false_iff_ne.mpr this]; rfl

theorem mask (k l : Fin 128) :
    k0_pay11 (k0_pay10 (F := Ideal) (iota .tc S128x128 32 [0] iota_S128x128_d0_w32) 64#32 k0_pay7 k0_pay8 k0_pay9) (ix2 k l)
      = if k.val / 64 = l.val / 64 then 1 else 0 := by
  pointwise! [k0_pay11, k0_pay10, k0_pay7, k0_pay8, k0_pay9]
  refine Eq.trans (congrArg (fun w => Scalar.select w (1 : EReal) 0) (qw_cmp k l)) ?_
  split <;> rfl

theorem heads (f : Fin 128 → EReal) (l : Fin 128) :
    (∑ x : Fin 128, f x * (if x.val / 64 = l.val / 64 then 1 else 0)) = ∑ j : Fin 64, f ⟨l.val / 64 * 64 + j.val, by omega⟩ :=
  (block_sum (m := 2) (b := 64) (by decide) f (fun _ => 1) ⟨l.val / 64, by omega⟩).trans
    (Finset.sum_congr rfl fun j _ => mul_one _)

section
variable (v22 : FVec Ideal S128x1024 .bf16) (w1 : Vec Ideal S1024x128 .bf16) (w5 : Vec Ideal S1024x512 .bf16) (r : Fin 128)

theorem k_apply (v135 : FVec Ideal S128x128 .bf16) (kn : Vec Ideal S1x128 .f32)
    (hm : ∀ k l : Fin 128, v135 (ix2 k l) = if k.val / 64 = l.val / 64 then 1 else 0) (z : Fin 128 → EReal)
    (hz : ∀ l : Fin 128, (∑ k : Fin 1024, v22 (ix2 r k) * w1 (ix2 k l)) = z l) (l : Fin 128) :
    k0_pay18 v22 v135 w1 kn (ix2 r l) = nrm z (by decide) l * kn (ix2 0 l) := by
  unfold nrm
  pointwise! [k0_pay18, hm, hz]
  rw [heads (fun x => z x * z x), mean64]
theorem v_apply (l : Fin 128) : k0_pay19 v22 w1 (ix2 r l) = ∑ k : Fin 1024, v22 (ix2 r k) * w1 (ix2 k l) := by
  pointwise! [k0_pay19]
theorem qi_apply (l : Fin 512) : k0_pay34 v22 w5 (ix2 r l) = ∑ k : Fin 1024, v22 (ix2 r k) * w5 (ix2 k l) := by
  pointwise! [k0_pay34]
theorem ki_apply (l : Fin 64) : k0_pay36 v22 w1 (ix2 r l) = ∑ k : Fin 1024, v22 (ix2 r k) * w1 (ix2 k ⟨l.val, by omega⟩) := by
  pointwise! [k0_pay36, k0_pay35]
theorem wi_apply (l : Fin 8) :
    k0_pay39 (k0_pay37 v22 (iota .tc S128x128 32 [1] iota_S128x128_d1_w32) w1) (Scalar.ofBits .f32 0x3D3504F3#32) (ix2 r l)
      = (∑ k : Fin 1024, v22 (ix2 r k) * w1 (ix2 k ⟨64 + l.val, by omega⟩)) * Ideal.ofBits .f32 0x3D3504F3#32 := by
  pointwise! [k0_pay39, k0_pay38, k0_pay37, k0_pay35]
  have hc : IntOp.cmpi CmpIPredicate.slt (BitVec.ofNat 32 l.val) 8#32 = 1#1 :=
    (by decide : ∀ l : Fin 8, IntOp.cmpi CmpIPredicate.slt (BitVec.ofNat 32 l.val) 8#32 = 1#1) l
  have e : (⟨(l.val + 128 - 64) % 128, by omega⟩ : Fin 128) = ⟨64 + l.val, by omega⟩ := Fin.ext (by show (l.val + 128 - 64) % 128 = 64 + l.val; omega)
  rw [hc, e]; rfl
theorem sga_apply (l : Fin 512) : k0_pay41 v22 w5 (ix2 r l) = silu (∑ k : Fin 1024, v22 (ix2 r k) * w5 (ix2 k l)) := by
  rw [← silu_eq]
  pointwise! [k0_pay41]
theorem u_apply (l : Fin 512) : k0_pay42 v22 w5 (ix2 r l) = ∑ k : Fin 1024, v22 (ix2 r k) * w5 (ix2 k l) := by
  pointwise! [k0_pay42]
theorem gp_apply (l : Fin 512) : k0_pay43 v22 w5 (ix2 r l) = ∑ k : Fin 1024, v22 (ix2 r k) * w5 (ix2 k l) := by
  pointwise! [k0_pay43]
end

theorem row0 (v : Vec Ideal S1x128x512 .f32) (r : Fin 128) (l : Fin 512) : k0_pay44 v (ix3 0 r l) = v (ix3 0 r l) := by
  pointwise! [k0_pay44]
theorem row1 (v : Vec Ideal S1x128x512 .f32) (r : Fin 128) (l : Fin 512) : k0_pay45 v (ix3 0 r l) = v (ix3 0 r l) := by
  pointwise! [k0_pay45]
theorem row2 (v : Vec Ideal S1x128x512 .f32) (r : Fin 128) (l : Fin 512) : k0_pay46 v (ix3 0 r l) = v (ix3 0 r l) := by
  pointwise! [k0_pay46]
theorem row3 (v : Vec Ideal S1x128x512 .f32) (r : Fin 128) (l : Fin 512) : k0_pay47 v (ix3 0 r l) = v (ix3 0 r l) := by
  pointwise! [k0_pay47]
theorem row4 (v : Vec Ideal S1x128x512 .f32) (r : Fin 128) (l : Fin 512) : k0_pay48 v (ix3 0 r l) = v (ix3 0 r l) := by
  pointwise! [k0_pay48]
theorem row5 (v : Vec Ideal S1x128x512 .f32) (r : Fin 128) (l : Fin 512) : k0_pay49 v (ix3 0 r l) = v (ix3 0 r l) := by
  pointwise! [k0_pay49]
theorem row6 (v : Vec Ideal S1x128x512 .f32) (r : Fin 128) (l : Fin 512) : k0_pay50 v (ix3 0 r l) = v (ix3 0 r l) := by
  pointwise! [k0_pay50]
theorem row7 (v : Vec Ideal S1x128x512 .f32) (r : Fin 128) (l : Fin 512) : k0_pay51 v (ix3 0 r l) = v (ix3 0 r l) := by
  pointwise! [k0_pay51]
theorem row8 (v : Vec Ideal S1x128x512 .f32) (r : Fin 128) (l : Fin 512) : k0_pay52 v (ix3 0 r l) = v (ix3 0 r l) := by
  pointwise! [k0_pay52]
theorem row9 (v : Vec Ideal S1x128x512 .f32) (r : Fin 128) (l : Fin 512) : k0_pay53 v (ix3 0 r l) = v (ix3 0 r l) := by
  pointwise! [k0_pay53]
theorem row10 (v : Vec Ideal S1x128x512 .f32) (r : Fin 128) (l : Fin 512) : k0_pay54 v (ix3 0 r l) = v (ix3 0 r l) := by
  pointwise! [k0_pay54]
theorem row11 (v : Vec Ideal S1x128x512 .f32) (r : Fin 128) (l : Fin 512) : k0_pay55 v (ix3 0 r l) = v (ix3 0 r l) := by
  pointwise! [k0_pay55]
theorem row12 (v : Vec Ideal S1x128x512 .f32) (r : Fin 128) (l : Fin 512) : k0_pay56 v (ix3 0 r l) = v (ix3 0 r l) := by
  pointwise! [k0_pay56]
theorem row13 (v : Vec Ideal S1x128x512 .f32) (r : Fin 128) (l : Fin 512) : k0_pay57 v (ix3 0 r l) = v (ix3 0 r l) := by
  pointwise! [k0_pay57]
theorem row14 (v : FVec Ideal S128x512 .f32) (r : Fin 128) (l : Fin 512) : k0_pay58 v (ix3 0 r l) = v (ix2 r l) := by
  pointwise! [k0_pay58]

/-- The four groups of lanes side by side, each its window's mean less the row. -/
def cat (u : FVec Ideal S128x512 .f32) (d0 d1 d2 s3 : FVec Ideal S128x128 .f32) (h0 : Vec Ideal S1x128x128 .f32) : FVec Ideal S128x512 .bf16 :=
  truncf .bf16 (concatenate S128x512 1 [⟨S128x128, d0⟩, ⟨S128x128, d1⟩, ⟨S128x128, d2⟩,
    ⟨S128x128, subf (divf (addf s3 (shapeCast S128x128 h0 shapeCasts_S1x128x128_S128x128)) (broadcast S128x128 (Scalar.ofBits .f32 0x41800000#32)))
      (extractStridedSlice S128x128 ![0, 384] u slices_S128x512_o0_384_S128x128)⟩] concatenates_S128x128_S128x128_S128x128_S128x128_S128x512_d1)
    bitsLt_bf16_f32

/-- The pooled rows through the two blocks of the weight, scaled and gated. -/
def fin (d : FVec Ideal S128x512 .bf16) (gp : FVec Ideal S128x512 .f32) (ps : Vec Ideal S1x512 .f32) (w0 w1 : Vec Ideal S1x256x256 .bf16) :
    FVec Ideal S128x512 .bf16 :=
  truncf .bf16 (mulf (mulf (concatenate S128x512 1 [
      ⟨S128x256, matmul dot_S128x256_S256x256_S128x256_1_0_0_1_n_n none (extractStridedSlice S128x256 ![0, 0] d slices_S128x512_o0_0_S128x256)
        (shapeCast S256x256 w0 shapeCasts_S1x256x256_S256x256 : FVec Ideal S256x256 .bf16) (constant S128x256 .f32 0x00000000#32)⟩,
      ⟨S128x256, matmul dot_S128x256_S256x256_S128x256_1_0_0_1_n_n none (extractStridedSlice S128x256 ![0, 256] d slices_S128x512_o0_256_S128x256)
        (shapeCast S256x256 w1 shapeCasts_S1x256x256_S256x256 : FVec Ideal S256x256 .bf16) (constant S128x256 .f32 0x00000000#32)⟩]
      concatenates_S128x256_S128x256_S128x512_d1)
    (broadcastTo S128x512 (shapeCast S1x512 ps shapeCasts_S1x512_S1x512 : FVec Ideal S1x512 .f32) broadcasts_S1x512_S128x512))
    (divf gp (addf (broadcast S128x512 (Scalar.ofBits .f32 0x3F800000#32)) (exp (subf (broadcast S128x512 (Scalar.ofBits .f32 0x00000000#32)) gp)))))
    bitsLt_bf16_f32

theorem fin_eq (u gp : FVec Ideal S128x512 .f32) (d0 d1 d2 s3 : FVec Ideal S128x128 .f32) (h0 : Vec Ideal S1x128x128 .f32)
    (ps : Vec Ideal S1x512 .f32) (w0 w1 : Vec Ideal S1x256x256 .bf16) :
    k0_pay65 u gp d0 d1 d2 s3 h0 ps w0 w1 = fin (cat u d0 d1 d2 s3 h0) gp ps w0 w1 := rfl

section
variable (u : FVec Ideal S128x512 .f32) (U : Fin 512 → Nat → EReal) (r : Fin 128)

/-- A slice of 128 lanes of one row of the history. -/
def Lanes (n o : Nat) (ho : o + 128 ≤ 512) (v : Vec Ideal S1x128x128 .f32) : Prop :=
  ∀ l : Fin 128, v (ix3 0 r l) = U ⟨o + l.val, by omega⟩ n

variable (hu : ∀ l : Fin 512, u (ix2 r l) = U l 15)
include hu

theorem g0 (v14 : Vec Ideal S1x128x128 .f32) (h14 : Lanes U r 14 0 (by decide) v14) (l : Fin 128) :
    k0_pay59 u v14 (ix2 r l) = mean (U ⟨0 + l.val, by omega⟩) 2 (Ideal.ofBits .f32 0x40000000#32) := by
  unfold mean
  unfold Lanes at h14
  simp only [Finset.sum_range_succ, Finset.sum_range_zero, zero_add, Nat.sub_zero, Nat.reduceSub]
  pointwise! [k0_pay59, hu, h14]

theorem g1 (v14 v13 v12 : Vec Ideal S1x128x128 .f32) (h14 : Lanes U r 14 128 (by decide) v14) (h13 : Lanes U r 13 128 (by decide) v13) (h12 : Lanes U r 12 128 (by decide) v12) (l : Fin 128) :
    k0_pay60 u v14 v13 v12 (ix2 r l) = mean (U ⟨128 + l.val, by omega⟩) 4 (Ideal.ofBits .f32 0x40800000#32) := by
  unfold mean
  unfold Lanes at h14 h13 h12
  simp only [Finset.sum_range_succ, Finset.sum_range_zero, zero_add, Nat.sub_zero, Nat.reduceSub]
  pointwise! [k0_pay60, hu, h14, h13, h12]

theorem g2 (v14 v13 v12 v11 v10 v9 v8 : Vec Ideal S1x128x128 .f32) (h14 : Lanes U r 14 256 (by decide) v14) (h13 : Lanes U r 13 256 (by decide) v13) (h12 : Lanes U r 12 256 (by decide) v12) (h11 : Lanes U r 11 256 (by decide) v11) (h10 : Lanes U r 10 256 (by decide) v10) (h9 : Lanes U r 9 256 (by decide) v9) (h8 : Lanes U r 8 256 (by decide) v8) (l : Fin 128) :
    k0_pay62 u (k0_pay61 u v14 v13) v12 v11 v10 v9 v8 (ix2 r l) = mean (U ⟨256 + l.val, by omega⟩) 8 (Ideal.ofBits .f32 0x41000000#32) := by
  unfold mean
  unfold Lanes at h14 h13 h12 h11 h10 h9 h8
  simp only [Finset.sum_range_succ, Finset.sum_range_zero, zero_add, Nat.sub_zero, Nat.reduceSub]
  pointwise! [k0_pay62, k0_pay61, hu, h14, h13, h12, h11, h10, h9, h8]

theorem s3 (v14 v13 v12 v11 v10 v9 v8 v7 v6 v5 v4 v3 v2 v1 : Vec Ideal S1x128x128 .f32) (h14 : Lanes U r 14 384 (by decide) v14) (h13 : Lanes U r 13 384 (by decide) v13) (h12 : Lanes U r 12 384 (by decide) v12) (h11 : Lanes U r 11 384 (by decide) v11) (h10 : Lanes U r 10 384 (by decide) v10) (h9 : Lanes U r 9 384 (by decide) v9) (h8 : Lanes U r 8 384 (by decide) v8) (h7 : Lanes U r 7 384 (by decide) v7) (h6 : Lanes U r 6 384 (by decide) v6) (h5 : Lanes U r 5 384 (by decide) v5) (h4 : Lanes U r 4 384 (by decide) v4) (h3 : Lanes U r 3 384 (by decide) v3) (h2 : Lanes U r 2 384 (by decide) v2) (h1 : Lanes U r 1 384 (by decide) v1) (l : Fin 128) :
    k0_pay64 (k0_pay63 u v14 v13 v12 v11) v10 v9 v8 v7 v6 v5 v4 v3 v2 v1 (ix2 r l) = ∑ j ∈ Finset.range 15, U ⟨384 + l.val, by omega⟩ (15 - j) := by
  unfold Lanes at h14 h13 h12 h11 h10 h9 h8 h7 h6 h5 h4 h3 h2 h1
  simp only [Finset.sum_range_succ, Finset.sum_range_zero, zero_add, Nat.sub_zero, Nat.reduceSub]
  pointwise! [k0_pay64, k0_pay63, hu, h14, h13, h12, h11, h10, h9, h8, h7, h6, h5, h4, h3, h2, h1]

theorem cat_apply (d0 d1 d2 s3 : FVec Ideal S128x128 .f32) (v0 : Vec Ideal S1x128x128 .f32)
    (h0 : ∀ l : Fin 128, d0 (ix2 r l) = mean (U ⟨0 + l.val, by omega⟩) 2 (Ideal.ofBits .f32 0x40000000#32))
    (h1 : ∀ l : Fin 128, d1 (ix2 r l) = mean (U ⟨128 + l.val, by omega⟩) 4 (Ideal.ofBits .f32 0x40800000#32))
    (h2 : ∀ l : Fin 128, d2 (ix2 r l) = mean (U ⟨256 + l.val, by omega⟩) 8 (Ideal.ofBits .f32 0x41000000#32))
    (h3 : ∀ l : Fin 128, s3 (ix2 r l) = ∑ j ∈ Finset.range 15, U ⟨384 + l.val, by omega⟩ (15 - j))
    (hv : Lanes U r 0 384 (by decide) v0) (l : Fin 512) :
    cat u d0 d1 d2 s3 v0 (ix2 r l) = dif U l := by
  unfold Lanes at hv
  have h4 : ∀ l : Fin 128, Ideal.div (s3 (ix2 r l) + v0 (ix3 0 r l)) (Ideal.ofBits .f32 0x41800000#32) - u (ix2 r ⟨384 + l.val, by omega⟩)
      = mean (U ⟨384 + l.val, by omega⟩) 16 (Ideal.ofBits .f32 0x41800000#32) := fun l => by
    rw [h3, hv, hu]
    unfold mean
    rw [Finset.sum_range_succ _ 15]
  unfold dif cat
  pointwise!
  by_cases a : l.val < 128
  · simp only [a, h0, Nat.zero_add, dif_pos, if_true]
  by_cases b : l.val < 256
  · have e : 128 + (l.val - 128) = l.val := by omega
    simp only [a, b, e, h1, show l.val - 128 < 128 by omega, dif_pos, if_true, if_false, dite_false]
  by_cases d : l.val < 384
  · have e : 256 + (l.val - 128 - 128) = l.val := by omega
    simp only [a, b, d, e, h2, show ¬ l.val - 128 < 128 by omega, show l.val - 128 - 128 < 128 by omega, dif_pos, if_true, if_false, dite_false]
  · have e : 384 + (l.val - 128 - 128 - 128) = l.val := by omega
    have h5 := h4 ⟨l.val - 128 - 128 - 128, by omega⟩
    simp only [e] at h5
    simp only [a, b, d, e, show ¬ l.val - 128 < 128 by omega, show ¬ l.val - 128 - 128 < 128 by omega, if_false, dite_false]
    exact h5
end

theorem fin_apply (d : FVec Ideal S128x512 .bf16) (gp : FVec Ideal S128x512 .f32) (ps : Vec Ideal S1x512 .f32) (w0 w1 : Vec Ideal S1x256x256 .bf16)
    (wp : Fin 4 → Fin 128 → Fin 128 → EReal)
    (h0 : ∀ x l : Fin 256, w0 (ix3 0 x l) = if x.val / 128 = l.val / 128 then wp ⟨l.val / 128, by omega⟩ ⟨x.val % 128, by omega⟩ ⟨l.val % 128, by omega⟩ else 0)
    (h1 : ∀ x l : Fin 256, w1 (ix3 0 x l) = if x.val / 128 = l.val / 128 then wp ⟨2 + l.val / 128, by omega⟩ ⟨x.val % 128, by omega⟩ ⟨l.val % 128, by omega⟩ else 0)
    (r : Fin 128) (l : Fin 512) :
    fin d gp ps w0 w1 (ix2 r l) = (∑ j : Fin 128, wp ⟨l.val / 128, by omega⟩ j ⟨l.val % 128, by omega⟩ * d (ix2 r ⟨l.val / 128 * 128 + j.val, by omega⟩))
      * ps (ix2 0 l) * silu (gp (ix2 r l)) := by
  rw [← silu_eq]
  unfold fin
  pointwise! [h0, h1]
  refine congrArg (fun z => z * ps (ix2 0 l) * _) ?_
  split
  · next h =>
    refine (block_sum (m := 2) (b := 128) (by decide) (fun x => d (ix2 r ⟨x.val, by omega⟩))
      (fun x => wp ⟨l.val / 128, by omega⟩ ⟨x.val % 128, by omega⟩ ⟨l.val % 128, by omega⟩) ⟨l.val / 128, by omega⟩).trans ?_
    refine Finset.sum_congr rfl fun j _ => ?_
    rw [mul_comm]
    simp only [show (l.val / 128 * 128 + j.val) % 128 = j.val by omega]
  · next h =>
    refine (block_sum (m := 2) (b := 128) (by decide) (fun x => d (ix2 r ⟨256 + x.val, by omega⟩))
      (fun x => wp ⟨2 + (l.val - 256) / 128, by omega⟩ ⟨x.val % 128, by omega⟩ ⟨(l.val - 256) % 128, by omega⟩) ⟨(l.val - 256) / 128, by omega⟩).trans ?_
    refine Finset.sum_congr rfl fun j _ => ?_
    rw [mul_comm]
    simp only [show ((l.val - 256) / 128 * 128 + j.val) % 128 = j.val by omega, show (l.val - 256) % 128 = l.val % 128 by omega,
      show 2 + (l.val - 256) / 128 = l.val / 128 by omega, show 256 + ((l.val - 256) / 128 * 128 + j.val) = l.val / 128 * 128 + j.val by omega]

theorem mix_apply (u gp : FVec Ideal S128x512 .f32) (U : Fin 512 → Nat → EReal) (r : Fin 128) (hu : ∀ l : Fin 512, u (ix2 r l) = U l 15)
    (a14 b14 b13 b12 c14 c13 c12 c11 c10 c9 c8 e14 e13 e12 e11 e10 e9 e8 e7 e6 e5 e4 e3 e2 e1 e0 : Vec Ideal S1x128x128 .f32)
    (ha14 : Lanes U r 14 0 (by decide) a14) (hb14 : Lanes U r 14 128 (by decide) b14) (hb13 : Lanes U r 13 128 (by decide) b13) (hb12 : Lanes U r 12 128 (by decide) b12) (hc14 : Lanes U r 14 256 (by decide) c14) (hc13 : Lanes U r 13 256 (by decide) c13) (hc12 : Lanes U r 12 256 (by decide) c12) (hc11 : Lanes U r 11 256 (by decide) c11) (hc10 : Lanes U r 10 256 (by decide) c10) (hc9 : Lanes U r 9 256 (by decide) c9) (hc8 : Lanes U r 8 256 (by decide) c8) (he14 : Lanes U r 14 384 (by decide) e14) (he13 : Lanes U r 13 384 (by decide) e13) (he12 : Lanes U r 12 384 (by decide) e12) (he11 : Lanes U r 11 384 (by decide) e11) (he10 : Lanes U r 10 384 (by decide) e10) (he9 : Lanes U r 9 384 (by decide) e9) (he8 : Lanes U r 8 384 (by decide) e8) (he7 : Lanes U r 7 384 (by decide) e7) (he6 : Lanes U r 6 384 (by decide) e6) (he5 : Lanes U r 5 384 (by decide) e5) (he4 : Lanes U r 4 384 (by decide) e4) (he3 : Lanes U r 3 384 (by decide) e3) (he2 : Lanes U r 2 384 (by decide) e2) (he1 : Lanes U r 1 384 (by decide) e1) (he0 : Lanes U r 0 384 (by decide) e0)
    (ps : Vec Ideal S1x512 .f32) (w0 w1 : Vec Ideal S1x256x256 .bf16)
    (wp : Fin 4 → Fin 128 → Fin 128 → EReal)
    (h0 : ∀ x l : Fin 256, w0 (ix3 0 x l) = if x.val / 128 = l.val / 128 then wp ⟨l.val / 128, by omega⟩ ⟨x.val % 128, by omega⟩ ⟨l.val % 128, by omega⟩ else 0)
    (h1 : ∀ x l : Fin 256, w1 (ix3 0 x l) = if x.val / 128 = l.val / 128 then wp ⟨2 + l.val / 128, by omega⟩ ⟨x.val % 128, by omega⟩ ⟨l.val % 128, by omega⟩ else 0)
    (l : Fin 512) :
    k0_pay65 u gp (k0_pay59 u a14) (k0_pay60 u b14 b13 b12) (k0_pay62 u (k0_pay61 u c14 c13) c12 c11 c10 c9 c8)
        (k0_pay64 (k0_pay63 u e14 e13 e12 e11) e10 e9 e8 e7 e6 e5 e4 e3 e2 e1) e0 ps w0 w1 (ix2 r l)
      = (∑ j : Fin 128, wp ⟨l.val / 128, by omega⟩ j ⟨l.val % 128, by omega⟩ * dif U ⟨l.val / 128 * 128 + j.val, by omega⟩)
        * ps (ix2 0 l) * silu (gp (ix2 r l)) := by
  rw [fin_eq, fin_apply _ _ _ _ _ wp h0 h1]
  have hc := cat_apply u U r hu (k0_pay59 u a14) (k0_pay60 u b14 b13 b12) (k0_pay62 u (k0_pay61 u c14 c13) c12 c11 c10 c9 c8)
        (k0_pay64 (k0_pay63 u e14 e13 e12 e11) e10 e9 e8 e7 e6 e5 e4 e3 e2 e1) e0
        (fun l => g0 u U r hu _ ha14 l) (fun l => g1 u U r hu _ _ _ hb14 hb13 hb12 l)
        (fun l => g2 u U r hu _ _ _ _ _ _ _ hc14 hc13 hc12 hc11 hc10 hc9 hc8 l)
        (fun l => s3 u U r hu _ _ _ _ _ _ _ _ _ _ _ _ _ _ he14 he13 he12 he11 he10 he9 he8 he7 he6 he5 he4 he3 he2 he1 l) he0
  simp only [hc]

end Cert.ProjSPay

end
-- ==== Proof.ProjSRef.lean ====
/- The reference of the samples' input projection, each result read at an index. -/
module

public import proofs.«01_k».proof.Proof.Gen.ProjSRefIdeal.Read
public import proofs.«01_k».proof.Proof.ProjSpec
public import proofs.«01_k».proof.Proof.ProjSSpec

@[expose] public section

set_option maxRecDepth 16384

noncomputable section

open Idealize.ShloMosaic Idealize.ShloMosaic.TcCoe Idealize.SL.Sem

namespace Cert.ProjSRef

open Cert.ProjSRefIdeal Cert.ProjSRefIdeal.Gen Cert.ProjSRefIdeal.Read Cert.ProjSpec Cert.ProjSSpec

variable (x : FVec Ideal S128x1x1024 .f32) (ada : FVec Ideal S128x3072 .f32) (nw : FVec Ideal S1x1024 .f32)
  (w : FVec Ideal S1024x2944 .bf16) (kn : FVec Ideal S1x64 .f32) (wp : FVec Ideal S1x4x128x128 .f32)
  (ps : FVec Ideal S1x512 .f32) (hist : FVec Ideal S1x128x15x512 .f32)

/-- The projection of a sample's row. -/
def prj (b : Fin 128) (k : Fin 2944) : EReal :=
  ∑ j : Fin 1024, hid (fun i => x (ix3 b 0 i)) (nw (ix2 0 j)) (ada (ix2 b ⟨1024 + j.val, by omega⟩)) (ada (ix2 b ⟨j.val, by omega⟩)) j
    * w (ix2 j k)

theorem hid_apply (b : Fin 128) (k : Fin 1024) :
    val_main_v21 (F := Ideal) x ada nw (ix2 b k)
      = hid (fun i => x (ix3 b 0 i)) (nw (ix2 0 k)) (ada (ix2 b ⟨1024 + k.val, by omega⟩)) (ada (ix2 b ⟨k.val, by omega⟩)) k := by
  unfold hid
  pointwise! [val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v1, val_main_v0, val_main_cst, val_main_cst_0, val_main_cst_1, val_main_cst_2]

theorem prj_apply (b : Fin 128) (k : Fin 2944) :
    val_main_v23 (F := Ideal) x ada nw w (ix2 b k) = prj x ada nw w b k := by
  unfold prj
  simp only [← hid_apply x ada nw b]
  pointwise [val_main_v23, val_main_v22]

theorem k_apply (b : Fin 128) (l : Fin 128) :
    val_main_v49 (F := Ideal) x ada nw w kn (ix2 b l)
      = nrm (fun i : Fin 128 => prj x ada nw w b ⟨512 + i.val, by omega⟩) (by decide) l * kn (ix2 0 ⟨l.val % 64, by omega⟩) := by
  unfold nrm
  simp only [← prj_apply]
  pointwise! [val_main_v49, val_main_v48, val_main_v47, val_main_v46, val_main_v45, val_main_v44, val_main_v43, val_main_v42, val_main_v41, val_main_v40, val_main_v39, val_main_v38, val_main_v37, val_main_v36, val_main_v35, val_main_v34, val_main_v25, val_main_cst_3, val_main_cst_4, val_main_cst_5]

theorem v_apply (b : Fin 128) (l : Fin 128) :
    val_main_v26 (F := Ideal) x ada nw w (ix2 b l) = prj x ada nw w b ⟨640 + l.val, by omega⟩ := by
  simp only [← prj_apply]
  pointwise! [val_main_v26]

theorem qi_apply (b : Fin 128) (l : Fin 512) :
    val_main_v99 (F := Ideal) x ada nw w (ix2 b l) = prj x ada nw w b ⟨768 + l.val, by omega⟩ := by
  simp only [← prj_apply]
  pointwise! [val_main_v99, val_main_v27]

theorem ki_apply (b : Fin 128) (l : Fin 64) :
    val_main_v28 (F := Ideal) x ada nw w (ix2 b l) = prj x ada nw w b ⟨1280 + l.val, by omega⟩ := by
  simp only [← prj_apply]
  pointwise! [val_main_v28]

theorem wi_apply (b : Fin 128) (l : Fin 8) :
    val_main_v51 (F := Ideal) x ada nw w (ix2 b l) = prj x ada nw w b ⟨1344 + l.val, by omega⟩ * Ideal.ofBits .f32 0x3D3504F3#32 := by
  simp only [← prj_apply]
  pointwise! [val_main_v51, val_main_v50, val_main_v29, val_main_cst_6]

theorem sga_apply (b : Fin 128) (l : Fin 512) :
    val_main_v101 (F := Ideal) x ada nw w (ix2 b l) = silu (prj x ada nw w b ⟨1408 + l.val, by omega⟩) := by
  unfold silu
  simp only [← prj_apply]
  pointwise! [val_main_v101, val_main_v100, val_main_call0_v5, val_main_call0_v4, val_main_call0_cst_0, val_main_call0_v3, val_main_call0_v2, val_main_call0_cst, val_main_call0_v1, val_main_call0_v0, val_main_v31]

/-- A sample's sixteen rows: its history's fifteen, then its own. -/
def ext (b : Fin 128) (l : Fin 512) (n : Nat) : EReal :=
  if h : n < 15 then hist (ix4 0 b ⟨n, h⟩ l) else prj x ada nw w b ⟨1920 + l.val, by omega⟩

theorem ext_apply (b : Fin 128) (n : Fin 16) (l : Fin 512) :
    val_main_v54 (F := Ideal) x ada nw w hist (ix3 b n l) = ext x ada nw w hist b l n.val := by
  unfold ext
  simp only [← prj_apply]
  pointwise! [val_main_v54, val_main_v53, val_main_v52, val_main_v32]

theorem state_apply (j : Fin 15) (b : Fin 128) (l : Fin 512) :
    val_main_v106 (F := Ideal) x ada nw w hist (ix3 j b l) = ext x ada nw w hist b l (1 + j.val) := by
  refine Eq.trans ?_ (ext_apply x ada nw w hist b ⟨1 + j.val, by omega⟩ l)
  pointwise! [val_main_v106, val_main_v105]

theorem pool0_apply (b : Fin 128) (l : Fin 128) :
    val_main_v62 (F := Ideal) x ada nw w hist (ix2 b l)
      = mean (ext x ada nw w hist b ⟨l.val, by omega⟩) 2 (Ideal.ofBits .f32 0x40000000#32) := by
  have h : val_main_v62 (F := Ideal) x ada nw w hist (ix2 b l)
      = Ideal.div (∑ k : Fin 2, ext x ada nw w hist b ⟨l.val, by omega⟩ (16 - 2 + k.val)) (Ideal.ofBits .f32 0x40000000#32)
        - ext x ada nw w hist b ⟨l.val, by omega⟩ 15 := by
    pointwise [val_main_v62, val_main_v61, val_main_v60, val_main_v59, val_main_v58, val_main_v57, val_main_v56, val_main_v55, val_main_cst_7, val_main_cst_8]
    simp only [ext_apply, zero_add, Nat.reduceSub]
    rfl
  rw [h, up_eq _ 2 (by decide)]; rfl

theorem pool1_apply (b : Fin 128) (l : Fin 128) :
    val_main_v70 (F := Ideal) x ada nw w hist (ix2 b l)
      = mean (ext x ada nw w hist b ⟨128 + l.val, by omega⟩) 4 (Ideal.ofBits .f32 0x40800000#32) := by
  have h : val_main_v70 (F := Ideal) x ada nw w hist (ix2 b l)
      = Ideal.div (∑ k : Fin 4, ext x ada nw w hist b ⟨128 + l.val, by omega⟩ (16 - 4 + k.val)) (Ideal.ofBits .f32 0x40800000#32)
        - ext x ada nw w hist b ⟨128 + l.val, by omega⟩ 15 := by
    pointwise [val_main_v70, val_main_v69, val_main_v68, val_main_v67, val_main_v66, val_main_v65, val_main_v64, val_main_v63, val_main_cst_9, val_main_cst_10]
    simp only [ext_apply, zero_add, Nat.reduceSub]
    rfl
  rw [h, up_eq _ 4 (by decide)]; rfl

theorem pool2_apply (b : Fin 128) (l : Fin 128) :
    val_main_v78 (F := Ideal) x ada nw w hist (ix2 b l)
      = mean (ext x ada nw w hist b ⟨256 + l.val, by omega⟩) 8 (Ideal.ofBits .f32 0x41000000#32) := by
  have h : val_main_v78 (F := Ideal) x ada nw w hist (ix2 b l)
      = Ideal.div (∑ k : Fin 8, ext x ada nw w hist b ⟨256 + l.val, by omega⟩ (16 - 8 + k.val)) (Ideal.ofBits .f32 0x41000000#32)
        - ext x ada nw w hist b ⟨256 + l.val, by omega⟩ 15 := by
    pointwise [val_main_v78, val_main_v77, val_main_v76, val_main_v75, val_main_v74, val_main_v73, val_main_v72, val_main_v71, val_main_cst_11, val_main_cst_12]
    simp only [ext_apply, zero_add, Nat.reduceSub]
    rfl
  rw [h, up_eq _ 8 (by decide)]; rfl

theorem pool3_apply (b : Fin 128) (l : Fin 128) :
    val_main_v85 (F := Ideal) x ada nw w hist (ix2 b l)
      = mean (ext x ada nw w hist b ⟨384 + l.val, by omega⟩) 16 (Ideal.ofBits .f32 0x41800000#32) := by
  have h : val_main_v85 (F := Ideal) x ada nw w hist (ix2 b l)
      = Ideal.div (∑ k : Fin 16, ext x ada nw w hist b ⟨384 + l.val, by omega⟩ (16 - 16 + k.val)) (Ideal.ofBits .f32 0x41800000#32)
        - ext x ada nw w hist b ⟨384 + l.val, by omega⟩ 15 := by
    pointwise [val_main_v85, val_main_v84, val_main_v83, val_main_v82, val_main_v81, val_main_v80, val_main_v79, val_main_cst_13, val_main_cst_14]
    simp only [ext_apply, zero_add, Nat.reduceSub]
    rfl
  rw [h, up_eq _ 16 (by decide)]; rfl

theorem mix_apply (b : Fin 128) (l : Fin 512) :
    val_main_v104 (F := Ideal) x ada nw w wp ps hist (ix2 b l)
      = (∑ j : Fin 128, wp (ix4 0 ⟨l.val / 128, by omega⟩ j ⟨l.val % 128, by omega⟩)
          * dif (ext x ada nw w hist b) ⟨l.val / 128 * 128 + j.val, by omega⟩)
        * ps (ix2 0 l) * silu (prj x ada nw w b ⟨2432 + l.val, by omega⟩) := by
  unfold silu dif
  simp only [← prj_apply]
  pointwise [val_main_v104, val_main_v103, val_main_v102, val_main_call1_v5, val_main_call1_v4, val_main_call1_cst_0, val_main_call1_v3, val_main_call1_v2, val_main_call1_cst, val_main_call1_v1, val_main_call1_v0, val_main_v98, val_main_v97, val_main_v96, val_main_v95, val_main_v94, val_main_v93, val_main_v92, val_main_v91, val_main_v90, val_main_v89, val_main_v88, val_main_v87, val_main_v86, val_main_v33]
  simp only [pool0_apply, pool1_apply, pool2_apply, pool3_apply]
  refine congrArg (fun z => z * ps (ix2 0 l) * _) (Finset.sum_congr rfl fun j _ => congrArg (wp _ * ·) ?_)
  by_cases a : l.val / 128 < 1
  · have e : l.val / 128 * 128 + j.val = j.val := by omega
    simp only [a, e, show j.val < 128 from j.isLt, dif_pos, if_true]
  by_cases c : l.val / 128 - 1 < 1
  · have e : l.val / 128 * 128 + j.val = 128 + j.val := by omega
    simp only [a, c, e, show ¬ 128 + j.val < 128 by omega, show 128 + j.val < 256 by omega, dif_pos, if_true, if_false, dite_false]
  by_cases d : l.val / 128 - 1 - 1 < 1
  · have e : l.val / 128 * 128 + j.val = 256 + j.val := by omega
    simp only [a, c, d, e, show ¬ 256 + j.val < 128 by omega, show ¬ 256 + j.val < 256 by omega, show 256 + j.val < 384 by omega, dif_pos, if_true, if_false, dite_false]
  · have e : l.val / 128 * 128 + j.val = 384 + j.val := by omega
    simp only [a, c, d, e, show ¬ 384 + j.val < 128 by omega, show ¬ 384 + j.val < 256 by omega, show ¬ 384 + j.val < 384 by omega, if_false, dite_false]

end Cert.ProjSRef

end
-- ==== Proof.ProjSFeed.lean ====
/- What the samples' input projection is handed: the blocks, and the values the body computes first. -/
module

public import proofs.«01_k».proof.Proof.Gen.ProjSIdeal.Value
public import proofs.«01_k».proof.Proof.ProjSPay
public import proofs.«01_k».proof.Proof.ProjSRef
public import Idealize.ShloMosaic.Lib.Pipeline.Value
public import Idealize.ShloMosaic.Lib.Pipeline.ValueKit
public import Idealize.ShloMosaic.Lib.Pointwise
public import Idealize.ShloMosaic.Lib.StableHlo.ReadAt
public import Idealize.ShloMosaic.Lib.Quiescent
public import Idealize.ShloMosaic.Lib.Writes

@[expose] public section

set_option maxRecDepth 16384

noncomputable section

open Idealize.ShloMosaic Idealize.ShloMosaic.TcCoe Idealize.SL.Sem
open Idealize.ShloMosaic.Pipeline (Dat)

namespace Cert.ProjSFeed

open Cert.ProjSIdeal Cert.ProjSIdeal.Gen Cert.ProjSpec Cert.ProjSSpec Cert.ProjSRef

variable (m : (ℓ : Loc nD τ sig) → Buf (Elt Ideal) ℓ) (ρ : Dev nD → PrngReg)

/-! The arguments. -/
abbrev aX (c : Dev nD) : FVec Ideal S128x1x1024 .f32 := m ((c : Thread nD τ).loc main_arg0)
abbrev aAda (c : Dev nD) : FVec Ideal S128x3072 .f32 := m ((c : Thread nD τ).loc main_arg1)
abbrev aNw (c : Dev nD) : FVec Ideal S1x1024 .f32 := m ((c : Thread nD τ).loc main_arg2)
abbrev aW (c : Dev nD) : FVec Ideal S1024x2944 .bf16 := m ((c : Thread nD τ).loc main_arg3)
abbrev aQn (c : Dev nD) : FVec Ideal S1x64 .f32 := m ((c : Thread nD τ).loc main_arg4)
abbrev aKn (c : Dev nD) : FVec Ideal S1x64 .f32 := m ((c : Thread nD τ).loc main_arg5)
abbrev aWp (c : Dev nD) : FVec Ideal S1x4x128x128 .f32 := m ((c : Thread nD τ).loc main_arg6)
abbrev aPs (c : Dev nD) : FVec Ideal S1x512 .f32 := m ((c : Thread nD τ).loc main_arg7)
abbrev aHist (c : Dev nD) : FVec Ideal S1x128x15x512 .f32 := m ((c : Thread nD τ).loc main_arg8)

/-! The prepared buffers, read at an index. -/

theorem x_apply (c : Dev nD) (b : Fin 128) (k : Fin 1024) : V m c main_v33 (ix2 b k) = aX m c (ix3 b 0 k) := by
  unfold V
  after_reads_at
theorem norm_apply (c : Dev nD) (k : Fin 1024) : V m c main_v28 (ix2 0 k) = aNw m c (ix2 0 k) := by
  unfold V
  after_reads_at
theorem kn_apply (c : Dev nD) (l : Fin 128) : V m c main_v26 (ix2 0 l) = aKn m c (ix2 0 ⟨l.val % 64, by omega⟩) := by
  unfold V
  after_reads_at
theorem scale_apply (c : Dev nD) (l : Fin 512) : V m c main_v30 (ix2 0 l) = aPs m c (ix2 0 l) := by
  unfold V
  after_reads_at
theorem hist_apply (c : Dev nD) (j : Fin 15) (b : Fin 128) (l : Fin 512) : V m c main_v32 (ix3 j b l) = aHist m c (ix4 0 b j l) := by
  unfold V
  after_reads_at

theorem pick (w : FVec Ideal S1x4x128x128 .f32) {p p' : Fin 4} {a a' b b' : Fin 128} (hp : p.val = p'.val) (ha : a.val = a'.val)
    (hb : b.val = b'.val) : w (ix4 0 p a b) = w (ix4 0 p' a' b') := by
  rw [Fin.ext hp, Fin.ext ha, Fin.ext hb]

theorem pool_apply0 (c : Dev nD) (x l : Fin 256) : V m c main_v14 (ix3 0 x l)
    = if x.val / 128 = l.val / 128 then aWp m c (ix4 0 ⟨l.val / 128, by omega⟩ ⟨x.val % 128, by omega⟩ ⟨l.val % 128, by omega⟩) else 0 := by
  unfold V
  after_reads_at
  after_reads_at
  after_reads_at
  after_reads_at
  by_cases hx : x.val < 128 <;> by_cases hl : l.val < 128
  · have hq : x.val / 128 = l.val / 128 := by omega
    rw [dif_pos hx, dif_pos hl]
    refine Eq.trans ?_ (if_pos hq).symm
    exact pick (aWp m c) (show (0 : Nat) = l.val / 128 by omega) (show x.val = x.val % 128 by omega) (show l.val = l.val % 128 by omega)
  · have hq : x.val / 128 ≠ l.val / 128 := by omega
    rw [dif_pos hx, dif_neg hl]
    exact (if_neg hq).symm
  · have hq : x.val / 128 ≠ l.val / 128 := by omega
    rw [dif_neg hx, dif_pos hl]
    exact (if_neg hq).symm
  · have hq : x.val / 128 = l.val / 128 := by omega
    rw [dif_neg hx, dif_neg hl]
    refine Eq.trans ?_ (if_pos hq).symm
    exact pick (aWp m c) (show (1 : Nat) = l.val / 128 by omega) (show x.val - 128 = x.val % 128 by omega) (show l.val - 128 = l.val % 128 by omega)

theorem pool_apply1 (c : Dev nD) (x l : Fin 256) : V m c main_v14 (ix3 1 x l)
    = if x.val / 128 = l.val / 128 then aWp m c (ix4 0 ⟨2 + l.val / 128, by omega⟩ ⟨x.val % 128, by omega⟩ ⟨l.val % 128, by omega⟩) else 0 := by
  unfold V
  after_reads_at
  after_reads_at
  after_reads_at
  after_reads_at
  by_cases hx : x.val < 128 <;> by_cases hl : l.val < 128
  · have hq : x.val / 128 = l.val / 128 := by omega
    rw [dif_pos hx, dif_pos hl]
    refine Eq.trans ?_ (if_pos hq).symm
    exact pick (aWp m c) (show (2 : Nat) = 2 + l.val / 128 by omega) (show x.val = x.val % 128 by omega) (show l.val = l.val % 128 by omega)
  · have hq : x.val / 128 ≠ l.val / 128 := by omega
    rw [dif_pos hx, dif_neg hl]
    exact (if_neg hq).symm
  · have hq : x.val / 128 ≠ l.val / 128 := by omega
    rw [dif_neg hx, dif_pos hl]
    exact (if_neg hq).symm
  · have hq : x.val / 128 = l.val / 128 := by omega
    rw [dif_neg hx, dif_neg hl]
    refine Eq.trans ?_ (if_pos hq).symm
    exact pick (aWp m c) (show (3 : Nat) = 2 + l.val / 128 by omega) (show x.val - 128 = x.val % 128 by omega) (show l.val - 128 = l.val % 128 by omega)

/-! Every window is on its whole array. -/

theorem idx0 : ∀ t : Fin cfg0.N, win0_0.index t = ![0, 0] :=
  (by decide +kernel : ∀ t : Fin grid0.N, win0_0.index t = ![0, 0])
theorem idx1 : ∀ t : Fin cfg0.N, win0_1.index t = ![0, 0] :=
  (by decide +kernel : ∀ t : Fin grid0.N, win0_1.index t = ![0, 0])
theorem idx2 : ∀ t : Fin cfg0.N, win0_2.index t = ![0, 0] :=
  (by decide +kernel : ∀ t : Fin grid0.N, win0_2.index t = ![0, 0])
theorem idx3 : ∀ t : Fin cfg0.N, win0_3.index t = ![0, 0] :=
  (by decide +kernel : ∀ t : Fin grid0.N, win0_3.index t = ![0, 0])
theorem idx5 : ∀ t : Fin cfg0.N, win0_5.index t = ![0, 0] :=
  (by decide +kernel : ∀ t : Fin grid0.N, win0_5.index t = ![0, 0])
theorem idx6 : ∀ t : Fin cfg0.N, win0_6.index t = ![0, 0, 0] :=
  (by decide +kernel : ∀ t : Fin grid0.N, win0_6.index t = ![0, 0, 0])
theorem idx7 : ∀ t : Fin cfg0.N, win0_7.index t = ![0, 0] :=
  (by decide +kernel : ∀ t : Fin grid0.N, win0_7.index t = ![0, 0])
theorem idx8 : ∀ t : Fin cfg0.N, win0_8.index t = ![0, 0, 0] :=
  (by decide +kernel : ∀ t : Fin grid0.N, win0_8.index t = ![0, 0, 0])
theorem idx10 : ∀ t : Fin cfg0.N, win0_10.index t = ![0, 0] :=
  (by decide +kernel : ∀ t : Fin grid0.N, win0_10.index t = ![0, 0])
theorem idx11 : ∀ t : Fin cfg0.N, win0_11.index t = ![0, 0] :=
  (by decide +kernel : ∀ t : Fin grid0.N, win0_11.index t = ![0, 0])
theorem idx12 : ∀ t : Fin cfg0.N, win0_12.index t = ![0, 0] :=
  (by decide +kernel : ∀ t : Fin grid0.N, win0_12.index t = ![0, 0])
theorem idx13 : ∀ t : Fin cfg0.N, win0_13.index t = ![0, 0] :=
  (by decide +kernel : ∀ t : Fin grid0.N, win0_13.index t = ![0, 0])
theorem idx14 : ∀ t : Fin cfg0.N, win0_14.index t = ![0, 0] :=
  (by decide +kernel : ∀ t : Fin grid0.N, win0_14.index t = ![0, 0])
theorem idx17 : ∀ t : Fin cfg0.N, win0_17.index t = ![0, 0] :=
  (by decide +kernel : ∀ t : Fin grid0.N, win0_17.index t = ![0, 0])
theorem idx18 : ∀ t : Fin cfg0.N, win0_18.index t = ![0, 0] :=
  (by decide +kernel : ∀ t : Fin grid0.N, win0_18.index t = ![0, 0])
theorem idx19 : ∀ t : Fin cfg0.N, win0_19.index t = ![0, 0, 0] :=
  (by decide +kernel : ∀ t : Fin grid0.N, win0_19.index t = ![0, 0, 0])

/-! The blocks. -/

theorem blk0 (c : Dev nD) (t : Fin cfg0.N) (b : Fin 128) (k : Fin 1024) : iblk m c 0 t (ix2 b k) = aX m c (ix3 b 0 k) := by
  rw [← x_apply m c]
  blk_ext [iblk, idx0]
theorem blk1 (c : Dev nD) (t : Fin cfg0.N) (b : Fin 128) (k : Fin 3072) : iblk m c 1 t (ix2 b k) = m ((c : Thread nD τ).loc main_arg1) (ix2 b k) := by
  rw [← V_main_arg1 m c]
  blk_ext [iblk, idx1]
theorem blk2 (c : Dev nD) (t : Fin cfg0.N) (k : Fin 1024) : iblk m c 2 t (ix2 0 k) = aNw m c (ix2 0 k) := by
  rw [← norm_apply m c]
  blk_ext [iblk, idx2]
theorem blk3 (c : Dev nD) (t : Fin cfg0.N) (k : Fin 1024) (l : Fin 2944) : iblk m c 3 t (ix2 k l) = m ((c : Thread nD τ).loc main_arg3) (ix2 k l) := by
  rw [← V_main_arg3 m c]
  blk_ext [iblk, idx3]
theorem blk5 (c : Dev nD) (t : Fin cfg0.N) (l : Fin 128) : iblk m c 5 t (ix2 0 l) = aKn m c (ix2 0 ⟨l.val % 64, by omega⟩) := by
  rw [← kn_apply m c]
  blk_ext [iblk, idx5]
theorem blk6 (c : Dev nD) (t : Fin cfg0.N) (p : Fin 2) (x l : Fin 256) : iblk m c 6 t (ix3 p x l) = V m c main_v14 (ix3 p x l) := by
  blk_ext [iblk, idx6]
theorem blk7 (c : Dev nD) (t : Fin cfg0.N) (l : Fin 512) : iblk m c 7 t (ix2 0 l) = aPs m c (ix2 0 l) := by
  rw [← scale_apply m c]
  blk_ext [iblk, idx7]
theorem blk8 (c : Dev nD) (t : Fin cfg0.N) (j : Fin 15) (b : Fin 128) (l : Fin 512) : iblk m c 8 t (ix3 j b l) = aHist m c (ix4 0 b j l) := by
  rw [← hist_apply m c]
  blk_ext [iblk, idx8]

/-! The values the body computes first. -/

theorem hidden (c : Dev nD) (t : Fin cfg0.N) (b : Fin 128) (k : Fin 1024) :
    k0_pay66 (iblk m c 0 t) (iblk m c 1 t) (iblk m c 2 t) (iblk m c 3 t) (iblk m c 4 t) (iblk m c 5 t) (iblk m c 6 t) (iblk m c 7 t) (iblk m c 8 t) (ix2 b k)
      = hid (fun i => aX m c (ix3 b 0 i)) (aNw m c (ix2 0 k)) (aAda m c (ix2 b ⟨1024 + k.val, by omega⟩)) (aAda m c (ix2 b ⟨k.val, by omega⟩)) k := by
  unfold k0_pay66
  rw [ProjSPay.hid_apply]
  pointwise [blk0, blk1, blk2]

theorem col_k (c : Dev nD) (t : Fin cfg0.N) (b : Fin 128) (l : Fin 128) :
    (∑ k : Fin 1024, k0_pay66 (iblk m c 0 t) (iblk m c 1 t) (iblk m c 2 t) (iblk m c 3 t) (iblk m c 4 t) (iblk m c 5 t) (iblk m c 6 t) (iblk m c 7 t) (iblk m c 8 t) (ix2 b k) * View.ld (iblk m c 3 t) r0_6 (ix2 k l))
      = prj (aX m c) (aAda m c) (aNw m c) (aW m c) b ⟨512 + l.val, by omega⟩ := by
  unfold prj
  pointwise [hidden, blk3]
theorem col_v (c : Dev nD) (t : Fin cfg0.N) (b : Fin 128) (l : Fin 128) :
    (∑ k : Fin 1024, k0_pay66 (iblk m c 0 t) (iblk m c 1 t) (iblk m c 2 t) (iblk m c 3 t) (iblk m c 4 t) (iblk m c 5 t) (iblk m c 6 t) (iblk m c 7 t) (iblk m c 8 t) (ix2 b k) * View.ld (iblk m c 3 t) r0_9 (ix2 k l))
      = prj (aX m c) (aAda m c) (aNw m c) (aW m c) b ⟨640 + l.val, by omega⟩ := by
  unfold prj
  pointwise [hidden, blk3]
theorem col_qi (c : Dev nD) (t : Fin cfg0.N) (b : Fin 128) (l : Fin 512) :
    (∑ k : Fin 1024, k0_pay66 (iblk m c 0 t) (iblk m c 1 t) (iblk m c 2 t) (iblk m c 3 t) (iblk m c 4 t) (iblk m c 5 t) (iblk m c 6 t) (iblk m c 7 t) (iblk m c 8 t) (ix2 b k) * View.ld (iblk m c 3 t) r0_18 (ix2 k l))
      = prj (aX m c) (aAda m c) (aNw m c) (aW m c) b ⟨768 + l.val, by omega⟩ := by
  unfold prj
  pointwise [hidden, blk3]
theorem col_kw (c : Dev nD) (t : Fin cfg0.N) (b : Fin 128) (l : Fin 128) :
    (∑ k : Fin 1024, k0_pay66 (iblk m c 0 t) (iblk m c 1 t) (iblk m c 2 t) (iblk m c 3 t) (iblk m c 4 t) (iblk m c 5 t) (iblk m c 6 t) (iblk m c 7 t) (iblk m c 8 t) (ix2 b k) * View.ld (iblk m c 3 t) r0_20 (ix2 k l))
      = prj (aX m c) (aAda m c) (aNw m c) (aW m c) b ⟨1280 + l.val, by omega⟩ := by
  unfold prj
  pointwise [hidden, blk3]
theorem col_ga (c : Dev nD) (t : Fin cfg0.N) (b : Fin 128) (l : Fin 512) :
    (∑ k : Fin 1024, k0_pay66 (iblk m c 0 t) (iblk m c 1 t) (iblk m c 2 t) (iblk m c 3 t) (iblk m c 4 t) (iblk m c 5 t) (iblk m c 6 t) (iblk m c 7 t) (iblk m c 8 t) (ix2 b k) * View.ld (iblk m c 3 t) r0_23 (ix2 k l))
      = prj (aX m c) (aAda m c) (aNw m c) (aW m c) b ⟨1408 + l.val, by omega⟩ := by
  unfold prj
  pointwise [hidden, blk3]
theorem col_u (c : Dev nD) (t : Fin cfg0.N) (b : Fin 128) (l : Fin 512) :
    (∑ k : Fin 1024, k0_pay66 (iblk m c 0 t) (iblk m c 1 t) (iblk m c 2 t) (iblk m c 3 t) (iblk m c 4 t) (iblk m c 5 t) (iblk m c 6 t) (iblk m c 7 t) (iblk m c 8 t) (ix2 b k) * View.ld (iblk m c 3 t) r0_24 (ix2 k l))
      = prj (aX m c) (aAda m c) (aNw m c) (aW m c) b ⟨1920 + l.val, by omega⟩ := by
  unfold prj
  pointwise [hidden, blk3]
theorem col_gp (c : Dev nD) (t : Fin cfg0.N) (b : Fin 128) (l : Fin 512) :
    (∑ k : Fin 1024, k0_pay66 (iblk m c 0 t) (iblk m c 1 t) (iblk m c 2 t) (iblk m c 3 t) (iblk m c 4 t) (iblk m c 5 t) (iblk m c 6 t) (iblk m c 7 t) (iblk m c 8 t) (ix2 b k) * View.ld (iblk m c 3 t) r0_25 (ix2 k l))
      = prj (aX m c) (aAda m c) (aNw m c) (aW m c) b ⟨2432 + l.val, by omega⟩ := by
  unfold prj
  pointwise [hidden, blk3]

theorem own (c : Dev nD) (t : Fin cfg0.N) (b : Fin 128) (l : Fin 512) :
    k0_pay75 (iblk m c 0 t) (iblk m c 1 t) (iblk m c 2 t) (iblk m c 3 t) (iblk m c 4 t) (iblk m c 5 t) (iblk m c 6 t) (iblk m c 7 t) (iblk m c 8 t) (ix2 b l) = ext (aX m c) (aAda m c) (aNw m c) (aW m c) (aHist m c) b l 15 := by
  unfold k0_pay75
  rw [ProjSPay.u_apply, col_u]
  rfl

/-- A row of the history, as the windows read it. -/
theorem past (c : Dev nD) (t : Fin cfg0.N) (j : Fin 15) (b : Fin 128) (l : Fin 512) :
    iblk m c 8 t (ix3 j b l) = ext (aX m c) (aAda m c) (aNw m c) (aW m c) (aHist m c) b l j.val := by
  refine (blk8 m c t j b l).trans ?_
  unfold ext
  rw [dif_pos j.isLt]

theorem lane_r0_41 (c : Dev nD) (t : Fin cfg0.N) (b : Fin 128) :
    ProjSPay.Lanes (ext (aX m c) (aAda m c) (aNw m c) (aW m c) (aHist m c) b) b 14 0 (by decide) (View.ld (iblk m c 8 t) r0_41) := fun l => by
  pointwise [past]
theorem lane_r0_42 (c : Dev nD) (t : Fin cfg0.N) (b : Fin 128) :
    ProjSPay.Lanes (ext (aX m c) (aAda m c) (aNw m c) (aW m c) (aHist m c) b) b 14 128 (by decide) (View.ld (iblk m c 8 t) r0_42) := fun l => by
  pointwise [past]
theorem lane_r0_43 (c : Dev nD) (t : Fin cfg0.N) (b : Fin 128) :
    ProjSPay.Lanes (ext (aX m c) (aAda m c) (aNw m c) (aW m c) (aHist m c) b) b 13 128 (by decide) (View.ld (iblk m c 8 t) r0_43) := fun l => by
  pointwise [past]
theorem lane_r0_44 (c : Dev nD) (t : Fin cfg0.N) (b : Fin 128) :
    ProjSPay.Lanes (ext (aX m c) (aAda m c) (aNw m c) (aW m c) (aHist m c) b) b 12 128 (by decide) (View.ld (iblk m c 8 t) r0_44) := fun l => by
  pointwise [past]
theorem lane_r0_45 (c : Dev nD) (t : Fin cfg0.N) (b : Fin 128) :
    ProjSPay.Lanes (ext (aX m c) (aAda m c) (aNw m c) (aW m c) (aHist m c) b) b 14 256 (by decide) (View.ld (iblk m c 8 t) r0_45) := fun l => by
  pointwise [past]
theorem lane_r0_46 (c : Dev nD) (t : Fin cfg0.N) (b : Fin 128) :
    ProjSPay.Lanes (ext (aX m c) (aAda m c) (aNw m c) (aW m c) (aHist m c) b) b 13 256 (by decide) (View.ld (iblk m c 8 t) r0_46) := fun l => by
  pointwise [past]
theorem lane_r0_47 (c : Dev nD) (t : Fin cfg0.N) (b : Fin 128) :
    ProjSPay.Lanes (ext (aX m c) (aAda m c) (aNw m c) (aW m c) (aHist m c) b) b 12 256 (by decide) (View.ld (iblk m c 8 t) r0_47) := fun l => by
  pointwise [past]
theorem lane_r0_48 (c : Dev nD) (t : Fin cfg0.N) (b : Fin 128) :
    ProjSPay.Lanes (ext (aX m c) (aAda m c) (aNw m c) (aW m c) (aHist m c) b) b 11 256 (by decide) (View.ld (iblk m c 8 t) r0_48) := fun l => by
  pointwise [past]
theorem lane_r0_49 (c : Dev nD) (t : Fin cfg0.N) (b : Fin 128) :
    ProjSPay.Lanes (ext (aX m c) (aAda m c) (aNw m c) (aW m c) (aHist m c) b) b 10 256 (by decide) (View.ld (iblk m c 8 t) r0_49) := fun l => by
  pointwise [past]
theorem lane_r0_50 (c : Dev nD) (t : Fin cfg0.N) (b : Fin 128) :
    ProjSPay.Lanes (ext (aX m c) (aAda m c) (aNw m c) (aW m c) (aHist m c) b) b 9 256 (by decide) (View.ld (iblk m c 8 t) r0_50) := fun l => by
  pointwise [past]
theorem lane_r0_51 (c : Dev nD) (t : Fin cfg0.N) (b : Fin 128) :
    ProjSPay.Lanes (ext (aX m c) (aAda m c) (aNw m c) (aW m c) (aHist m c) b) b 8 256 (by decide) (View.ld (iblk m c 8 t) r0_51) := fun l => by
  pointwise [past]
theorem lane_r0_52 (c : Dev nD) (t : Fin cfg0.N) (b : Fin 128) :
    ProjSPay.Lanes (ext (aX m c) (aAda m c) (aNw m c) (aW m c) (aHist m c) b) b 14 384 (by decide) (View.ld (iblk m c 8 t) r0_52) := fun l => by
  pointwise [past]
theorem lane_r0_53 (c : Dev nD) (t : Fin cfg0.N) (b : Fin 128) :
    ProjSPay.Lanes (ext (aX m c) (aAda m c) (aNw m c) (aW m c) (aHist m c) b) b 13 384 (by decide) (View.ld (iblk m c 8 t) r0_53) := fun l => by
  pointwise [past]
theorem lane_r0_54 (c : Dev nD) (t : Fin cfg0.N) (b : Fin 128) :
    ProjSPay.Lanes (ext (aX m c) (aAda m c) (aNw m c) (aW m c) (aHist m c) b) b 12 384 (by decide) (View.ld (iblk m c 8 t) r0_54) := fun l => by
  pointwise [past]
theorem lane_r0_55 (c : Dev nD) (t : Fin cfg0.N) (b : Fin 128) :
    ProjSPay.Lanes (ext (aX m c) (aAda m c) (aNw m c) (aW m c) (aHist m c) b) b 11 384 (by decide) (View.ld (iblk m c 8 t) r0_55) := fun l => by
  pointwise [past]
theorem lane_r0_56 (c : Dev nD) (t : Fin cfg0.N) (b : Fin 128) :
    ProjSPay.Lanes (ext (aX m c) (aAda m c) (aNw m c) (aW m c) (aHist m c) b) b 10 384 (by decide) (View.ld (iblk m c 8 t) r0_56) := fun l => by
  pointwise [past]
theorem lane_r0_57 (c : Dev nD) (t : Fin cfg0.N) (b : Fin 128) :
    ProjSPay.Lanes (ext (aX m c) (aAda m c) (aNw m c) (aW m c) (aHist m c) b) b 9 384 (by decide) (View.ld (iblk m c 8 t) r0_57) := fun l => by
  pointwise [past]
theorem lane_r0_58 (c : Dev nD) (t : Fin cfg0.N) (b : Fin 128) :
    ProjSPay.Lanes (ext (aX m c) (aAda m c) (aNw m c) (aW m c) (aHist m c) b) b 8 384 (by decide) (View.ld (iblk m c 8 t) r0_58) := fun l => by
  pointwise [past]
theorem lane_r0_59 (c : Dev nD) (t : Fin cfg0.N) (b : Fin 128) :
    ProjSPay.Lanes (ext (aX m c) (aAda m c) (aNw m c) (aW m c) (aHist m c) b) b 7 384 (by decide) (View.ld (iblk m c 8 t) r0_59) := fun l => by
  pointwise [past]
theorem lane_r0_60 (c : Dev nD) (t : Fin cfg0.N) (b : Fin 128) :
    ProjSPay.Lanes (ext (aX m c) (aAda m c) (aNw m c) (aW m c) (aHist m c) b) b 6 384 (by decide) (View.ld (iblk m c 8 t) r0_60) := fun l => by
  pointwise [past]
theorem lane_r0_61 (c : Dev nD) (t : Fin cfg0.N) (b : Fin 128) :
    ProjSPay.Lanes (ext (aX m c) (aAda m c) (aNw m c) (aW m c) (aHist m c) b) b 5 384 (by decide) (View.ld (iblk m c 8 t) r0_61) := fun l => by
  pointwise [past]
theorem lane_r0_62 (c : Dev nD) (t : Fin cfg0.N) (b : Fin 128) :
    ProjSPay.Lanes (ext (aX m c) (aAda m c) (aNw m c) (aW m c) (aHist m c) b) b 4 384 (by decide) (View.ld (iblk m c 8 t) r0_62) := fun l => by
  pointwise [past]
theorem lane_r0_63 (c : Dev nD) (t : Fin cfg0.N) (b : Fin 128) :
    ProjSPay.Lanes (ext (aX m c) (aAda m c) (aNw m c) (aW m c) (aHist m c) b) b 3 384 (by decide) (View.ld (iblk m c 8 t) r0_63) := fun l => by
  pointwise [past]
theorem lane_r0_64 (c : Dev nD) (t : Fin cfg0.N) (b : Fin 128) :
    ProjSPay.Lanes (ext (aX m c) (aAda m c) (aNw m c) (aW m c) (aHist m c) b) b 2 384 (by decide) (View.ld (iblk m c 8 t) r0_64) := fun l => by
  pointwise [past]
theorem lane_r0_65 (c : Dev nD) (t : Fin cfg0.N) (b : Fin 128) :
    ProjSPay.Lanes (ext (aX m c) (aAda m c) (aNw m c) (aW m c) (aHist m c) b) b 1 384 (by decide) (View.ld (iblk m c 8 t) r0_65) := fun l => by
  pointwise [past]
theorem lane_r0_66 (c : Dev nD) (t : Fin cfg0.N) (b : Fin 128) :
    ProjSPay.Lanes (ext (aX m c) (aAda m c) (aNw m c) (aW m c) (aHist m c) b) b 0 384 (by decide) (View.ld (iblk m c 8 t) r0_66) := fun l => by
  pointwise [past]

end Cert.ProjSFeed

end
-- ==== Proof.ProjSamp.lean ====
/- The input projection of the samples: each result array the call returns is the reference's. -/
module

public import proofs.«01_k».proof.Defs
public import proofs.«01_k».proof.Proof.Gen.ProjS.Frame
public import proofs.«01_k».proof.Proof.ProjSFeed

@[expose] public section

set_option maxRecDepth 16384

noncomputable section

open Idealize.ShloMosaic Idealize.ShloMosaic.TcCoe Idealize.SL.Sem
open Idealize.ShloMosaic.Pipeline (Dat)

namespace Cert.ProjSamp

open Cert.ProjSFeed Cert.ProjSIdeal Cert.ProjSIdeal.Gen Cert.ProjSpec Cert.ProjSSpec Cert.ProjSRef

variable (m : (ℓ : Loc nD τ sig) → Buf (Elt Ideal) ℓ) (ρ : Dev nD → PrngReg)

/-- The array `k`, as the reference's. -/
abbrev res10 (c : Dev nD) : Buf (Elt Ideal) ((c : Thread nD τ).loc main_v34_1) :=
  Cert.ProjSRefIdeal.Read.val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg5))

set_option maxHeartbeats 1000000 in
theorem final10 (c : Dev nD) : (dats m 0 c).arrAt 10 cfg0.N = res10 m c := by
  refine (dats m 0 c).arrAt_eq_of_covers 10 _ (by decide +kernel) fun t hf y => ?_
  blk_simp
  rw [after0_10]
  unfold out0_10
  rw [View.canon_cons_unit_lit _ _ _ (by decide)]
  idx_vars y
  have hi : ((View.whole main_v34_1).slice (win0_10.rect t)).emb (ix2 y0 y1) = (ix2 y0 y1 : S128x128.Idx) := by
    blk_ext [idx10]
  rw [hi]
  refine (ProjSPay.k_apply _ _ y0 _ _ (fun k l => by unfold k0_pay68; exact ProjSPay.mask k l)
    (fun l => prj (aX m c) (aAda m c) (aNw m c) (aW m c) y0 ⟨512 + l.val, by omega⟩) (col_k m c t y0) y1).trans ?_
  refine Eq.trans ?_ (Cert.ProjSRef.k_apply _ _ _ _ _ y0 y1).symm
  pointwise [blk5]

/-- The array `v`, as the reference's. -/
abbrev res11 (c : Dev nD) : Buf (Elt Ideal) ((c : Thread nD τ).loc main_v34_2) :=
  Cert.ProjSRefIdeal.Read.val_main_v26 (F := Ideal) (m ((c : Thread nD τ).loc main_arg0)) (m ((c : Thread nD τ).loc main_arg1)) (m ((c : Thread nD τ).loc main_arg2)) (m ((c : Thread nD τ).loc main_arg3))

set_option maxHeartbeats 1000000 in
theorem final11 (c : Dev nD) : (dats m 0 c).arrAt 11 cfg0.N = res11 m c := by
  refine (dats m 0 c).arrAt_eq_of_covers 11 _ (by decide +kernel) fun t hf y => ?_
  blk_simp
  rw [after0_11]
  unfold out0_11
  rw [View.canon_cons_unit_lit _ _ _ (by decide)]
  idx_vars y
  have hi : ((View.whole main_v34_2).slice (win0_11.rect t)).emb (ix2 y0 y1) = (ix2 y0 y1 : S128x128.Idx) := by
    blk_ext [idx11]
  rw [hi]
  refine (ProjSPay.v_apply _ _ y0 y1).trans ((col_v m c t y0 y1).trans ?_)
  exact (Cert.ProjSRef.v_apply _ _ _ _ y0 y1).symm

/-- The array `ki`, as the reference's. -/
abbrev res12 (c : Dev nD) : Buf (Elt Ideal) ((c : Thread nD τ).loc main_v34_3) :=
  Cert.ProjSRefIdeal.Read.val_main_v28 (F := Ideal) (m ((c : Thread nD τ).loc main_arg0)) (m ((c : Thread nD τ).loc main_arg1)) (m ((c : Thread nD τ).loc main_arg2)) (m ((c : Thread nD τ).loc main_arg3))

set_option maxHeartbeats 1000000 in
theorem final12 (c : Dev nD) : (dats m 0 c).arrAt 12 cfg0.N = res12 m c := by
  refine (dats m 0 c).arrAt_eq_of_covers 12 _ (by decide +kernel) fun t hf y => ?_
  blk_simp
  rw [after0_12]
  unfold out0_12
  rw [View.canon_cons_unit_lit _ _ _ (by decide)]
  idx_vars y
  have hi : ((View.whole main_v34_3).slice (win0_12.rect t)).emb (ix2 y0 y1) = (ix2 y0 y1 : S128x64.Idx) := by
    blk_ext [idx12]
  rw [hi]
  refine (ProjSPay.ki_apply _ _ y0 y1).trans ((col_kw m c t y0 ⟨y1.val, by omega⟩).trans ?_)
  exact (Cert.ProjSRef.ki_apply _ _ _ _ y0 y1).symm

/-- The array `qi`, as the reference's. -/
abbrev res13 (c : Dev nD) : Buf (Elt Ideal) ((c : Thread nD τ).loc main_v34_4) :=
  Cert.ProjSRefIdeal.Read.val_main_v99 (F := Ideal) (m ((c : Thread nD τ).loc main_arg0)) (m ((c : Thread nD τ).loc main_arg1)) (m ((c : Thread nD τ).loc main_arg2)) (m ((c : Thread nD τ).loc main_arg3))

set_option maxHeartbeats 1000000 in
theorem final13 (c : Dev nD) : (dats m 0 c).arrAt 13 cfg0.N = res13 m c := by
  refine (dats m 0 c).arrAt_eq_of_covers 13 _ (by decide +kernel) fun t hf y => ?_
  blk_simp
  rw [after0_13]
  unfold out0_13
  rw [View.canon_cons_unit_lit _ _ _ (by decide)]
  idx_vars y
  have hi : ((View.whole main_v34_4).slice (win0_13.rect t)).emb (ix2 y0 y1) = (ix2 y0 y1 : S128x512.Idx) := by
    blk_ext [idx13]
  rw [hi]
  refine (ProjSPay.qi_apply _ _ y0 y1).trans ((col_qi m c t y0 y1).trans ?_)
  exact (Cert.ProjSRef.qi_apply _ _ _ _ y0 y1).symm

/-- The array `wi`, as the reference's. -/
abbrev res14 (c : Dev nD) : Buf (Elt Ideal) ((c : Thread nD τ).loc main_v34_5) :=
  Cert.ProjSRefIdeal.Read.val_main_v51 (F := Ideal) (m ((c : Thread nD τ).loc main_arg0)) (m ((c : Thread nD τ).loc main_arg1)) (m ((c : Thread nD τ).loc main_arg2)) (m ((c : Thread nD τ).loc main_arg3))

set_option maxHeartbeats 1000000 in
theorem final14 (c : Dev nD) : (dats m 0 c).arrAt 14 cfg0.N = res14 m c := by
  refine (dats m 0 c).arrAt_eq_of_covers 14 _ (by decide +kernel) fun t hf y => ?_
  blk_simp
  rw [after0_14]
  unfold out0_14
  rw [View.canon_cons_unit_lit _ _ _ (by decide)]
  idx_vars y
  have hi : ((View.whole main_v34_5).slice (win0_14.rect t)).emb (ix2 y0 y1) = (ix2 y0 y1 : S128x8.Idx) := by
    blk_ext [idx14]
  rw [hi]
  unfold k0_pay74
  refine (ProjSPay.wi_apply _ _ y0 y1).trans ((congrArg (· * _) (col_kw m c t y0 ⟨64 + y1.val, by omega⟩)).trans ?_)
  refine Eq.trans ?_ (Cert.ProjSRef.wi_apply _ _ _ _ y0 y1).symm
  refine congrArg (fun i => prj (aX m c) (aAda m c) (aNw m c) (aW m c) y0 i * _) (Fin.ext ?_)
  show 1280 + (64 + y1.val) = 1344 + y1.val
  omega

/-- The array `sga`, as the reference's. -/
abbrev res17 (c : Dev nD) : Buf (Elt Ideal) ((c : Thread nD τ).loc main_v34_8) :=
  Cert.ProjSRefIdeal.Read.val_main_v101 (F := Ideal) (m ((c : Thread nD τ).loc main_arg0)) (m ((c : Thread nD τ).loc main_arg1)) (m ((c : Thread nD τ).loc main_arg2)) (m ((c : Thread nD τ).loc main_arg3))

set_option maxHeartbeats 1000000 in
theorem final17 (c : Dev nD) : (dats m 0 c).arrAt 17 cfg0.N = res17 m c := by
  refine (dats m 0 c).arrAt_eq_of_covers 17 _ (by decide +kernel) fun t hf y => ?_
  blk_simp
  rw [after0_17]
  unfold out0_17
  rw [View.canon_cons_unit_lit _ _ _ (by decide)]
  idx_vars y
  have hi : ((View.whole main_v34_8).slice (win0_17.rect t)).emb (ix2 y0 y1) = (ix2 y0 y1 : S128x512.Idx) := by
    blk_ext [idx17]
  rw [hi]
  refine (ProjSPay.sga_apply _ _ y0 y1).trans ((congrArg silu (col_ga m c t y0 y1)).trans ?_)
  exact (Cert.ProjSRef.sga_apply _ _ _ _ y0 y1).symm

/-- The array `mix`, as the reference's. -/
abbrev res18 (c : Dev nD) : Buf (Elt Ideal) ((c : Thread nD τ).loc main_v34_9) :=
  Cert.ProjSRefIdeal.Read.val_main_v104 (F := Ideal) (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8))

set_option maxHeartbeats 1000000 in
theorem final18 (c : Dev nD) : (dats m 0 c).arrAt 18 cfg0.N = res18 m c := by
  refine (dats m 0 c).arrAt_eq_of_covers 18 _ (by decide +kernel) fun t hf y => ?_
  blk_simp
  rw [after0_18]
  unfold out0_18
  rw [View.canon_cons_unit_lit _ _ _ (by decide)]
  idx_vars y
  have hi : ((View.whole main_v34_9).slice (win0_18.rect t)).emb (ix2 y0 y1) = (ix2 y0 y1 : S128x512.Idx) := by
    blk_ext [idx18]
  rw [hi]
  have hu := own m c t y0
  have hp0 : ∀ x l : Fin 256, View.ld (iblk m c 6 t) r0_67 (ix3 0 x l)
      = if x.val / 128 = l.val / 128 then aWp m c (ix4 0 ⟨l.val / 128, by omega⟩ ⟨x.val % 128, by omega⟩ ⟨l.val % 128, by omega⟩) else 0 := fun x l => by
    refine Eq.trans ?_ ((blk6 m c t 0 x l).trans (pool_apply0 m c x l))
    pointwise
  have hp1 : ∀ x l : Fin 256, View.ld (iblk m c 6 t) r0_68 (ix3 0 x l)
      = if x.val / 128 = l.val / 128 then aWp m c (ix4 0 ⟨2 + l.val / 128, by omega⟩ ⟨x.val % 128, by omega⟩ ⟨l.val % 128, by omega⟩) else 0 := fun x l => by
    refine Eq.trans ?_ ((blk6 m c t 1 x l).trans (pool_apply1 m c x l))
    pointwise
  refine (ProjSPay.mix_apply _ _ (ext (aX m c) (aAda m c) (aNw m c) (aW m c) (aHist m c) y0) y0 hu _ _ _ _ _ _ _ _ _ _ _ _ _ _ _ _ _ _ _ _ _ _ _ _ _ _ (lane_r0_41 m c t y0) (lane_r0_42 m c t y0) (lane_r0_43 m c t y0) (lane_r0_44 m c t y0) (lane_r0_45 m c t y0) (lane_r0_46 m c t y0) (lane_r0_47 m c t y0) (lane_r0_48 m c t y0) (lane_r0_49 m c t y0) (lane_r0_50 m c t y0) (lane_r0_51 m c t y0) (lane_r0_52 m c t y0) (lane_r0_53 m c t y0) (lane_r0_54 m c t y0) (lane_r0_55 m c t y0) (lane_r0_56 m c t y0) (lane_r0_57 m c t y0) (lane_r0_58 m c t y0) (lane_r0_59 m c t y0) (lane_r0_60 m c t y0) (lane_r0_61 m c t y0) (lane_r0_62 m c t y0) (lane_r0_63 m c t y0) (lane_r0_64 m c t y0) (lane_r0_65 m c t y0) (lane_r0_66 m c t y0) _ _ _
    (fun p a b => aWp m c (ix4 0 p a b)) hp0 hp1 y1).trans ?_
  rw [ProjSPay.gp_apply, col_gp]
  refine Eq.trans ?_ (Cert.ProjSRef.mix_apply _ _ _ _ _ _ _ y0 y1).symm
  pointwise [blk7]

/-- The array `state`, as the reference's. -/
abbrev res19 (c : Dev nD) : Buf (Elt Ideal) ((c : Thread nD τ).loc main_v34_10) :=
  Cert.ProjSRefIdeal.Read.val_main_v106 (F := Ideal) (m ((c : Thread nD τ).loc main_arg0)) (m ((c : Thread nD τ).loc main_arg1)) (m ((c : Thread nD τ).loc main_arg2)) (m ((c : Thread nD τ).loc main_arg3)) (m ((c : Thread nD τ).loc main_arg8))

/-- An index of a rectangle of unit step, in the array. -/
theorem emb_eq {s : Shape} {off size : Fin s.rank → ℕ} (inb : ∀ a, off a + size a ≤ s.size a)
    (x : (Rect.unit off size inb).shape.Idx) (y : s.Idx) (h : ∀ a, (y a).val = off a + (x a).val) :
    (Rect.unit off size inb).emb x = y :=
  funext fun a => Fin.ext (by show off a + 1 * (x a).val = _; rw [h a, Nat.one_mul])
theorem all3 {P : Fin 3 → Prop} (h0 : P 0) (h1 : P 1) (h2 : P 2) : ∀ a, P a := fun a => match a with
  | ⟨0, _⟩ => h0 | ⟨1, _⟩ => h1 | ⟨2, _⟩ => h2

theorem pos14 (x : S1x128x512.Idx) : r0_40.emb x = (ix3 ⟨14, by decide⟩ (x 1) (x 2) : S15x128x512.Idx) := by
  funext a
  apply Fin.ext
  match a with
  | ⟨0, _⟩ => have h : (x 0).val < 1 := (x 0).isLt; show 14 + 1 * (x 0).val = 14; omega
  | ⟨1, _⟩ => show 0 + 1 * (x 1).val = (x 1).val; omega
  | ⟨2, _⟩ => show 0 + 1 * (x 2).val = (x 2).val; omega
theorem new14 (c : Dev nD) (t : Fin cfg0.N) (x : S1x128x512.Idx) :
    k0_pay58 (k0_pay75 (iblk m c 0 t) (iblk m c 1 t) (iblk m c 2 t) (iblk m c 3 t) (iblk m c 4 t) (iblk m c 5 t) (iblk m c 6 t) (iblk m c 7 t) (iblk m c 8 t)) x = res19 m c (ix3 ⟨14, by decide⟩ (x 1) (x 2)) := by
  idx_vars x
  obtain rfl : x0 = 0 := Subsingleton.elim _ _
  refine (ProjSPay.row14 _ _ _).trans (Eq.trans ?_ (Cert.ProjSRef.state_apply _ _ _ _ _ _ _ _).symm)
  exact own m c t _ _
theorem pos13 (x : S1x128x512.Idx) : r0_39.emb x = (ix3 ⟨13, by decide⟩ (x 1) (x 2) : S15x128x512.Idx) := by
  funext a
  apply Fin.ext
  match a with
  | ⟨0, _⟩ => have h : (x 0).val < 1 := (x 0).isLt; show 13 + 1 * (x 0).val = 13; omega
  | ⟨1, _⟩ => show 0 + 1 * (x 1).val = (x 1).val; omega
  | ⟨2, _⟩ => show 0 + 1 * (x 2).val = (x 2).val; omega
theorem new13 (c : Dev nD) (t : Fin cfg0.N) (x : S1x128x512.Idx) :
    k0_pay57 (View.ld (iblk m c 8 t) r0_40) x = res19 m c (ix3 ⟨13, by decide⟩ (x 1) (x 2)) := by
  idx_vars x
  obtain rfl : x0 = 0 := Subsingleton.elim _ _
  refine (ProjSPay.row13 _ _ _).trans (Eq.trans ?_ (Cert.ProjSRef.state_apply _ _ _ _ _ _ _ _).symm)
  pointwise [past]
theorem pos12 (x : S1x128x512.Idx) : r0_38.emb x = (ix3 ⟨12, by decide⟩ (x 1) (x 2) : S15x128x512.Idx) := by
  funext a
  apply Fin.ext
  match a with
  | ⟨0, _⟩ => have h : (x 0).val < 1 := (x 0).isLt; show 12 + 1 * (x 0).val = 12; omega
  | ⟨1, _⟩ => show 0 + 1 * (x 1).val = (x 1).val; omega
  | ⟨2, _⟩ => show 0 + 1 * (x 2).val = (x 2).val; omega
theorem new12 (c : Dev nD) (t : Fin cfg0.N) (x : S1x128x512.Idx) :
    k0_pay56 (View.ld (iblk m c 8 t) r0_39) x = res19 m c (ix3 ⟨12, by decide⟩ (x 1) (x 2)) := by
  idx_vars x
  obtain rfl : x0 = 0 := Subsingleton.elim _ _
  refine (ProjSPay.row12 _ _ _).trans (Eq.trans ?_ (Cert.ProjSRef.state_apply _ _ _ _ _ _ _ _).symm)
  pointwise [past]
theorem pos11 (x : S1x128x512.Idx) : r0_37.emb x = (ix3 ⟨11, by decide⟩ (x 1) (x 2) : S15x128x512.Idx) := by
  funext a
  apply Fin.ext
  match a with
  | ⟨0, _⟩ => have h : (x 0).val < 1 := (x 0).isLt; show 11 + 1 * (x 0).val = 11; omega
  | ⟨1, _⟩ => show 0 + 1 * (x 1).val = (x 1).val; omega
  | ⟨2, _⟩ => show 0 + 1 * (x 2).val = (x 2).val; omega
theorem new11 (c : Dev nD) (t : Fin cfg0.N) (x : S1x128x512.Idx) :
    k0_pay55 (View.ld (iblk m c 8 t) r0_38) x = res19 m c (ix3 ⟨11, by decide⟩ (x 1) (x 2)) := by
  idx_vars x
  obtain rfl : x0 = 0 := Subsingleton.elim _ _
  refine (ProjSPay.row11 _ _ _).trans (Eq.trans ?_ (Cert.ProjSRef.state_apply _ _ _ _ _ _ _ _).symm)
  pointwise [past]
theorem pos10 (x : S1x128x512.Idx) : r0_36.emb x = (ix3 ⟨10, by decide⟩ (x 1) (x 2) : S15x128x512.Idx) := by
  funext a
  apply Fin.ext
  match a with
  | ⟨0, _⟩ => have h : (x 0).val < 1 := (x 0).isLt; show 10 + 1 * (x 0).val = 10; omega
  | ⟨1, _⟩ => show 0 + 1 * (x 1).val = (x 1).val; omega
  | ⟨2, _⟩ => show 0 + 1 * (x 2).val = (x 2).val; omega
theorem new10 (c : Dev nD) (t : Fin cfg0.N) (x : S1x128x512.Idx) :
    k0_pay54 (View.ld (iblk m c 8 t) r0_37) x = res19 m c (ix3 ⟨10, by decide⟩ (x 1) (x 2)) := by
  idx_vars x
  obtain rfl : x0 = 0 := Subsingleton.elim _ _
  refine (ProjSPay.row10 _ _ _).trans (Eq.trans ?_ (Cert.ProjSRef.state_apply _ _ _ _ _ _ _ _).symm)
  pointwise [past]
theorem pos9 (x : S1x128x512.Idx) : r0_35.emb x = (ix3 ⟨9, by decide⟩ (x 1) (x 2) : S15x128x512.Idx) := by
  funext a
  apply Fin.ext
  match a with
  | ⟨0, _⟩ => have h : (x 0).val < 1 := (x 0).isLt; show 9 + 1 * (x 0).val = 9; omega
  | ⟨1, _⟩ => show 0 + 1 * (x 1).val = (x 1).val; omega
  | ⟨2, _⟩ => show 0 + 1 * (x 2).val = (x 2).val; omega
theorem new9 (c : Dev nD) (t : Fin cfg0.N) (x : S1x128x512.Idx) :
    k0_pay53 (View.ld (iblk m c 8 t) r0_36) x = res19 m c (ix3 ⟨9, by decide⟩ (x 1) (x 2)) := by
  idx_vars x
  obtain rfl : x0 = 0 := Subsingleton.elim _ _
  refine (ProjSPay.row9 _ _ _).trans (Eq.trans ?_ (Cert.ProjSRef.state_apply _ _ _ _ _ _ _ _).symm)
  pointwise [past]
theorem pos8 (x : S1x128x512.Idx) : r0_34.emb x = (ix3 ⟨8, by decide⟩ (x 1) (x 2) : S15x128x512.Idx) := by
  funext a
  apply Fin.ext
  match a with
  | ⟨0, _⟩ => have h : (x 0).val < 1 := (x 0).isLt; show 8 + 1 * (x 0).val = 8; omega
  | ⟨1, _⟩ => show 0 + 1 * (x 1).val = (x 1).val; omega
  | ⟨2, _⟩ => show 0 + 1 * (x 2).val = (x 2).val; omega
theorem new8 (c : Dev nD) (t : Fin cfg0.N) (x : S1x128x512.Idx) :
    k0_pay52 (View.ld (iblk m c 8 t) r0_35) x = res19 m c (ix3 ⟨8, by decide⟩ (x 1) (x 2)) := by
  idx_vars x
  obtain rfl : x0 = 0 := Subsingleton.elim _ _
  refine (ProjSPay.row8 _ _ _).trans (Eq.trans ?_ (Cert.ProjSRef.state_apply _ _ _ _ _ _ _ _).symm)
  pointwise [past]
theorem pos7 (x : S1x128x512.Idx) : r0_33.emb x = (ix3 ⟨7, by decide⟩ (x 1) (x 2) : S15x128x512.Idx) := by
  funext a
  apply Fin.ext
  match a with
  | ⟨0, _⟩ => have h : (x 0).val < 1 := (x 0).isLt; show 7 + 1 * (x 0).val = 7; omega
  | ⟨1, _⟩ => show 0 + 1 * (x 1).val = (x 1).val; omega
  | ⟨2, _⟩ => show 0 + 1 * (x 2).val = (x 2).val; omega
theorem new7 (c : Dev nD) (t : Fin cfg0.N) (x : S1x128x512.Idx) :
    k0_pay51 (View.ld (iblk m c 8 t) r0_34) x = res19 m c (ix3 ⟨7, by decide⟩ (x 1) (x 2)) := by
  idx_vars x
  obtain rfl : x0 = 0 := Subsingleton.elim _ _
  refine (ProjSPay.row7 _ _ _).trans (Eq.trans ?_ (Cert.ProjSRef.state_apply _ _ _ _ _ _ _ _).symm)
  pointwise [past]
theorem pos6 (x : S1x128x512.Idx) : r0_32.emb x = (ix3 ⟨6, by decide⟩ (x 1) (x 2) : S15x128x512.Idx) := by
  funext a
  apply Fin.ext
  match a with
  | ⟨0, _⟩ => have h : (x 0).val < 1 := (x 0).isLt; show 6 + 1 * (x 0).val = 6; omega
  | ⟨1, _⟩ => show 0 + 1 * (x 1).val = (x 1).val; omega
  | ⟨2, _⟩ => show 0 + 1 * (x 2).val = (x 2).val; omega
theorem new6 (c : Dev nD) (t : Fin cfg0.N) (x : S1x128x512.Idx) :
    k0_pay50 (View.ld (iblk m c 8 t) r0_33) x = res19 m c (ix3 ⟨6, by decide⟩ (x 1) (x 2)) := by
  idx_vars x
  obtain rfl : x0 = 0 := Subsingleton.elim _ _
  refine (ProjSPay.row6 _ _ _).trans (Eq.trans ?_ (Cert.ProjSRef.state_apply _ _ _ _ _ _ _ _).symm)
  pointwise [past]
theorem pos5 (x : S1x128x512.Idx) : r0_31.emb x = (ix3 ⟨5, by decide⟩ (x 1) (x 2) : S15x128x512.Idx) := by
  funext a
  apply Fin.ext
  match a with
  | ⟨0, _⟩ => have h : (x 0).val < 1 := (x 0).isLt; show 5 + 1 * (x 0).val = 5; omega
  | ⟨1, _⟩ => show 0 + 1 * (x 1).val = (x 1).val; omega
  | ⟨2, _⟩ => show 0 + 1 * (x 2).val = (x 2).val; omega
theorem new5 (c : Dev nD) (t : Fin cfg0.N) (x : S1x128x512.Idx) :
    k0_pay49 (View.ld (iblk m c 8 t) r0_32) x = res19 m c (ix3 ⟨5, by decide⟩ (x 1) (x 2)) := by
  idx_vars x
  obtain rfl : x0 = 0 := Subsingleton.elim _ _
  refine (ProjSPay.row5 _ _ _).trans (Eq.trans ?_ (Cert.ProjSRef.state_apply _ _ _ _ _ _ _ _).symm)
  pointwise [past]
theorem pos4 (x : S1x128x512.Idx) : r0_30.emb x = (ix3 ⟨4, by decide⟩ (x 1) (x 2) : S15x128x512.Idx) := by
  funext a
  apply Fin.ext
  match a with
  | ⟨0, _⟩ => have h : (x 0).val < 1 := (x 0).isLt; show 4 + 1 * (x 0).val = 4; omega
  | ⟨1, _⟩ => show 0 + 1 * (x 1).val = (x 1).val; omega
  | ⟨2, _⟩ => show 0 + 1 * (x 2).val = (x 2).val; omega
theorem new4 (c : Dev nD) (t : Fin cfg0.N) (x : S1x128x512.Idx) :
    k0_pay48 (View.ld (iblk m c 8 t) r0_31) x = res19 m c (ix3 ⟨4, by decide⟩ (x 1) (x 2)) := by
  idx_vars x
  obtain rfl : x0 = 0 := Subsingleton.elim _ _
  refine (ProjSPay.row4 _ _ _).trans (Eq.trans ?_ (Cert.ProjSRef.state_apply _ _ _ _ _ _ _ _).symm)
  pointwise [past]
theorem pos3 (x : S1x128x512.Idx) : r0_29.emb x = (ix3 ⟨3, by decide⟩ (x 1) (x 2) : S15x128x512.Idx) := by
  funext a
  apply Fin.ext
  match a with
  | ⟨0, _⟩ => have h : (x 0).val < 1 := (x 0).isLt; show 3 + 1 * (x 0).val = 3; omega
  | ⟨1, _⟩ => show 0 + 1 * (x 1).val = (x 1).val; omega
  | ⟨2, _⟩ => show 0 + 1 * (x 2).val = (x 2).val; omega
theorem new3 (c : Dev nD) (t : Fin cfg0.N) (x : S1x128x512.Idx) :
    k0_pay47 (View.ld (iblk m c 8 t) r0_30) x = res19 m c (ix3 ⟨3, by decide⟩ (x 1) (x 2)) := by
  idx_vars x
  obtain rfl : x0 = 0 := Subsingleton.elim _ _
  refine (ProjSPay.row3 _ _ _).trans (Eq.trans ?_ (Cert.ProjSRef.state_apply _ _ _ _ _ _ _ _).symm)
  pointwise [past]
theorem pos2 (x : S1x128x512.Idx) : r0_28.emb x = (ix3 ⟨2, by decide⟩ (x 1) (x 2) : S15x128x512.Idx) := by
  funext a
  apply Fin.ext
  match a with
  | ⟨0, _⟩ => have h : (x 0).val < 1 := (x 0).isLt; show 2 + 1 * (x 0).val = 2; omega
  | ⟨1, _⟩ => show 0 + 1 * (x 1).val = (x 1).val; omega
  | ⟨2, _⟩ => show 0 + 1 * (x 2).val = (x 2).val; omega
theorem new2 (c : Dev nD) (t : Fin cfg0.N) (x : S1x128x512.Idx) :
    k0_pay46 (View.ld (iblk m c 8 t) r0_29) x = res19 m c (ix3 ⟨2, by decide⟩ (x 1) (x 2)) := by
  idx_vars x
  obtain rfl : x0 = 0 := Subsingleton.elim _ _
  refine (ProjSPay.row2 _ _ _).trans (Eq.trans ?_ (Cert.ProjSRef.state_apply _ _ _ _ _ _ _ _).symm)
  pointwise [past]
theorem pos1 (x : S1x128x512.Idx) : r0_26.emb x = (ix3 ⟨1, by decide⟩ (x 1) (x 2) : S15x128x512.Idx) := by
  funext a
  apply Fin.ext
  match a with
  | ⟨0, _⟩ => have h : (x 0).val < 1 := (x 0).isLt; show 1 + 1 * (x 0).val = 1; omega
  | ⟨1, _⟩ => show 0 + 1 * (x 1).val = (x 1).val; omega
  | ⟨2, _⟩ => show 0 + 1 * (x 2).val = (x 2).val; omega
theorem new1 (c : Dev nD) (t : Fin cfg0.N) (x : S1x128x512.Idx) :
    k0_pay45 (View.ld (iblk m c 8 t) r0_28) x = res19 m c (ix3 ⟨1, by decide⟩ (x 1) (x 2)) := by
  idx_vars x
  obtain rfl : x0 = 0 := Subsingleton.elim _ _
  refine (ProjSPay.row1 _ _ _).trans (Eq.trans ?_ (Cert.ProjSRef.state_apply _ _ _ _ _ _ _ _).symm)
  pointwise [past]
theorem pos0 (x : S1x128x512.Idx) : r0_27.emb x = (ix3 ⟨0, by decide⟩ (x 1) (x 2) : S15x128x512.Idx) := by
  funext a
  apply Fin.ext
  match a with
  | ⟨0, _⟩ => have h : (x 0).val < 1 := (x 0).isLt; show 0 + 1 * (x 0).val = 0; omega
  | ⟨1, _⟩ => show 0 + 1 * (x 1).val = (x 1).val; omega
  | ⟨2, _⟩ => show 0 + 1 * (x 2).val = (x 2).val; omega
theorem new0 (c : Dev nD) (t : Fin cfg0.N) (x : S1x128x512.Idx) :
    k0_pay44 (View.ld (iblk m c 8 t) r0_26) x = res19 m c (ix3 ⟨0, by decide⟩ (x 1) (x 2)) := by
  idx_vars x
  obtain rfl : x0 = 0 := Subsingleton.elim _ _
  refine (ProjSPay.row0 _ _ _).trans (Eq.trans ?_ (Cert.ProjSRef.state_apply _ _ _ _ _ _ _ _).symm)
  pointwise [past]

set_option maxHeartbeats 4000000 in
theorem final19 (c : Dev nD) : (dats m 0 c).arrAt 19 cfg0.N = res19 m c := by
  refine (dats m 0 c).arrAt_eq_of_covers 19 _ (by decide +kernel) fun t hf y => ?_
  blk_simp
  rw [after0_19]
  unfold out0_19
  idx_vars y
  have hi : ((View.whole main_v34_10).slice (win0_19.rect t)).emb (ix3 y0 y1 y2) = (ix3 y0 y1 y2 : S15x128x512.Idx) := by
    blk_ext [idx19]
  rw [hi]
  refine View.canon_apply_of_pieces (fun y => res19 m c y) _ ?_ _ (cover0_19 _ _ _ _ _ _ _ _ _ _ _ _ _ _ _ _)
  refine List.forall_mem_cons.mpr ⟨fun x => (new14 m c t x).trans (congrArg (res19 m c) (pos14 x).symm), ?_⟩
  refine List.forall_mem_cons.mpr ⟨fun x => (new13 m c t x).trans (congrArg (res19 m c) (pos13 x).symm), ?_⟩
  refine List.forall_mem_cons.mpr ⟨fun x => (new12 m c t x).trans (congrArg (res19 m c) (pos12 x).symm), ?_⟩
  refine List.forall_mem_cons.mpr ⟨fun x => (new11 m c t x).trans (congrArg (res19 m c) (pos11 x).symm), ?_⟩
  refine List.forall_mem_cons.mpr ⟨fun x => (new10 m c t x).trans (congrArg (res19 m c) (pos10 x).symm), ?_⟩
  refine List.forall_mem_cons.mpr ⟨fun x => (new9 m c t x).trans (congrArg (res19 m c) (pos9 x).symm), ?_⟩
  refine List.forall_mem_cons.mpr ⟨fun x => (new8 m c t x).trans (congrArg (res19 m c) (pos8 x).symm), ?_⟩
  refine List.forall_mem_cons.mpr ⟨fun x => (new7 m c t x).trans (congrArg (res19 m c) (pos7 x).symm), ?_⟩
  refine List.forall_mem_cons.mpr ⟨fun x => (new6 m c t x).trans (congrArg (res19 m c) (pos6 x).symm), ?_⟩
  refine List.forall_mem_cons.mpr ⟨fun x => (new5 m c t x).trans (congrArg (res19 m c) (pos5 x).symm), ?_⟩
  refine List.forall_mem_cons.mpr ⟨fun x => (new4 m c t x).trans (congrArg (res19 m c) (pos4 x).symm), ?_⟩
  refine List.forall_mem_cons.mpr ⟨fun x => (new3 m c t x).trans (congrArg (res19 m c) (pos3 x).symm), ?_⟩
  refine List.forall_mem_cons.mpr ⟨fun x => (new2 m c t x).trans (congrArg (res19 m c) (pos2 x).symm), ?_⟩
  refine List.forall_mem_cons.mpr ⟨fun x => (new1 m c t x).trans (congrArg (res19 m c) (pos1 x).symm), ?_⟩
  refine List.forall_mem_cons.mpr ⟨fun x => (new0 m c t x).trans (congrArg (res19 m c) (pos0 x).symm), ?_⟩
  exact List.forall_mem_nil _

theorem run : θ_run defs (onTc (τ := τ) (main (F := Ideal))) ⟨m, fun _ => 0, ρ⟩ fun r => ∀ c : Dev nD,
      r.2.mem ((c : Thread nD τ).loc main_v34_1) = res10 m c
      ∧ r.2.mem ((c : Thread nD τ).loc main_v34_2) = res11 m c
      ∧ r.2.mem ((c : Thread nD τ).loc main_v34_3) = res12 m c
      ∧ r.2.mem ((c : Thread nD τ).loc main_v34_4) = res13 m c
      ∧ r.2.mem ((c : Thread nD τ).loc main_v34_5) = res14 m c
      ∧ r.2.mem ((c : Thread nD τ).loc main_v34_8) = res17 m c
      ∧ r.2.mem ((c : Thread nD τ).loc main_v34_9) = res18 m c
      ∧ r.2.mem ((c : Thread nD τ).loc main_v34_10) = res19 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c => by
    obtain ⟨_, h1, h2, h3, h4, h5, _, _, h8, h9, h10, ha⟩ := h c
    exact ⟨h1.trans (final10 m c), h2.trans (final11 m c), h3.trans (final12 m c), h4.trans (final13 m c), h5.trans (final14 m c),
      h8.trans (final17 m c), h9.trans (final18 m c), h10.trans (final19 m c), ha⟩) (Value.run_blocks m ρ)

/-! ## The claims -/

theorem frame_p : Cert.quiescent_ProjS := fun m ρ _ => Cert.ProjS.Gen.frame m ρ
theorem frame_pi : Cert.quiescent_ProjSIdeal := fun m ρ _ => Cert.ProjSIdeal.Gen.frame m ρ
theorem frame_ri : Cert.quiescent_ProjSRefIdeal := fun m ρ _ =>
  (θ_run Cert.ProjSRefIdeal.defs _ _).mono (fun r h => ⟨fun c => (h c).2.2.2.2.2.2.2.2,
      Idealize.ShloMosaic.sem_eq_zero_of_no_sems (by decide) r.2⟩)
    (Cert.ProjSRefIdeal.Value.run (F := Ideal) m ρ)
theorem same : Cert.preserves_ProjS_ProjSIdeal := trivial
set_option maxHeartbeats 4000000 in
theorem value : Cert.algebraic_ProjSIdeal_ProjSRefIdeal := by
  intro m ρ m' ρ' _ hagree
  refine ⟨fun c => res10 m c, fun c => res11 m c, fun c => res12 m c, fun c => res13 m c, fun c => res14 m c, fun c => res17 m c, fun c => res18 m c, fun c => res19 m c, run m ρ, ?_⟩
  refine (θ_run Cert.ProjSRefIdeal.defs _ _).mono (fun r h c => ?_) (Cert.ProjSRefIdeal.Value.run (F := Ideal) m' ρ')
  obtain ⟨h0, h1, h2, h3, h4, h5, h6, h7, h8⟩ := hagree c
  obtain ⟨g10, g11, g12, g13, g14, g17, g18, g19, ga⟩ := h c
  refine ⟨?_, ?_, ?_, ?_, ?_, ?_, ?_, ?_, ga⟩
  · refine g10.trans ((Cert.ProjSRefIdeal.Read.val_main_v49_eq (F := Ideal) _ _).trans ?_)
    show Cert.ProjSRefIdeal.Read.val_main_v49 (F := Ideal) (m' ((c.tc : Thread Cert.ProjSRefIdeal.nD Cert.ProjSRefIdeal.τ).loc Cert.ProjSRefIdeal.main_arg0)) (m' ((c.tc : Thread Cert.ProjSRefIdeal.nD Cert.ProjSRefIdeal.τ).loc Cert.ProjSRefIdeal.main_arg1)) (m' ((c.tc : Thread Cert.ProjSRefIdeal.nD Cert.ProjSRefIdeal.τ).loc Cert.ProjSRefIdeal.main_arg2)) (m' ((c.tc : Thread Cert.ProjSRefIdeal.nD Cert.ProjSRefIdeal.τ).loc Cert.ProjSRefIdeal.main_arg3)) (m' ((c.tc : Thread Cert.ProjSRefIdeal.nD Cert.ProjSRefIdeal.τ).loc Cert.ProjSRefIdeal.main_arg5)) = _
    rw [h0, h1, h2, h3, h5]
  · refine g11.trans ((Cert.ProjSRefIdeal.Read.val_main_v26_eq (F := Ideal) _ _ _ _).trans ?_)
    show Cert.ProjSRefIdeal.Read.val_main_v26 (F := Ideal) (m' ((c.tc : Thread Cert.ProjSRefIdeal.nD Cert.ProjSRefIdeal.τ).loc Cert.ProjSRefIdeal.main_arg0)) (m' ((c.tc : Thread Cert.ProjSRefIdeal.nD Cert.ProjSRefIdeal.τ).loc Cert.ProjSRefIdeal.main_arg1)) (m' ((c.tc : Thread Cert.ProjSRefIdeal.nD Cert.ProjSRefIdeal.τ).loc Cert.ProjSRefIdeal.main_arg2)) (m' ((c.tc : Thread Cert.ProjSRefIdeal.nD Cert.ProjSRefIdeal.τ).loc Cert.ProjSRefIdeal.main_arg3)) = _
    rw [h0, h1, h2, h3]
  · refine g12.trans ((Cert.ProjSRefIdeal.Read.val_main_v28_eq (F := Ideal) _ _ _ _).trans ?_)
    show Cert.ProjSRefIdeal.Read.val_main_v28 (F := Ideal) (m' ((c.tc : Thread Cert.ProjSRefIdeal.nD Cert.ProjSRefIdeal.τ).loc Cert.ProjSRefIdeal.main_arg0)) (m' ((c.tc : Thread Cert.ProjSRefIdeal.nD Cert.ProjSRefIdeal.τ).loc Cert.ProjSRefIdeal.main_arg1)) (m' ((c.tc : Thread Cert.ProjSRefIdeal.nD Cert.ProjSRefIdeal.τ).loc Cert.ProjSRefIdeal.main_arg2)) (m' ((c.tc : Thread Cert.ProjSRefIdeal.nD Cert.ProjSRefIdeal.τ).loc Cert.ProjSRefIdeal.main_arg3)) = _
    rw [h0, h1, h2, h3]
  · refine g13.trans ((Cert.ProjSRefIdeal.Read.val_main_v99_eq (F := Ideal) _ _ _ _).trans ?_)
    show Cert.ProjSRefIdeal.Read.val_main_v99 (F := Ideal) (m' ((c.tc : Thread Cert.ProjSRefIdeal.nD Cert.ProjSRefIdeal.τ).loc Cert.ProjSRefIdeal.main_arg0)) (m' ((c.tc : Thread Cert.ProjSRefIdeal.nD Cert.ProjSRefIdeal.τ).loc Cert.ProjSRefIdeal.main_arg1)) (m' ((c.tc : Thread Cert.ProjSRefIdeal.nD Cert.ProjSRefIdeal.τ).loc Cert.ProjSRefIdeal.main_arg2)) (m' ((c.tc : Thread Cert.ProjSRefIdeal.nD Cert.ProjSRefIdeal.τ).loc Cert.ProjSRefIdeal.main_arg3)) = _
    rw [h0, h1, h2, h3]
  · refine g14.trans ((Cert.ProjSRefIdeal.Read.val_main_v51_eq (F := Ideal) _ _ _ _).trans ?_)
    show Cert.ProjSRefIdeal.Read.val_main_v51 (F := Ideal) (m' ((c.tc : Thread Cert.ProjSRefIdeal.nD Cert.ProjSRefIdeal.τ).loc Cert.ProjSRefIdeal.main_arg0)) (m' ((c.tc : Thread Cert.ProjSRefIdeal.nD Cert.ProjSRefIdeal.τ).loc Cert.ProjSRefIdeal.main_arg1)) (m' ((c.tc : Thread Cert.ProjSRefIdeal.nD Cert.ProjSRefIdeal.τ).loc Cert.ProjSRefIdeal.main_arg2)) (m' ((c.tc : Thread Cert.ProjSRefIdeal.nD Cert.ProjSRefIdeal.τ).loc Cert.ProjSRefIdeal.main_arg3)) = _
    rw [h0, h1, h2, h3]
  · refine g17.trans ((Cert.ProjSRefIdeal.Read.val_main_v101_eq (F := Ideal) _ _ _ _).trans ?_)
    show Cert.ProjSRefIdeal.Read.val_main_v101 (F := Ideal) (m' ((c.tc : Thread Cert.ProjSRefIdeal.nD Cert.ProjSRefIdeal.τ).loc Cert.ProjSRefIdeal.main_arg0)) (m' ((c.tc : Thread Cert.ProjSRefIdeal.nD Cert.ProjSRefIdeal.τ).loc Cert.ProjSRefIdeal.main_arg1)) (m' ((c.tc : Thread Cert.ProjSRefIdeal.nD Cert.ProjSRefIdeal.τ).loc Cert.ProjSRefIdeal.main_arg2)) (m' ((c.tc : Thread Cert.ProjSRefIdeal.nD Cert.ProjSRefIdeal.τ).loc Cert.ProjSRefIdeal.main_arg3)) = _
    rw [h0, h1, h2, h3]
  · refine g18.trans ((Cert.ProjSRefIdeal.Read.val_main_v104_eq (F := Ideal) _ _).trans ?_)
    show Cert.ProjSRefIdeal.Read.val_main_v104 (F := Ideal) (m' ((c.tc : Thread Cert.ProjSRefIdeal.nD Cert.ProjSRefIdeal.τ).loc Cert.ProjSRefIdeal.main_arg0)) (m' ((c.tc : Thread Cert.ProjSRefIdeal.nD Cert.ProjSRefIdeal.τ).loc Cert.ProjSRefIdeal.main_arg1)) (m' ((c.tc : Thread Cert.ProjSRefIdeal.nD Cert.ProjSRefIdeal.τ).loc Cert.ProjSRefIdeal.main_arg2)) (m' ((c.tc : Thread Cert.ProjSRefIdeal.nD Cert.ProjSRefIdeal.τ).loc Cert.ProjSRefIdeal.main_arg3)) (m' ((c.tc : Thread Cert.ProjSRefIdeal.nD Cert.ProjSRefIdeal.τ).loc Cert.ProjSRefIdeal.main_arg6)) (m' ((c.tc : Thread Cert.ProjSRefIdeal.nD Cert.ProjSRefIdeal.τ).loc Cert.ProjSRefIdeal.main_arg7)) (m' ((c.tc : Thread Cert.ProjSRefIdeal.nD Cert.ProjSRefIdeal.τ).loc Cert.ProjSRefIdeal.main_arg8)) = _
    rw [h0, h1, h2, h3, h6, h7, h8]
  · refine g19.trans ((Cert.ProjSRefIdeal.Read.val_main_v106_eq (F := Ideal) _ _ _ _ _).trans ?_)
    show Cert.ProjSRefIdeal.Read.val_main_v106 (F := Ideal) (m' ((c.tc : Thread Cert.ProjSRefIdeal.nD Cert.ProjSRefIdeal.τ).loc Cert.ProjSRefIdeal.main_arg0)) (m' ((c.tc : Thread Cert.ProjSRefIdeal.nD Cert.ProjSRefIdeal.τ).loc Cert.ProjSRefIdeal.main_arg1)) (m' ((c.tc : Thread Cert.ProjSRefIdeal.nD Cert.ProjSRefIdeal.τ).loc Cert.ProjSRefIdeal.main_arg2)) (m' ((c.tc : Thread Cert.ProjSRefIdeal.nD Cert.ProjSRefIdeal.τ).loc Cert.ProjSRefIdeal.main_arg3)) (m' ((c.tc : Thread Cert.ProjSRefIdeal.nD Cert.ProjSRefIdeal.τ).loc Cert.ProjSRefIdeal.main_arg8)) = _
    rw [h0, h1, h2, h3, h8]

end Cert.ProjSamp

end
-- ==== Proof.AdaProj.lean ====
/- The conditioning of the prompt and of the samples: each result array is the activated condition
   through the conditioning weights plus the bias, as the reference writes it. -/
module

public import proofs.«01_k».proof.Defs
public import proofs.«01_k».proof.Proof.Gen.Ada.Frame
public import proofs.«01_k».proof.Proof.Gen.AdaIdeal.Value
public import proofs.«01_k».proof.Proof.Gen.AdaRefIdeal.Run
public import proofs.«01_k».proof.Proof.Gen.AdaRefIdeal.Read
public import Idealize.ShloMosaic.Lib.Pipeline.Value
public import Idealize.ShloMosaic.Lib.Pipeline.ValueKit
public import Idealize.ShloMosaic.Lib.Pointwise
public import Idealize.ShloMosaic.Lib.StableHlo.ReadAt
public import Idealize.ShloMosaic.Lib.Quiescent

@[expose] public section

noncomputable section

open Idealize.ShloMosaic Idealize.ShloMosaic.TcCoe Idealize.SL.Sem
open Idealize.ShloMosaic.Pipeline (Dat)

namespace Cert.AdaProj

open Cert.AdaIdeal Cert.AdaIdeal.Gen

/-- The activation. -/
def act (z : EReal) : EReal := z * Ideal.div 1 (1 + Ideal.exp (-z))

theorem act_eq (z : EReal) : Ideal.div z (1 + Ideal.exp (0 - z)) = act z := by
  have hp : (0 : EReal) ≤ Ideal.exp (-z) := by
    induction z with
    | bot => exact le_top (a := (0 : EReal))
    | top => exact le_refl (0 : EReal)
    | coe r => show (0 : EReal) ≤ ((Real.exp (-r) : ℝ) : EReal); exact_mod_cast (Real.exp_pos (-r)).le
  have h : (1 : EReal) + Ideal.exp (-z) ≠ 0 :=
    (lt_of_lt_of_le zero_lt_one (le_add_of_nonneg_right hp)).ne'
  unfold act Ideal.div
  rw [zero_sub, if_neg h, if_neg h, one_mul]

/-- One element of a result, over `n` conditions. -/
def elem {n : Nat} (x : Fin n → Fin 1024 → EReal) (w : FVec Ideal S1x1024x3072 .f32) (d : FVec Ideal S1x3072 .f32)
    (b : Fin n) (l : Fin 3072) : EReal :=
  (∑ k : Fin 1024, act (x b k) * w (ix3 0 k l)) + d (ix2 0 l)

theorem act_p (x : FVec Ideal S8x1024 .f32) (b : Fin 8) (k : Fin 1024) :
    Cert.AdaRefIdeal.Read.val_main_v0 (F := Ideal) x (ix2 b k) = act (x (ix2 b k)) := by
  unfold act
  pointwise! [Cert.AdaRefIdeal.Read.val_main_v0, Cert.AdaRefIdeal.Read.val_main_call0_v5, Cert.AdaRefIdeal.Read.val_main_call0_v4, Cert.AdaRefIdeal.Read.val_main_call0_cst_0, Cert.AdaRefIdeal.Read.val_main_call0_v3, Cert.AdaRefIdeal.Read.val_main_call0_v2, Cert.AdaRefIdeal.Read.val_main_call0_cst, Cert.AdaRefIdeal.Read.val_main_call0_v1, Cert.AdaRefIdeal.Read.val_main_call0_v0]
theorem ref_p (x : FVec Ideal S8x1024 .f32) (w : FVec Ideal S1x1024x3072 .f32) (d : FVec Ideal S1x3072 .f32) (b : Fin 8) (l : Fin 3072) :
    Cert.AdaRefIdeal.Read.val_main_v6 (F := Ideal) x w d (ix2 b l) = elem (fun b k => x (ix2 b k)) w d b l := by
  unfold elem
  simp only [← act_p]
  pointwise! [Cert.AdaRefIdeal.Read.val_main_v6, Cert.AdaRefIdeal.Read.val_main_v5, Cert.AdaRefIdeal.Read.val_main_v4, Cert.AdaRefIdeal.Read.val_main_v3, Cert.AdaRefIdeal.Read.val_main_v2, Cert.AdaRefIdeal.Read.val_main_v1]
theorem pay_p (v0 : Vec Ideal S1x1024x1024 .f32) (x : Vec Ideal S8x1024 .f32) (d : Vec Ideal S1x1024 .f32) (r : Fin 8) (l : Fin 1024) :
    k0_pay2 v0 x d (ix2 r l) = (∑ k : Fin 1024, act (x (ix2 r k)) * v0 (ix3 0 k l)) + d (ix2 0 l) := by
  simp only [← act_eq]
  pointwise! [k0_pay2, k0_pay1]

theorem act_s (x : FVec Ideal S128x1024 .f32) (b : Fin 128) (k : Fin 1024) :
    Cert.AdaRefIdeal.Read.val_main_v7 (F := Ideal) x (ix2 b k) = act (x (ix2 b k)) := by
  unfold act
  pointwise! [Cert.AdaRefIdeal.Read.val_main_v7, Cert.AdaRefIdeal.Read.val_main_call1_v5, Cert.AdaRefIdeal.Read.val_main_call1_v4, Cert.AdaRefIdeal.Read.val_main_call1_cst_0, Cert.AdaRefIdeal.Read.val_main_call1_v3, Cert.AdaRefIdeal.Read.val_main_call1_v2, Cert.AdaRefIdeal.Read.val_main_call1_cst, Cert.AdaRefIdeal.Read.val_main_call1_v1, Cert.AdaRefIdeal.Read.val_main_call1_v0]
theorem ref_s (x : FVec Ideal S128x1024 .f32) (w : FVec Ideal S1x1024x3072 .f32) (d : FVec Ideal S1x3072 .f32) (b : Fin 128) (l : Fin 3072) :
    Cert.AdaRefIdeal.Read.val_main_v13 (F := Ideal) x w d (ix2 b l) = elem (fun b k => x (ix2 b k)) w d b l := by
  unfold elem
  simp only [← act_s]
  pointwise! [Cert.AdaRefIdeal.Read.val_main_v13, Cert.AdaRefIdeal.Read.val_main_v12, Cert.AdaRefIdeal.Read.val_main_v11, Cert.AdaRefIdeal.Read.val_main_v10, Cert.AdaRefIdeal.Read.val_main_v9, Cert.AdaRefIdeal.Read.val_main_v8]
theorem pay_s (v0 : Vec Ideal S1x1024x1024 .f32) (x : Vec Ideal S128x1024 .f32) (d : Vec Ideal S1x1024 .f32) (r : Fin 128) (l : Fin 1024) :
    k0_pay3 v0 x d (ix2 r l) = (∑ k : Fin 1024, act (x (ix2 r k)) * v0 (ix3 0 k l)) + d (ix2 0 l) := by
  simp only [← act_eq]
  pointwise! [k0_pay3, k0_pay1]

variable (m : (ℓ : Loc nD τ sig) → Buf (Elt Ideal) ℓ) (ρ : Dev nD → PrngReg)

theorem idx0 : ∀ t : Fin cfg0.N, win0_0.index t = ![0, 0] :=
  (by decide +kernel : ∀ t : Fin grid0.N, win0_0.index t = ![0, 0])
theorem idx1 : ∀ t : Fin cfg0.N, win0_1.index t = ![0, 0] :=
  (by decide +kernel : ∀ t : Fin grid0.N, win0_1.index t = ![0, 0])
theorem idx2 : ∀ t : Fin cfg0.N, win0_2.index t = ![0, 0, t.val] :=
  (by decide +kernel : ∀ t : Fin grid0.N, win0_2.index t = ![0, 0, t.val])
theorem idx3 : ∀ t : Fin cfg0.N, win0_3.index t = ![0, t.val] :=
  (by decide +kernel : ∀ t : Fin grid0.N, win0_3.index t = ![0, t.val])
theorem idx4 : ∀ t : Fin cfg0.N, win0_4.index t = ![0, t.val] :=
  (by decide +kernel : ∀ t : Fin grid0.N, win0_4.index t = ![0, t.val])
theorem idx5 : ∀ t : Fin cfg0.N, win0_5.index t = ![0, t.val] :=
  (by decide +kernel : ∀ t : Fin grid0.N, win0_5.index t = ![0, t.val])
theorem tlt (t : Fin cfg0.N) : t.val < 3 := t.isLt
theorem blk0 (c : Dev nD) (t : Fin cfg0.N) (r : Fin 8) (l : Fin 1024) :
    iblk m c 0 t (ix2 r l) = m ((c : Thread nD τ).loc main_arg0) (ix2 r l) := by
  rw [← V_main_arg0 m c]
  blk_ext [iblk, idx0]
theorem blk1 (c : Dev nD) (t : Fin cfg0.N) (r : Fin 128) (l : Fin 1024) :
    iblk m c 1 t (ix2 r l) = m ((c : Thread nD τ).loc main_arg1) (ix2 r l) := by
  rw [← V_main_arg1 m c]
  blk_ext [iblk, idx1]
theorem blk2 (c : Dev nD) (t : Fin cfg0.N) (r : Fin 1024) (l : Fin 1024) :
    iblk m c 2 t (ix3 0 r l) = m ((c : Thread nD τ).loc main_arg2) (ix3 0 r ⟨t.val * 1024 + l.val, by have := tlt t; omega⟩) := by
  rw [← V_main_arg2 m c]
  blk_ext [iblk, idx2]
theorem blk3 (c : Dev nD) (t : Fin cfg0.N) (l : Fin 1024) :
    iblk m c 3 t (ix2 0 l) = m ((c : Thread nD τ).loc main_arg3) (ix2 0 ⟨t.val * 1024 + l.val, by have := tlt t; omega⟩) := by
  rw [← V_main_arg3 m c]
  blk_ext [iblk, idx3]

/-- Result 1, as the reference's whole array. -/
abbrev res_p (c : Dev nD) : Buf (Elt Ideal) ((c : Thread nD τ).loc main_v0_0) :=
  Cert.AdaRefIdeal.Read.val_main_v6 (F := Ideal) (m ((c : Thread nD τ).loc main_arg0)) (m ((c : Thread nD τ).loc main_arg2)) (m ((c : Thread nD τ).loc main_arg3))

theorem final_p (c : Dev nD) : (dats m 0 c).arrAt 4 cfg0.N = res_p m c := by
  refine (dats m 0 c).arrAt_eq_of_covers 4 _ (by decide +kernel) fun t hf y => ?_
  blk_simp
  rw [after0_4]
  unfold out0_4
  rw [View.canon_cons_unit_lit _ _ _ (by decide)]
  idx_vars y
  have ht := tlt t
  have hi : ((View.whole main_v0_0).slice (win0_4.rect t)).emb (ix2 y0 y1)
      = (ix2 y0 ⟨t.val * 1024 + y1.val, by omega⟩ : S8x3072.Idx) := by
    blk_ext [idx4]
  rw [hi, pay_p]
  refine Eq.trans ?_ (ref_p _ _ _ _ _).symm
  unfold elem
  pointwise [blk0, blk2, blk3]

/-- Result 2, as the reference's whole array. -/
abbrev res_s (c : Dev nD) : Buf (Elt Ideal) ((c : Thread nD τ).loc main_v0_1) :=
  Cert.AdaRefIdeal.Read.val_main_v13 (F := Ideal) (m ((c : Thread nD τ).loc main_arg1)) (m ((c : Thread nD τ).loc main_arg2)) (m ((c : Thread nD τ).loc main_arg3))

theorem final_s (c : Dev nD) : (dats m 0 c).arrAt 5 cfg0.N = res_s m c := by
  refine (dats m 0 c).arrAt_eq_of_covers 5 _ (by decide +kernel) fun t hf y => ?_
  blk_simp
  rw [after0_5]
  unfold out0_5
  rw [View.canon_cons_unit_lit _ _ _ (by decide)]
  idx_vars y
  have ht := tlt t
  have hi : ((View.whole main_v0_1).slice (win0_5.rect t)).emb (ix2 y0 y1)
      = (ix2 y0 ⟨t.val * 1024 + y1.val, by omega⟩ : S128x3072.Idx) := by
    blk_ext [idx5]
  rw [hi, pay_s]
  refine Eq.trans ?_ (ref_s _ _ _ _ _).symm
  unfold elem
  pointwise [blk1, blk2, blk3]

theorem run : θ_run defs (onTc (τ := τ) (main (F := Ideal))) ⟨m, fun _ => 0, ρ⟩ fun r => ∀ c : Dev nD,
      r.2.mem ((c : Thread nD τ).loc main_v0_0) = res_p m c
      ∧ r.2.mem ((c : Thread nD τ).loc main_v0_1) = res_s m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final_p m c), (h c).2.1.trans (final_s m c), (h c).2.2⟩) (Value.run_blocks m ρ)

/-! ## The claims -/

theorem frame_p : Cert.quiescent_Ada := fun m ρ _ => Cert.Ada.Gen.frame m ρ
theorem frame_pi : Cert.quiescent_AdaIdeal := fun m ρ _ => Cert.AdaIdeal.Gen.frame m ρ
theorem frame_ri : Cert.quiescent_AdaRefIdeal := fun m ρ _ =>
  (θ_run Cert.AdaRefIdeal.defs _ _).mono (fun r h => ⟨fun c => (h c).2.2,
      Idealize.ShloMosaic.sem_eq_zero_of_no_sems (by decide) r.2⟩)
    (Cert.AdaRefIdeal.Value.run (F := Ideal) m ρ)
theorem same : Cert.preserves_Ada_AdaIdeal := trivial
theorem value : Cert.algebraic_AdaIdeal_AdaRefIdeal := by
  intro m ρ m' ρ' _ hagree
  refine ⟨fun c => res_p m c, fun c => res_s m c, run m ρ, ?_⟩
  refine (θ_run Cert.AdaRefIdeal.defs _ _).mono (fun _ h c => ⟨(h c).1.trans ?_, (h c).2.1.trans ?_, (h c).2.2⟩)
    (Cert.AdaRefIdeal.Value.run (F := Ideal) m' ρ')
  · refine (Cert.AdaRefIdeal.Read.val_main_v6_eq _ _ _).trans ?_
    obtain ⟨h0, h1, h2, h3⟩ := hagree c
    unfold res_p
    rw [h0, h2, h3]
  · refine (Cert.AdaRefIdeal.Read.val_main_v13_eq _ _ _).trans ?_
    obtain ⟨h0, h1, h2, h3⟩ := hagree c
    unfold res_s
    rw [h1, h2, h3]

end Cert.AdaProj

end
-- ==== Proof.lean ====
/- The claims of `Cert.Claim`, each from the module of its call. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.OutS
public import proofs.«01_k».proof.Proof.Gen.OutS.Skeleton
public import proofs.«01_k».proof.Proof.Gen.OutS.Launch
public import proofs.«01_k».proof.Proof.Gen.OutS.Points
public import proofs.«01_k».proof.Proof.Gen.OutS.Frame
public import proofs.«01_k».proof.Proof.Gen.OutSIdeal
public import proofs.«01_k».proof.Proof.Gen.OutSIdeal.Skeleton
public import proofs.«01_k».proof.Proof.Gen.OutSIdeal.Launch
public import proofs.«01_k».proof.Proof.Gen.OutSIdeal.Points
public import proofs.«01_k».proof.Proof.Gen.OutSIdeal.Frame
public import proofs.«01_k».proof.Proof.Gen.OutSRefIdeal
public import proofs.«01_k».proof.Proof.Gen.ProjS
public import proofs.«01_k».proof.Proof.Gen.ProjS.Skeleton
public import proofs.«01_k».proof.Proof.Gen.ProjS.Launch
public import proofs.«01_k».proof.Proof.Gen.ProjS.Points
public import proofs.«01_k».proof.Proof.Gen.ProjS.Frame
public import proofs.«01_k».proof.Proof.Gen.ProjSIdeal
public import proofs.«01_k».proof.Proof.Gen.ProjSIdeal.Skeleton
public import proofs.«01_k».proof.Proof.Gen.ProjSIdeal.Launch
public import proofs.«01_k».proof.Proof.Gen.ProjSIdeal.Points
public import proofs.«01_k».proof.Proof.Gen.ProjSIdeal.Frame
public import proofs.«01_k».proof.Proof.Gen.ProjSRefIdeal
public import proofs.«01_k».proof.Proof.Gen.Ada
public import proofs.«01_k».proof.Proof.Gen.Ada.Skeleton
public import proofs.«01_k».proof.Proof.Gen.Ada.Launch
public import proofs.«01_k».proof.Proof.Gen.Ada.Points
public import proofs.«01_k».proof.Proof.Gen.Ada.Frame
public import proofs.«01_k».proof.Proof.Gen.AdaIdeal
public import proofs.«01_k».proof.Proof.Gen.AdaIdeal.Skeleton
public import proofs.«01_k».proof.Proof.Gen.AdaIdeal.Launch
public import proofs.«01_k».proof.Proof.Gen.AdaIdeal.Points
public import proofs.«01_k».proof.Proof.Gen.AdaIdeal.Frame
public import proofs.«01_k».proof.Proof.Gen.AdaRefIdeal
public import proofs.«01_k».proof.Proof.ProjClaim
public import proofs.«01_k».proof.Proof.OutProj
public import proofs.«01_k».proof.Proof.OutSamp
public import proofs.«01_k».proof.Proof.ProjSamp
public import proofs.«01_k».proof.Proof.AdaProj
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Out.Gen.facts, Cert.OutIdeal.Gen.facts, Cert.OutRefIdeal.Gen.facts, Cert.OutS.Gen.facts, Cert.OutSIdeal.Gen.facts, Cert.OutSRefIdeal.Gen.facts, Cert.ProjS.Gen.facts, Cert.ProjSIdeal.Gen.facts, Cert.ProjSRefIdeal.Gen.facts, Cert.Ada.Gen.facts, Cert.AdaIdeal.Gen.facts, Cert.AdaRefIdeal.Gen.facts, by
  exact ⟨Cert.ProjClaim.frame_p,
    Cert.ProjClaim.frame_pi,
    Cert.ProjClaim.frame_ri,
    Cert.OutProj.frame_p,
    Cert.OutProj.frame_pi,
    Cert.OutProj.frame_ri,
    Cert.OutSamp.frame_p,
    Cert.OutSamp.frame_pi,
    Cert.OutSamp.frame_ri,
    Cert.ProjSamp.frame_p,
    Cert.ProjSamp.frame_pi,
    Cert.ProjSamp.frame_ri,
    Cert.AdaProj.frame_p,
    Cert.AdaProj.frame_pi,
    Cert.AdaProj.frame_ri,
    Cert.ProjClaim.same,
    Cert.ProjClaim.value,
    Cert.OutProj.same,
    Cert.OutProj.value,
    Cert.OutSamp.same,
    Cert.OutSamp.value,
    Cert.ProjSamp.same,
    Cert.ProjSamp.value,
    Cert.AdaProj.same,
    Cert.AdaProj.value⟩⟩

end Cert.Proof

end
